-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables : Cert.Pre_tables.Facts] (m : (ℓ : Loc Cert.Kernel3.nD Cert.Kernel3.τ Cert.Kernel3.sig) → Buf (Elt Bits) ℓ) : Prop :=
  ∀ c : Dev Cert.Kernel3.nD,
    (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_tables : Cert.Pre_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal [hPre_tables : Cert.Pre_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] [hPre_tables : Cert.Pre_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] [hPre_tables : Cert.Pre_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)) (v4 : (c : Dev Cert.Kernel6Ideal.nD) → Buf (Elt Ideal) ((c.tc : Thread Cert.Kernel6Ideal.nD Cert.Kernel6Ideal.τ).loc Cert.Kernel6Ideal.main_v1_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_v1_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v31) = v2 c
          ∧ r.2.mem ((c.tc : Thread Cert.Reference6Ideal.nD Cert.Reference6Ideal.τ).loc Cert.Reference6Ideal.main_v63) = v3 c
          ∧ r.2.mem ((c.tc : Thread Cert.Reference6Ideal.nD Cert.Reference6Ideal.τ).loc Cert.Reference6Ideal.main_v65) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_tables : Cert.Pre_tables.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables := hPre_tables)
    ∧ quiescent_Kernel3Ideal (hKernel3Ideal := hKernel3Ideal) (hPre_tables := hPre_tables)
    ∧ quiescent_Reference3Ideal (hReference3Ideal := hReference3Ideal) (hPre_tables := hPre_tables)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables := hPre_tables)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_tables.lean ====
abbrev S160 : Shape := ⟨1, ![160]⟩
abbrev S1 : Shape := ⟨1, ![1]⟩
abbrev S81920x2048 : Shape := ⟨2, ![81920, 2048]⟩
abbrev S32x2048x1024 : Shape := ⟨3, ![32, 2048, 1024]⟩
abbrev S32x1024x2048 : Shape := ⟨3, ![32, 1024, 2048]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : FVec F S81920x2048 .f32) (main_arg3 : FVec F S32x2048x1024 .bf16) (main_arg4 : FVec F S32x2048x1024 .bf16) (main_arg5 : FVec F S32x1024x2048 .bf16) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Kernel.lean ====
abbrev S34816x4608 : Shape := ⟨2, ![34816, 4608]⟩
abbrev S4x512 : Shape := ⟨2, ![4, 512]⟩
abbrev S8x64x64 : Shape := ⟨3, ![8, 64, 64]⟩
abbrev S512 : Shape := ⟨1, ![512]⟩
abbrev S8x512 : Shape := ⟨2, ![8, 512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x512 : Shape := ⟨2, ![1, 512]⟩
abbrev S8x1x512 : Shape := ⟨3, ![8, 1, 512]⟩
abbrev S32768x512 : Shape := ⟨2, ![32768, 512]⟩
abbrev S1x1x512 : Shape := ⟨3, ![1, 1, 512]⟩

abbrev nBuf : Space → Nat
  | .hbm => 42
  | .vmem => 17
  | .smem => 0
  | _ => 0

abbrev bufTy : (tb : Table) → Fin (tcTables nBuf tb) → BufTy
  | .hbm, ⟨0, _⟩ => ⟨S34816x4608, .f32⟩
  | .hbm, ⟨1, _⟩ => ⟨S4x512, .f32⟩
  | .hbm, ⟨2, _⟩ => ⟨S8x64x64, .f32⟩
  | .hbm, ⟨3, _⟩ => ⟨S8x64x64, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S8x512, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S8x1x8x1, .f32⟩
  | .hbm, ⟨16, _⟩ => ⟨S8x64x1x64, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S512x512, .bf16⟩
  | .hbm, ⟨22, _⟩ => ⟨S8x8, .i32⟩
  | .hbm, ⟨23, _⟩ => ⟨S8x8, .i32⟩
  | .hbm, ⟨24, _⟩ => ⟨S_, .i32⟩
  | .hbm, ⟨25, _⟩ => ⟨S8x8, .i32⟩
  | .hbm, ⟨26, _⟩ => ⟨S8x8, .i32⟩
  | .hbm, ⟨27, _⟩ => ⟨S8x8, .i1⟩
  | .hbm, ⟨28, _⟩ => ⟨S8x8, .f32⟩
  | .hbm, ⟨29, _⟩ => ⟨S8x1x8x1, .f32⟩
  | .hbm, ⟨30, _⟩ => ⟨S8x64x1x64, .f32⟩
  | .hbm, ⟨31, _⟩ => ⟨S8x64x8x64, .f32⟩
  | .hbm, ⟨32, _⟩ => ⟨S8x64x8x64, .f32⟩
  | .hbm, ⟨33, _⟩ => ⟨S8x64x8x64, .f32⟩
  | .hbm, ⟨34, _⟩ => ⟨S512x512, .f32⟩
  | .hbm, ⟨35, _⟩ => ⟨S512x512, .bf16⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S8x1x512, .f32⟩
  | .hbm, ⟨40, _⟩ => ⟨S32768x512, .f32⟩
  | .hbm, ⟨41, _⟩ => ⟨S8x1x512, .f32⟩
  | .local _ .vmem, ⟨0, _⟩ => ⟨S512x512, .f32⟩
  | .local _ .vmem, ⟨1, _⟩ => ⟨S512x512, .f32⟩
  | .local _ .vmem, ⟨2, _⟩ => ⟨S4x512, .f32⟩
  | .local _ .vmem, ⟨3, _⟩ => ⟨S512x512, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x1x512, .f32⟩
  | .local _ .vmem, ⟨9, _⟩ => ⟨S1x1x512, .f32⟩
  | .local _ .vmem, ⟨10, _⟩ => ⟨S512x512, .f32⟩
  | .local _ .vmem, ⟨11, _⟩ => ⟨S512x512, .f32⟩
  | .local _ .vmem, ⟨12, _⟩ => ⟨S1x1x512, .f32⟩
  | .local _ .vmem, ⟨13, _⟩ => ⟨S1x1x512, .f32⟩
  | .local _ .vmem, ⟨14, _⟩ => ⟨S512x512, .f32⟩
  | .local _ .vmem, ⟨15, _⟩ => ⟨S512x512, .f32⟩
  | .local _ .vmem, ⟨16, _⟩ => ⟨S1x512, .f32⟩
  | _, _ => ⟨S34816x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_68 : BitVec 32 := 0#32
  let c64_i32_69 : BitVec 32 := 64#32
  let v179 : BitVec 32 := Scalar.addi c0_i32_68 c64_i32_69
  let c1_i32_70 : BitVec 32 := 1#32
  ⟨c0_i32_68, v179, c1_i32_70⟩
def k0_mult1 (k0_t1 : Fin k0_t1_loop.trips) : BitVec 32 :=
  let c0_i32_68 : BitVec 32 := 0#32
  let c1_i32_70 : BitVec 32 := 1#32
  let arg15 : BitVec 32 := Scf.iv c0_i32_68 c1_i32_70 k0_t1
  let c8_i32_81 : BitVec 32 := 8#32
  let v189 : BitVec 32 := Scalar.muli arg15 c8_i32_81
  v189
def k0_off1 (k0_t1 : Fin k0_t1_loop.trips) : Fin 2 → Nat :=
  let c0_i32_68 : BitVec 32 := 0#32
  let c1_i32_70 : BitVec 32 := 1#32
  let arg15 : BitVec 32 := Scf.iv c0_i32_68 c1_i32_70 k0_t1
  let c8_i32_81 : BitVec 32 := 8#32
  let v189 : BitVec 32 := Scalar.muli arg15 c8_i32_81
  let v190 : BitVec 32 := v189
  let v191 : Index := Scalar.indexCast v190
  let c0_82 : Index := 0#32
  ![v191.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c7_i32 : BitVec 32 := 7#32
  let c0_i32_0 : BitVec 32 := 0#32
  ![v2.toNat, c7_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S34816x4608 : Shape := ⟨2, ![34816, 4608]⟩
abbrev S4x512 : Shape := ⟨2, ![4, 512]⟩
abbrev S8x64x64 : Shape := ⟨3, ![8, 64, 64]⟩
abbrev S512 : Shape := ⟨1, ![512]⟩
abbrev S8x512 : Shape := ⟨2, ![8, 512]⟩
abbrev S32768x512 : Shape := ⟨2, ![32768, 512]⟩
abbrev S8x4096x512 : Shape := ⟨3, ![8, 4096, 512]⟩
abbrev S8x64x64x512 : Shape := ⟨4, ![8, 64, 64, 512]⟩
abbrev S_ : Shape := ⟨0, ![]⟩
abbrev S8x64x67x512 : Shape := ⟨4, ![8, 64, 67, 512]⟩
abbrev S1x512 : Shape := ⟨2, ![1, 512]⟩
abbrev S1x1x1x512 : Shape := ⟨4, ![1, 1, 1, 512]⟩
abbrev S8x4096x8x64 : Shape := ⟨4, ![8, 4096, 8, 64]⟩
abbrev S8x64x8x4096 : Shape := ⟨4, ![8, 64, 8, 4096]⟩
abbrev S1x1x512 : Shape := ⟨3, ![1, 1, 512]⟩
abbrev S4096x8x512 : Shape := ⟨3, ![4096, 8, 512]⟩
abbrev S1x8x512 : Shape := ⟨3, ![1, 8, 512]⟩
abbrev S8x1x512 : Shape := ⟨3, ![8, 1, 512]⟩

abbrev nBuf : Space → Nat
  | .hbm => 135
  | .vmem => 0
  | .smem => 0
  | _ => 0

abbrev hbmTy0_0 (i : Nat) : BufTy := match i % 128 with
  | 0 => ⟨S34816x4608, .f32⟩
  | 1 => ⟨S4x512, .f32⟩
  | 2 => ⟨S8x64x64, .f32⟩
  | 3 => ⟨S8x64x64, .f32⟩
  | 4 => ⟨S512, .f32⟩
  | 5 => ⟨S512, .f32⟩
  | 6 => ⟨S512, .f32⟩
  | 7 => ⟨S8x512, .f32⟩
  | 8 => ⟨S32768x512, .f32⟩
  | 9 => ⟨S8x4096x512, .f32⟩
  | 10 => ⟨S8x64x64x512, .f32⟩
  | 11 => ⟨S_, .i32⟩
  | 12 => ⟨S_, .f32⟩
  | 13 => ⟨S8x64x67x512, .f32⟩
  | 14 => ⟨S8x64x64x512, .f32⟩
  | 15 => ⟨S1x512, .f32⟩
  | 16 => ⟨S512, .f32⟩
  | 17 => ⟨S1x1x1x512, .f32⟩
  | 18 => ⟨S8x64x64x512, .f32⟩
  | 19 => ⟨S8x64x64x512, .f32⟩
  | 20 => ⟨S_, .f32⟩
  | 21 => ⟨S8x64x64x512, .f32⟩
  | 22 => ⟨S8x64x64x512, .f32⟩
  | 23 => ⟨S8x64x64x512, .f32⟩
  | 24 => ⟨S1x512, .f32⟩
  | 25 => ⟨S512, .f32⟩
  | 26 => ⟨S1x1x1x512, .f32⟩
  | 27 => ⟨S8x64x64x512, .f32⟩
  | 28 => ⟨S8x64x64x512, .f32⟩
  | 29 => ⟨S8x64x64x512, .f32⟩
  | 30 => ⟨S8x64x64x512, .f32⟩
  | 31 => ⟨S1x512, .f32⟩
  | 32 => ⟨S512, .f32⟩
  | 33 => ⟨S1x1x1x512, .f32⟩
  | 34 => ⟨S8x64x64x512, .f32⟩
  | 35 => ⟨S8x64x64x512, .f32⟩
  | 36 => ⟨S8x64x64x512, .f32⟩
  | 37 => ⟨S8x64x64x512, .f32⟩
  | 38 => ⟨S1x512, .f32⟩
  | 39 => ⟨S512, .f32⟩
  | 40 => ⟨S1x1x1x512, .f32⟩
  | 41 => ⟨S8x64x64x512, .f32⟩
  | 42 => ⟨S8x64x64x512, .f32⟩
  | 43 => ⟨S8x64x64x512, .f32⟩
  | 44 => ⟨S8x4096x512, .f32⟩
  | 45 => ⟨S8x4096x8x64, .f32⟩
  | 46 => ⟨S8x64x8x4096, .f32⟩
  | 47 => ⟨S8x4096x8x64, .f32⟩
  | 48 => ⟨S8x4096x512, .f32⟩
  | 49 => ⟨S1x1x512, .f32⟩
  | 50 => ⟨S8x4096x512, .f32⟩
  | 51 => ⟨S8x4096x512, .f32⟩
  | 52 => ⟨S8x4096x512, .f32⟩
  | 53 => ⟨S8x4096x512, .f32⟩
  | 54 => ⟨S_, .f32⟩
  | 55 => ⟨S8x4096x512, .f32⟩
  | 56 => ⟨S8x4096x512, .f32⟩
  | 57 => ⟨S_, .f32⟩
  | 58 => ⟨S8x4096x512, .f32⟩
  | 59 => ⟨S8x4096x512, .f32⟩
  | 60 => ⟨S8x64x8x4096, .f32⟩
  | 61 => ⟨S8x4096x8x64, .f32⟩
  | 62 => ⟨S8x4096x512, .f32⟩
  | 63 => ⟨S1x1x512, .f32⟩
  | 64 => ⟨S8x4096x512, .f32⟩
  | 65 => ⟨S8x4096x512, .f32⟩
  | 66 => ⟨S8x4096x512, .f32⟩
  | 67 => ⟨S8x4096x512, .f32⟩
  | 68 => ⟨S_, .f32⟩
  | 69 => ⟨S8x4096x512, .f32⟩
  | 70 => ⟨S8x4096x512, .f32⟩
  | 71 => ⟨S_, .f32⟩
  | 72 => ⟨S8x4096x512, .f32⟩
  | 73 => ⟨S8x4096x512, .f32⟩
  | 74 => ⟨S_, .f32⟩
  | 75 => ⟨S8x4096x512, .f32⟩
  | 76 => ⟨S8x4096x512, .f32⟩
  | 77 => ⟨S512, .f32⟩
  | 78 => ⟨S_, .f32⟩
  | 79 => ⟨S512, .f32⟩
  | 80 => ⟨S512, .f32⟩
  | 81 => ⟨S512, .f32⟩
  | 82 => ⟨S512, .f32⟩
  | 83 => ⟨S512, .i1⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S1x1x512, .f32⟩
  | 93 => ⟨S8x4096x512, .f32⟩
  | 94 => ⟨S8x4096x512, .f32⟩
  | 95 => ⟨S8x4096x512, .f32⟩
  | 96 => ⟨S_, .f32⟩
  | 97 => ⟨S8x4096x512, .f32⟩
  | 98 => ⟨S8x4096x512, .f32⟩
  | 99 => ⟨S8x4096x512, .f32⟩
  | 100 => ⟨S8x4096x512, .f32⟩
  | 101 => ⟨S8x4096x512, .f32⟩
  | 102 => ⟨S8x4096x512, .f32⟩
  | 103 => ⟨S8x4096x512, .f32⟩
  | 104 => ⟨S4096x8x512, .f32⟩
  | 105 => ⟨S4096x8x512, .f32⟩
  | 106 => ⟨S_, .f32⟩
  | 107 => ⟨S4096x8x512, .f32⟩
  | 108 => ⟨S_, .i32⟩
  | 109 => ⟨S4096x8x512, .f32⟩
  | 110 => ⟨S4096x8x512, .f32⟩
  | 111 => ⟨S_, .i32⟩
  | 112 => ⟨S8x512, .f32⟩
  | 113 => ⟨S4096x8x512, .f32⟩
  | 114 => ⟨S_, .i32⟩
  | 115 => ⟨S_, .i1⟩
  | 116 => ⟨S_, .i32⟩
  | 117 => ⟨S_, .i32⟩
  | 118 => ⟨S1x8x512, .f32⟩
  | 119 => ⟨S8x512, .f32⟩
  | 120 => ⟨S_, .i32⟩
  | 121 => ⟨S_, .i32⟩
  | 122 => ⟨S1x8x512, .f32⟩
  | 123 => ⟨S8x512, .f32⟩
  | 124 => ⟨S8x512, .f32⟩
  | 125 => ⟨S8x512, .f32⟩
  | 126 => ⟨S1x8x512, .f32⟩
  | 127 => ⟨S_, .i32⟩
  | _ => ⟨S34816x4608, .f32⟩

abbrev hbmTy0_1 (i : Nat) : BufTy := match i % 128 with
  | 0 => ⟨S_, .i32⟩
  | 1 => ⟨S4096x8x512, .f32⟩
  | 2 => ⟨S_, .i32⟩
  | 3 => ⟨S_, .i32⟩
  | 4 => ⟨S8x4096x512, .f32⟩
  | 5 => ⟨S32768x512, .f32⟩
  | 6 => ⟨S8x1x512, .f32⟩
  | _ => ⟨S34816x4608, .f32⟩

abbrev hbmTy (i : Nat) : BufTy := match i / 128 with
  | 0 => hbmTy0_0 i
  | 1 => hbmTy0_1 i
  | _ => ⟨S34816x4608, .f32⟩

abbrev bufTy : (tb : Table) → Fin (tcTables nBuf tb) → BufTy
  | .hbm, ⟨i, _⟩ => hbmTy i
  | _, _ => ⟨S34816x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_cst_1 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_5 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_6 : Ref sig .tc := ⟨.hbm, 106, rfl⟩
abbrev main_v76 : Ref sig .tc := ⟨.hbm, 107, rfl⟩
abbrev main_c_7 : Ref sig .tc := ⟨.hbm, 108, rfl⟩
abbrev main_v77_0 : Ref sig .tc := ⟨.hbm, 109, rfl⟩
abbrev main_v77_1 : Ref sig .tc := ⟨.hbm, 110, rfl⟩
abbrev main_v77_2 : Ref sig .tc := ⟨.hbm, 111, rfl⟩
abbrev main_v77_3 : Ref sig .tc := ⟨.hbm, 112, rfl⟩
abbrev main_v77_4 : Ref sig .tc := ⟨.hbm, 113, rfl⟩
abbrev main_while0c_c_12 : Ref sig .tc := ⟨.hbm, 114, rfl⟩
abbrev main_while0c_v81 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_v0 : Ref sig .tc := ⟨.hbm, 118, rfl⟩
abbrev main_while0b_v81 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_v0 : Ref sig .tc := ⟨.hbm, 122, rfl⟩
abbrev main_while0b_v82 : Ref sig .tc := ⟨.hbm, 123, rfl⟩
abbrev main_while0b_v83 : Ref sig .tc := ⟨.hbm, 124, rfl⟩
abbrev main_while0b_v84 : Ref sig .tc := ⟨.hbm, 125, rfl⟩
abbrev main_while0b_call4_v0 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_v85 : Ref sig .tc := ⟨.hbm, 129, rfl⟩
abbrev main_while0b_c_12 : Ref sig .tc := ⟨.hbm, 130, rfl⟩
abbrev main_while0b_v86 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S34816x2048 : Shape := ⟨2, ![34816, 2048]⟩
abbrev S32768x512 : Shape := ⟨2, ![32768, 512]⟩
abbrev S4x2048x2048 : Shape := ⟨3, ![4, 2048, 2048]⟩
abbrev S4x512x2048 : Shape := ⟨3, ![4, 512, 2048]⟩
abbrev S2048x2048 : Shape := ⟨2, ![2048, 2048]⟩
abbrev S16x12288 : Shape := ⟨2, ![16, 12288]⟩
abbrev S16x1x12288 : Shape := ⟨3, ![16, 1, 12288]⟩
abbrev S32768x2048 : Shape := ⟨2, ![32768, 2048]⟩
abbrev S512x2048 : Shape := ⟨2, ![512, 2048]⟩
abbrev S512x512 : Shape := ⟨2, ![512, 512]⟩
abbrev S4x2048x512 : Shape := ⟨3, ![4, 2048, 512]⟩
abbrev S4x512x512 : Shape := ⟨3, ![4, 512, 512]⟩
abbrev S1x1x2048 : Shape := ⟨3, ![1, 1, 2048]⟩
abbrev S1x2048x512 : Shape := ⟨3, ![1, 2048, 512]⟩
abbrev S2048x512 : Shape := ⟨2, ![2048, 512]⟩
abbrev S1x512x512 : Shape := ⟨3, ![1, 512, 512]⟩
abbrev S1x2048 : Shape := ⟨2, ![1, 2048]⟩

abbrev nBuf : Space → Nat
  | .hbm => 15
  | .vmem => 22
  | .smem => 0
  | _ => 0

abbrev bufTy : (tb : Table) → Fin (tcTables nBuf tb) → BufTy
  | .hbm, ⟨0, _⟩ => ⟨S34816x2048, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S4x2048x2048, .f32⟩
  | .hbm, ⟨6, _⟩ => ⟨S4x512x2048, .f32⟩
  | .hbm, ⟨7, _⟩ => ⟨S2048x2048, .f32⟩
  | .hbm, ⟨8, _⟩ => ⟨S34816x2048, .f32⟩
  | .hbm, ⟨9, _⟩ => ⟨S16x12288, .f32⟩
  | .hbm, ⟨10, _⟩ => ⟨S4x2048x2048, .bf16⟩
  | .hbm, ⟨11, _⟩ => ⟨S4x512x2048, .bf16⟩
  | .hbm, ⟨12, _⟩ => ⟨S2048x2048, .bf16⟩
  | .hbm, ⟨13, _⟩ => ⟨S16x1x12288, .f32⟩
  | .hbm, ⟨14, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S4x2048x512, .bf16⟩
  | .local _ .vmem, ⟨13, _⟩ => ⟨S4x2048x512, .bf16⟩
  | .local _ .vmem, ⟨14, _⟩ => ⟨S4x512x512, .bf16⟩
  | .local _ .vmem, ⟨15, _⟩ => ⟨S4x512x512, .bf16⟩
  | .local _ .vmem, ⟨16, _⟩ => ⟨S512x2048, .bf16⟩
  | .local _ .vmem, ⟨17, _⟩ => ⟨S512x2048, .bf16⟩
  | .local _ .vmem, ⟨18, _⟩ => ⟨S1x1x2048, .f32⟩
  | .local _ .vmem, ⟨19, _⟩ => ⟨S1x1x2048, .f32⟩
  | .local _ .vmem, ⟨20, _⟩ => ⟨S512x2048, .f32⟩
  | .local _ .vmem, ⟨21, _⟩ => ⟨S512x2048, .f32⟩
  | _, _ => ⟨S34816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v68 : BitVec 1 := Scalar.cmpi .eq arg1 c0_i32
  let v69 : BitVec 32 := Scalar.extui v68
  let c0_i32_52 : BitVec 32 := 0#32
  let v70 : BitVec 1 := Scalar.cmpi .ne v69 c0_i32_52
  v70

def k0_cond2 (i : grid0.Coords) : BitVec 1 :=
  let arg1 : BitVec 32 := BitVec.ofNat 32 (i 1).val
  let c0_i32_53 : BitVec 32 := 0#32
  let v71 : BitVec 1 := Scalar.cmpi .sgt arg1 c0_i32_53
  let v72 : BitVec 32 := Scalar.extui v71
  let c0_i32_54 : BitVec 32 := 0#32
  let v73 : BitVec 1 := Scalar.cmpi .ne v72 c0_i32_54
  v73

def k0_cond3 (i : grid0.Coords) : BitVec 1 :=
  let arg1 : BitVec 32 := BitVec.ofNat 32 (i 1).val
  let c3_i32 : BitVec 32 := 3#32
  let v74 : BitVec 1 := Scalar.cmpi .eq arg1 c3_i32
  let v75 : BitVec 32 := Scalar.extui v74
  let c0_i32_55 : BitVec 32 := 0#32
  let v76 : BitVec 1 := Scalar.cmpi .ne v75 c0_i32_55
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.select v0 v17 c8_i32_4
  let c0_i32_5 : BitVec 32 := 0#32
  let c2_i32 : BitVec 32 := 2#32
  let c0_i32_6 : BitVec 32 := 0#32
  ![v18.toNat, c0_i32_5.toNat, c2_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S34816x2048 : Shape := ⟨2, ![34816, 2048]⟩
abbrev S32768x512 : Shape := ⟨2, ![32768, 512]⟩
abbrev S4x2048x2048 : Shape := ⟨3, ![4, 2048, 2048]⟩
abbrev S4x512x2048 : Shape := ⟨3, ![4, 512, 2048]⟩
abbrev S2048x2048 : Shape := ⟨2, ![2048, 2048]⟩
abbrev S16x12288 : Shape := ⟨2, ![16, 12288]⟩
abbrev S32768x2048 : Shape := ⟨2, ![32768, 2048]⟩
abbrev S1x2048x2048 : Shape := ⟨3, ![1, 2048, 2048]⟩
abbrev S_ : Shape := ⟨0, ![]⟩
abbrev S1x512x2048 : Shape := ⟨3, ![1, 512, 2048]⟩
abbrev S512x2048 : Shape := ⟨2, ![512, 2048]⟩
abbrev S8x4096x2048 : Shape := ⟨3, ![8, 4096, 2048]⟩
abbrev S8x2048 : Shape := ⟨2, ![8, 2048]⟩
abbrev S8x1x2048 : Shape := ⟨3, ![8, 1, 2048]⟩

abbrev nBuf : Space → Nat
  | .hbm => 92
  | .vmem => 0
  | .smem => 0
  | _ => 0

abbrev bufTy : (tb : Table) → Fin (tcTables nBuf tb) → BufTy
  | .hbm, ⟨0, _⟩ => ⟨S34816x2048, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S4x2048x2048, .f32⟩
  | .hbm, ⟨6, _⟩ => ⟨S4x512x2048, .f32⟩
  | .hbm, ⟨7, _⟩ => ⟨S2048x2048, .f32⟩
  | .hbm, ⟨8, _⟩ => ⟨S34816x2048, .f32⟩
  | .hbm, ⟨9, _⟩ => ⟨S16x12288, .f32⟩
  | .hbm, ⟨10, _⟩ => ⟨S32768x2048, .bf16⟩
  | .hbm, ⟨11, _⟩ => ⟨S32768x2048, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S1x2048x2048, .f32⟩
  | .hbm, ⟨17, _⟩ => ⟨S2048x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S1x512x2048, .f32⟩
  | .hbm, ⟨28, _⟩ => ⟨S512x2048, .f32⟩
  | .hbm, ⟨29, _⟩ => ⟨S32768x2048, .f32⟩
  | .hbm, ⟨30, _⟩ => ⟨S32768x2048, .f32⟩
  | .hbm, ⟨31, _⟩ => ⟨S_, .f32⟩
  | .hbm, ⟨32, _⟩ => ⟨S32768x2048, .f32⟩
  | .hbm, ⟨33, _⟩ => ⟨S32768x2048, .f32⟩
  | .hbm, ⟨34, _⟩ => ⟨S1x2048x2048, .f32⟩
  | .hbm, ⟨35, _⟩ => ⟨S2048x2048, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S_, .f32⟩
  | .hbm, ⟨40, _⟩ => ⟨S32768x2048, .f32⟩
  | .hbm, ⟨41, _⟩ => ⟨S32768x2048, .f32⟩
  | .hbm, ⟨42, _⟩ => ⟨S_, .f32⟩
  | .hbm, ⟨43, _⟩ => ⟨S32768x2048, .f32⟩
  | .hbm, ⟨44, _⟩ => ⟨S32768x2048, .f32⟩
  | .hbm, ⟨45, _⟩ => ⟨S1x512x2048, .f32⟩
  | .hbm, ⟨46, _⟩ => ⟨S512x2048, .f32⟩
  | .hbm, ⟨47, _⟩ => ⟨S32768x2048, .f32⟩
  | .hbm, ⟨48, _⟩ => ⟨S32768x2048, .f32⟩
  | .hbm, ⟨49, _⟩ => ⟨S32768x2048, .f32⟩
  | .hbm, ⟨50, _⟩ => ⟨S1x2048x2048, .f32⟩
  | .hbm, ⟨51, _⟩ => ⟨S2048x2048, .f32⟩
  | .hbm, ⟨52, _⟩ => ⟨S32768x2048, .f32⟩
  | .hbm, ⟨53, _⟩ => ⟨S32768x2048, .f32⟩
  | .hbm, ⟨54, _⟩ => ⟨S32768x2048, .f32⟩
  | .hbm, ⟨55, _⟩ => ⟨S_, .f32⟩
  | .hbm, ⟨56, _⟩ => ⟨S32768x2048, .f32⟩
  | .hbm, ⟨57, _⟩ => ⟨S32768x2048, .f32⟩
  | .hbm, ⟨58, _⟩ => ⟨S_, .f32⟩
  | .hbm, ⟨59, _⟩ => ⟨S32768x2048, .f32⟩
  | .hbm, ⟨60, _⟩ => ⟨S32768x2048, .f32⟩
  | .hbm, ⟨61, _⟩ => ⟨S1x512x2048, .f32⟩
  | .hbm, ⟨62, _⟩ => ⟨S512x2048, .f32⟩
  | .hbm, ⟨63, _⟩ => ⟨S32768x2048, .f32⟩
  | .hbm, ⟨64, _⟩ => ⟨S32768x2048, .f32⟩
  | .hbm, ⟨65, _⟩ => ⟨S32768x2048, .f32⟩
  | .hbm, ⟨66, _⟩ => ⟨S1x2048x2048, .f32⟩
  | .hbm, ⟨67, _⟩ => ⟨S2048x2048, .f32⟩
  | .hbm, ⟨68, _⟩ => ⟨S32768x2048, .f32⟩
  | .hbm, ⟨69, _⟩ => ⟨S32768x2048, .f32⟩
  | .hbm, ⟨70, _⟩ => ⟨S32768x2048, .f32⟩
  | .hbm, ⟨71, _⟩ => ⟨S_, .f32⟩
  | .hbm, ⟨72, _⟩ => ⟨S32768x2048, .f32⟩
  | .hbm, ⟨73, _⟩ => ⟨S32768x2048, .f32⟩
  | .hbm, ⟨74, _⟩ => ⟨S_, .f32⟩
  | .hbm, ⟨75, _⟩ => ⟨S32768x2048, .f32⟩
  | .hbm, ⟨76, _⟩ => ⟨S32768x2048, .f32⟩
  | .hbm, ⟨77, _⟩ => ⟨S1x512x2048, .f32⟩
  | .hbm, ⟨78, _⟩ => ⟨S512x2048, .f32⟩
  | .hbm, ⟨79, _⟩ => ⟨S32768x2048, .f32⟩
  | .hbm, ⟨80, _⟩ => ⟨S32768x2048, .f32⟩
  | .hbm, ⟨81, _⟩ => ⟨S32768x2048, .f32⟩
  | .hbm, ⟨82, _⟩ => ⟨S32768x2048, .f32⟩
  | .hbm, ⟨83, _⟩ => ⟨S8x4096x2048, .f32⟩
  | .hbm, ⟨84, _⟩ => ⟨S8x2048, .f32⟩
  | .hbm, ⟨85, _⟩ => ⟨S8x1x2048, .f32⟩
  | .hbm, ⟨86, _⟩ => ⟨S32768x2048, .f32⟩
  | .hbm, ⟨87, _⟩ => ⟨S8x4096x2048, .f32⟩
  | .hbm, ⟨88, _⟩ => ⟨S8x4096x2048, .f32⟩
  | .hbm, ⟨89, _⟩ => ⟨S8x4096x2048, .f32⟩
  | .hbm, ⟨90, _⟩ => ⟨S8x4096x2048, .f32⟩
  | .hbm, ⟨91, _⟩ => ⟨S32768x2048, .f32⟩
  | _, _ => ⟨S34816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Kernel3.lean ====
abbrev S160 : Shape := ⟨1, ![160]⟩
abbrev S1 : Shape := ⟨1, ![1]⟩
abbrev S81920x2048 : Shape := ⟨2, ![81920, 2048]⟩
abbrev S32x2048x1024 : Shape := ⟨3, ![32, 2048, 1024]⟩
abbrev S32x1024x2048 : Shape := ⟨3, ![32, 1024, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 5
  | .vmem => 10
  | .smem => 2
  | _ => 0

abbrev bufTy : (tb : Table) → Fin (tcTables nBuf tb) → BufTy
  | .hbm, ⟨0, _⟩ => ⟨S81920x2048, .f32⟩
  | .hbm, ⟨1, _⟩ => ⟨S32x2048x1024, .bf16⟩
  | .hbm, ⟨2, _⟩ => ⟨S32x2048x1024, .bf16⟩
  | .hbm, ⟨3, _⟩ => ⟨S32x1024x2048, .bf16⟩
  | .hbm, ⟨4, _⟩ => ⟨S81920x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .smem, ⟨0, _⟩ => ⟨S160, .i32⟩
  | .local _ .smem, ⟨1, _⟩ => ⟨S1, .i32⟩
  | _, _ => ⟨S81920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S160 : Shape := ⟨1, ![160]⟩
abbrev S1 : Shape := ⟨1, ![1]⟩
abbrev S81920x2048 : Shape := ⟨2, ![81920, 2048]⟩
abbrev S32x2048x1024 : Shape := ⟨3, ![32, 2048, 1024]⟩
abbrev S32x1024x2048 : Shape := ⟨3, ![32, 1024, 2048]⟩
abbrev S160x512 : Shape := ⟨2, ![160, 512]⟩
abbrev S81920 : Shape := ⟨1, ![81920]⟩
abbrev S81920x1 : Shape := ⟨2, ![81920, 1]⟩
abbrev S1x32 : Shape := ⟨2, ![1, 32]⟩
abbrev S81920x32 : Shape := ⟨2, ![81920, 32]⟩
abbrev S32x1024x81920 : Shape := ⟨3, ![32, 1024, 81920]⟩
abbrev S32x81920x1024 : Shape := ⟨3, ![32, 81920, 1024]⟩
abbrev S_ : Shape := ⟨0, ![]⟩
abbrev S32x81920x2048 : Shape := ⟨3, ![32, 81920, 2048]⟩

abbrev nBuf : Space → Nat
  | .hbm => 42
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x2048, .f32⟩
  | .hbm, ⟨3, _⟩ => ⟨S32x2048x1024, .bf16⟩
  | .hbm, ⟨4, _⟩ => ⟨S32x2048x1024, .bf16⟩
  | .hbm, ⟨5, _⟩ => ⟨S32x1024x2048, .bf16⟩
  | .hbm, ⟨6, _⟩ => ⟨S160x512, .i32⟩
  | .hbm, ⟨7, _⟩ => ⟨S81920, .i32⟩
  | .hbm, ⟨8, _⟩ => ⟨S160, .i32⟩
  | .hbm, ⟨9, _⟩ => ⟨S160, .i32⟩
  | .hbm, ⟨10, _⟩ => ⟨S160, .i1⟩
  | .hbm, ⟨11, _⟩ => ⟨S160x512, .i1⟩
  | .hbm, ⟨12, _⟩ => ⟨S81920, .i1⟩
  | .hbm, ⟨13, _⟩ => ⟨S81920x1, .i32⟩
  | .hbm, ⟨14, _⟩ => ⟨S1x32, .i32⟩
  | .hbm, ⟨15, _⟩ => ⟨S81920x32, .i32⟩
  | .hbm, ⟨16, _⟩ => ⟨S81920x32, .i32⟩
  | .hbm, ⟨17, _⟩ => ⟨S81920x32, .i1⟩
  | .hbm, ⟨18, _⟩ => ⟨S81920x32, .f32⟩
  | .hbm, ⟨19, _⟩ => ⟨S81920x1, .i1⟩
  | .hbm, ⟨20, _⟩ => ⟨S81920x1, .f32⟩
  | .hbm, ⟨21, _⟩ => ⟨S81920x32, .f32⟩
  | .hbm, ⟨22, _⟩ => ⟨S81920x32, .f32⟩
  | .hbm, ⟨23, _⟩ => ⟨S32x2048x1024, .f32⟩
  | .hbm, ⟨24, _⟩ => ⟨S32x2048x1024, .f32⟩
  | .hbm, ⟨25, _⟩ => ⟨S32x1024x2048, .f32⟩
  | .hbm, ⟨26, _⟩ => ⟨S32x1024x81920, .f32⟩
  | .hbm, ⟨27, _⟩ => ⟨S32x81920x1024, .f32⟩
  | .hbm, ⟨28, _⟩ => ⟨S32x81920x1024, .f32⟩
  | .hbm, ⟨29, _⟩ => ⟨S32x81920x1024, .f32⟩
  | .hbm, ⟨30, _⟩ => ⟨S_, .f32⟩
  | .hbm, ⟨31, _⟩ => ⟨S32x81920x1024, .f32⟩
  | .hbm, ⟨32, _⟩ => ⟨S32x81920x1024, .f32⟩
  | .hbm, ⟨33, _⟩ => ⟨S_, .f32⟩
  | .hbm, ⟨34, _⟩ => ⟨S32x81920x1024, .f32⟩
  | .hbm, ⟨35, _⟩ => ⟨S32x81920x1024, .f32⟩
  | .hbm, ⟨36, _⟩ => ⟨S32x81920x1024, .f32⟩
  | .hbm, ⟨37, _⟩ => ⟨S32x1024x81920, .f32⟩
  | .hbm, ⟨38, _⟩ => ⟨S32x81920x1024, .f32⟩
  | .hbm, ⟨39, _⟩ => ⟨S32x81920x1024, .f32⟩
  | .hbm, ⟨40, _⟩ => ⟨S32x81920x2048, .f32⟩
  | .hbm, ⟨41, _⟩ => ⟨S81920x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== Kernel4.lean ====
abbrev S34816x2048 : Shape := ⟨2, ![34816, 2048]⟩
abbrev S16x12288 : Shape := ⟨2, ![16, 12288]⟩
abbrev S2048 : Shape := ⟨1, ![2048]⟩
abbrev S2048x4608 : Shape := ⟨2, ![2048, 4608]⟩
abbrev S16x1x12288 : Shape := ⟨3, ![16, 1, 12288]⟩
abbrev S1x2048 : Shape := ⟨2, ![1, 2048]⟩
abbrev S34816x4608 : Shape := ⟨2, ![34816, 4608]⟩
abbrev S512x2048 : Shape := ⟨2, ![512, 2048]⟩
abbrev S1x1x2048 : Shape := ⟨3, ![1, 1, 2048]⟩
abbrev S512x1536 : Shape := ⟨2, ![512, 1536]⟩
abbrev S128x2048 : Shape := ⟨2, ![128, 2048]⟩
abbrev S128 : Shape := ⟨1, ![128]⟩
abbrev S128x1 : Shape := ⟨2, ![128, 1]⟩
abbrev S2048x1536 : Shape := ⟨2, ![2048, 1536]⟩

abbrev nBuf : Space → Nat
  | .hbm => 9
  | .vmem => 12
  | .smem => 0
  | _ => 0

abbrev bufTy : (tb : Table) → Fin (tcTables nBuf tb) → BufTy
  | .hbm, ⟨0, _⟩ => ⟨S34816x2048, .f32⟩
  | .hbm, ⟨1, _⟩ => ⟨S16x12288, .f32⟩
  | .hbm, ⟨2, _⟩ => ⟨S2048, .f32⟩
  | .hbm, ⟨3, _⟩ => ⟨S2048x4608, .f32⟩
  | .hbm, ⟨4, _⟩ => ⟨S16x1x12288, .f32⟩
  | .hbm, ⟨5, _⟩ => ⟨S2048x4608, .bf16⟩
  | .hbm, ⟨6, _⟩ => ⟨S1x2048, .f32⟩
  | .hbm, ⟨7, _⟩ => ⟨S34816x4608, .f32⟩
  | .hbm, ⟨8, _⟩ => ⟨S34816x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x4608, .bf16⟩
  | .local _ .vmem, ⟨8, _⟩ => ⟨S512x1536, .f32⟩
  | .local _ .vmem, ⟨9, _⟩ => ⟨S512x1536, .f32⟩
  | .local _ .vmem, ⟨10, _⟩ => ⟨S512x2048, .bf16⟩
  | .local _ .vmem, ⟨11, _⟩ => ⟨S512x2048, .bf16⟩
  | _, _ => ⟨S34816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![68, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5 : BitVec 32 := 0#32
  let c4_i32 : BitVec 32 := 4#32
  let v12 : BitVec 32 := Scalar.addi c0_i32_5 c4_i32
  let c1_i32_6 : BitVec 32 := 1#32
  ⟨c0_i32_5, v12, c1_i32_6⟩
def k0_mult1 (k0_t1 : Fin k0_t1_loop.trips) : BitVec 32 :=
  let c0_i32_5 : BitVec 32 := 0#32
  let c1_i32_6 : BitVec 32 := 1#32
  let arg9 : BitVec 32 := Scf.iv c0_i32_5 c1_i32_6 k0_t1
  let c128_i32 : BitVec 32 := 128#32
  let v13 : BitVec 32 := Scalar.muli arg9 c128_i32
  v13
def k0_off1 (k0_t1 : Fin k0_t1_loop.trips) : Fin 2 → Nat :=
  let c0_i32_5 : BitVec 32 := 0#32
  let c1_i32_6 : BitVec 32 := 1#32
  let arg9 : BitVec 32 := Scf.iv c0_i32_5 c1_i32_6 k0_t1
  let c128_i32 : BitVec 32 := 128#32
  let v13 : BitVec 32 := Scalar.muli arg9 c128_i32
  let v14 : BitVec 32 := v13
  let v15 : Index := Scalar.indexCast v14
  let c0 : Index := 0#32
  ![v15.toNat, 0]
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.select v0 v17 c8_i32_4
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.select v0 v17 c8_i32_4
  let c0_i32_5 : BitVec 32 := 0#32
  let c1_i32_6 : BitVec 32 := 1#32
  let c0_i32_7 : BitVec 32 := 0#32
  ![v18.toNat, c0_i32_5.toNat, c1_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S34816x2048 : Shape := ⟨2, ![34816, 2048]⟩
abbrev S16x12288 : Shape := ⟨2, ![16, 12288]⟩
abbrev S2048 : Shape := ⟨1, ![2048]⟩
abbrev S2048x4608 : Shape := ⟨2, ![2048, 4608]⟩
abbrev S9x2048 : Shape := ⟨2, ![9, 2048]⟩
abbrev S9x1x2048 : Shape := ⟨3, ![9, 1, 2048]⟩
abbrev S32768x2048 : Shape := ⟨2, ![32768, 2048]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S2048x2048 : Shape := ⟨2, ![2048, 2048]⟩
abbrev S8x256x2048 : Shape := ⟨3, ![8, 256, 2048]⟩
abbrev S8x256 : Shape := ⟨2, ![8, 256]⟩
abbrev S8x256x1 : Shape := ⟨3, ![8, 256, 1]⟩
abbrev S34816x4608 : Shape := ⟨2, ![34816, 4608]⟩

abbrev nBuf : Space → Nat
  | .hbm => 67
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S16x12288, .f32⟩
  | .hbm, ⟨2, _⟩ => ⟨S2048, .f32⟩
  | .hbm, ⟨3, _⟩ => ⟨S2048x4608, .f32⟩
  | .hbm, ⟨4, _⟩ => ⟨S9x2048, .f32⟩
  | .hbm, ⟨5, _⟩ => ⟨S9x1x2048, .f32⟩
  | .hbm, ⟨6, _⟩ => ⟨S9x2048, .f32⟩
  | .hbm, ⟨7, _⟩ => ⟨S9x1x2048, .f32⟩
  | .hbm, ⟨8, _⟩ => ⟨S32768x2048, .f32⟩
  | .hbm, ⟨9, _⟩ => ⟨S8x4096x2048, .f32⟩
  | .hbm, ⟨10, _⟩ => ⟨S8x4096x2048, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x2048, .f32⟩
  | .hbm, ⟨22, _⟩ => ⟨S8x4096x2048, .f32⟩
  | .hbm, ⟨23, _⟩ => ⟨S1x1x2048, .f32⟩
  | .hbm, ⟨24, _⟩ => ⟨S8x4096x2048, .f32⟩
  | .hbm, ⟨25, _⟩ => ⟨S8x4096x2048, .f32⟩
  | .hbm, ⟨26, _⟩ => ⟨S8x1x2048, .f32⟩
  | .hbm, ⟨27, _⟩ => ⟨S8x1x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S2048x2048, .f32⟩
  | .hbm, ⟨36, _⟩ => ⟨S8x256x2048, .f32⟩
  | .hbm, ⟨37, _⟩ => ⟨S8x256x2048, .f32⟩
  | .hbm, ⟨38, _⟩ => ⟨S_, .f32⟩
  | .hbm, ⟨39, _⟩ => ⟨S8x256, .f32⟩
  | .hbm, ⟨40, _⟩ => ⟨S8x256x1, .f32⟩
  | .hbm, ⟨41, _⟩ => ⟨S_, .f32⟩
  | .hbm, ⟨42, _⟩ => ⟨S8x256x1, .f32⟩
  | .hbm, ⟨43, _⟩ => ⟨S8x256x1, .f32⟩
  | .hbm, ⟨44, _⟩ => ⟨S_, .f32⟩
  | .hbm, ⟨45, _⟩ => ⟨S8x256x1, .f32⟩
  | .hbm, ⟨46, _⟩ => ⟨S8x256x1, .f32⟩
  | .hbm, ⟨47, _⟩ => ⟨S8x256x1, .f32⟩
  | .hbm, ⟨48, _⟩ => ⟨S8x256x2048, .f32⟩
  | .hbm, ⟨49, _⟩ => ⟨S8x256x2048, .f32⟩
  | .hbm, ⟨50, _⟩ => ⟨S1x1x2048, .f32⟩
  | .hbm, ⟨51, _⟩ => ⟨S8x256x2048, .f32⟩
  | .hbm, ⟨52, _⟩ => ⟨S8x256x2048, .f32⟩
  | .hbm, ⟨53, _⟩ => ⟨S1x1x2048, .f32⟩
  | .hbm, ⟨54, _⟩ => ⟨S1x1x2048, .f32⟩
  | .hbm, ⟨55, _⟩ => ⟨S_, .f32⟩
  | .hbm, ⟨56, _⟩ => ⟨S1x1x2048, .f32⟩
  | .hbm, ⟨57, _⟩ => ⟨S1x1x2048, .f32⟩
  | .hbm, ⟨58, _⟩ => ⟨S8x256x2048, .f32⟩
  | .hbm, ⟨59, _⟩ => ⟨S8x256x2048, .f32⟩
  | .hbm, ⟨60, _⟩ => ⟨S8x256x2048, .f32⟩
  | .hbm, ⟨61, _⟩ => ⟨S8x256x2048, .f32⟩
  | .hbm, ⟨62, _⟩ => ⟨S32768x2048, .f32⟩
  | .hbm, ⟨63, _⟩ => ⟨S2048x2048, .f32⟩
  | .hbm, ⟨64, _⟩ => ⟨S34816x2048, .f32⟩
  | .hbm, ⟨65, _⟩ => ⟨S34816x4608, .f32⟩
  | .hbm, ⟨66, _⟩ => ⟨S34816x2048, .bf16⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Kernel5.lean ====
abbrev S8x2048 : Shape := ⟨2, ![8, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S16x2048 : Shape := ⟨2, ![16, 2048]⟩
abbrev S1 : Shape := ⟨1, ![1]⟩
abbrev S2x1x12288 : Shape := ⟨3, ![2, 1, 12288]⟩
abbrev S2x16x12288 : Shape := ⟨3, ![2, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S_, .f32⟩
  | .hbm, ⟨5, _⟩ => ⟨S16x2048, .f32⟩
  | .hbm, ⟨6, _⟩ => ⟨S_, .i32⟩
  | .hbm, ⟨7, _⟩ => ⟨S1, .i32⟩
  | .hbm, ⟨8, _⟩ => ⟨S16x2048, .f32⟩
  | .hbm, ⟨9, _⟩ => ⟨S_, .i32⟩
  | .hbm, ⟨10, _⟩ => ⟨S1, .i32⟩
  | .hbm, ⟨11, _⟩ => ⟨S16x2048, .f32⟩
  | .hbm, ⟨12, _⟩ => ⟨S2x1x12288, .f32⟩
  | .hbm, ⟨13, _⟩ => ⟨S2x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x2048 : Shape := ⟨2, ![8, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩
abbrev S1x16x12288 : Shape := ⟨3, ![1, 16, 12288]⟩
abbrev S2x16x12288 : Shape := ⟨3, ![2, 16, 12288]⟩

abbrev nBuf : Space → Nat
  | .hbm => 36
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S_, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S1x2048x12288, .f32⟩
  | .hbm, ⟨18, _⟩ => ⟨S2048x12288, .f32⟩
  | .hbm, ⟨19, _⟩ => ⟨S16x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S16x12288, .f32⟩
  | .hbm, ⟨24, _⟩ => ⟨S16x12288, .f32⟩
  | .hbm, ⟨25, _⟩ => ⟨S1x2048x12288, .f32⟩
  | .hbm, ⟨26, _⟩ => ⟨S2048x12288, .f32⟩
  | .hbm, ⟨27, _⟩ => ⟨S16x12288, .f32⟩
  | .hbm, ⟨28, _⟩ => ⟨S1x12288, .f32⟩
  | .hbm, ⟨29, _⟩ => ⟨S12288, .f32⟩
  | .hbm, ⟨30, _⟩ => ⟨S1x12288, .f32⟩
  | .hbm, ⟨31, _⟩ => ⟨S16x12288, .f32⟩
  | .hbm, ⟨32, _⟩ => ⟨S16x12288, .f32⟩
  | .hbm, ⟨33, _⟩ => ⟨S1x16x12288, .f32⟩
  | .hbm, ⟨34, _⟩ => ⟨S1x16x12288, .f32⟩
  | .hbm, ⟨35, _⟩ => ⟨S2x16x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel6.lean ====
abbrev S34816x4608 : Shape := ⟨2, ![34816, 4608]⟩
abbrev S3x1536 : Shape := ⟨2, ![3, 1536]⟩
abbrev S3x512 : Shape := ⟨2, ![3, 512]⟩
abbrev S_ : Shape := ⟨0, ![]⟩
abbrev S32768x512 : Shape := ⟨2, ![32768, 512]⟩
abbrev S512x512 : Shape := ⟨2, ![512, 512]⟩
abbrev S1x512 : Shape := ⟨2, ![1, 512]⟩

abbrev nBuf : Space → Nat
  | .hbm => 10
  | .vmem => 24
  | .smem => 0
  | _ => 0

abbrev bufTy : (tb : Table) → Fin (tcTables nBuf tb) → BufTy
  | .hbm, ⟨0, _⟩ => ⟨S34816x4608, .f32⟩
  | .hbm, ⟨1, _⟩ => ⟨S3x1536, .f32⟩
  | .hbm, ⟨2, _⟩ => ⟨S3x512, .f32⟩
  | .hbm, ⟨3, _⟩ => ⟨S_, .bf16⟩
  | .hbm, ⟨4, _⟩ => ⟨S32768x512, .bf16⟩
  | .hbm, ⟨5, _⟩ => ⟨S32768x512, .f32⟩
  | .hbm, ⟨6, _⟩ => ⟨S32768x512, .f32⟩
  | .hbm, ⟨7, _⟩ => ⟨S32768x512, .f32⟩
  | .hbm, ⟨8, _⟩ => ⟨S32768x512, .bf16⟩
  | .hbm, ⟨9, _⟩ => ⟨S32768x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S3x1536, .f32⟩
  | .local _ .vmem, ⟨13, _⟩ => ⟨S3x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | _, _ => ⟨S34816x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c2_i32 : BitVec 32 := 2#32
  let c0_i32_0 : BitVec 32 := 0#32
  ![v0.toNat, c2_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c3_i32 : BitVec 32 := 3#32
  let c0_i32_0 : BitVec 32 := 0#32
  ![v0.toNat, c3_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c4_i32 : BitVec 32 := 4#32
  let c0_i32_0 : BitVec 32 := 0#32
  ![v0.toNat, c4_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c5_i32 : BitVec 32 := 5#32
  let c0_i32_0 : BitVec 32 := 0#32
  ![v0.toNat, c5_i32.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c6_i32 : BitVec 32 := 6#32
  let c0_i32_0 : BitVec 32 := 0#32
  ![v0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S34816x4608 : Shape := ⟨2, ![34816, 4608]⟩
abbrev S3x1536 : Shape := ⟨2, ![3, 1536]⟩
abbrev S3x512 : Shape := ⟨2, ![3, 512]⟩
abbrev S32768x4608 : Shape := ⟨2, ![32768, 4608]⟩
abbrev S8x4096x4608 : Shape := ⟨3, ![8, 4096, 4608]⟩
abbrev S8x4096x1536 : Shape := ⟨3, ![8, 4096, 1536]⟩
abbrev S8x64x64x1536 : Shape := ⟨4, ![8, 64, 64, 1536]⟩
abbrev S_ : Shape := ⟨0, ![]⟩
abbrev S8x64x66x1536 : Shape := ⟨4, ![8, 64, 66, 1536]⟩
abbrev S1x1536 : Shape := ⟨2, ![1, 1536]⟩
abbrev S1536 : Shape := ⟨1, ![1536]⟩
abbrev S1x1x1x1536 : Shape := ⟨4, ![1, 1, 1, 1536]⟩
abbrev S32768x1536 : Shape := ⟨2, ![32768, 1536]⟩
abbrev S32768x512 : Shape := ⟨2, ![32768, 512]⟩
abbrev S8x4096x512 : Shape := ⟨3, ![8, 4096, 512]⟩
abbrev S8x64x64x512 : Shape := ⟨4, ![8, 64, 64, 512]⟩
abbrev S8x64x66x512 : Shape := ⟨4, ![8, 64, 66, 512]⟩
abbrev S1x512 : Shape := ⟨2, ![1, 512]⟩
abbrev S512 : Shape := ⟨1, ![512]⟩
abbrev S1x1x1x512 : Shape := ⟨4, ![1, 1, 1, 512]⟩

abbrev nBuf : Space → Nat
  | .hbm => 75
  | .vmem => 0
  | .smem => 0
  | _ => 0

abbrev bufTy : (tb : Table) → Fin (tcTables nBuf tb) → BufTy
  | .hbm, ⟨0, _⟩ => ⟨S34816x4608, .f32⟩
  | .hbm, ⟨1, _⟩ => ⟨S3x1536, .f32⟩
  | .hbm, ⟨2, _⟩ => ⟨S3x512, .f32⟩
  | .hbm, ⟨3, _⟩ => ⟨S32768x4608, .f32⟩
  | .hbm, ⟨4, _⟩ => ⟨S8x4096x4608, .f32⟩
  | .hbm, ⟨5, _⟩ => ⟨S8x4096x1536, .f32⟩
  | .hbm, ⟨6, _⟩ => ⟨S8x64x64x1536, .f32⟩
  | .hbm, ⟨7, _⟩ => ⟨S_, .i32⟩
  | .hbm, ⟨8, _⟩ => ⟨S_, .f32⟩
  | .hbm, ⟨9, _⟩ => ⟨S8x64x66x1536, .f32⟩
  | .hbm, ⟨10, _⟩ => ⟨S8x64x64x1536, .f32⟩
  | .hbm, ⟨11, _⟩ => ⟨S1x1536, .f32⟩
  | .hbm, ⟨12, _⟩ => ⟨S1536, .f32⟩
  | .hbm, ⟨13, _⟩ => ⟨S1x1x1x1536, .f32⟩
  | .hbm, ⟨14, _⟩ => ⟨S8x64x64x1536, .f32⟩
  | .hbm, ⟨15, _⟩ => ⟨S8x64x64x1536, .f32⟩
  | .hbm, ⟨16, _⟩ => ⟨S_, .f32⟩
  | .hbm, ⟨17, _⟩ => ⟨S8x64x64x1536, .f32⟩
  | .hbm, ⟨18, _⟩ => ⟨S8x64x64x1536, .f32⟩
  | .hbm, ⟨19, _⟩ => ⟨S8x64x64x1536, .f32⟩
  | .hbm, ⟨20, _⟩ => ⟨S1x1536, .f32⟩
  | .hbm, ⟨21, _⟩ => ⟨S1536, .f32⟩
  | .hbm, ⟨22, _⟩ => ⟨S1x1x1x1536, .f32⟩
  | .hbm, ⟨23, _⟩ => ⟨S8x64x64x1536, .f32⟩
  | .hbm, ⟨24, _⟩ => ⟨S8x64x64x1536, .f32⟩
  | .hbm, ⟨25, _⟩ => ⟨S8x64x64x1536, .f32⟩
  | .hbm, ⟨26, _⟩ => ⟨S8x64x64x1536, .f32⟩
  | .hbm, ⟨27, _⟩ => ⟨S1x1536, .f32⟩
  | .hbm, ⟨28, _⟩ => ⟨S1536, .f32⟩
  | .hbm, ⟨29, _⟩ => ⟨S1x1x1x1536, .f32⟩
  | .hbm, ⟨30, _⟩ => ⟨S8x64x64x1536, .f32⟩
  | .hbm, ⟨31, _⟩ => ⟨S8x64x64x1536, .f32⟩
  | .hbm, ⟨32, _⟩ => ⟨S8x64x64x1536, .f32⟩
  | .hbm, ⟨33, _⟩ => ⟨S8x4096x1536, .f32⟩
  | .hbm, ⟨34, _⟩ => ⟨S32768x1536, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S8x4096x1536, .f32⟩
  | .hbm, ⟨39, _⟩ => ⟨S8x4096x512, .f32⟩
  | .hbm, ⟨40, _⟩ => ⟨S8x4096x512, .f32⟩
  | .hbm, ⟨41, _⟩ => ⟨S8x4096x512, .f32⟩
  | .hbm, ⟨42, _⟩ => ⟨S8x4096x512, .f32⟩
  | .hbm, ⟨43, _⟩ => ⟨S8x64x64x512, .f32⟩
  | .hbm, ⟨44, _⟩ => ⟨S_, .i32⟩
  | .hbm, ⟨45, _⟩ => ⟨S_, .f32⟩
  | .hbm, ⟨46, _⟩ => ⟨S8x64x66x512, .f32⟩
  | .hbm, ⟨47, _⟩ => ⟨S8x64x64x512, .f32⟩
  | .hbm, ⟨48, _⟩ => ⟨S1x512, .f32⟩
  | .hbm, ⟨49, _⟩ => ⟨S512, .f32⟩
  | .hbm, ⟨50, _⟩ => ⟨S1x1x1x512, .f32⟩
  | .hbm, ⟨51, _⟩ => ⟨S8x64x64x512, .f32⟩
  | .hbm, ⟨52, _⟩ => ⟨S8x64x64x512, .f32⟩
  | .hbm, ⟨53, _⟩ => ⟨S_, .f32⟩
  | .hbm, ⟨54, _⟩ => ⟨S8x64x64x512, .f32⟩
  | .hbm, ⟨55, _⟩ => ⟨S8x64x64x512, .f32⟩
  | .hbm, ⟨56, _⟩ => ⟨S8x64x64x512, .f32⟩
  | .hbm, ⟨57, _⟩ => ⟨S1x512, .f32⟩
  | .hbm, ⟨58, _⟩ => ⟨S512, .f32⟩
  | .hbm, ⟨59, _⟩ => ⟨S1x1x1x512, .f32⟩
  | .hbm, ⟨60, _⟩ => ⟨S8x64x64x512, .f32⟩
  | .hbm, ⟨61, _⟩ => ⟨S8x64x64x512, .f32⟩
  | .hbm, ⟨62, _⟩ => ⟨S8x64x64x512, .f32⟩
  | .hbm, ⟨63, _⟩ => ⟨S8x64x64x512, .f32⟩
  | .hbm, ⟨64, _⟩ => ⟨S1x512, .f32⟩
  | .hbm, ⟨65, _⟩ => ⟨S512, .f32⟩
  | .hbm, ⟨66, _⟩ => ⟨S1x1x1x512, .f32⟩
  | .hbm, ⟨67, _⟩ => ⟨S8x64x64x512, .f32⟩
  | .hbm, ⟨68, _⟩ => ⟨S8x64x64x512, .f32⟩
  | .hbm, ⟨69, _⟩ => ⟨S8x64x64x512, .f32⟩
  | .hbm, ⟨70, _⟩ => ⟨S8x4096x512, .f32⟩
  | .hbm, ⟨71, _⟩ => ⟨S8x4096x512, .f32⟩
  | .hbm, ⟨72, _⟩ => ⟨S32768x512, .bf16⟩
  | .hbm, ⟨73, _⟩ => ⟨S32768x512, .f32⟩
  | .hbm, ⟨74, _⟩ => ⟨S32768x512, .bf16⟩
  | _, _ => ⟨S34816x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c_0 : Ref sig .tc := ⟨.hbm, 44, rfl⟩
abbrev main_call1_v0 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_1 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩

abbrev nD : Nat := 1
abbrev τ : Topo := Topo.v7x

variable {F : FTy → Type} [FloatOps F]
-- ==== Proof.Lru.Runs.lean ====
/- What the two cases of the recurrence kernel's body share: the branch condition in closed form, the staging buffers at a point, the scratch buffers. -/
module

public import proofs.«01_k».proof.Proof.Gen.KernelIdeal.Frame
public import proofs.«01_k».proof.Proof.Gen.KernelIdeal.Loops

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch -/

/-- Whether the body sets the carried row at the point with these coordinates. -/
abbrev cond0_0 (i : grid0.Coords) : Prop := (Scalar.cmpi .ne (Scalar.extui (Scalar.cmpi .eq (BitVec.ofNat 32 (i 1).val) 0#32)) 0#32) = 1#1
/-- It does at the first of each sequence's four points. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The blocks the body is given -/

/-- A buffer for the rows' block. -/
abbrev VO0_8 : View sig .tc .vmem S512x512 .f32 := (Memref.whole cc0_stg8_0 : Memref sig .tc .vmem S512x512 .f32).view
/-- A buffer for the last state's block. -/
abbrev VO0_9 : View sig .tc .vmem S1x1x512 .f32 := (Memref.whole cc0_stg9_0 : Memref sig .tc .vmem S1x1x512 .f32).view
/-- The blocks the body is given at point `t`, each a whole buffer. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x512 .f32 := win0_9.stage (cfg0.slots t 9)
abbrev hs0_9 (t : Fin cfg0.N) : (ms0_9 t).IsWhole := hstage0_9 ((cfg0.slots t 9).cast nbuf0_9)
/-- The kernel's own working arrays. -/
abbrev scM0_0 : Memref sig .tc .vmem S512x512 .f32 := Memref.whole cc0_scratch0
abbrev scM0_1 : Memref sig .tc .vmem S512x512 .f32 := Memref.whole cc0_scratch1
abbrev scM0_2 : Memref sig .tc .vmem S1x512 .f32 := Memref.whole cc0_scratch2
/-- The row carried from point to point. -/
abbrev VS0_2 : View sig .tc .vmem S1x512 .f32 := scM0_2.view

/-- The working arrays, each owned at some contents, are what the body is handed beside its blocks. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Lru

end
-- ==== Proof.Lru.RunA.lean ====
/- The body of the recurrence kernel at the first chunk of a sequence: the carried row is set from the initial state. -/
module

public import proofs.«01_k».proof.Proof.Lru.Runs

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body of the recurrence kernel at the first chunk of a sequence: the carried row is set from the initial state. On whole staging buffers, the inputs' at their contents, it runs to its return with the inputs unchanged and each output, and the carried row, holding the pieces listed. -/
noncomputable def kernelRun0_A (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) :
    Σ' (L8 : List (View.Piece (Elt F) S512x512 .f32)), Σ' (L9 : List (View.Piece (Elt F) S1x1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS2)) -∗ K ⟨⟩))
          ⊢ wp frame (wpE (defs₀ (F := F)) Variants.none c none) E (cc0_lru_fwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_lru_fwd_eq_skeleton]; unfold cc0_lru_fwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    iexists _; iexact HS2

end Cert.Lru

end
-- ==== Proof.Lru.RunB.lean ====
/- The body of the recurrence kernel at a later chunk: the carried row is what the chunk before left. -/
module

public import proofs.«01_k».proof.Proof.Lru.RunA

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body of the recurrence kernel at a later chunk: the carried row is what the chunk before left. On whole staging buffers, the inputs' at their contents, it runs to its return with the inputs unchanged and each output, and the carried row, holding the pieces listed. -/
noncomputable def kernelRun0_B (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : ¬cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) (xs2 : Vec F S1x512 .f32) :
    Σ' (L8 : List (View.Piece (Elt F) S512x512 .f32)), Σ' (L9 : List (View.Piece (Elt F) S1x1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS2)) -∗ K ⟨⟩))
          ⊢ wp frame (wpE (defs₀ (F := F)) Variants.none c none) E (cc0_lru_fwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_lru_fwd_eq_skeleton]; unfold cc0_lru_fwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    iexists _; iexact HS2

end Cert.Lru

end
-- ==== Proof.Lru.Frame.lean ====
/- The frame of the recurrence kernel, from its body's two cases. -/
module

public import proofs.«01_k».proof.Proof.Lru.RunB
public import Idealize.ShloMosaic.Lib.Claim

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In case A the stores cover the rows' block. -/
theorem cover0_A_8 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 S512x512.size (by sl_kernel_rfl) y

/-- What case A leaves in the rows' block. -/
def out0_A_8 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) : Vec F S512x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1)

/-- In case A the stores cover the last state's block. -/
theorem cover0_A_9 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) (y : S1x1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 S1x1x512.size (by sl_kernel_rfl) y

/-- What case A leaves in the last state's block. -/
def out0_A_9 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) : Vec F S1x1x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1)

/-- In case A the stores cover the carried row. -/
theorem scover0_A_2 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 S1x512.size (by sl_kernel_rfl) y

/-- What case A leaves in the carried row. -/
def sout0_A_2 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) : Vec F S1x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1)

/-- In case B the stores cover the rows' block. -/
theorem cover0_B_8 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : ¬cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) (xs2 : Vec F S1x512 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2).1 S512x512.size (by sl_kernel_rfl) y

/-- What case B leaves in the rows' block. -/
def out0_B_8 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : ¬cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) (xs2 : Vec F S1x512 .f32) : Vec F S512x512 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2).1)

/-- In case B the stores cover the last state's block. -/
theorem cover0_B_9 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : ¬cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) (xs2 : Vec F S1x512 .f32) (y : S1x1x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2).2.1 S1x1x512.size (by sl_kernel_rfl) y

/-- What case B leaves in the last state's block. -/
def out0_B_9 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : ¬cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) (xs2 : Vec F S1x512 .f32) : Vec F S1x1x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2).2.1)

/-- In case B the stores cover the carried row. -/
theorem scover0_B_2 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : ¬cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) (xs2 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2).2.2.1 S1x512.size (by sl_kernel_rfl) y

/-- What case B leaves in the carried row. -/
def sout0_B_2 (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : ¬cond0_0 i)
    (x0 : Vec F S512x512 .f32) (x1 : Vec F S4x512 .f32) (x2 : Vec F S512x512 .bf16) (x3 : Vec F S512x512 .bf16) (x4 : Vec F S1x512 .f32) (x5 : Vec F S1x512 .f32) (x6 : Vec F S1x512 .f32) (x7 : Vec F S1x1x512 .f32) (xs2 : Vec F S1x512 .f32) : Vec F S1x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2).2.2.1)

/-! ## What the outputs hold after each point -/

/-- What the two result blocks and the carried row hold after point `n`: case A at the first point of a sequence, case B over what the point before left otherwise. -/
def outsAt0 (c : Dev nD) : (n : ℕ) → n < cfg0.N → Vec F S512x512 .f32 × Vec F S1x1x512 .f32 × Vec F S1x512 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)

/-- `outsAt0` at a point of case A: that case's contents. -/
theorem outsAt0_A (c : Dev nD) (t : Fin cfg0.N) (h0 : t.val % 8 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- What holds beside the blocks before point `n`: nothing of note before the first; afterwards the carried row is what the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n`: the carried row is what that point left. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).2.2)) ∗ (∃ r, prngReg c r)) := rfl

/-- Before a point that is not the first: the carried row is what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).2.2)) ∗ (∃ r, prngReg c r)) := by
  cases n with
  | zero => exact absurd rfl hz
  | succ n => rfl

/-! ## What every block holds, point by point -/

/-- The arrays at the call, and what each point leaves: an argument's block is as it was fetched, a result's is `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q _ := fullShare
  owed _ := 0

/-- The arrays at the call are those the host's operations left. -/
theorem A_eq (c : Dev nD) (w : Fin cfg0.W) : (dats m 0 c).A w = V m c (Pipeline.arrRef spec0 w) := by
  dsimp only [dats]

/-- What holds at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What each point leaves, block by block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each argument's block is in place at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body at any point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point, by the two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases hz : t.val = 0
    · rw [PhiS_castSucc m c t, PhiS_zero m c _ _ hz, PhiA0_eq]
      rw [outsAt0_A m c t h0]
      unfold out0_A_8 out0_A_9 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, H7, ⟨%e8, H8⟩, ⟨%e9, H9⟩, HS0, HS1, ⟨%es2, HS2⟩⟩
      isplitl [HS0 HS1 HS2 Hg]
      · isplitl [HS0 HS1 HS2]
        · isplitl [HS0]
          · iexact HS0
          isplitl [HS1]
          · iexact HS1
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 out0_A_9 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexists _; iexact HS2
      iintro ⟨H0, H1, H2, H3, H4, H5, H6, H7, ⟨%e8, H8⟩, ⟨%e9, H9⟩, HS0, HS1, ⟨%es2, HS2⟩⟩
      isplitl [HS0 HS1 HS2 Hg]
      · isplitl [HS0 HS1 HS2]
        · isplitl [HS0]
          · iexact HS0
          isplitl [HS1]
          · iexact HS1
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_8 out0_B_9 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, H7, ⟨%e8, H8⟩, ⟨%e9, H9⟩, HS0, HS1, ⟨%es2, HS2⟩⟩
      isplitl [HS0 HS1 HS2 Hg]
      · isplitl [HS0 HS1 HS2]
        · isplitl [HS0]
          · iexact HS0
          isplitl [HS1]
          · iexact HS1
          unfold owns; iexists _; isplitr
          swap; · iexact HS2
          ipureintro; exact View.read_writes_of_cover _ _ _ _ _ (scover0_B_2 c _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _)

/-- The program's body at point `t`'s buffers is the one run above. -/
theorem defs₀_row (t : Fin cfg0.N) :
    defs₀ (F := F) .tc cfg0.body (cfg0.bodyArgs t (cfg0.slots t)) = bodyAt0 t := by
  unfold defs₀; rw [Defs.onTc_tc]

/-- So the body does as stated at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What holds at the start is what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the carried row's contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- The run, with every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: it ends, with every array at what the points left in it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments end unchanged, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Lru

end
-- ==== Proof.Lru.LoopValue.lean ====
/- What the loop over the groups of eight rows leaves: the carried row after each group, and the stored rows. -/
module

public import proofs.«01_k».proof.Proof.Lru.Frame
public import Idealize.ShloMosaic.Lib.Pointwise
public import Idealize.ShloMosaic.Lib.WritesUnit
public import Idealize.ShloMosaic.Lib.VecWindow

@[expose] public section

set_option maxRecDepth 16384

noncomputable section

namespace Cert.Lru

open Cert.KernelIdeal Cert.KernelIdeal.Gen
open Idealize.ShloMosaic Idealize.ShloMosaic.TcCoe Idealize.ShloMosaic.Pointwise

/-- A block's entries by row number, zero past the last row. -/
def rows (v : FVec Ideal S512x512 .f32) (r : ℕ) (l : Fin 512) : EReal :=
  if h : r < 512 then v (ix2 ⟨r, h⟩ l) else 0

theorem rows_at (v : FVec Ideal S512x512 .f32) (y : S512x512.Idx) (r : ℕ) (h : (y 0).val = r) :
    rows v r (y 1) = v y := by
  subst h
  have h0 : (y 0).val < 512 := (y 0).isLt
  unfold rows; rw [dif_pos h0]
  exact congrArg v (ix2_eta y)

/-- The row carried into group `k`, from the scanned decays `a`, the scanned inputs `b` and the row `c` carried in:
    the last row of each group at the row carried into it. -/
def carryAt (a b : ℕ → Fin 512 → EReal) (c : Fin 512 → EReal) : ℕ → Fin 512 → EReal
  | 0, l => c l
  | k + 1, l => b (8 * k + 7) l + a (8 * k + 7) l * carryAt a b c k l

/-- A load of group `k`'s eight rows reads the rows `8 k + r`. -/
theorem load_group {v : View sig .tc .vmem S512x512 .f32} (f : v.ty.Contents (Elt Ideal)) (k : Fin k0_t1_loop.trips) (x : S8x512.Idx)
    (y : S512x512.Idx) (h0 : (y 0).val = 8 * k.val + (x 0).val) (h1 : (y 1).val = (x 1).val) :
    View.readAt (Elt Ideal) v (Rect.unit (s := S512x512) (k0_off1 k) S8x512.size (k0_off1_inb k)).toLoadRect f x = v.read (Elt Ideal) f y := by
  refine congrArg (v.read (Elt Ideal) f) (funext fun a => Fin.ext ?_)
  have e := k0_off1_eq k
  match a with
  | ⟨0, _⟩ =>
    show k0_off1 k 0 + 1 * (x 0).val = (y 0).val
    rw [e]
    show 8 * k.val + 1 * (x 0).val = (y 0).val
    omega
  | ⟨1, _⟩ =>
    show k0_off1 k 1 + 1 * (x 1).val = (y 1).val
    rw [e]
    show 0 + 1 * (x 1).val = (y 1).val
    omega

theorem trips_le (k : Fin k0_t1_loop.trips) : k.val < 64 := lt_of_lt_of_le k.isLt k0_t1_abs.2.1

theorem pay4_at (acc : FVec Ideal S1x512 .f32) (v w : FVec Ideal S8x512 .f32) (x : S8x512.Idx) :
    k0_pay4 acc v w x = v x + w x * acc (ix2 0 (x 1)) := by
  idx_vars x
  pointwise [k0_pay4]

theorem pay5_at (acc : FVec Ideal S1x512 .f32) (v w : FVec Ideal S8x512 .f32) (x : S8x512.Idx) :
    k0_pay5 acc v w x = v x + w x * acc (ix2 0 (x 1)) := by
  idx_vars x
  pointwise [k0_pay5, k0_pay4]

theorem pay6_at (acc : FVec Ideal S1x512 .f32) (v w : FVec Ideal S8x512 .f32) (y : S1x512.Idx) :
    k0_pay6 acc v w y = v (ix2 7 (y 1)) + w (ix2 7 (y 1)) * acc (ix2 0 (y 1)) := by
  idx_vars y
  pointwise [k0_pay6, k0_pay4]

/-- One trip's carried row and the one store it makes. -/
theorem trip_at (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (X : BufTy.Contents (Elt Ideal) arg12.view.ty)
    (k : Fin k0_t1_loop.trips) (acc : Vec Ideal S1x512 .f32) (f : BufTy.Contents (Elt Ideal) arg13.view.ty) :
    tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X k acc f
      = k0_pay6 acc (View.readAt (Elt Ideal) arg13.view (Rect.unit (s := S512x512) (k0_off1 k) S8x512.size (k0_off1_inb k)).toLoadRect f)
          (View.readAt (Elt Ideal) arg12.view (Rect.unit (s := S512x512) (k0_off1 k) S8x512.size (k0_off1_inb k)).toLoadRect X)
    ∧ tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X k acc f
      = [⟨Rect.unit (s := S512x512) (k0_off1 k) S8x512.size (k0_off1_inb k),
          k0_pay5 acc (View.readAt (Elt Ideal) arg13.view (Rect.unit (s := S512x512) (k0_off1 k) S8x512.size (k0_off1_inb k)).toLoadRect f)
          (View.readAt (Elt Ideal) arg12.view (Rect.unit (s := S512x512) (k0_off1 k) S8x512.size (k0_off1_inb k)).toLoadRect X)⟩] := by
  unfold tripR_k0_t1 tripL_k0_t1 trip_k0_t1
  exact ⟨rfl, rfl⟩

/-- The state before group `k`: the carried row is `carryAt`, the rows of the earlier groups are finished, and the
    others still hold the scanned inputs. -/
theorem loop_at (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (X : BufTy.Contents (Elt Ideal) arg12.view.ty)
    (G : BufTy.Contents (Elt Ideal) arg13.view.ty) (init : FVec Ideal S1x512 .f32) (a b : FVec Ideal S512x512 .f32)
    (hX : arg12.view.read (Elt Ideal) X = a) (hG : arg13.view.read (Elt Ideal) G = b) (k : ℕ) (hk : k ≤ k0_t1_loop.trips) :
    (∀ l, (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X G init k).1 (ix2 0 l) = carryAt (rows a) (rows b) (fun l => init (ix2 0 l)) k l)
    ∧ ∀ y, arg13.view.read (Elt Ideal) (arg13.view.writes (Elt Ideal) G (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X G init k).2) y
        = if (y 0).val < 8 * k then b y + a y * carryAt (rows a) (rows b) (fun l => init (ix2 0 l)) ((y 0).val / 8) (y 1) else b y := by
  induction k with
  | zero =>
    refine ⟨fun l => rfl, fun y => ?_⟩
    rw [if_neg (by omega)]
    exact congrFun hG y
  | succ k ih =>
    obtain ⟨ih1, ih2⟩ := ih (by omega)
    have hlt : k < k0_t1_loop.trips := hk
    have h64 : k < 64 := trips_le ⟨k, hlt⟩
    have hs := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 X G init ⟨k, hlt⟩
    generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X G init (Fin.val ⟨k, hlt⟩) = st at hs ih1 ih2
    rw [(trip_at c i arg2 harg2 arg3 harg3 arg4 harg4 arg5 harg5 arg6 harg6 arg7 harg7 arg8 harg8 arg9 harg9 arg10 harg10 arg11 harg11 arg12 harg12 arg13 harg13 arg14 harg14 X ⟨k, hlt⟩ st.1 _).1, (trip_at c i arg2 harg2 arg3 harg3 arg4 harg4 arg5 harg5 arg6 harg6 arg7 harg7 arg8 harg8 arg9 harg9 arg10 harg10 arg11 harg11 arg12 harg12 arg13 harg13 arg14 harg14 X ⟨k, hlt⟩ st.1 _).2] at hs
    have hb : ∀ (x : S8x512.Idx) (y : S512x512.Idx), (y 0).val = 8 * k + (x 0).val → (y 1).val = (x 1).val →
        View.readAt (Elt Ideal) arg13.view (Rect.unit (s := S512x512) (k0_off1 ⟨k, hlt⟩) S8x512.size (k0_off1_inb ⟨k, hlt⟩)).toLoadRect (arg13.view.writes (Elt Ideal) G st.2) x = b y := by
      intro x y h0 h1
      rw [load_group _ ⟨k, hlt⟩ x y h0 h1, ih2 y, if_neg (by omega)]
    have ha : ∀ (x : S8x512.Idx) (y : S512x512.Idx), (y 0).val = 8 * k + (x 0).val → (y 1).val = (x 1).val →
        View.readAt (Elt Ideal) arg12.view (Rect.unit (s := S512x512) (k0_off1 ⟨k, hlt⟩) S8x512.size (k0_off1_inb ⟨k, hlt⟩)).toLoadRect X x = a y := by
      intro x y h0 h1
      rw [load_group _ ⟨k, hlt⟩ x y h0 h1, hX]
    have hrow : 8 * k + 7 < 512 := by omega
    have e7 : ∀ (v : FVec Ideal S512x512 .f32) l, v (ix2 ⟨8 * k + 7, hrow⟩ l) = rows v (8 * k + 7) l := by
      intro v l
      unfold rows; rw [dif_pos hrow]
    have hs' : st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X G init (k + 1) = _ := hs
    rw [hs']
    refine ⟨fun l => ?_, fun y => ?_⟩
    · show k0_pay6 _ _ _ (ix2 0 l) = _
      refine (pay6_at _ _ _ _).trans ?_
      refine (congrArg₂ (· + ·) (hb (ix2 7 l) (ix2 ⟨8 * k + 7, hrow⟩ l) rfl rfl)
        (congrArg₂ (· * ·) (ha (ix2 7 l) (ix2 ⟨8 * k + 7, hrow⟩ l) rfl rfl) (ih1 l))).trans ?_
      exact congrArg₂ (· + ·) (e7 b l) (congrArg₂ (· * ·) (e7 a l) rfl)
    · rw [List.cons_append, List.nil_append]
      by_cases hy : 8 * k ≤ (y 0).val ∧ (y 0).val < 8 * k + 8
      · rw [View.read_writes_cons_rows_of_mem (d := ![512, 512]) arg13.view G (off := k0_off1 ⟨k, hlt⟩) (size := S8x512.size) (o := 8 * k) (k0_off1_inb ⟨k, hlt⟩) _ st.2 y
          (ix2 ⟨(y 0).val - 8 * k, by omega⟩ (y 1)) (k0_off1_eq ⟨k, hlt⟩) (by show (y 0).val = 8 * k + ((y 0).val - 8 * k); omega) rfl]
        rw [if_pos (by omega)]
        have hq : (y 0).val / 8 = k := by omega
        rw [hq]
        refine (pay5_at _ _ _ _).trans ?_
        exact congrArg₂ (· + ·) (hb _ y (by show (y 0).val = 8 * k + ((y 0).val - 8 * k); omega) rfl)
          (congrArg₂ (· * ·) (ha _ y (by show (y 0).val = 8 * k + ((y 0).val - 8 * k); omega) rfl) (ih1 (y 1)))
      · rw [View.read_writes_cons_rows_of_not_mem (d := ![512, 512]) arg13.view G (off := k0_off1 ⟨k, hlt⟩) (size := S8x512.size) (o := 8 * k) (W := 8) (k0_off1_inb ⟨k, hlt⟩) _ st.2 y
          (k0_off1_eq ⟨k, hlt⟩) rfl (by omega), ih2 y]
        by_cases h : (y 0).val < 8 * k
        · rw [if_pos h, if_pos (by omega)]
        · rw [if_neg h, if_neg (by omega)]

end Cert.Lru

end
-- ==== Proof.Lru.BlockValue.lean ====
/- What one point leaves in its blocks: the scanned decays and inputs, joined by the carried rows. -/
module

public import proofs.«01_k».proof.Proof.Lru.LoopValue
public import Idealize.ShloMosaic.Lib.Pipeline.Value

@[expose] public section

set_option maxRecDepth 16384

noncomputable section

namespace Cert.Lru

open Cert.KernelIdeal Cert.KernelIdeal.Gen
open Idealize.ShloMosaic Idealize.ShloMosaic.TcCoe Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- Row 0 of the convolution's weights. -/
def wrow0 (x1 : FVec Ideal S4x512 .f32) : FVec Ideal S1x512 .f32 :=
  View.ld (Val := Elt Ideal) (e' := .f32) x1 (Rect.unit (s := S4x512) ![0, 0] S1x512.size inb_S4x512_S1x512_0_0)

/-- Row 1 of the convolution's weights. -/
def wrow1 (x1 : FVec Ideal S4x512 .f32) : FVec Ideal S1x512 .f32 :=
  View.ld (Val := Elt Ideal) (e' := .f32) x1 (Rect.unit (s := S4x512) ![1, 0] S1x512.size inb_S4x512_S1x512_1_0)

/-- Row 2 of the convolution's weights. -/
def wrow2 (x1 : FVec Ideal S4x512 .f32) : FVec Ideal S1x512 .f32 :=
  View.ld (Val := Elt Ideal) (e' := .f32) x1 (Rect.unit (s := S4x512) ![2, 0] S1x512.size inb_S4x512_S1x512_2_0)

/-- Row 3 of the convolution's weights. -/
def wrow3 (x1 : FVec Ideal S4x512 .f32) : FVec Ideal S1x512 .f32 :=
  View.ld (Val := Elt Ideal) (e' := .f32) x1 (Rect.unit (s := S4x512) ![3, 0] S1x512.size inb_S4x512_S1x512_3_0)

/-- The convolved rows of a block. -/
def convB (x0 : FVec Ideal S512x512 .f32) (x1 : FVec Ideal S4x512 .f32) : FVec Ideal S512x512 .f32 :=
  k0_pay13 x0 k0_pay10 (k0_pay11 x0 (wrow0 x1)) (k0_pay12 x0)
    (4294967295#32) (wrow1 x1)
    (wrow2 x1) (wrow3 x1)

/-- The input gate of a block. -/
def gateB (x0 : FVec Ideal S512x512 .f32) (x1 : FVec Ideal S4x512 .f32) (x3 : FVec Ideal S512x512 .bf16) (x5 : FVec Ideal S1x512 .f32) : FVec Ideal S512x512 .f32 :=
  k0_pay16 (k0_pay14 x0 k0_pay10 (k0_pay11 x0 (wrow0 x1)) (k0_pay12 x0)
    (4294967295#32) (wrow1 x1)
    (wrow2 x1) (wrow3 x1)) x3 x5

/-- Minus eight times the recurrence gate of a block. -/
def rateB (x0 : FVec Ideal S512x512 .f32) (x1 : FVec Ideal S4x512 .f32) (x2 : FVec Ideal S512x512 .bf16) (x4 : FVec Ideal S1x512 .f32) : FVec Ideal S512x512 .f32 :=
  k0_pay17 (k0_pay15 x0 k0_pay10 (k0_pay11 x0 (wrow0 x1)) (k0_pay12 x0)
    (4294967295#32) (wrow1 x1)
    (wrow2 x1) (wrow3 x1) x2) x4

/-- The decays after the three steps of the scan within groups of eight rows. -/
def scanA (x0 : FVec Ideal S512x512 .f32) (x1 : FVec Ideal S4x512 .f32) (x2 : FVec Ideal S512x512 .bf16) (x4 x6 : FVec Ideal S1x512 .f32) : FVec Ideal S512x512 .f32 :=
  k0_pay2 k0_pay21 (k0_pay26 (rateB x0 x1 x2 x4) (k0_pay18 x6)) 4#32

/-- The inputs after the three steps of the scan within groups of eight rows. -/
def scanB (x0 : FVec Ideal S512x512 .f32) (x1 : FVec Ideal S4x512 .f32) (x2 x3 : FVec Ideal S512x512 .bf16) (x4 x5 x6 : FVec Ideal S1x512 .f32) : FVec Ideal S512x512 .f32 :=
  k0_pay3 k0_pay21 (k0_pay25 (convB x0 x1) (gateB x0 x1 x3 x5) (rateB x0 x1 x2 x4) (k0_pay18 x6)) (k0_pay26 (rateB x0 x1 x2 x4) (k0_pay18 x6))

/-- What a point stores, from the scanned decays and inputs and the row carried in. -/
def blockOut (A B : FVec Ideal S512x512 .f32) (c : Fin 512 → EReal) : FVec Ideal S512x512 .f32 :=
  fun y => B y + A y * carryAt (rows A) (rows B) c ((y 0).val / 8) (y 1)

theorem trips_eq : Scf.trips (0#32) (Scalar.addi 0#32 64#32) 1#32 = 64 := by decide +kernel

theorem trips_eq' : k0_t1_loop.trips = 64 := by decide +kernel

theorem after_rows (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (init : FVec Ideal S1x512 .f32) (A B : FVec Ideal S512x512 .f32) :
    arg13.view.readCov ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (arg12.view.writes (Elt Ideal) arg12.view.junk [⟨Rect.unit (s := S512x512) ![0, 0] S512x512.size inb_S512x512_S512x512_0_0, A⟩]) (arg13.view.writes (Elt Ideal) arg13.view.junk [⟨Rect.unit (s := S512x512) ![0, 0] S512x512.size inb_S512x512_S512x512_0_0, B⟩]) init (Scf.trips (0#32) (Scalar.addi 0#32 64#32) 1#32)).2 ++ [⟨Rect.unit (s := S512x512) ![0, 0] S512x512.size inb_S512x512_S512x512_0_0, B⟩]) (Rect.unit (s := S512x512) ![0, 0] S512x512.size inb_S512x512_S512x512_0_0).toLoadRect
      = blockOut A B (fun l => init (ix2 0 l)) := by
  rw [trips_eq]
  have h := (loop_at c i arg2 harg2 arg3 harg3 arg4 harg4 arg5 harg5 arg6 harg6 arg7 harg7 arg8 harg8 arg9 harg9 arg10 harg10 arg11 harg11 arg12 harg12 arg13 harg13 arg14 harg14 (arg12.view.writes (Elt Ideal) arg12.view.junk [⟨Rect.unit (s := S512x512) ![0, 0] S512x512.size inb_S512x512_S512x512_0_0, A⟩]) (arg13.view.writes (Elt Ideal) arg13.view.junk [⟨Rect.unit (s := S512x512) ![0, 0] S512x512.size inb_S512x512_S512x512_0_0, B⟩]) init A B
    (View.read_writes_full _ _ _ _ _) (View.read_writes_full _ _ _ _ _) 64 (le_of_eq trips_eq'.symm)).2
  unfold View.readCov
  rw [View.writes_append]
  refine (View.readAt_full (s := S512x512) arg13.view _ _).trans (funext fun y => (h y).trans ?_)
  have h0 : (y 0).val < 512 := (y 0).isLt
  rw [if_pos (by omega)]
  rfl

theorem after_carry (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (init : FVec Ideal S1x512 .f32) (A B : FVec Ideal S512x512 .f32) (l : Fin 512) :
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (arg12.view.writes (Elt Ideal) arg12.view.junk [⟨Rect.unit (s := S512x512) ![0, 0] S512x512.size inb_S512x512_S512x512_0_0, A⟩]) (arg13.view.writes (Elt Ideal) arg13.view.junk [⟨Rect.unit (s := S512x512) ![0, 0] S512x512.size inb_S512x512_S512x512_0_0, B⟩]) init (Scf.trips (0#32) (Scalar.addi 0#32 64#32) 1#32)).1 (ix2 0 l) = carryAt (rows A) (rows B) (fun l => init (ix2 0 l)) 64 l := by
  rw [trips_eq]
  exact (loop_at c i arg2 harg2 arg3 harg3 arg4 harg4 arg5 harg5 arg6 harg6 arg7 harg7 arg8 harg8 arg9 harg9 arg10 harg10 arg11 harg11 arg12 harg12 arg13 harg13 arg14 harg14 (arg12.view.writes (Elt Ideal) arg12.view.junk [⟨Rect.unit (s := S512x512) ![0, 0] S512x512.size inb_S512x512_S512x512_0_0, A⟩]) (arg13.view.writes (Elt Ideal) arg13.view.junk [⟨Rect.unit (s := S512x512) ![0, 0] S512x512.size inb_S512x512_S512x512_0_0, B⟩]) init A B
    (View.read_writes_full _ _ _ _ _) (View.read_writes_full _ _ _ _ _) 64 (le_of_eq trips_eq'.symm)).1 l

theorem pay7_at (v : FVec Ideal S1x512 .f32) (l : Fin 512) : k0_pay7 v (ix2 0 l) = v (ix2 0 l) := by
  pointwise [k0_pay7]

theorem pay8_at (v : FVec Ideal S1x512 .f32) (l : Fin 512) : k0_pay8 v (ix3 0 0 l) = v (ix2 0 l) := by
  pointwise [k0_pay8]

theorem pay9_at (v : FVec Ideal S1x1x512 .f32) (l : Fin 512) : k0_pay9 v (ix2 0 l) = v (ix3 0 0 l) := by
  pointwise [k0_pay9]

theorem out_B_8  (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : ¬cond0_0 i)
    (x0 : Vec Ideal S512x512 .f32) (x1 : Vec Ideal S4x512 .f32) (x2 : Vec Ideal S512x512 .bf16) (x3 : Vec Ideal S512x512 .bf16) (x4 : Vec Ideal S1x512 .f32) (x5 : Vec Ideal S1x512 .f32) (x6 : Vec Ideal S1x512 .f32) (x7 : Vec Ideal S1x1x512 .f32) (xs2 : Vec Ideal S1x512 .f32) : out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2 = blockOut (scanA x0 x1 x2 x4 x6) (scanB x0 x1 x2 x3 x4 x5 x6) (fun l => xs2 (ix2 0 l)) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2)]
  unfold kernelRun0_B
  dsimp only
  sl_unfold_words
  rw [View.canon_unit_zero hz2]

  simp only [View.readAt_eq_ld, harg2.read_unread, harg3.read_unread, harg4.read_unread, harg5.read_unread, harg6.read_unread, harg7.read_unread, harg8.read_unread, harg9.read_unread, harg14.read_unread, View.ld_unit_zero (S := S512x512) hz2, View.ld_unit_zero (S := S512x512) hz2, View.ld_unit_zero (S := S1x512) hz2, View.ld_unit_zero (S := S1x1x512) hz3]
  exact (after_rows c i arg2 harg2 arg3 harg3 arg4 harg4 arg5 harg5 arg6 harg6 arg7 harg7 arg8 harg8 arg9 harg9 arg10 harg10 arg11 harg11 arg12 harg12 arg13 harg13 arg14 harg14 xs2 (scanA x0 x1 x2 x4 x6) (scanB x0 x1 x2 x3 x4 x5 x6)).trans (congrArg (blockOut (scanA x0 x1 x2 x4 x6) (scanB x0 x1 x2 x3 x4 x5 x6)) (rfl))

theorem out_B_9  (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : ¬cond0_0 i)
    (x0 : Vec Ideal S512x512 .f32) (x1 : Vec Ideal S4x512 .f32) (x2 : Vec Ideal S512x512 .bf16) (x3 : Vec Ideal S512x512 .bf16) (x4 : Vec Ideal S1x512 .f32) (x5 : Vec Ideal S1x512 .f32) (x6 : Vec Ideal S1x512 .f32) (x7 : Vec Ideal S1x1x512 .f32) (xs2 : Vec Ideal S1x512 .f32) (l : Fin 512) : out0_B_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2 (ix3 0 0 l) = carryAt (rows (scanA x0 x1 x2 x4 x6)) (rows (scanB x0 x1 x2 x3 x4 x5 x6)) (fun l => xs2 (ix2 0 l)) 64 l := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2)]
  unfold kernelRun0_B
  dsimp only
  sl_unfold_words
  rw [View.canon_unit_zero hz3]

  simp only [View.readAt_eq_ld, harg2.read_unread, harg3.read_unread, harg4.read_unread, harg5.read_unread, harg6.read_unread, harg7.read_unread, harg8.read_unread, harg9.read_unread, harg14.read_unread, View.ld_unit_zero (S := S512x512) hz2, View.ld_unit_zero (S := S512x512) hz2, View.ld_unit_zero (S := S1x512) hz2, View.ld_unit_zero (S := S1x1x512) hz3]
  refine (pay8_at _ l).trans ?_
  exact (after_carry c i arg2 harg2 arg3 harg3 arg4 harg4 arg5 harg5 arg6 harg6 arg7 harg7 arg8 harg8 arg9 harg9 arg10 harg10 arg11 harg11 arg12 harg12 arg13 harg13 arg14 harg14 xs2 (scanA x0 x1 x2 x4 x6) (scanB x0 x1 x2 x3 x4 x5 x6) l).trans (congrArg (fun c => carryAt (rows (scanA x0 x1 x2 x4 x6)) (rows (scanB x0 x1 x2 x3 x4 x5 x6)) c 64 l) (rfl))

theorem sout_B_2  (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : ¬cond0_0 i)
    (x0 : Vec Ideal S512x512 .f32) (x1 : Vec Ideal S4x512 .f32) (x2 : Vec Ideal S512x512 .bf16) (x3 : Vec Ideal S512x512 .bf16) (x4 : Vec Ideal S1x512 .f32) (x5 : Vec Ideal S1x512 .f32) (x6 : Vec Ideal S1x512 .f32) (x7 : Vec Ideal S1x1x512 .f32) (xs2 : Vec Ideal S1x512 .f32) (l : Fin 512) : sout0_B_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2 (ix2 0 l) = carryAt (rows (scanA x0 x1 x2 x4 x6)) (rows (scanB x0 x1 x2 x3 x4 x5 x6)) (fun l => xs2 (ix2 0 l)) 64 l := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg14.read_unread, View.ld_unit_zero (S := S512x512) hz2, View.ld_unit_zero (S := S512x512) hz2, View.ld_unit_zero (S := S1x512) hz2, View.ld_unit_zero (S := S1x1x512) hz3]
  refine (pay7_at _ l).trans ?_
  exact (after_carry c i arg2 harg2 arg3 harg3 arg4 harg4 arg5 harg5 arg6 harg6 arg7 harg7 arg8 harg8 arg9 harg9 arg10 harg10 arg11 harg11 arg12 harg12 arg13 harg13 arg14 harg14 xs2 (scanA x0 x1 x2 x4 x6) (scanB x0 x1 x2 x3 x4 x5 x6) l).trans (congrArg (fun c => carryAt (rows (scanA x0 x1 x2 x4 x6)) (rows (scanB x0 x1 x2 x3 x4 x5 x6)) c 64 l) (rfl))

theorem out_A_8  (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : cond0_0 i)
    (x0 : Vec Ideal S512x512 .f32) (x1 : Vec Ideal S4x512 .f32) (x2 : Vec Ideal S512x512 .bf16) (x3 : Vec Ideal S512x512 .bf16) (x4 : Vec Ideal S1x512 .f32) (x5 : Vec Ideal S1x512 .f32) (x6 : Vec Ideal S1x512 .f32) (x7 : Vec Ideal S1x1x512 .f32) : out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = blockOut (scanA x0 x1 x2 x4 x6) (scanB x0 x1 x2 x3 x4 x5 x6) (fun l => x7 (ix3 0 0 l)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero hz2]
  rw [View.readCov_unit_zero (S := S1x512) _ hz2]
  simp only [View.readAt_eq_ld, harg2.read_unread, harg3.read_unread, harg4.read_unread, harg5.read_unread, harg6.read_unread, harg7.read_unread, harg8.read_unread, harg9.read_unread, harg14.read_unread, View.ld_unit_zero (S := S512x512) hz2, View.ld_unit_zero (S := S512x512) hz2, View.ld_unit_zero (S := S1x512) hz2, View.ld_unit_zero (S := S1x1x512) hz3]
  exact (after_rows c i arg2 harg2 arg3 harg3 arg4 harg4 arg5 harg5 arg6 harg6 arg7 harg7 arg8 harg8 arg9 harg9 arg10 harg10 arg11 harg11 arg12 harg12 arg13 harg13 arg14 harg14 (k0_pay9 x7) (scanA x0 x1 x2 x4 x6) (scanB x0 x1 x2 x3 x4 x5 x6)).trans (congrArg (blockOut (scanA x0 x1 x2 x4 x6) (scanB x0 x1 x2 x3 x4 x5 x6)) (funext fun l => pay9_at x7 l))

theorem out_A_9  (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : cond0_0 i)
    (x0 : Vec Ideal S512x512 .f32) (x1 : Vec Ideal S4x512 .f32) (x2 : Vec Ideal S512x512 .bf16) (x3 : Vec Ideal S512x512 .bf16) (x4 : Vec Ideal S1x512 .f32) (x5 : Vec Ideal S1x512 .f32) (x6 : Vec Ideal S1x512 .f32) (x7 : Vec Ideal S1x1x512 .f32) (l : Fin 512) : out0_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 0 l) = carryAt (rows (scanA x0 x1 x2 x4 x6)) (rows (scanB x0 x1 x2 x3 x4 x5 x6)) (fun l => x7 (ix3 0 0 l)) 64 l := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero hz3]
  rw [View.readCov_unit_zero (S := S1x512) _ hz2]
  simp only [View.readAt_eq_ld, harg2.read_unread, harg3.read_unread, harg4.read_unread, harg5.read_unread, harg6.read_unread, harg7.read_unread, harg8.read_unread, harg9.read_unread, harg14.read_unread, View.ld_unit_zero (S := S512x512) hz2, View.ld_unit_zero (S := S512x512) hz2, View.ld_unit_zero (S := S1x512) hz2, View.ld_unit_zero (S := S1x1x512) hz3]
  refine (pay8_at _ l).trans ?_
  exact (after_carry c i arg2 harg2 arg3 harg3 arg4 harg4 arg5 harg5 arg6 harg6 arg7 harg7 arg8 harg8 arg9 harg9 arg10 harg10 arg11 harg11 arg12 harg12 arg13 harg13 arg14 harg14 (k0_pay9 x7) (scanA x0 x1 x2 x4 x6) (scanB x0 x1 x2 x3 x4 x5 x6) l).trans (congrArg (fun c => carryAt (rows (scanA x0 x1 x2 x4 x6)) (rows (scanB x0 x1 x2 x3 x4 x5 x6)) c 64 l) (funext fun l => pay9_at x7 l))

theorem sout_A_2  (c : Dev nD) (i : grid0.Coords) (arg2 : Memref sig .tc .vmem S512x512 .f32) (harg2 : arg2.IsWhole) (arg3 : Memref sig .tc .vmem S4x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S512x512 .f32) (harg10 : arg10.IsWhole) (arg11 : Memref sig .tc .vmem S1x1x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S1x512 .f32) (harg14 : arg14.IsWhole) (hc0 : cond0_0 i)
    (x0 : Vec Ideal S512x512 .f32) (x1 : Vec Ideal S4x512 .f32) (x2 : Vec Ideal S512x512 .bf16) (x3 : Vec Ideal S512x512 .bf16) (x4 : Vec Ideal S1x512 .f32) (x5 : Vec Ideal S1x512 .f32) (x6 : Vec Ideal S1x512 .f32) (x7 : Vec Ideal S1x1x512 .f32) (l : Fin 512) : sout0_A_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 0 l) = carryAt (rows (scanA x0 x1 x2 x4 x6)) (rows (scanB x0 x1 x2 x3 x4 x5 x6)) (fun l => x7 (ix3 0 0 l)) 64 l := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1x512) hz2, View.readCov_unit_zero (S := S1x512) _ hz2]
  simp only [View.readAt_eq_ld, harg2.read_unread, harg3.read_unread, harg4.read_unread, harg5.read_unread, harg6.read_unread, harg7.read_unread, harg8.read_unread, harg9.read_unread, harg14.read_unread, View.ld_unit_zero (S := S512x512) hz2, View.ld_unit_zero (S := S512x512) hz2, View.ld_unit_zero (S := S1x512) hz2, View.ld_unit_zero (S := S1x1x512) hz3]
  refine (pay7_at _ l).trans ?_
  exact (after_carry c i arg2 harg2 arg3 harg3 arg4 harg4 arg5 harg5 arg6 harg6 arg7 harg7 arg8 harg8 arg9 harg9 arg10 harg10 arg11 harg11 arg12 harg12 arg13 harg13 arg14 harg14 (k0_pay9 x7) (scanA x0 x1 x2 x4 x6) (scanB x0 x1 x2 x3 x4 x5 x6) l).trans (congrArg (fun c => carryAt (rows (scanA x0 x1 x2 x4 x6)) (rows (scanB x0 x1 x2 x3 x4 x5 x6)) c 64 l) (funext fun l => pay9_at x7 l))

end Cert.Lru

end
-- ==== Proof.Lru.ScanMath.lean ====
/- The recurrence over extended reals, and the scan within groups of eight rows that computes it. -/
module

public import Mathlib.Data.EReal.Inv

@[expose] public section

noncomputable section

namespace Cert.Lru

/-- `n` steps of the recurrence `h ← a r * h + b r` from row `lo` on. -/
def runFrom (a b : ℕ → EReal) (lo : ℕ) : ℕ → EReal → EReal
  | 0, h => h
  | n + 1, h => a (lo + n) * runFrom a b lo n h + b (lo + n)

theorem runFrom_add (a b : ℕ → EReal) (lo m n : ℕ) (h : EReal) :
    runFrom a b lo (m + n) h = runFrom a b (lo + m) n (runFrom a b lo m h) := by
  induction n with
  | zero => rfl
  | succ n ih =>
    show a (lo + (m + n)) * runFrom a b lo (m + n) h + b (lo + (m + n)) = _
    rw [ih, ← Nat.add_assoc]
    rfl

/-- The rows' recurrence depends on the rows it runs over alone. -/
theorem runFrom_congr {a a' b b' : ℕ → EReal} {lo lo' : ℕ} (n : ℕ) (h : EReal)
    (ha : ∀ k < n, a (lo + k) = a' (lo' + k)) (hb : ∀ k < n, b (lo + k) = b' (lo' + k)) :
    runFrom a b lo n h = runFrom a' b' lo' n h := by
  induction n with
  | zero => rfl
  | succ n ih =>
    show a (lo + n) * runFrom a b lo n h + b (lo + n) = a' (lo' + n) * runFrom a' b' lo' n h + b' (lo' + n)
    rw [ih (fun k hk => ha k (by omega)) (fun k hk => hb k (by omega)), ha n (by omega), hb n (by omega)]

/-- Row `r` of `A`, `B` stands for the last `min w (r % 8 + 1)` rows' recurrence. -/
def Joined (a b A B : ℕ → EReal) (w r : ℕ) : Prop :=
  (0 ≤ A r ∧ A r ≠ ⊤) ∧ ∀ c, B r + A r * c = runFrom a b (r + 1 - min w (r % 8 + 1)) (min w (r % 8 + 1)) c

theorem joined_one {a b : ℕ → EReal} {r : ℕ} (ha : 0 ≤ a r ∧ a r ≠ ⊤) : Joined a b a b 1 r := by
  refine ⟨ha, fun c => ?_⟩
  have e : min 1 (r % 8 + 1) = 1 := by omega
  rw [e]
  show _ = a (r + 1 - 1 + 0) * c + b (r + 1 - 1 + 0)
  rw [show r + 1 - 1 + 0 = r by omega, add_comm]

theorem mul_ne_top_of_nonneg {x y : EReal} (hx : 0 ≤ x ∧ x ≠ ⊤) (hy : 0 ≤ y ∧ y ≠ ⊤) : 0 ≤ x * y ∧ x * y ≠ ⊤ := by
  refine ⟨mul_nonneg hx.1 hy.1, ?_⟩
  lift x to ℝ using ⟨hx.2, fun h => by rw [h] at hx; exact absurd hx.1 (by decide)⟩
  lift y to ℝ using ⟨hy.2, fun h => by rw [h] at hy; exact absurd hy.1 (by decide)⟩
  rw [← EReal.coe_mul]
  exact EReal.coe_ne_top _

/-- One step of the scan: a row joined with the one `w` before it, in its group of eight, doubles its reach. -/
theorem joined_step {a b A B A' B' : ℕ → EReal} {w r : ℕ} (hw : 1 ≤ w) (hr : Joined a b A B w r) (hr' : w ≤ r % 8 → Joined a b A B w (r - w))
    (hA : A' r = if w ≤ r % 8 then A r * A (r - w) else A r)
    (hB : B' r = if w ≤ r % 8 then A r * B (r - w) + B r else B r) : Joined a b A' B' (2 * w) r := by
  by_cases h : w ≤ r % 8
  · rw [if_pos h] at hA hB
    obtain ⟨h1, e1⟩ := hr' h
    obtain ⟨h0, e0⟩ := hr
    refine ⟨by rw [hA]; exact mul_ne_top_of_nonneg h0 h1, fun c => ?_⟩
    have hm : min w (r % 8 + 1) = w := by omega
    rw [hm] at e0
    have hmod : (r - w) % 8 = r % 8 - w := by omega
    rw [hmod] at e1
    rw [hA, hB, show A r * B (r - w) + B r + A r * A (r - w) * c = B r + A r * (B (r - w) + A (r - w) * c) by
      rw [EReal.left_distrib_of_nonneg_of_ne_top h0.1 h0.2, mul_assoc, add_comm (A r * B (r - w)), add_assoc]]
    rw [e1, e0]
    have hk : min (2 * w) (r % 8 + 1) = min w (r % 8 - w + 1) + w := by omega
    rw [hk, runFrom_add]
    congr 1
    · omega
    · congr 1
      omega
  · rw [if_neg h] at hA hB
    obtain ⟨h0, e0⟩ := hr
    refine ⟨by rw [hA]; exact h0, fun c => ?_⟩
    rw [hA, hB, e0]
    have hk : min (2 * w) (r % 8 + 1) = min w (r % 8 + 1) := by omega
    rw [hk]

/-- The row carried into group `k` is the recurrence over the `8 k` rows before it. -/
theorem carry_eq {a b A B : ℕ → EReal} {C : ℕ → EReal} (n : ℕ) (hj : ∀ r < 8 * n, Joined a b A B 8 r)
    (hs : ∀ k, C (k + 1) = B (8 * k + 7) + A (8 * k + 7) * C k) (k : ℕ) (hk : k ≤ n) : C k = runFrom a b 0 (8 * k) (C 0) := by
  induction k with
  | zero => rfl
  | succ k ih =>
    rw [hs, (hj (8 * k + 7) (by omega)).2, ih (by omega)]
    have h8 : min 8 ((8 * k + 7) % 8 + 1) = 8 := by omega
    rw [h8, show 8 * k + 7 + 1 - 8 = 0 + 8 * k by omega, ← runFrom_add, show 8 * (k + 1) = 8 * k + 8 by omega]

/-- A stored row is the recurrence over the block's rows up to it. -/
theorem row_eq {a b A B : ℕ → EReal} {C : ℕ → EReal} (n : ℕ) (hj : ∀ r < 8 * n, Joined a b A B 8 r)
    (hs : ∀ k, C (k + 1) = B (8 * k + 7) + A (8 * k + 7) * C k) (r : ℕ) (hr : r < 8 * n) :
    B r + A r * C (r / 8) = runFrom a b 0 (r + 1) (C 0) := by
  rw [(hj r hr).2, carry_eq n hj hs (r / 8) (by omega)]
  have h8 : min 8 (r % 8 + 1) = r % 8 + 1 := by omega
  rw [h8, show r + 1 - (r % 8 + 1) = 0 + 8 * (r / 8) by omega, ← runFrom_add, show 8 * (r / 8) + (r % 8 + 1) = r + 1 by omega]

end Cert.Lru

end
-- ==== Proof.Lru.Scan.lean ====
/- The scanned decays and inputs of a block: what the three steps within groups of eight rows compute. -/
module

public import proofs.«01_k».proof.Proof.Lru.BlockValue
public import proofs.«01_k».proof.Proof.Lru.ScanMath

@[expose] public section

set_option maxRecDepth 16384

noncomputable section

namespace Cert.Lru

open Cert.KernelIdeal Cert.KernelIdeal.Gen
open Idealize.ShloMosaic Idealize.ShloMosaic.TcCoe

/-- A block of 512 rows. -/
abbrev Blk := FVec Ideal S512x512 .f32

/-- A rotation along the rows reads the row `s` before, from row `s` on. -/
theorem rot_at {n : BitVec 32} (v : Blk) (r r' : Fin 512) (l : Fin 512) (h : r'.val = (r.val + 512 - n.toNat % 512) % 512) :
    dynamicRotate 0 n none v rotates_S512x512_d0 (ix2 r l) = v (ix2 r' l) := by
  rw [Pointwise.dynamicRotate_apply]
  refine congrArg v (funext fun a => Fin.ext ?_)
  match a with
  | ⟨0, _⟩ => exact h.symm
  | ⟨1, _⟩ => rfl

theorem pay21_at (r : Fin 512) (l : Fin 512) : k0_pay21 (ix2 r l) = BitVec.ofNat 32 (r.val % 8) := by
  have h : ∀ r : Fin 512, k0_pay21 (ix2 r 0) = BitVec.ofNat 32 (r.val % 8) := by decide +kernel
  exact h r

theorem cmp_at (s : ℕ) (hs : s < 8) (r : Fin 512) :
    IntOp.cmpi .sge (BitVec.ofNat 32 (r.val % 8)) (BitVec.ofNat 32 s) = if s ≤ r.val % 8 then 1#1 else 0#1 := by
  have h : ∀ (s r : Fin 8), IntOp.cmpi .sge (BitVec.ofNat 32 r.val) (BitVec.ofNat 32 s.val) = if s.val ≤ r.val then 1#1 else 0#1 := by decide +kernel
  exact h ⟨s, hs⟩ ⟨r.val % 8, by omega⟩

/-- One step of the scan on the decays, and on the inputs, with reach `s`. -/
def stepA (s : ℕ) (A : Blk) : Blk := select (cmpi .sge k0_pay21 (broadcast S512x512 (BitVec.ofNat 32 s))) (mulf A (dynamicRotate 0 (BitVec.ofNat 32 s) none A rotates_S512x512_d0)) A
def stepB (s : ℕ) (A B : Blk) : Blk := select (cmpi .sge k0_pay21 (broadcast S512x512 (BitVec.ofNat 32 s))) (addf (mulf A (dynamicRotate 0 (BitVec.ofNat 32 s) none B rotates_S512x512_d0)) B) B

theorem sel_at (s : ℕ) (hs : s < 8) (x y : Blk) (r : Fin 512) (l : Fin 512) :
    select (cmpi .sge k0_pay21 (broadcast S512x512 (BitVec.ofNat 32 s))) x y (ix2 r l) = if s ≤ r.val % 8 then x (ix2 r l) else y (ix2 r l) := by
  have e : cmpi .sge k0_pay21 (broadcast S512x512 (BitVec.ofNat 32 s)) (ix2 r l) = if s ≤ r.val % 8 then 1#1 else 0#1 := by
    rw [cmpi_apply, pay21_at]
    exact cmp_at s hs r
  have e2 : select (cmpi .sge k0_pay21 (broadcast S512x512 (BitVec.ofNat 32 s))) x y (ix2 r l)
      = Scalar.select (cmpi .sge k0_pay21 (broadcast S512x512 (BitVec.ofNat 32 s)) (ix2 r l)) (x (ix2 r l)) (y (ix2 r l)) := rfl
  rw [e2, e]
  by_cases h : s ≤ r.val % 8
  · rw [if_pos h, if_pos h]; rfl
  · rw [if_neg h, if_neg h]; rfl

theorem rows_eq (v : Blk) (r : ℕ) (h : r < 512) (l : Fin 512) : rows v r l = v (ix2 ⟨r, h⟩ l) := by
  unfold rows; rw [dif_pos h]

theorem rot_rows (s : ℕ) (hs : s < 8) (v : Blk) (r : ℕ) (h : r < 512) (hr : s ≤ r % 8) (l : Fin 512) :
    dynamicRotate 0 (BitVec.ofNat 32 s) none v rotates_S512x512_d0 (ix2 ⟨r, h⟩ l) = rows v (r - s) l := by
  rw [rows_eq v (r - s) (by omega) l]
  refine rot_at v ⟨r, h⟩ ⟨r - s, by omega⟩ l ?_
  have e : (BitVec.ofNat 32 s).toNat = s := by rw [BitVec.toNat_ofNat]; exact Nat.mod_eq_of_lt (by omega)
  rw [e]
  show r - s = (r + 512 - s % 512) % 512
  omega

theorem stepA_rows (s : ℕ) (hs : s < 8) (A : Blk) (r : ℕ) (h : r < 512) (l : Fin 512) :
    rows (stepA s A) r l = if s ≤ r % 8 then rows A r l * rows A (r - s) l else rows A r l := by
  rw [rows_eq _ r h, rows_eq A r h]
  unfold stepA
  rw [sel_at s hs]
  by_cases hr : s ≤ r % 8
  · rw [if_pos hr, if_pos hr]
    exact congrArg (A (ix2 ⟨r, h⟩ l) * ·) (rot_rows s hs A r h hr l)
  · rw [if_neg hr, if_neg hr]

theorem stepB_rows (s : ℕ) (hs : s < 8) (A B : Blk) (r : ℕ) (h : r < 512) (l : Fin 512) :
    rows (stepB s A B) r l = if s ≤ r % 8 then rows A r l * rows B (r - s) l + rows B r l else rows B r l := by
  rw [rows_eq _ r h, rows_eq A r h, rows_eq B r h]
  unfold stepB
  rw [sel_at s hs]
  by_cases hr : s ≤ r % 8
  · rw [if_pos hr, if_pos hr]
    exact congrArg (A (ix2 ⟨r, h⟩ l) * · + B (ix2 ⟨r, h⟩ l)) (rot_rows s hs B r h hr l)
  · rw [if_neg hr, if_neg hr]

/-- The decays of a block before the scan. -/
def decay (x0 : Blk) (x1 : FVec Ideal S4x512 .f32) (x2 : FVec Ideal S512x512 .bf16) (x4 x6 : FVec Ideal S1x512 .f32) : Blk :=
  k0_pay20 (rateB x0 x1 x2 x4) (k0_pay18 x6)

/-- The inputs of a block before the scan. -/
def inputB (x0 : Blk) (x1 : FVec Ideal S4x512 .f32) (x2 x3 : FVec Ideal S512x512 .bf16) (x4 x5 x6 : FVec Ideal S1x512 .f32) : Blk :=
  mulf (sqrt (subf (broadcast S512x512 (Scalar.ofBits .f32 0x3F800000#32 : Ideal .f32))
      (exp (mulf (broadcast S512x512 (Scalar.ofBits .f32 0x40000000#32 : Ideal .f32)) (k0_pay19 (rateB x0 x1 x2 x4) (k0_pay18 x6))))))
    (mulf (gateB x0 x1 x3 x5) (convB x0 x1))

theorem scanA_eq (x0 : Blk) (x1 : FVec Ideal S4x512 .f32) (x2 : FVec Ideal S512x512 .bf16) (x4 x6 : FVec Ideal S1x512 .f32) :
    scanA x0 x1 x2 x4 x6 = stepA 4 (stepA 2 (stepA 1 (decay x0 x1 x2 x4 x6))) := by
  unfold scanA k0_pay2
  dsimp only
  rw [shapeCast_self]
  rfl

theorem scanB_eq (x0 : Blk) (x1 : FVec Ideal S4x512 .f32) (x2 x3 : FVec Ideal S512x512 .bf16) (x4 x5 x6 : FVec Ideal S1x512 .f32) :
    scanB x0 x1 x2 x3 x4 x5 x6
      = stepB 4 (stepA 2 (stepA 1 (decay x0 x1 x2 x4 x6)))
          (stepB 2 (stepA 1 (decay x0 x1 x2 x4 x6)) (stepB 1 (decay x0 x1 x2 x4 x6) (inputB x0 x1 x2 x3 x4 x5 x6))) := by
  unfold scanB k0_pay3
  dsimp only
  rw [shapeCast_self]
  rfl

/-- Three steps reach the whole of a row's group of eight. -/
theorem joined_eight (A B : Blk) (l : Fin 512) (hA : ∀ r < 512, 0 ≤ rows A r l ∧ rows A r l ≠ ⊤) (r : ℕ) (hr : r < 512) :
    Joined (fun r => rows A r l) (fun r => rows B r l) (fun r => rows (stepA 4 (stepA 2 (stepA 1 A))) r l)
      (fun r => rows (stepB 4 (stepA 2 (stepA 1 A)) (stepB 2 (stepA 1 A) (stepB 1 A B))) r l) 8 r := by
  have j1 : ∀ r < 512, Joined (fun r => rows A r l) (fun r => rows B r l) (fun r => rows A r l) (fun r => rows B r l) 1 r :=
    fun r hr => joined_one (hA r hr)
  have j2 : ∀ r < 512, Joined (fun r => rows A r l) (fun r => rows B r l) (fun r => rows (stepA 1 A) r l) (fun r => rows (stepB 1 A B) r l) (2 * 1) r :=
    fun r hr => joined_step (by omega) (j1 r hr) (fun _ => j1 _ (by omega)) (stepA_rows 1 (by omega) A r hr l) (stepB_rows 1 (by omega) A B r hr l)
  have j4 : ∀ r < 512, Joined (fun r => rows A r l) (fun r => rows B r l) (fun r => rows (stepA 2 (stepA 1 A)) r l) (fun r => rows (stepB 2 (stepA 1 A) (stepB 1 A B)) r l) (2 * 2) r :=
    fun r hr => joined_step (by omega) (j2 r hr) (fun _ => j2 _ (by omega)) (stepA_rows 2 (by omega) _ r hr l) (stepB_rows 2 (by omega) _ _ r hr l)
  exact joined_step (w := 4) (by omega) (j4 r hr) (fun _ => j4 _ (by omega)) (stepA_rows 4 (by omega) _ r hr l) (stepB_rows 4 (by omega) _ _ r hr l)

/-- A stored row is the recurrence over the block's rows up to it. -/
theorem block_row (x0 : Blk) (x1 : FVec Ideal S4x512 .f32) (x2 x3 : FVec Ideal S512x512 .bf16) (x4 x5 x6 : FVec Ideal S1x512 .f32) (c : Fin 512 → EReal)
    (hA : ∀ r < 512, ∀ l, 0 ≤ rows (decay x0 x1 x2 x4 x6) r l ∧ rows (decay x0 x1 x2 x4 x6) r l ≠ ⊤) (r : Fin 512) (l : Fin 512) :
    blockOut (scanA x0 x1 x2 x4 x6) (scanB x0 x1 x2 x3 x4 x5 x6) c (ix2 r l)
      = runFrom (fun r => rows (decay x0 x1 x2 x4 x6) r l) (fun r => rows (inputB x0 x1 x2 x3 x4 x5 x6) r l) 0 (r.val + 1) (c l) := by
  have hj := joined_eight (decay x0 x1 x2 x4 x6) (inputB x0 x1 x2 x3 x4 x5 x6) l (fun r hr => hA r hr l)
  rw [← scanA_eq, ← scanB_eq] at hj
  have h := row_eq (C := fun k => carryAt (rows (scanA x0 x1 x2 x4 x6)) (rows (scanB x0 x1 x2 x3 x4 x5 x6)) c k l) 64 hj (fun k => rfl) r.val r.isLt
  rw [show runFrom _ _ 0 (r.val + 1) (c l) = _ from h.symm]
  show scanB _ _ _ _ _ _ _ _ + scanA _ _ _ _ _ _ * _ = _
  rw [rows_eq _ r.val r.isLt, rows_eq _ r.val r.isLt]
  rfl

/-- The row carried out is the recurrence over all the block's rows. -/
theorem block_carry (x0 : Blk) (x1 : FVec Ideal S4x512 .f32) (x2 x3 : FVec Ideal S512x512 .bf16) (x4 x5 x6 : FVec Ideal S1x512 .f32) (c : Fin 512 → EReal)
    (hA : ∀ r < 512, ∀ l, 0 ≤ rows (decay x0 x1 x2 x4 x6) r l ∧ rows (decay x0 x1 x2 x4 x6) r l ≠ ⊤) (l : Fin 512) :
    carryAt (rows (scanA x0 x1 x2 x4 x6)) (rows (scanB x0 x1 x2 x3 x4 x5 x6)) c 64 l
      = runFrom (fun r => rows (decay x0 x1 x2 x4 x6) r l) (fun r => rows (inputB x0 x1 x2 x3 x4 x5 x6) r l) 0 512 (c l) := by
  have hj := joined_eight (decay x0 x1 x2 x4 x6) (inputB x0 x1 x2 x3 x4 x5 x6) l (fun r hr => hA r hr l)
  rw [← scanA_eq, ← scanB_eq] at hj
  exact carry_eq (C := fun k => carryAt (rows (scanA x0 x1 x2 x4 x6)) (rows (scanB x0 x1 x2 x3 x4 x5 x6)) c k l) 64 hj (fun k => rfl) 64 (le_refl _)

end Cert.Lru

end
-- ==== Proof.Lru.Spec.lean ====
/- The layer's recurrence stated over extended reals, as a function of its argument arrays. -/
module

public import proofs.«01_k».proof.Proof.Lru.ScanMath
public import Idealize.ShloMosaic.Lib.Pointwise
public import Idealize.ShloMosaic.Lib.IdealHost

@[expose] public section

noncomputable section

namespace Cert.Lru

open Idealize.ShloMosaic

/-- Extended-real arrays of one, two and three axes. -/
abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal

/-- Token `T` of the branch's input, channel `l`: column `3584 + l` of the projected tokens. -/
def tok (u : Arr2 34816 4608) (T : ℕ) (l : Fin 512) : EReal :=
  if h : T < 34816 then u (ix2 ⟨T, h⟩ ⟨3584 + l.val, by omega⟩) else 0

/-- Tap `k` of the convolution at token `T`: the token `k - 2` places on, zero outside the row of 64. -/
def tap (u : Arr2 34816 4608) (T : ℕ) (l : Fin 512) (k : ℕ) : EReal :=
  if 2 ≤ T % 64 + k ∧ T % 64 + k < 66 then tok u (T + k - 2) l else 0

/-- The convolution along a row of 64 tokens. -/
def conv (u : Arr2 34816 4608) (w : Arr2 4 512) (T : ℕ) (l : Fin 512) : EReal :=
  tap u T l 0 * w (ix2 0 l) + tap u T l 1 * w (ix2 1 l) + tap u T l 2 * w (ix2 2 l) + tap u T l 3 * w (ix2 3 l)

/-- A gate: the head's channels times its 64 × 64 block, plus the bias, through the logistic function. -/
def gate (u : Arr2 34816 4608) (w : Arr2 4 512) (m : Arr3 8 64 64) (b : Arr1 512) (T : ℕ) (l : Fin 512) : EReal :=
  Ideal.logistic ((∑ i : Fin 64, conv u w T ⟨64 * (l.val / 64) + i.val, by omega⟩
    * m (ix3 ⟨l.val / 64, by omega⟩ i ⟨l.val % 64, by omega⟩)) + b (ix1 l))

/-- Entry `(k, l)` of the block-diagonal matrix of the eight heads' blocks. -/
def headEntry (m : Arr3 8 64 64) (k l : Fin 512) : EReal :=
  if k.val / 64 = l.val / 64 then m (ix3 ⟨l.val / 64, by omega⟩ ⟨k.val % 64, by omega⟩ ⟨l.val % 64, by omega⟩) else 0

/-- `softplus (-x)`. -/
def softplusNeg (x : EReal) : EReal := max (-x) 0 + Ideal.log (1 + Ideal.exp (-(max x (-x))))

/-- The logarithm of the decay. -/
def logA (u : Arr2 34816 4608) (w : Arr2 4 512) (wa : Arr3 8 64 64) (ba lam : Arr1 512) (T : ℕ) (l : Fin 512) : EReal :=
  ((-8 : ℝ) : EReal) * gate u w wa ba T l * softplusNeg (lam (ix1 l))

/-- The decay. -/
def dec (u : Arr2 34816 4608) (w : Arr2 4 512) (wa : Arr3 8 64 64) (ba lam : Arr1 512) (T : ℕ) (l : Fin 512) : EReal :=
  Ideal.exp (logA u w wa ba lam T l)

/-- The gated input. -/
def inp (u : Arr2 34816 4608) (w : Arr2 4 512) (wa wx : Arr3 8 64 64) (ba bx lam : Arr1 512) (T : ℕ) (l : Fin 512) : EReal :=
  Ideal.sqrt (1 - Ideal.exp (((2 : ℝ) : EReal) * logA u w wa ba lam T l)) * (gate u w wx bx T l * conv u w T l)

/-- The state of sequence `b` after `n` tokens. -/
def state (u : Arr2 34816 4608) (w : Arr2 4 512) (wa wx : Arr3 8 64 64) (ba bx lam : Arr1 512) (h0 : Arr2 8 512) (b : Fin 8) (l : Fin 512) (n : ℕ) : EReal :=
  runFrom (fun T => dec u w wa ba lam T l) (fun T => inp u w wa wx ba bx lam T l) (4096 * b.val) n (h0 (ix2 b l))

/-! ## The scalar equations -/

theorem half_f32 : Ideal.ofBits .f32 0x3F000000#32 = ((1 / 2 : ℝ) : EReal) := by
  simp [Ideal.ofBits, Ideal.ieee, -EReal.coe_mul, -EReal.coe_neg]; norm_num

theorem two_f32 : Ideal.ofBits .f32 0x40000000#32 = ((2 : ℝ) : EReal) := by
  simp [Ideal.ofBits, Ideal.ieee, -EReal.coe_mul, -EReal.coe_neg]; norm_num

theorem neg8_f32 : Ideal.ofBits .f32 0xC1000000#32 = ((-8 : ℝ) : EReal) := by
  simp [Ideal.ofBits, Ideal.ieee, -EReal.coe_mul, -EReal.coe_neg]; norm_num

/-- `0.5 tanh (0.5 x) + 0.5` is the logistic function. -/
theorem logistic_tanh (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num)]
    have e : Ideal.logistic ⊥ = 0 := by
      have h : (1 : EReal) + ⊤ = ⊤ := EReal.add_top_of_ne_bot (by decide)
      simp [Ideal.logistic, Ideal.div, h]
    rw [e, show Ideal.tanh ⊥ = ((-1 : ℝ) : EReal) by simp, ← EReal.coe_mul, ← EReal.coe_add]
    norm_num
  | top =>
    rw [EReal.coe_mul_top_of_pos (by norm_num)]
    simp [Ideal.logistic, Ideal.div]
    norm_cast
    norm_num
  | coe r =>
    have h1 : Ideal.logistic (r : EReal) = ((1 / (1 + Real.exp (-r)) : ℝ) : EReal) := by
      have hp : (0 : ℝ) < 1 + Real.exp (-r) := by positivity
      unfold Ideal.logistic Ideal.div
      rw [← EReal.coe_neg, Ideal.exp_coe, ← EReal.coe_one, ← EReal.coe_add, if_neg (by exact_mod_cast hp.ne'), ← EReal.coe_inv, ← EReal.coe_mul, one_div, one_mul]
    rw [h1, ← EReal.coe_mul, Ideal.tanh_coe, ← EReal.coe_mul, ← EReal.coe_add]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e1]
    have p2 := Real.exp_pos (-(1 / 2 * r))
    generalize Real.exp (-(1 / 2 * r)) = q at e2 p2 ⊢
    generalize Real.exp (1 / 2 * r) = p at e2 ⊢
    have hp : p = q⁻¹ := eq_inv_of_mul_eq_one_left e2
    subst hp
    field_simp
    ring

theorem logistic_range (x : EReal) : 0 ≤ Ideal.logistic x ∧ Ideal.logistic x ≠ ⊤ := by
  rw [← logistic_tanh]
  have h : ∃ r : ℝ, -1 ≤ r ∧ r ≤ 1 ∧ Ideal.tanh (((1 / 2 : ℝ) : EReal) * x) = (r : EReal) := by
    generalize ((1 / 2 : ℝ) : EReal) * x = y
    induction y using EReal.rec with
    | bot => exact ⟨-1, le_refl _, by norm_num, rfl⟩
    | top => exact ⟨1, by norm_num, le_refl _, rfl⟩
    | coe r => exact ⟨Real.tanh r, (Real.neg_one_lt_tanh r).le, (Real.tanh_lt_one r).le, rfl⟩
  obtain ⟨r, h1, h2, e⟩ := h
  rw [e, ← EReal.coe_mul, ← EReal.coe_add]
  exact ⟨by exact_mod_cast (by linarith : (0 : ℝ) ≤ 1 / 2 * r + 1 / 2), EReal.coe_ne_top _⟩

theorem exp_nonneg (x : EReal) : 0 ≤ Ideal.exp x := by
  induction x using EReal.rec with
  | bot => exact le_refl _
  | top => exact le_top
  | coe r => rw [Ideal.exp_coe]; exact_mod_cast (Real.exp_pos r).le

theorem log_nonneg {x : EReal} (h : 1 ≤ x) : 0 ≤ Ideal.log x := by
  induction x using EReal.rec with
  | bot => exact absurd h (by decide)
  | top => exact le_top
  | coe r =>
    have h' : (1 : ℝ) ≤ r := by exact_mod_cast h
    show 0 ≤ (if r ≤ 0 then ⊥ else (Real.log r : EReal))
    rw [if_neg (by linarith)]
    exact_mod_cast Real.log_nonneg h'

theorem softplusNeg_nonneg (x : EReal) : 0 ≤ softplusNeg x := by
  refine add_nonneg (le_max_right _ _) (log_nonneg ?_)
  calc (1 : EReal) = 1 + 0 := (add_zero _).symm
    _ ≤ _ := add_le_add_right (exp_nonneg _) _

/-- The decay lies in `[0, 1]`; in particular it is finite. -/
theorem dec_range (u : Arr2 34816 4608) (w : Arr2 4 512) (wa : Arr3 8 64 64) (ba lam : Arr1 512) (T : ℕ) (l : Fin 512) :
    0 ≤ dec u w wa ba lam T l ∧ dec u w wa ba lam T l ≠ ⊤ := by
  refine ⟨exp_nonneg _, ?_⟩
  have h : logA u w wa ba lam T l ≤ 0 := by
    unfold logA gate
    generalize hg : Ideal.logistic _ = g
    have hr := logistic_range ((∑ i : Fin 64, conv u w T ⟨64 * (l.val / 64) + i.val, by omega⟩
      * wa (ix3 ⟨l.val / 64, by omega⟩ i ⟨l.val % 64, by omega⟩)) + ba (ix1 l))
    rw [hg] at hr
    have e : ((-8 : ℝ) : EReal) * g * softplusNeg (lam (ix1 l)) = -(((8 : ℝ) : EReal) * g * softplusNeg (lam (ix1 l))) := by
      rw [show ((-8 : ℝ) : EReal) = -((8 : ℝ) : EReal) by rw [← EReal.coe_neg], EReal.neg_mul, EReal.neg_mul]
    rw [e]
    exact EReal.neg_le_of_neg_le (by
      rw [neg_zero]
      exact mul_nonneg (mul_nonneg (by exact_mod_cast (by norm_num : (0 : ℝ) ≤ 8)) hr.1) (softplusNeg_nonneg _))
  intro ht
  unfold dec at ht
  generalize logA u w wa ba lam T l = y at h ht
  induction y using EReal.rec with
  | bot => exact absurd ht (by decide)
  | top => exact absurd h (by decide)
  | coe r => exact absurd ht (EReal.coe_ne_top _)

/-- `-(exp x - 1)` is `1 - exp x`. -/
theorem neg_expm1 (x : EReal) : -(Ideal.exp x - 1) = 1 - Ideal.exp x := by
  rw [EReal.neg_sub (Or.inr (by decide)) (Or.inr (by decide)), add_comm, sub_eq_add_neg]

end Cert.Lru

end
-- ==== Proof.Lru.Elementwise.lean ====
/- What a block computes before its scan, entry by entry, in terms of the recurrence's arrays. -/
module

public import proofs.«01_k».proof.Proof.Lru.Scan
public import proofs.«01_k».proof.Proof.Lru.Spec

@[expose] public section

set_option maxRecDepth 16384

noncomputable section

namespace Cert.Lru

open Cert.KernelIdeal Cert.KernelIdeal.Gen
open Idealize.ShloMosaic Idealize.ShloMosaic.TcCoe

theorem pay10_at (r : Fin 512) (l : Fin 512) : k0_pay10 (ix2 r l) = BitVec.ofNat 32 (r.val % 64) := by
  have h : ∀ r : Fin 512, k0_pay10 (ix2 r 0) = BitVec.ofNat 32 (r.val % 64) := by decide +kernel
  exact h r

/-- Whether the token `off` places on lies in the same row of 64. -/
def mask (off : BitVec 32) : IVec S512x512 1 :=
  andi (cmpi .sge (addi k0_pay10 (broadcast S512x512 off)) (broadcast S512x512 0#32))
    (cmpi .slt (addi k0_pay10 (broadcast S512x512 off)) (broadcast S512x512 64#32))

theorem mask_at (off : BitVec 32) (k : ℕ)
    (h : ∀ p : Fin 64, IntOp.andi (IntOp.cmpi .sge (IntOp.addi (BitVec.ofNat 32 p.val) off) 0#32)
        (IntOp.cmpi .slt (IntOp.addi (BitVec.ofNat 32 p.val) off) 64#32) = if 2 ≤ p.val + k ∧ p.val + k < 66 then 1#1 else 0#1)
    (r : Fin 512) (l : Fin 512) :
    mask off (ix2 r l) = if 2 ≤ r.val % 64 + k ∧ r.val % 64 + k < 66 then 1#1 else 0#1 := by
  have e := h ⟨r.val % 64, by omega⟩
  have p := pay10_at r l
  have q : mask off (ix2 r l) = IntOp.andi (IntOp.cmpi .sge (IntOp.addi (k0_pay10 (ix2 r l)) off) 0#32) (IntOp.cmpi .slt (IntOp.addi (k0_pay10 (ix2 r l)) off) 64#32) := rfl
  rw [q, p]
  exact e

theorem mask0_at (r : Fin 512) (l : Fin 512) : mask (4294967294#32) (ix2 r l) = if 2 ≤ r.val % 64 + 0 ∧ r.val % 64 + 0 < 66 then 1#1 else 0#1 :=
  mask_at _ 0 (by decide +kernel) r l
theorem mask1_at (r : Fin 512) (l : Fin 512) : mask (4294967295#32) (ix2 r l) = if 2 ≤ r.val % 64 + 1 ∧ r.val % 64 + 1 < 66 then 1#1 else 0#1 :=
  mask_at _ 1 (by decide +kernel) r l
theorem mask3_at (r : Fin 512) (l : Fin 512) : mask (1#32) (ix2 r l) = if 2 ≤ r.val % 64 + 3 ∧ r.val % 64 + 3 < 66 then 1#1 else 0#1 :=
  mask_at _ 3 (by decide +kernel) r l

theorem pay16_at (v : FVec Ideal S512x512 .bf16) (m : FVec Ideal S512x512 .bf16) (b : FVec Ideal S1x512 .f32) (r : Fin 512) (l : Fin 512) :
    k0_pay16 v m b (ix2 r l) = Ideal.logistic ((∑ k : Fin 512, v (ix2 r k) * m (ix2 k l)) + b (ix2 0 l)) := by
  pointwise [k0_pay16]
  rw [half_f32]
  exact logistic_tanh _

theorem pay18_at (b : FVec Ideal S1x512 .f32) (r : Fin 512) (l : Fin 512) :
    (k0_pay18 (F := Ideal) b (ix2 r l) : EReal) = softplusNeg (b (ix2 0 l)) := by
  pointwise [k0_pay18]
  rw [zero_sub, zero_sub]
  rfl

/-- The gate of a block. -/
theorem gateB_at (x0 : Blk) (x1 : FVec Ideal S4x512 .f32) (m : FVec Ideal S512x512 .bf16) (b : FVec Ideal S1x512 .f32) (r : Fin 512) (l : Fin 512) :
    gateB x0 x1 m b (ix2 r l) = Ideal.logistic ((∑ k : Fin 512, convB x0 x1 (ix2 r k) * m (ix2 k l)) + b (ix2 0 l)) :=
  pay16_at _ m b r l

theorem pay17_at (v : Blk) (b : FVec Ideal S1x512 .f32) (r : Fin 512) (l : Fin 512) :
    (k0_pay17 (F := Ideal) v b (ix2 r l) : EReal) = ((-8 : ℝ) : EReal) * Ideal.logistic (v (ix2 r l) + b (ix2 0 l)) := by
  pointwise [k0_pay17]
  rw [half_f32, neg8_f32, logistic_tanh]

theorem product_at (v : FVec Ideal S512x512 .bf16) (m : FVec Ideal S512x512 .bf16) (r : Fin 512) (l : Fin 512) :
    matmul dot_S512x512_S512x512_S512x512_1_0_0_1_n_n none v (shapeCast S512x512 m shapeCasts_S512x512_S512x512)
      (constant S512x512 .f32 0x00000000#32 : FVec Ideal S512x512 .f32) (ix2 r l) = ∑ k : Fin 512, v (ix2 r k) * m (ix2 k l) := by
  pointwise

theorem truncf_at (v : Blk) (r : Fin 512) (l : Fin 512) : (truncf .bf16 v bitsLt_bf16_f32 (ix2 r l) : EReal) = v (ix2 r l) := rfl

theorem pay15_at (x0 : Blk) (x1 : FVec Ideal S4x512 .f32) (m : FVec Ideal S512x512 .bf16) (r : Fin 512) (l : Fin 512) :
    (k0_pay15 (F := Ideal) x0 k0_pay10 (k0_pay11 x0 (wrow0 x1)) (k0_pay12 x0) (4294967295#32) (wrow1 x1) (wrow2 x1) (wrow3 x1) m (ix2 r l) : EReal)
      = ∑ k : Fin 512, convB x0 x1 (ix2 r k) * m (ix2 k l) := by
  unfold k0_pay15 k0_pay14
  dsimp only
  have e : k0_pay13 x0 k0_pay10 (k0_pay11 x0 (wrow0 x1)) (k0_pay12 x0) (4294967295#32) (wrow1 x1) (wrow2 x1) (wrow3 x1) = convB x0 x1 := by
    unfold convB
    rfl
  rw [e]
  exact product_at (truncf .bf16 (convB x0 x1) bitsLt_bf16_f32) m r l

theorem rateB_at (x0 : Blk) (x1 : FVec Ideal S4x512 .f32) (m : FVec Ideal S512x512 .bf16) (b : FVec Ideal S1x512 .f32) (r : Fin 512) (l : Fin 512) :
    rateB x0 x1 m b (ix2 r l) = ((-8 : ℝ) : EReal) * Ideal.logistic ((∑ k : Fin 512, convB x0 x1 (ix2 r k) * m (ix2 k l)) + b (ix2 0 l)) := by
  rw [← pay15_at]
  exact pay17_at _ b r l

theorem wrow0_at (x1 : FVec Ideal S4x512 .f32) (l : Fin 512) : wrow0 x1 (ix2 0 l) = x1 (ix2 0 l) := by
  unfold wrow0
  refine congrArg x1 (funext fun a => Fin.ext ?_)
  match a with
  | ⟨0, _⟩ => rfl
  | ⟨1, _⟩ => exact (by omega : 0 + 1 * l.val = l.val)
theorem wrow1_at (x1 : FVec Ideal S4x512 .f32) (l : Fin 512) : wrow1 x1 (ix2 0 l) = x1 (ix2 1 l) := by
  unfold wrow1
  refine congrArg x1 (funext fun a => Fin.ext ?_)
  match a with
  | ⟨0, _⟩ => rfl
  | ⟨1, _⟩ => exact (by omega : 0 + 1 * l.val = l.val)
theorem wrow2_at (x1 : FVec Ideal S4x512 .f32) (l : Fin 512) : wrow2 x1 (ix2 0 l) = x1 (ix2 2 l) := by
  unfold wrow2
  refine congrArg x1 (funext fun a => Fin.ext ?_)
  match a with
  | ⟨0, _⟩ => rfl
  | ⟨1, _⟩ => exact (by omega : 0 + 1 * l.val = l.val)
theorem wrow3_at (x1 : FVec Ideal S4x512 .f32) (l : Fin 512) : wrow3 x1 (ix2 0 l) = x1 (ix2 3 l) := by
  unfold wrow3
  refine congrArg x1 (funext fun a => Fin.ext ?_)
  match a with
  | ⟨0, _⟩ => rfl
  | ⟨1, _⟩ => exact (by omega : 0 + 1 * l.val = l.val)

/-- A masked tap of the convolution. -/
def tapB (x0 : Blk) (off n : BitVec 32) : Blk :=
  select (mask off) (dynamicRotate 0 n none x0 rotates_S512x512_d0)
    (broadcast S512x512 (Scalar.ofBits .f32 0x00000000#32 : Ideal .f32))

theorem bcast_at (b : FVec Ideal S1x512 .f32) (r : Fin 512) (l : Fin 512) :
    broadcastTo S512x512 b broadcasts_S1x512_S512x512 (ix2 r l) = b (ix2 0 l) := by
  pointwise

theorem convB_eq (x0 : Blk) (x1 : FVec Ideal S4x512 .f32) :
    convB x0 x1
      = addf (addf (addf (mulf (tapB x0 4294967294#32 2#32) (broadcastTo S512x512 (wrow0 x1) broadcasts_S1x512_S512x512))
          (mulf (tapB x0 4294967295#32 1#32) (broadcastTo S512x512 (wrow1 x1) broadcasts_S1x512_S512x512)))
          (mulf x0 (broadcastTo S512x512 (wrow2 x1) broadcasts_S1x512_S512x512)))
          (mulf (tapB x0 1#32 511#32) (broadcastTo S512x512 (wrow3 x1) broadcasts_S1x512_S512x512)) := by
  unfold convB k0_pay13 k0_pay11 k0_pay12
  dsimp only
  unfold tapB mask
  rfl

theorem tapB_at (x0 : Blk) (u : Arr2 34816 4608) (T0 : ℕ) (hT : T0 % 64 = 0) (h0 : ∀ (r : Fin 512) (l : Fin 512), x0 (ix2 r l) = tok u (T0 + r.val) l)
    (k : ℕ) (hk : k < 4) (off n : BitVec 32) (hn : (n.toNat % 512 + k) % 512 = 2) (r : Fin 512) (l : Fin 512)
    (hm : mask off (ix2 r l) = if 2 ≤ r.val % 64 + k ∧ r.val % 64 + k < 66 then 1#1 else 0#1) :
    tapB x0 off n (ix2 r l) = tap u (T0 + r.val) l k := by
  have e : tapB x0 off n (ix2 r l) = Scalar.select (mask off (ix2 r l))
      (dynamicRotate 0 n none x0 rotates_S512x512_d0 (ix2 r l)) (Ideal.ofBits .f32 0x00000000#32) := rfl
  rw [e, hm]
  unfold tap
  have hm : (T0 + r.val) % 64 = r.val % 64 := by omega
  rw [hm]
  by_cases h : 2 ≤ r.val % 64 + k ∧ r.val % 64 + k < 66
  · rw [if_pos h, if_pos h]
    refine (rot_at x0 r ⟨r.val + k - 2, by omega⟩ l ?_).trans ?_
    · show r.val + k - 2 = _
      omega
    · rw [h0]
      refine congrArg (fun t => tok u t l) ?_
      show T0 + (r.val + k - 2) = T0 + r.val + k - 2
      omega
  · rw [if_neg h, if_neg h]
    exact Ideal.ofBits_zero_f32

theorem four_at (t0 t1 t2 t3 : Blk) (b0 b1 b2 b3 : FVec Ideal S1x512 .f32) (r : Fin 512) (l : Fin 512) :
    addf (addf (addf (mulf t0 (broadcastTo S512x512 b0 broadcasts_S1x512_S512x512)) (mulf t1 (broadcastTo S512x512 b1 broadcasts_S1x512_S512x512)))
        (mulf t2 (broadcastTo S512x512 b2 broadcasts_S1x512_S512x512))) (mulf t3 (broadcastTo S512x512 b3 broadcasts_S1x512_S512x512)) (ix2 r l)
      = t0 (ix2 r l) * b0 (ix2 0 l) + t1 (ix2 r l) * b1 (ix2 0 l) + t2 (ix2 r l) * b2 (ix2 0 l) + t3 (ix2 r l) * b3 (ix2 0 l) := by
  pointwise

theorem convB_at (x0 : Blk) (x1 : FVec Ideal S4x512 .f32) (u : Arr2 34816 4608) (w : Arr2 4 512) (T0 : ℕ) (hT : T0 % 64 = 0)
    (h0 : ∀ (r : Fin 512) (l : Fin 512), x0 (ix2 r l) = tok u (T0 + r.val) l) (h1 : ∀ (k : Fin 4) (l : Fin 512), x1 (ix2 k l) = w (ix2 k l)) (r : Fin 512) (l : Fin 512) :
    convB x0 x1 (ix2 r l) = conv u w (T0 + r.val) l := by
  have e2 : x0 (ix2 r l) = tap u (T0 + r.val) l 2 := by
    unfold tap
    rw [if_pos (by omega), h0]
    exact congrArg (fun t => tok u t l) (by omega)
  rw [convB_eq, four_at, tapB_at x0 u T0 hT h0 0 (by omega) _ _ (by decide) r l (mask0_at r l), tapB_at x0 u T0 hT h0 1 (by omega) _ _ (by decide) r l (mask1_at r l),
    tapB_at x0 u T0 hT h0 3 (by omega) _ _ (by decide) r l (mask3_at r l), e2, wrow0_at, wrow1_at, wrow2_at, wrow3_at, h1, h1, h1, h1]
  unfold conv
  with_reducible rfl

/-- A sum over 512 channels against a block-diagonal matrix keeps the head's 64. -/
theorem sum_head (f : Fin 512 → EReal) (m : Arr3 8 64 64) (M : Fin 512 → Fin 512 → EReal)
    (hM : ∀ k l : Fin 512, M k l = headEntry m k l)
    (l : Fin 512) :
    ∑ k : Fin 512, f k * M k l = ∑ i : Fin 64, f ⟨64 * (l.val / 64) + i.val, by omega⟩ * m (ix3 ⟨l.val / 64, by omega⟩ i ⟨l.val % 64, by omega⟩) := by
  symm
  refine Finset.sum_of_injOn (fun i : Fin 64 => (⟨64 * (l.val / 64) + i.val, by omega⟩ : Fin 512)) ?_ (fun _ _ => Finset.mem_univ _) ?_ ?_
  · intro i _ j _ h
    have := congrArg Fin.val h
    exact Fin.ext (by simpa using this)
  · intro k _ hk
    rw [hM, headEntry, if_neg, mul_zero]
    intro h
    refine hk ⟨⟨k.val % 64, by omega⟩, Finset.mem_coe.2 (Finset.mem_univ _), Fin.ext ?_⟩
    show 64 * (l.val / 64) + k.val % 64 = k.val
    omega
  · intro i _
    rw [hM, headEntry, if_pos (by show (64 * (l.val / 64) + i.val) / 64 = _; omega)]
    congr 3
    apply Fin.ext
    show i.val = (64 * (l.val / 64) + i.val) % 64
    omega

theorem mul_at (x y : Blk) (r : Fin 512) (l : Fin 512) : (k0_pay19 (F := Ideal) x y (ix2 r l) : EReal) = x (ix2 r l) * y (ix2 r l) := by
  pointwise [k0_pay19]

theorem exp_at (x y : Blk) (r : Fin 512) (l : Fin 512) : (k0_pay20 (F := Ideal) x y (ix2 r l) : EReal) = Ideal.exp (k0_pay19 (F := Ideal) x y (ix2 r l)) := by
  pointwise [k0_pay20]

theorem input_at (s g c : Blk) (r : Fin 512) (l : Fin 512) :
    mulf (sqrt (subf (broadcast S512x512 (Scalar.ofBits .f32 0x3F800000#32 : Ideal .f32))
        (exp (mulf (broadcast S512x512 (Scalar.ofBits .f32 0x40000000#32 : Ideal .f32)) s)))) (mulf g c) (ix2 r l)
      = Ideal.sqrt (1 - Ideal.exp (((2 : ℝ) : EReal) * s (ix2 r l))) * (g (ix2 r l) * c (ix2 r l)) := by
  pointwise
  rw [two_f32]

section
variable (u : Arr2 34816 4608) (w : Arr2 4 512) (wa wx : Arr3 8 64 64) (ba bx lam : Arr1 512) (T0 : ℕ) (hT : T0 % 64 = 0)
  (x0 : Blk) (x1 : FVec Ideal S4x512 .f32) (x2 x3 : FVec Ideal S512x512 .bf16) (x4 x5 x6 : FVec Ideal S1x512 .f32)
  (h0 : ∀ (r : Fin 512) (l : Fin 512), x0 (ix2 r l) = tok u (T0 + r.val) l) (h1 : ∀ (k : Fin 4) (l : Fin 512), x1 (ix2 k l) = w (ix2 k l))
  (h2 : ∀ k l : Fin 512, x2 (ix2 k l) = headEntry wa k l)
  (h3 : ∀ k l : Fin 512, x3 (ix2 k l) = headEntry wx k l)
  (h4 : ∀ l : Fin 512, x4 (ix2 0 l) = ba (ix1 l)) (h5 : ∀ l : Fin 512, x5 (ix2 0 l) = bx (ix1 l)) (h6 : ∀ l : Fin 512, x6 (ix2 0 l) = lam (ix1 l))
include hT h0 h1

theorem gateB_spec (h3 : ∀ k l : Fin 512, x3 (ix2 k l) = headEntry wx k l)
    (h5 : ∀ l : Fin 512, x5 (ix2 0 l) = bx (ix1 l)) (r : Fin 512) (l : Fin 512) : gateB x0 x1 x3 x5 (ix2 r l) = gate u w wx bx (T0 + r.val) l := by
  rw [gateB_at, h5]
  unfold gate
  refine congrArg (fun s => Ideal.logistic (s + bx (ix1 l))) ?_
  refine (sum_head (fun k => convB x0 x1 (ix2 r k)) wx (fun k l => x3 (ix2 k l)) h3 l).trans ?_
  refine Finset.sum_congr rfl fun i _ => ?_
  rw [convB_at x0 x1 u w T0 hT h0 h1]

include h2 h4 h6

theorem logA_spec (r : Fin 512) (l : Fin 512) : k0_pay19 (rateB x0 x1 x2 x4) (k0_pay18 x6) (ix2 r l) = logA u w wa ba lam (T0 + r.val) l := by
  have e : k0_pay19 (rateB x0 x1 x2 x4) (k0_pay18 x6) (ix2 r l) = rateB x0 x1 x2 x4 (ix2 r l) * (k0_pay18 (F := Ideal) x6 (ix2 r l) : EReal) :=
    mul_at _ _ r l
  rw [e, rateB_at, ← gateB_at, gateB_spec u w wa ba T0 hT x0 x1 x2 x4 h0 h1 h2 h4, pay18_at, h6]
  unfold logA
  with_reducible rfl

theorem decay_spec (r : Fin 512) (l : Fin 512) : decay x0 x1 x2 x4 x6 (ix2 r l) = dec u w wa ba lam (T0 + r.val) l :=
  (exp_at _ _ r l).trans (congrArg Ideal.exp (logA_spec u w wa ba lam T0 hT x0 x1 x2 x4 x6 h0 h1 h2 h4 h6 r l))

include h3 h5

theorem inputB_spec (r : Fin 512) (l : Fin 512) : inputB x0 x1 x2 x3 x4 x5 x6 (ix2 r l) = inp u w wa wx ba bx lam (T0 + r.val) l := by
  unfold inputB
  rw [input_at, logA_spec u w wa ba lam T0 hT x0 x1 x2 x4 x6 h0 h1 h2 h4 h6, gateB_spec u w wx bx T0 hT x0 x1 x3 x5 h0 h1 h3 h5,
    convB_at x0 x1 u w T0 hT h0 h1]
  unfold inp
  with_reducible rfl

omit h3 h5 in
theorem decay_range (r : ℕ) (hr : r < 512) (l : Fin 512) : 0 ≤ rows (decay x0 x1 x2 x4 x6) r l ∧ rows (decay x0 x1 x2 x4 x6) r l ≠ ⊤ := by
  rw [rows_eq _ r hr, decay_spec u w wa ba lam T0 hT x0 x1 x2 x4 x6 h0 h1 h2 h4 h6]
  exact dec_range u w wa ba lam _ l

theorem run_spec (n : ℕ) (hn : n ≤ 512) (c : EReal) (l : Fin 512) :
    runFrom (fun r => rows (decay x0 x1 x2 x4 x6) r l) (fun r => rows (inputB x0 x1 x2 x3 x4 x5 x6) r l) 0 n c
      = runFrom (fun T => dec u w wa ba lam T l) (fun T => inp u w wa wx ba bx lam T l) T0 n c := by
  refine runFrom_congr n c (fun k hk => ?_) (fun k hk => ?_)
  · show rows (decay x0 x1 x2 x4 x6) (0 + k) l = dec u w wa ba lam (T0 + k) l
    rw [Nat.zero_add, rows_eq _ k (by omega), decay_spec u w wa ba lam T0 hT x0 x1 x2 x4 x6 h0 h1 h2 h4 h6]
  · show rows (inputB x0 x1 x2 x3 x4 x5 x6) (0 + k) l = inp u w wa wx ba bx lam (T0 + k) l
    rw [Nat.zero_add, rows_eq _ k (by omega), inputB_spec u w wa wx ba bx lam T0 hT x0 x1 x2 x3 x4 x5 x6 h0 h1 h2 h3 h4 h5 h6]

/-- A stored row continues the recurrence from the row carried in. -/
theorem block_row_spec (c : Fin 512 → EReal) (r : Fin 512) (l : Fin 512) :
    blockOut (scanA x0 x1 x2 x4 x6) (scanB x0 x1 x2 x3 x4 x5 x6) c (ix2 r l)
      = runFrom (fun T => dec u w wa ba lam T l) (fun T => inp u w wa wx ba bx lam T l) T0 (r.val + 1) (c l) := by
  rw [block_row x0 x1 x2 x3 x4 x5 x6 c (decay_range u w wa ba lam T0 hT x0 x1 x2 x4 x6 h0 h1 h2 h4 h6)]
  exact run_spec u w wa wx ba bx lam T0 hT x0 x1 x2 x3 x4 x5 x6 h0 h1 h2 h3 h4 h5 h6 _ r.isLt _ l

/-- So does the row carried out. -/
theorem block_carry_spec (c : Fin 512 → EReal) (l : Fin 512) :
    carryAt (rows (scanA x0 x1 x2 x4 x6)) (rows (scanB x0 x1 x2 x3 x4 x5 x6)) c 64 l
      = runFrom (fun T => dec u w wa ba lam T l) (fun T => inp u w wa wx ba bx lam T l) T0 512 (c l) := by
  rw [block_carry x0 x1 x2 x3 x4 x5 x6 c (decay_range u w wa ba lam T0 hT x0 x1 x2 x4 x6 h0 h1 h2 h4 h6)]
  exact run_spec u w wa wx ba bx lam T0 hT x0 x1 x2 x3 x4 x5 x6 h0 h1 h2 h3 h4 h5 h6 _ (le_refl _) _ l
end

end Cert.Lru

end
-- ==== Proof.Lru.Windows.lean ====
/- What each window of the recurrence kernel reads at a grid point, in terms of the argument arrays. -/
module

public import proofs.«01_k».proof.Proof.Lru.Elementwise
public import proofs.«01_k».proof.Proof.Lru.Frame

@[expose] public section

set_option maxRecDepth 16384

noncomputable section

namespace Cert.Lru

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ)

/-- The argument arrays at launch. -/
abbrev uA (c : Dev nD) : Arr2 34816 4608 := m ((c.tc : Thread nD τ).loc main_arg0)
abbrev wA (c : Dev nD) : Arr2 4 512 := m ((c.tc : Thread nD τ).loc main_arg1)
abbrev waA (c : Dev nD) : Arr3 8 64 64 := m ((c.tc : Thread nD τ).loc main_arg2)
abbrev wxA (c : Dev nD) : Arr3 8 64 64 := m ((c.tc : Thread nD τ).loc main_arg3)
abbrev baA (c : Dev nD) : Arr1 512 := m ((c.tc : Thread nD τ).loc main_arg4)
abbrev bxA (c : Dev nD) : Arr1 512 := m ((c.tc : Thread nD τ).loc main_arg5)
abbrev lamA (c : Dev nD) : Arr1 512 := m ((c.tc : Thread nD τ).loc main_arg6)
abbrev h0A (c : Dev nD) : Arr2 8 512 := m ((c.tc : Thread nD τ).loc main_arg7)

/-- The block-diagonal matrix the host builds of eight blocks. -/
def blockDiag (x : FVec Ideal S8x64x64 .f32) : FVec Ideal S512x512 .bf16 :=
  truncf .bf16 (shapeCast S512x512 (mulf
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)) : FVec Ideal S8x8 .f32)))
    (broadcastInDim S8x64x8x64 ![0, 1, 2, 3] bcast_S8x64x1x64_S8x64x8x64_0_1_2_3 (broadcastInDim S8x64x1x64 ![0, 1, 3] bcast_S8x64x64_S8x64x1x64_0_1_3 x)))
    shapeCasts_S8x64x8x64_S512x512) bitsLt_bf16_f32

theorem V_v12 (c : Dev nD) : V m c main_v12 = blockDiag (waA m c) := by
  show StableHlo.after hostOps0 _ _ = _
  unfold hostOps0
  after_results
  rfl

theorem V_v25 (c : Dev nD) : V m c main_v25 = blockDiag (wxA m c) := by
  show StableHlo.after hostOps0 _ _ = _
  unfold hostOps0
  after_results
  rfl

theorem V_v26 (c : Dev nD) : V m c main_v26 = shapeCast S1x512 (baA m c : FVec Ideal S512 .f32) shapeCasts_S512_S1x512 := by
  show StableHlo.after hostOps0 _ _ = _
  unfold hostOps0
  after_results
  rfl
theorem V_v27 (c : Dev nD) : V m c main_v27 = shapeCast S1x512 (bxA m c : FVec Ideal S512 .f32) shapeCasts_S512_S1x512 := by
  show StableHlo.after hostOps0 _ _ = _
  unfold hostOps0
  after_results
  rfl
theorem V_v28 (c : Dev nD) : V m c main_v28 = shapeCast S1x512 (lamA m c : FVec Ideal S512 .f32) shapeCasts_S512_S1x512 := by
  show StableHlo.after hostOps0 _ _ = _
  unfold hostOps0
  after_results
  rfl
theorem V_v29 (c : Dev nD) : V m c main_v29 = shapeCast S8x1x512 (h0A m c : FVec Ideal S8x512 .f32) shapeCasts_S8x512_S8x1x512 := by
  show StableHlo.after hostOps0 _ _ = _
  unfold hostOps0
  after_results
  rfl

theorem blockDiag_at (x : FVec Ideal S8x64x64 .f32) (k l : Fin 512) :
    (blockDiag x (ix2 k l) : EReal) = headEntry x k l := by
  have h : ∀ a b : Fin 8, IntOp.cmpi .eq (IntOp.addi (BitVec.ofNat 32 a.val) 0#32) (BitVec.ofNat 32 b.val) = if a.val = b.val then 1#1 else 0#1 := by decide +kernel
  have e := h ⟨k.val / 64, by omega⟩ ⟨l.val / 64, by omega⟩
  dsimp only at e
  unfold headEntry
  pointwise [blockDiag]
  rw [e]
  by_cases hk : k.val / 64 = l.val / 64
  · rw [if_pos hk, if_pos hk]
    have e1 : (FloatOps.uitofp .f32 1#1 : Ideal .f32) = (1 : EReal) := by
      show (((1#1 : BitVec 1).toNat : ℝ) : EReal) = 1
      norm_num
    rw [e1, one_mul]
    congr 2
    exact Fin.ext hk
  · rw [if_neg hk, if_neg hk]
    have e1 : (FloatOps.uitofp .f32 0#1 : Ideal .f32) = (0 : EReal) := by
      show (((0#1 : BitVec 1).toNat : ℝ) : EReal) = 0
      norm_num
    rw [e1, zero_mul]

theorem row_at (b : FVec Ideal S512 .f32) (l : Fin 512) : shapeCast S1x512 b shapeCasts_S512_S1x512 (ix2 0 l) = b (ix1 l) := by
  pointwise

theorem h0_at (b : FVec Ideal S8x512 .f32) (k : Fin 8) (l : Fin 512) : shapeCast S8x1x512 b shapeCasts_S8x512_S8x1x512 (ix3 k 0 l) = b (ix2 k l) := by
  pointwise

/-! ## The windows -/

theorem idx0 : ∀ t : Fin cfg0.N, win0_0.index t 0 = t.val ∧ win0_0.index t 1 = 7 := (by decide +kernel : ∀ t : Fin grid0.N, win0_0.index t 0 = t.val ∧ win0_0.index t 1 = 7)
theorem idx7 : ∀ t : Fin cfg0.N, win0_7.index t 0 = t.val / 8 ∧ win0_7.index t 1 = 0 ∧ win0_7.index t 2 = 0 := (by decide +kernel : ∀ t : Fin grid0.N, win0_7.index t 0 = t.val / 8 ∧ win0_7.index t 1 = 0 ∧ win0_7.index t 2 = 0)

theorem lt64 (t : Fin cfg0.N) : t.val < 64 := by
  have h := t.isLt
  have hN : cfg0.N = 64 := N_0
  omega

theorem blk0 (c : Dev nD) (t : Fin cfg0.N) (r : Fin 512) (l : Fin 512) :
    (iblk m c 0 t : FVec Ideal S512x512 .f32) (ix2 r l) = tok (uA m c) (512 * t.val + r.val) l := by
  have hi := idx0 t
  have ht := lt64 t
  unfold iblk tok
  rw [dif_pos (by omega), View.read_apply]
  show V m c main_arg0 _ = _
  rw [V_main_arg0]
  refine congrArg (uA m c) (funext fun a => Fin.ext ?_)
  match a with
  | ⟨0, _⟩ => show win0_0.index t 0 * 512 + 1 * r.val = 512 * t.val + r.val; rw [hi.1]; omega
  | ⟨1, _⟩ => show win0_0.index t 1 * 512 + 1 * l.val = 3584 + l.val; rw [hi.2]; omega

theorem blk1 (c : Dev nD) (t : Fin cfg0.N) (k : Fin 4) (l : Fin 512) :
    (iblk m c 1 t : FVec Ideal S4x512 .f32) (ix2 k l) = wA m c (ix2 k l) := by
  unfold iblk
  rw [View.read_apply]
  show V m c main_arg1 _ = _
  rw [V_main_arg1]
  refine congrArg (wA m c) (funext fun a => Fin.ext ?_)
  match a with
  | ⟨0, _⟩ => exact (by omega : 0 * 4 + 1 * k.val = k.val)
  | ⟨1, _⟩ => exact (by omega : 0 * 512 + 1 * l.val = l.val)

theorem blk2 (c : Dev nD) (t : Fin cfg0.N) (k l : Fin 512) :
    (iblk m c 2 t : FVec Ideal S512x512 .bf16) (ix2 k l) = headEntry (waA m c) k l := by
  rw [← blockDiag_at]
  unfold iblk
  rw [View.read_apply]
  show V m c main_v12 _ = _
  rw [V_v12]
  refine congrArg (blockDiag (waA m c)) (funext fun a => Fin.ext ?_)
  match a with
  | ⟨0, _⟩ => exact (by omega : 0 * 512 + 1 * k.val = k.val)
  | ⟨1, _⟩ => exact (by omega : 0 * 512 + 1 * l.val = l.val)

theorem blk3 (c : Dev nD) (t : Fin cfg0.N) (k l : Fin 512) :
    (iblk m c 3 t : FVec Ideal S512x512 .bf16) (ix2 k l) = headEntry (wxA m c) k l := by
  rw [← blockDiag_at]
  unfold iblk
  rw [View.read_apply]
  show V m c main_v25 _ = _
  rw [V_v25]
  refine congrArg (blockDiag (wxA m c)) (funext fun a => Fin.ext ?_)
  match a with
  | ⟨0, _⟩ => exact (by omega : 0 * 512 + 1 * k.val = k.val)
  | ⟨1, _⟩ => exact (by omega : 0 * 512 + 1 * l.val = l.val)

theorem blk4 (c : Dev nD) (t : Fin cfg0.N) (l : Fin 512) :
    (iblk m c 4 t : FVec Ideal S1x512 .f32) (ix2 0 l) = baA m c (ix1 l) := by
  rw [← row_at (baA m c)]
  unfold iblk
  rw [View.read_apply]
  show V m c main_v26 _ = _
  rw [V_v26]
  refine congrArg (shapeCast S1x512 (baA m c : FVec Ideal S512 .f32) shapeCasts_S512_S1x512) (funext fun a => Fin.ext ?_)
  match a with
  | ⟨0, _⟩ => rfl
  | ⟨1, _⟩ => exact (by omega : 0 * 512 + 1 * l.val = l.val)

theorem blk5 (c : Dev nD) (t : Fin cfg0.N) (l : Fin 512) :
    (iblk m c 5 t : FVec Ideal S1x512 .f32) (ix2 0 l) = bxA m c (ix1 l) := by
  rw [← row_at (bxA m c)]
  unfold iblk
  rw [View.read_apply]
  show V m c main_v27 _ = _
  rw [V_v27]
  refine congrArg (shapeCast S1x512 (bxA m c : FVec Ideal S512 .f32) shapeCasts_S512_S1x512) (funext fun a => Fin.ext ?_)
  match a with
  | ⟨0, _⟩ => rfl
  | ⟨1, _⟩ => exact (by omega : 0 * 512 + 1 * l.val = l.val)

theorem blk6 (c : Dev nD) (t : Fin cfg0.N) (l : Fin 512) :
    (iblk m c 6 t : FVec Ideal S1x512 .f32) (ix2 0 l) = lamA m c (ix1 l) := by
  rw [← row_at (lamA m c)]
  unfold iblk
  rw [View.read_apply]
  show V m c main_v28 _ = _
  rw [V_v28]
  refine congrArg (shapeCast S1x512 (lamA m c : FVec Ideal S512 .f32) shapeCasts_S512_S1x512) (funext fun a => Fin.ext ?_)
  match a with
  | ⟨0, _⟩ => rfl
  | ⟨1, _⟩ => exact (by omega : 0 * 512 + 1 * l.val = l.val)

theorem blk7 (c : Dev nD) (t : Fin cfg0.N) (l : Fin 512) :
    (iblk m c 7 t : FVec Ideal S1x1x512 .f32) (ix3 0 0 l) = h0A m c (ix2 ⟨t.val / 8, by have := lt64 t; omega⟩ l) := by
  have hi := idx7 t
  rw [← h0_at (h0A m c)]
  unfold iblk
  rw [View.read_apply]
  show V m c main_v29 _ = _
  rw [V_v29]
  refine congrArg (shapeCast S8x1x512 (h0A m c : FVec Ideal S8x512 .f32) shapeCasts_S8x512_S8x1x512) (funext fun a => Fin.ext ?_)
  match a with
  | ⟨0, _⟩ => show win0_7.index t 0 * 1 + 1 * 0 = t.val / 8; rw [hi.1]; omega
  | ⟨1, _⟩ => rfl
  | ⟨2, _⟩ => show win0_7.index t 2 * 512 + 1 * l.val = l.val; rw [hi.2.2]; omega

end Cert.Lru

end
-- ==== Proof.Lru.KernelValue.lean ====
/- The recurrence kernel's two results: every row of the first is the state after its token, the second the last states. -/
module

public import proofs.«01_k».proof.Proof.Lru.Windows
public import proofs.«01_k».proof.Proof.Lru.BlockValue

@[expose] public section

set_option maxRecDepth 16384

noncomputable section

namespace Cert.Lru

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The state of sequence `b` after `n` tokens, from the launch contents of the arguments. -/
abbrev stA (c : Dev nD) (b : Fin 8) (l : Fin 512) (n : ℕ) : EReal :=
  state (uA m c) (wA m c) (waA m c) (wxA m c) (baA m c) (bxA m c) (lamA m c) (h0A m c) b l n

/-- What a grid point leaves, given the row it finds carried. -/
theorem row_of_carry (c : Dev nD) (t : Fin cfg0.N) (g : Fin 512 → EReal)
    (hg : ∀ l, g l = stA m c ⟨t.val / 8, by have := lt64 t; omega⟩ l (512 * (t.val % 8))) (r : Fin 512) (l : Fin 512) :
    blockOut (scanA (iblk m c 0 t) (iblk m c 1 t) (iblk m c 2 t) (iblk m c 4 t) (iblk m c 6 t))
        (scanB (iblk m c 0 t) (iblk m c 1 t) (iblk m c 2 t) (iblk m c 3 t) (iblk m c 4 t) (iblk m c 5 t) (iblk m c 6 t)) g (ix2 r l)
      = stA m c ⟨t.val / 8, by have := lt64 t; omega⟩ l (512 * (t.val % 8) + (r.val + 1)) := by
  rw [block_row_spec (uA m c) (wA m c) (waA m c) (wxA m c) (baA m c) (bxA m c) (lamA m c) (512 * t.val) (by omega) _ _ _ _ _ _ _
    (blk0 m c t) (blk1 m c t) (blk2 m c t) (blk3 m c t) (blk4 m c t) (blk5 m c t) (blk6 m c t), hg]
  unfold stA state
  rw [runFrom_add _ _ (4096 * (t.val / 8)) (512 * (t.val % 8))]
  have e : 4096 * (t.val / 8) + 512 * (t.val % 8) = 512 * t.val := by omega
  show _ = runFrom _ _ (4096 * (t.val / 8) + 512 * (t.val % 8)) _ _
  rw [e]

theorem carry_of_carry (c : Dev nD) (t : Fin cfg0.N) (g : Fin 512 → EReal)
    (hg : ∀ l, g l = stA m c ⟨t.val / 8, by have := lt64 t; omega⟩ l (512 * (t.val % 8))) (l : Fin 512) :
    carryAt (rows (scanA (iblk m c 0 t) (iblk m c 1 t) (iblk m c 2 t) (iblk m c 4 t) (iblk m c 6 t)))
        (rows (scanB (iblk m c 0 t) (iblk m c 1 t) (iblk m c 2 t) (iblk m c 3 t) (iblk m c 4 t) (iblk m c 5 t) (iblk m c 6 t))) g 64 l
      = stA m c ⟨t.val / 8, by have := lt64 t; omega⟩ l (512 * (t.val % 8) + 512) := by
  rw [block_carry_spec (uA m c) (wA m c) (waA m c) (wxA m c) (baA m c) (bxA m c) (lamA m c) (512 * t.val) (by omega) _ _ _ _ _ _ _
    (blk0 m c t) (blk1 m c t) (blk2 m c t) (blk3 m c t) (blk4 m c t) (blk5 m c t) (blk6 m c t), hg]
  unfold stA state
  rw [runFrom_add _ _ (4096 * (t.val / 8)) (512 * (t.val % 8))]
  have e : 4096 * (t.val / 8) + 512 * (t.val % 8) = 512 * t.val := by omega
  show _ = runFrom _ _ (4096 * (t.val / 8) + 512 * (t.val % 8)) _ _
  rw [e]

/-- What point `t` leaves in the two outputs' blocks and in the carried row. -/
def Left (c : Dev nD) (t : Fin cfg0.N) (x : Vec Ideal S512x512 .f32 × Vec Ideal S1x1x512 .f32 × Vec Ideal S1x512 .f32) : Prop :=
  (∀ (r : Fin 512) (l : Fin 512), x.1 (ix2 r l) = stA m c ⟨t.val / 8, by have := lt64 t; omega⟩ l (512 * (t.val % 8) + (r.val + 1)))
  ∧ (∀ l : Fin 512, x.2.1 (ix3 0 0 l) = stA m c ⟨t.val / 8, by have := lt64 t; omega⟩ l (512 * (t.val % 8) + 512))
  ∧ (∀ l : Fin 512, x.2.2 (ix2 0 l) = stA m c ⟨t.val / 8, by have := lt64 t; omega⟩ l (512 * (t.val % 8) + 512))

theorem left_A (c : Dev nD) (t : Fin cfg0.N) (h0 : t.val % 8 = 0) : Left m c t (outsAt0 m c t.val t.isLt) := by
  have hg : ∀ l, (fun l => (iblk m c 7 t : FVec Ideal S1x1x512 .f32) (ix3 0 0 l)) l = stA m c ⟨t.val / 8, by have := lt64 t; omega⟩ l (512 * (t.val % 8)) := by
    intro l
    rw [h0]
    exact blk7 m c t l
  rw [outsAt0_A m c t h0]
  refine ⟨fun r l => ?_, fun l => ?_, fun l => ?_⟩
  · dsimp only
    rw [out_A_8]
    exact row_of_carry m c t _ hg r l
  · dsimp only
    rw [out_A_9]
    exact carry_of_carry m c t _ hg l
  · dsimp only
    rw [sout_A_2]
    exact carry_of_carry m c t _ hg l

theorem left_B (c : Dev nD) (t t' : Fin cfg0.N) (h0 : ¬t.val % 8 = 0) (ht : t'.val = t.val - 1) (ih : Left m c t' (outsAt0 m c t'.val t'.isLt)) :
    Left m c t (outsAt0 m c t.val t.isLt) := by
  obtain ⟨n', hn'⟩ := t'
  dsimp only at ht ih
  subst ht
  have hg : ∀ l, (fun l => (outsAt0 m c (t.val - 1) hn').2.2 (ix2 0 l)) l = stA m c ⟨t.val / 8, by have := lt64 t; omega⟩ l (512 * (t.val % 8)) := by
    intro l
    refine (ih.2.2 l).trans ?_
    have e1 : (t.val - 1) / 8 = t.val / 8 := by omega
    have e2 : 512 * ((t.val - 1) % 8) + 512 = 512 * (t.val % 8) := by omega
    show stA m c ⟨(t.val - 1) / 8, _⟩ l (512 * ((t.val - 1) % 8) + 512) = _
    rw [e2]
    congr 1
    exact Fin.ext e1
  rw [outsAt0_B m c t h0]
  refine ⟨fun r l => ?_, fun l => ?_, fun l => ?_⟩
  · dsimp only
    rw [out_B_8]
    exact row_of_carry m c t _ hg r l
  · dsimp only
    rw [out_B_9]
    exact carry_of_carry m c t _ hg l
  · dsimp only
    rw [sout_B_2]
    exact carry_of_carry m c t _ hg l

theorem left (c : Dev nD) : ∀ (n : ℕ) (h : n < cfg0.N), Left m c ⟨n, h⟩ (outsAt0 m c n h)
  | 0, h => left_A m c ⟨0, h⟩ rfl
  | n + 1, h => by
    by_cases h0 : (n + 1) % 8 = 0
    · exact left_A m c ⟨n + 1, h⟩ h0
    · exact left_B m c ⟨n + 1, h⟩ ⟨n, Nat.lt_of_succ_lt h⟩ h0 rfl (left c n _)

/-! ## The result arrays -/

/-- Row `R` of the first result: the state of sequence `R / 4096` after its token `R % 4096`. -/
def result8 (c : Dev nD) : Buf (Elt Ideal) ((c.tc : Thread nD τ).loc main_v30_0) :=
  (fun i : S32768x512.Idx => stA m c ⟨(i 0).val / 4096, by have h : (i 0).val < 32768 := (i 0).isLt; omega⟩ (i 1) ((i 0).val % 4096 + 1) : FVec Ideal S32768x512 .f32)

/-- The second result: the state after the last token. -/
def result9 (c : Dev nD) : Buf (Elt Ideal) ((c.tc : Thread nD τ).loc main_v30_1) :=
  (fun i : S8x1x512.Idx => stA m c (i 0) (i 2) 4096 : FVec Ideal S8x1x512 .f32)

theorem idx8 : ∀ t : Fin cfg0.N, win0_8.index t 0 = t.val ∧ win0_8.index t 1 = 0 := (by decide +kernel : ∀ t : Fin grid0.N, win0_8.index t 0 = t.val ∧ win0_8.index t 1 = 0)
theorem idx9 : ∀ t : Fin cfg0.N, win0_9.index t 0 = t.val / 8 ∧ win0_9.index t 1 = 0 ∧ win0_9.index t 2 = 0 := (by decide +kernel : ∀ t : Fin grid0.N, win0_9.index t 0 = t.val / 8 ∧ win0_9.index t 1 = 0 ∧ win0_9.index t 2 = 0)

theorem stA_congr (c : Dev nD) {b b' : Fin 8} {l l' : Fin 512} {n n' : ℕ} (hb : b.val = b'.val) (hl : l.val = l'.val) (hn : n = n') :
    stA m c b l n = stA m c b' l' n' := by
  obtain rfl := Fin.ext hb
  obtain rfl := Fin.ext hl
  rw [hn]

theorem flushed8 (c : Dev nD) (t : Fin cfg0.N) (_ : (cfg0.win 8).flush t = true) :
    (dats m 0 c).flushed 8 t = ((cfg0.win 8).blk t).view.read (Elt Ideal) (result8 m c) := by
  show (cfg0.win 8).cut (grid0.coords t) ((dats m 0 c).after 8 t) = _
  rw [after0_8]
  funext j
  have hi := idx8 t
  have ht := lt64 t
  have hj : j = (ix2 (j 0) (j 1) : S512x512.Idx) := funext fun a => Fin.ext (match a with | ⟨0, _⟩ => rfl | ⟨1, _⟩ => rfl)
  have e := (left m c t.val t.isLt).1 (j 0) (j 1)
  rw [View.read_apply]
  refine (congrArg (outsAt0 m c t.val t.isLt).1 hj).trans (e.trans ?_)
  have hlt : (j 0).val < 512 := (j 0).isLt
  have q0 : ((((cfg0.win 8).blk t).view.emb j) 0).val = 512 * t.val + (j 0).val := by
    show win0_8.index t 0 * 512 + 1 * (j 0).val = _
    rw [hi.1]; omega
  have q1 : ((((cfg0.win 8).blk t).view.emb j) 1).val = (j 1).val := by
    show win0_8.index t 1 * 512 + 1 * (j 1).val = _
    rw [hi.2]; omega
  refine stA_congr m c ?_ q1.symm ?_
  · show t.val / 8 = ((((cfg0.win 8).blk t).view.emb j) 0).val / 4096
    rw [q0]; omega
  · show 512 * (t.val % 8) + ((j 0).val + 1) = ((((cfg0.win 8).blk t).view.emb j) 0).val % 4096 + 1
    rw [q0]; omega

theorem flushed9 (c : Dev nD) (t : Fin cfg0.N) (hf : (cfg0.win 9).flush t = true) :
    (dats m 0 c).flushed 9 t = ((cfg0.win 9).blk t).view.read (Elt Ideal) (result9 m c) := by
  have h3 := (flush0_9 t).mp hf
  show (cfg0.win 9).cut (grid0.coords t) ((dats m 0 c).after 9 t) = _
  rw [after0_9]
  funext j
  have hi := idx9 t
  have ht := lt64 t
  have z0 : (j 0).val < 1 := (j 0).isLt
  have z1 : (j 1).val < 1 := (j 1).isLt
  have hj : j = (ix3 0 0 (j 2) : S1x1x512.Idx) := funext fun a => Fin.ext (match a with
    | ⟨0, _⟩ => (by show (j 0).val = 0; omega)
    | ⟨1, _⟩ => (by show (j 1).val = 0; omega)
    | ⟨2, _⟩ => rfl)
  have e := (left m c t.val t.isLt).2.1 (j 2)
  rw [View.read_apply]
  refine (congrArg (outsAt0 m c t.val t.isLt).2.1 hj).trans (e.trans ?_)
  have q0 : ((((cfg0.win 9).blk t).view.emb j) 0).val = t.val / 8 := by
    show win0_9.index t 0 * 1 + 1 * (j 0).val = _
    rw [hi.1]; omega
  have q2 : ((((cfg0.win 9).blk t).view.emb j) 2).val = (j 2).val := by
    show win0_9.index t 2 * 512 + 1 * (j 2).val = _
    rw [hi.2.2]; omega
  refine stA_congr m c q0.symm q2.symm ?_
  show 512 * (t.val % 8) + 512 = 4096
  rw [h3]

theorem final8 (c : Dev nD) : (dats m 0 c).arrAt 8 cfg0.N = result8 m c :=
  (dats m 0 c).arrAt_eq_of_cover 8 (result8 m c) (flushed8 m c) fun i => by
    have h0 : (i 0 : Nat) < 32768 := (i 0).isLt
    have h1 : (i 1 : Nat) < 512 := (i 1).isLt
    have hN : cfg0.N = 64 := N_0
    have hlt : (i 0 : Nat) / 512 < cfg0.N := by omega
    refine ⟨⟨(i 0 : Nat) / 512, hlt⟩, flush0_8 _, ?_⟩
    have hi := idx8 ⟨(i 0 : Nat) / 512, hlt⟩
    dsimp only at hi
    generalize (⟨(i 0 : Nat) / 512, hlt⟩ : Fin cfg0.N) = t at hi ⊢
    show i ∈ ((View.whole main_v30_0).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [hi.1]; omega
    | ⟨1, _⟩ => show win0_8.index t 1 * 512 ≤ (i 1 : Nat) ∧ (i 1 : Nat) < win0_8.index t 1 * 512 + 512
                rw [hi.2]; omega

theorem final9 (c : Dev nD) : (dats m 0 c).arrAt 9 cfg0.N = result9 m c :=
  (dats m 0 c).arrAt_eq_of_cover 9 (result9 m c) (flushed9 m c) fun i => by
    have h0 : (i 0 : Nat) < 8 := (i 0).isLt
    have h1 : (i 1 : Nat) < 1 := (i 1).isLt
    have h2 : (i 2 : Nat) < 512 := (i 2).isLt
    have hN : cfg0.N = 64 := N_0
    have hlt : 8 * (i 0 : Nat) + 7 < cfg0.N := by omega
    refine ⟨⟨8 * (i 0 : Nat) + 7, hlt⟩, (flush0_9 _).mpr (by show (8 * (i 0 : Nat) + 7) % 8 = 7; omega), ?_⟩
    have hi := idx9 ⟨8 * (i 0 : Nat) + 7, hlt⟩
    dsimp only at hi
    generalize (⟨8 * (i 0 : Nat) + 7, hlt⟩ : Fin cfg0.N) = t at hi ⊢
    show i ∈ ((View.whole main_v30_1).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [hi.1]; omega
    | ⟨1, _⟩ => show win0_9.index t 1 * 1 ≤ (i 1 : Nat) ∧ (i 1 : Nat) < win0_9.index t 1 * 1 + 1
                rw [hi.2.1]; omega
    | ⟨2, _⟩ => show win0_9.index t 2 * 512 ≤ (i 2 : Nat) ∧ (i 2 : Nat) < win0_9.index t 2 * 512 + 512
                rw [hi.2.2]; omega

/-- The run, read: both results, and the arguments unchanged. -/
theorem run : θ_run defs (onTc (τ := τ) (main (F := Ideal))) ⟨m, fun _ => 0, ρ⟩ fun r => ∀ c : Dev nD,
      r.2.mem ((c.tc : Thread nD τ).loc main_v30_0) = result8 m c ∧ r.2.mem ((c.tc : Thread nD τ).loc main_v30_1) = result9 m c :=
  (θ_run defs _ _).mono (fun _ h c => ⟨((h c).1 8).trans (final8 m c), ((h c).1 9).trans (final9 m c)⟩) (run_main m ρ)

end Cert.Lru

end
-- ==== Proof.Lru.RefEntry.lean ====
/- The reference's arrays before its loop, as functions of the arguments. -/
module

public import proofs.«01_k».proof.Proof.Lru.Spec
public import proofs.«01_k».proof.Proof.Gen.ReferenceIdeal.Run

@[expose] public section

noncomputable section

namespace Cert.Lru.Ref

open Cert.ReferenceIdeal Cert.ReferenceIdeal.Gen Cert.ReferenceIdeal.Value
open Idealize.ShloMosaic Idealize.ShloMosaic.TcCoe Idealize.ShloMosaic.StableHlo

/-- An array of this shape. -/
abbrev Of (s : Shape) := s.Idx → Ideal .f32

/-- The branch's channels as 8 sequences of 64 rows of 64 tokens, two zeros before each row and one after. -/
def padded (u : Of S34816x4608) : Of S8x64x67x512 :=
  pad S8x64x67x512 ![0, 0, 2, 0] ![0, 0, 1, 0] ![0, 0, 0, 0]
    (shapeCast S8x64x64x512 (shapeCast S8x4096x512 (extractStridedSlice S32768x512 ![0, 3584] u slices_S34816x4608_S32768x512_0_3584)
      shapeCasts_S32768x512_S8x4096x512) shapeCasts_S8x4096x512_S8x64x64x512)
    (sitofp (F := Ideal) .f32 (constantI S_ 32 0#32)) pads_S8x64x64x512_S8x64x67x512_000_000_210_000 h_S_

/-- One row of the convolution's weights, along every token. -/
def wrow (off : Fin 2 → ℕ) (w : Of S4x512) (h : S4x512.Slices off S1x512) : Of S8x64x64x512 :=
  broadcastInDim S8x64x64x512 ![0, 1, 2, 3] bcast_S1x1x1x512_S8x64x64x512_0_1_2_3
    (broadcastInDim S1x1x1x512 ![3] bcast_S512_S1x1x1x512_3 (shapeCast S512 (extractStridedSlice S1x512 off w h) shapeCasts_S1x512_S512))

/-- The convolution. -/
def convR (p : Of S8x64x67x512) (w : Of S4x512) : Of S8x4096x512 :=
  shapeCast S8x4096x512
    (addf (F := Ideal) (addf (F := Ideal) (addf (F := Ideal) (addf (F := Ideal)
      (broadcastInDim S8x64x64x512 ![] bcast_S_S8x64x64x512 (constant (F := Ideal) S_ .f32 0x00000000#32))
      (mulf (F := Ideal) (extractStridedSlice S8x64x64x512 ![0, 0, 0, 0] p slices_S8x64x67x512_S8x64x64x512_0_0_0_0) (wrow ![0, 0] w slices_S4x512_S1x512_0_0)))
      (mulf (F := Ideal) (extractStridedSlice S8x64x64x512 ![0, 0, 1, 0] p slices_S8x64x67x512_S8x64x64x512_0_0_1_0) (wrow ![1, 0] w slices_S4x512_S1x512_1_0)))
      (mulf (F := Ideal) (extractStridedSlice S8x64x64x512 ![0, 0, 2, 0] p slices_S8x64x67x512_S8x64x64x512_0_0_2_0) (wrow ![2, 0] w slices_S4x512_S1x512_2_0)))
      (mulf (F := Ideal) (extractStridedSlice S8x64x64x512 ![0, 0, 3, 0] p slices_S8x64x67x512_S8x64x64x512_0_0_3_0) (wrow ![3, 0] w slices_S4x512_S1x512_3_0)))
    shapeCasts_S8x64x64x512_S8x4096x512

/-- The number one at every entry. -/
def ones : Of S8x4096x512 := broadcastInDim S8x4096x512 ![] bcast_S_S8x4096x512 (constant (F := Ideal) S_ .f32 0x3F800000#32)

/-- A vector along every token. -/
def along (b : Of S512) : Of S8x4096x512 :=
  broadcastInDim S8x4096x512 ![0, 1, 2] bcast_S1x1x512_S8x4096x512_0_1_2 (broadcastInDim S1x1x512 ![2] bcast_S512_S1x1x512_2 b)

/-- A gate before the logistic function. -/
def preR (y : Of S8x4096x512) (a : Of S8x64x64) (b : Of S512) : Of S8x4096x512 :=
  addf (F := Ideal) (shapeCast S8x4096x512 (transpose S8x4096x8x64 [2, 3, 0, 1]
    (Host.dotGeneral (F := Ideal) dot_S8x64x64_S8x4096x8x64_S8x64x8x4096_1_3_2_01_0_2 none a (shapeCast S8x4096x8x64 y shapeCasts_S8x4096x512_S8x4096x8x64))
    transposes_S8x64x8x4096_S8x4096x8x64_2_3_0_1) shapeCasts_S8x4096x8x64_S8x4096x512) (along b)

/-- The logistic function. -/
def sigm (x : Of S8x4096x512) : Of S8x4096x512 :=
  Host.divf (F := Ideal) ones (addf (F := Ideal) ones (Host.exp (F := Ideal) (Host.negf (F := Ideal) x)))

/-- `softplus`. -/
def softR (x : Of S512) : Of S512 :=
  let z := broadcastInDim S512 ![] bcast_S_S512 (constant (F := Ideal) S_ .f32 0x00000000#32)
  select (cmpf (F := Ideal) .une (subf (F := Ideal) x z) (subf (F := Ideal) x z)) (addf (F := Ideal) x z)
    (addf (F := Ideal) (maximumf (F := Ideal) x z) (Host.log1p (F := Ideal) (Host.exp (F := Ideal) (Host.negf (F := Ideal) (Host.absf (F := Ideal) (subf (F := Ideal) x z))))))

variable (V : Valuation τ sig (Elt Ideal))

set_option maxRecDepth 8192

/-- What a stretch of operations leaves in a buffer, and what it starts from. -/
abbrev at' (V : Valuation τ sig (Elt Ideal)) (r : Ref sig .tc) := V (Proc.devRef (τ := τ) .tc r)

theorem s0_v2 : at' (after hostOps0 V) main_v2 = shapeCast S8x64x64x512 (shapeCast S8x4096x512 (extractStridedSlice S32768x512 ![0, 3584] (at' V main_arg0) slices_S34816x4608_S32768x512_0_3584)
      shapeCasts_S32768x512_S8x4096x512) shapeCasts_S8x4096x512_S8x64x64x512 := by
  show after hostOps0 V (Proc.devRef .tc main_v2) = _
  unfold hostOps0
  after_results
  rfl

theorem s0_c : at' (after hostOps0 V) main_c = constantI S_ 32 0#32 := by
  show after hostOps0 V (Proc.devRef .tc main_c) = _
  unfold hostOps0
  after_results

theorem s1_v3 : at' (after hostOps0_1 (after hostOps0 V)) main_v3 = padded (at' V main_arg0) := by
  have e2 := s0_v2 V
  have ec := s0_c V
  have h : ∀ W : Valuation τ sig (Elt Ideal), at' (after hostOps0_1 W) main_v3
      = pad S8x64x67x512 ![0, 0, 2, 0] ![0, 0, 1, 0] ![0, 0, 0, 0] (at' W main_v2) (sitofp (F := Ideal) .f32 (at' W main_c)) pads_S8x64x64x512_S8x64x67x512_000_000_210_000 h_S_ := by
    intro W
    show after hostOps0_1 W (Proc.devRef .tc main_v3) = _
    unfold hostOps0_1
    after_results
    rfl
  rw [h, e2, ec]
  rfl

theorem s2_v33 : at' (after hostOps0_2 V) main_v33 = convR (at' V main_v3) (at' V main_arg1) := by
  show after hostOps0_2 V (Proc.devRef .tc main_v33) = _
  unfold hostOps0_2
  after_results
  rfl

theorem s2_v58 : at' (after hostOps0_2 V) main_v58 = sigm (preR (convR (at' V main_v3) (at' V main_arg1)) (at' V main_arg3) (at' V main_arg5)) := by
  show after hostOps0_2 V (Proc.devRef .tc main_v58) = _
  unfold hostOps0_2
  after_results
  rfl

theorem s2_v60 : at' (after hostOps0_2 V) main_v60 = mulf (F := Ideal) (broadcastInDim S8x4096x512 ![] bcast_S_S8x4096x512 (constant (F := Ideal) S_ .f32 0xC1000000#32))
    (sigm (preR (convR (at' V main_v3) (at' V main_arg1)) (at' V main_arg2) (at' V main_arg4))) := by
  show after hostOps0_2 V (Proc.devRef .tc main_v60) = _
  unfold hostOps0_2
  after_results
  rfl

/-- Minus a vector. -/
def negR (x : Of S512) : Of S512 := Host.negf (F := Ideal) x

theorem s2_v61 : at' (after hostOps0_2 V) main_v61 = negR (at' V main_arg6) := by
  show after hostOps0_2 V (Proc.devRef .tc main_v61) = _
  unfold hostOps0_2
  after_results
  rfl

theorem s3_v62 : at' (after hostOps0_3 V) main_v62 = softR (at' V main_v61) := by
  show after hostOps0_3 V (Proc.devRef .tc main_v62) = _
  unfold hostOps0_3
  after_results
  rfl

/-- The logarithm of the decay. -/
def logR (r : Of S8x4096x512) (s : Of S512) : Of S8x4096x512 := mulf (F := Ideal) r (along s)

theorem s4_v0 : at' (after hostOps0_4 V) main_v77_0 = transpose S4096x8x512 [1, 0, 2] (Host.exp (F := Ideal) (logR (at' V main_v60) (at' V main_v62))) transposes_S8x4096x512_S4096x8x512_1_0_2 := by
  show after hostOps0_4 V (Proc.devRef .tc main_v77_0) = _
  unfold hostOps0_4
  after_results
  rfl

theorem s4_v1 : at' (after hostOps0_4 V) main_v77_1 = transpose S4096x8x512 [1, 0, 2]
    (mulf (F := Ideal) (Host.sqrt (F := Ideal) (Host.negf (F := Ideal) (Host.expm1 (F := Ideal) (mulf (F := Ideal) (broadcastInDim S8x4096x512 ![] bcast_S_S8x4096x512 (constant (F := Ideal) S_ .f32 0x40000000#32)) (logR (at' V main_v60) (at' V main_v62))))))
      (mulf (F := Ideal) (at' V main_v58) (at' V main_v33))) transposes_S8x4096x512_S4096x8x512_1_0_2 := by
  show after hostOps0_4 V (Proc.devRef .tc main_v77_1) = _
  unfold hostOps0_4
  after_results
  rfl

theorem s4_v2 : at' (after hostOps0_4 V) main_v77_2 = constantI S_ 32 0#32 := by
  show after hostOps0_4 V (Proc.devRef .tc main_v77_2) = _
  unfold hostOps0_4
  after_results
  rfl

theorem s4_v3 : at' (after hostOps0_4 V) main_v77_3 = at' V main_arg7 := by
  show after hostOps0_4 V (Proc.devRef .tc main_v77_3) = _
  unfold hostOps0_4
  after_results
  rfl

theorem k0_arg1 : at' (after hostOps0 V) main_arg1 = at' V main_arg1 := by
  show after hostOps0 V (Proc.devRef .tc main_arg1) = _
  unfold hostOps0
  after_results

theorem k1_arg1 : at' (after hostOps0_1 V) main_arg1 = at' V main_arg1 := by
  show after hostOps0_1 V (Proc.devRef .tc main_arg1) = _
  unfold hostOps0_1
  after_results

theorem k0_arg2 : at' (after hostOps0 V) main_arg2 = at' V main_arg2 := by
  show after hostOps0 V (Proc.devRef .tc main_arg2) = _
  unfold hostOps0
  after_results

theorem k1_arg2 : at' (after hostOps0_1 V) main_arg2 = at' V main_arg2 := by
  show after hostOps0_1 V (Proc.devRef .tc main_arg2) = _
  unfold hostOps0_1
  after_results

theorem k0_arg3 : at' (after hostOps0 V) main_arg3 = at' V main_arg3 := by
  show after hostOps0 V (Proc.devRef .tc main_arg3) = _
  unfold hostOps0
  after_results

theorem k1_arg3 : at' (after hostOps0_1 V) main_arg3 = at' V main_arg3 := by
  show after hostOps0_1 V (Proc.devRef .tc main_arg3) = _
  unfold hostOps0_1
  after_results

theorem k0_arg4 : at' (after hostOps0 V) main_arg4 = at' V main_arg4 := by
  show after hostOps0 V (Proc.devRef .tc main_arg4) = _
  unfold hostOps0
  after_results

theorem k1_arg4 : at' (after hostOps0_1 V) main_arg4 = at' V main_arg4 := by
  show after hostOps0_1 V (Proc.devRef .tc main_arg4) = _
  unfold hostOps0_1
  after_results

theorem k0_arg5 : at' (after hostOps0 V) main_arg5 = at' V main_arg5 := by
  show after hostOps0 V (Proc.devRef .tc main_arg5) = _
  unfold hostOps0
  after_results

theorem k1_arg5 : at' (after hostOps0_1 V) main_arg5 = at' V main_arg5 := by
  show after hostOps0_1 V (Proc.devRef .tc main_arg5) = _
  unfold hostOps0_1
  after_results

theorem k0_arg6 : at' (after hostOps0 V) main_arg6 = at' V main_arg6 := by
  show after hostOps0 V (Proc.devRef .tc main_arg6) = _
  unfold hostOps0
  after_results

theorem k1_arg6 : at' (after hostOps0_1 V) main_arg6 = at' V main_arg6 := by
  show after hostOps0_1 V (Proc.devRef .tc main_arg6) = _
  unfold hostOps0_1
  after_results

theorem k0_arg7 : at' (after hostOps0 V) main_arg7 = at' V main_arg7 := by
  show after hostOps0 V (Proc.devRef .tc main_arg7) = _
  unfold hostOps0
  after_results

theorem k1_arg7 : at' (after hostOps0_1 V) main_arg7 = at' V main_arg7 := by
  show after hostOps0_1 V (Proc.devRef .tc main_arg7) = _
  unfold hostOps0_1
  after_results

theorem k2_arg7 : at' (after hostOps0_2 V) main_arg7 = at' V main_arg7 := by
  show after hostOps0_2 V (Proc.devRef .tc main_arg7) = _
  unfold hostOps0_2
  after_results

theorem k3_arg7 : at' (after hostOps0_3 V) main_arg7 = at' V main_arg7 := by
  show after hostOps0_3 V (Proc.devRef .tc main_arg7) = _
  unfold hostOps0_3
  after_results

theorem k3_v33 : at' (after hostOps0_3 V) main_v33 = at' V main_v33 := by
  show after hostOps0_3 V (Proc.devRef .tc main_v33) = _
  unfold hostOps0_3
  after_results

theorem k3_v58 : at' (after hostOps0_3 V) main_v58 = at' V main_v58 := by
  show after hostOps0_3 V (Proc.devRef .tc main_v58) = _
  unfold hostOps0_3
  after_results

theorem k3_v60 : at' (after hostOps0_3 V) main_v60 = at' V main_v60 := by
  show after hostOps0_3 V (Proc.devRef .tc main_v60) = _
  unfold hostOps0_3
  after_results

variable (m : (ℓ : Loc nD τ sig) → Buf (Elt Ideal) ℓ) (c : Dev nD)

/-- An argument array. -/
abbrev arg (r : Ref sig .tc) := m ((c.tc : Thread nD τ).loc r)

/-- The convolution of the arguments, and the logarithm of the decay. -/
def convA : Of S8x4096x512 := convR (padded (arg m c main_arg0)) (arg m c main_arg1)
def logRA : Of S8x4096x512 := logR (mulf (F := Ideal) (broadcastInDim S8x4096x512 ![] bcast_S_S8x4096x512 (constant (F := Ideal) S_ .f32 0xC1000000#32))
    (sigm (preR (convA m c) (arg m c main_arg2) (arg m c main_arg4)))) (softR (negR (arg m c main_arg6)))
/-- The decay, and the gated input. -/
def decR : Of S8x4096x512 := Host.exp (F := Ideal) (logRA m c)
def inpR : Of S8x4096x512 := mulf (F := Ideal) (Host.sqrt (F := Ideal) (Host.negf (F := Ideal) (Host.expm1 (F := Ideal) (mulf (F := Ideal) (broadcastInDim S8x4096x512 ![] bcast_S_S8x4096x512 (constant (F := Ideal) S_ .f32 0x40000000#32)) (logRA m c)))))
      (mulf (F := Ideal) (sigm (preR (convA m c) (arg m c main_arg3) (arg m c main_arg5))) (convA m c))

/-- What the operations before the loop leave. -/
abbrev E : Valuation τ sig (Elt Ideal) := entryContents preI m c

theorem entry_eq : E m c = after hostOps0_4 (after hostOps0_3 (after hostOps0_2 (after hostOps0_1 (after hostOps0 (fun b => m (c, b)))))) := rfl

theorem entry_0 : at' (E m c) main_v77_0 = transpose S4096x8x512 [1, 0, 2] (decR m c) transposes_S8x4096x512_S4096x8x512_1_0_2 := by
  rw [entry_eq, s4_v0, k3_v60, s2_v60, s3_v62, s2_v61, s1_v3, k1_arg1, k0_arg1, k1_arg2, k0_arg2, k1_arg4, k0_arg4, k1_arg6, k0_arg6]
  rfl

theorem entry_1 : at' (E m c) main_v77_1 = transpose S4096x8x512 [1, 0, 2] (inpR m c) transposes_S8x4096x512_S4096x8x512_1_0_2 := by
  rw [entry_eq, s4_v1, k3_v60, s2_v60, s3_v62, s2_v61, k3_v58, s2_v58, k3_v33, s2_v33, s1_v3, k1_arg1, k0_arg1, k1_arg2, k0_arg2, k1_arg3, k0_arg3, k1_arg4, k0_arg4, k1_arg5, k0_arg5, k1_arg6, k0_arg6]
  rfl

theorem entry_2 : at' (E m c) main_v77_2 = constantI S_ 32 0#32 := by
  rw [entry_eq, s4_v2]

theorem entry_3 : at' (E m c) main_v77_3 = arg m c main_arg7 := by
  rw [entry_eq, s4_v3, k3_arg7, k2_arg7, k1_arg7, k0_arg7]

end Cert.Lru.Ref

end
-- ==== Proof.Lru.RefRead.lean ====
/- The reference's arrays before its loop, entry by entry. -/
module

public import proofs.«01_k».proof.Proof.Lru.RefEntry

@[expose] public section

noncomputable section

namespace Cert.Lru.Ref

open Cert.ReferenceIdeal Cert.ReferenceIdeal.Gen Cert.ReferenceIdeal.Value
open Idealize.ShloMosaic Idealize.ShloMosaic.TcCoe Idealize.ShloMosaic.StableHlo

theorem ix2_congr {a b : ℕ} {i i' : Fin a} {j j' : Fin b} (h : i.val = i'.val) (h' : j.val = j'.val) : ix2 i j = ix2 i' j' := by
  rw [Fin.ext h, Fin.ext h']

theorem ix4_third (p : Of S8x64x67x512) (b : Fin 8) (a : Fin 64) (l : Fin 512) {k k' : ℕ} (e : k = k') {h : k < 67} {h' : k' < 67} :
    p (ix4 b a ⟨k, h⟩ l) = p (ix4 b a ⟨k', h'⟩ l) := by subst e; rfl

theorem ix3_third (y : Of S8x4096x512) (b : Fin 8) (n : Fin 4096) {k k' : ℕ} (e : k = k') {h : k < 512} {h' : k' < 512} :
    y (ix3 b n ⟨k, h⟩) = y (ix3 b n ⟨k', h'⟩) := by subst e; rfl

theorem padded_apply (u : Of S34816x4608) (b : Fin 8) (a : Fin 64) (k : Fin 67) (l : Fin 512) :
    padded u (ix4 b a k l) = (if 2 ≤ k.val ∧ k.val < 66 then tok u (4096 * b.val + 64 * a.val + k.val - 2) l else 0 : EReal) := by
  pointwise [padded]
  have e0 : (FloatOps.sitofp (F := Ideal) FTy.f32 0#32 : EReal) = 0 := by
    show (((0#32 : BitVec 32).toInt : ℝ) : EReal) = 0
    simp
  by_cases h : 2 ≤ k.val ∧ k.val < 66
  · rw [dif_pos ⟨h.1, by omega⟩, if_pos h]
    unfold tok
    rw [dif_pos (by omega)]
    exact congrArg u (ix2_congr (by show b.val * 4096 + a.val * 64 + (k.val - 2) = 4096 * b.val + 64 * a.val + k.val - 2; omega) rfl)
  · rw [dif_neg (by omega), if_neg h]
    exact e0

theorem wrow_apply0 (w : Of S4x512) (b : Fin 8) (a r : Fin 64) (l : Fin 512) : wrow ![0, 0] w slices_S4x512_S1x512_0_0 (ix4 b a r l) = w (ix2 0 l) := by
  pointwise [wrow]
theorem wrow_apply1 (w : Of S4x512) (b : Fin 8) (a r : Fin 64) (l : Fin 512) : wrow ![1, 0] w slices_S4x512_S1x512_1_0 (ix4 b a r l) = w (ix2 1 l) := by
  pointwise [wrow]
theorem wrow_apply2 (w : Of S4x512) (b : Fin 8) (a r : Fin 64) (l : Fin 512) : wrow ![2, 0] w slices_S4x512_S1x512_2_0 (ix4 b a r l) = w (ix2 2 l) := by
  pointwise [wrow]
theorem wrow_apply3 (w : Of S4x512) (b : Fin 8) (a r : Fin 64) (l : Fin 512) : wrow ![3, 0] w slices_S4x512_S1x512_3_0 (ix4 b a r l) = w (ix2 3 l) := by
  pointwise [wrow]

theorem convR_apply (p : Of S8x64x67x512) (w : Of S4x512) (b : Fin 8) (n : Fin 4096) (l : Fin 512) :
    convR p w (ix3 b n l) = (((((0 : EReal)
      + p (ix4 b ⟨n.val / 64, by omega⟩ ⟨n.val % 64, by omega⟩ l) * w (ix2 0 l))
      + p (ix4 b ⟨n.val / 64, by omega⟩ ⟨n.val % 64 + 1, by omega⟩ l) * w (ix2 1 l))
      + p (ix4 b ⟨n.val / 64, by omega⟩ ⟨n.val % 64 + 2, by omega⟩ l) * w (ix2 2 l))
      + p (ix4 b ⟨n.val / 64, by omega⟩ ⟨n.val % 64 + 3, by omega⟩ l) * w (ix2 3 l) : EReal) := by
  pointwise [convR, wrow]
  rw [ix4_third p b _ l (Nat.add_comm 1 (n.val % 64)), ix4_third p b _ l (Nat.add_comm 2 (n.val % 64)), ix4_third p b _ l (Nat.add_comm 3 (n.val % 64))]

theorem preR_apply (y : Of S8x4096x512) (a : Of S8x64x64) (bb : Of S512) (b : Fin 8) (n : Fin 4096) (l : Fin 512) :
    preR y a bb (ix3 b n l) = ((∑ i : Fin 64, y (ix3 b n ⟨64 * (l.val / 64) + i.val, by omega⟩) * a (ix3 ⟨l.val / 64, by omega⟩ i ⟨l.val % 64, by omega⟩)) + bb (ix1 l) : EReal) := by
  pointwise [preR, along]
  refine congrArg (fun s : EReal => s + bb (ix1 l)) (Finset.sum_congr rfl fun i _ => ?_)
  rw [mul_comm, ix3_third y b n (Nat.mul_comm 64 (l.val / 64) ▸ rfl : l.val / 64 * 64 + i.val = 64 * (l.val / 64) + i.val)]

theorem sigm_apply (x : Of S8x4096x512) (b : Fin 8) (n : Fin 4096) (l : Fin 512) : sigm x (ix3 b n l) = Ideal.logistic (x (ix3 b n l)) := by
  pointwise [sigm, ones]
  rfl

theorem softR_apply (x : Of S512) (l : Fin 512) : softR (negR x) (ix1 l) = softplusNeg (x (ix1 l)) := by
  pointwise [softR, negR]
  rw [if_neg (fun h => h rfl)]
  unfold softplusNeg
  refine congrArg (fun s : EReal => max (-x (ix1 l)) 0 + Ideal.log (1 + Ideal.exp (-s))) ?_
  show max (-x (ix1 l)) (- -x (ix1 l)) = _
  rw [neg_neg, max_comm]

theorem padded_tap (u : Of S34816x4608) (b : Fin 8) (n : Fin 4096) (l : Fin 512) (k : ℕ) (hk : k < 4) {h : n.val % 64 + k < 67} {ha : n.val / 64 < 64} :
    padded u (ix4 b ⟨n.val / 64, ha⟩ ⟨n.val % 64 + k, h⟩ l) = (tap u (4096 * b.val + n.val) l k : EReal) := by
  rw [padded_apply]
  unfold tap
  have e1 : (4096 * b.val + n.val) % 64 = n.val % 64 := by omega
  rw [e1]
  refine if_congr Iff.rfl (congrArg (fun t => tok u t l) ?_) rfl
  show 4096 * b.val + 64 * (n.val / 64) + (n.val % 64 + k) - 2 = _
  omega

theorem conv_apply (u : Of S34816x4608) (w : Of S4x512) (b : Fin 8) (n : Fin 4096) (l : Fin 512) :
    convR (padded u) w (ix3 b n l) = (conv u w (4096 * b.val + n.val) l : EReal) := by
  rw [convR_apply, zero_add]
  unfold conv
  rw [← padded_tap u b n l 0 (by omega) (h := by omega) (ha := by omega), ← padded_tap u b n l 1 (by omega) (h := by omega) (ha := by omega),
    ← padded_tap u b n l 2 (by omega) (h := by omega) (ha := by omega), ← padded_tap u b n l 3 (by omega) (h := by omega) (ha := by omega)]
  rfl

theorem gate_apply (u : Of S34816x4608) (w : Of S4x512) (a : Of S8x64x64) (bb : Of S512) (b : Fin 8) (n : Fin 4096) (l : Fin 512) :
    sigm (preR (convR (padded u) w) a bb) (ix3 b n l) = (gate u w a bb (4096 * b.val + n.val) l : EReal) := by
  rw [sigm_apply, preR_apply]
  unfold gate
  simp only [conv_apply]

theorem logR_apply (r : Of S8x4096x512) (s : Of S512) (b : Fin 8) (n : Fin 4096) (l : Fin 512) :
    logR (mulf (F := Ideal) (broadcastInDim S8x4096x512 ![] bcast_S_S8x4096x512 (constant (F := Ideal) S_ .f32 0xC1000000#32)) r) s (ix3 b n l)
      = (((-8 : ℝ) : EReal) * r (ix3 b n l) * s (ix1 l) : EReal) := by
  pointwise [logR, along]
  rw [neg8_f32]

theorem inner_apply (g : Of S8x4096x512) (b : Fin 8) (n : Fin 4096) (l : Fin 512) :
    Host.sqrt (F := Ideal) (Host.negf (F := Ideal) (Host.expm1 (F := Ideal) (mulf (F := Ideal) (broadcastInDim S8x4096x512 ![] bcast_S_S8x4096x512 (constant (F := Ideal) S_ .f32 0x40000000#32)) g))) (ix3 b n l)
      = (Ideal.sqrt (1 - Ideal.exp (((2 : ℝ) : EReal) * g (ix3 b n l))) : EReal) := by
  pointwise []

  rw [two_f32, neg_expm1]

variable (m : (ℓ : Loc nD τ sig) → Buf (Elt Ideal) ℓ) (c : Dev nD)

theorem logRA_apply (b : Fin 8) (n : Fin 4096) (l : Fin 512) :
    logRA m c (ix3 b n l) = (logA (arg m c main_arg0) (arg m c main_arg1) (arg m c main_arg2) (arg m c main_arg4) (arg m c main_arg6) (4096 * b.val + n.val) l : EReal) := by
  unfold logRA convA
  rw [logR_apply, softR_apply, gate_apply]
  rfl

theorem decR_apply (b : Fin 8) (n : Fin 4096) (l : Fin 512) :
    decR m c (ix3 b n l) = (dec (arg m c main_arg0) (arg m c main_arg1) (arg m c main_arg2) (arg m c main_arg4) (arg m c main_arg6) (4096 * b.val + n.val) l : EReal) := by
  show Ideal.exp (logRA m c (ix3 b n l)) = _
  rw [logRA_apply]
  rfl

theorem inpR_apply (b : Fin 8) (n : Fin 4096) (l : Fin 512) :
    inpR m c (ix3 b n l) = (inp (arg m c main_arg0) (arg m c main_arg1) (arg m c main_arg2) (arg m c main_arg3) (arg m c main_arg4) (arg m c main_arg5) (arg m c main_arg6) (4096 * b.val + n.val) l : EReal) := by
  have e1 := inner_apply (logRA m c) b n l
  have e2 := gate_apply (arg m c main_arg0) (arg m c main_arg1) (arg m c main_arg3) (arg m c main_arg5) b n l
  have e3 := conv_apply (arg m c main_arg0) (arg m c main_arg1) b n l
  rw [logRA_apply] at e1
  exact congrArg₂ (fun x y : EReal => x * y) e1 (congrArg₂ (fun x y : EReal => x * y) e2 e3)

end Cert.Lru.Ref

end
-- ==== Proof.Lru.RefLoop.lean ====
/- The reference's loop: after `k` trips the carried state is the state after `k` tokens, and its first `k` rows are filled. -/
module

public import proofs.«01_k».proof.Proof.Lru.RefRead

@[expose] public section

noncomputable section

namespace Cert.Lru.Ref

open Cert.ReferenceIdeal Cert.ReferenceIdeal.Gen Cert.ReferenceIdeal.Value
open Idealize.ShloMosaic Idealize.ShloMosaic.TcCoe Idealize.ShloMosaic.StableHlo

/-- A dynamic slice of one row, read at an index. -/
theorem row_apply (A : Of S4096x8x512) (st : Fin 3 → Int) (k : ℕ) (hk : k < 4096) (h0 : st 0 = k) (h1 : st 1 = 0) (h2 : st 2 = 0)
    (h : S4096x8x512.Slices (fun _ => 0) S1x8x512) (z : Fin 1) (b : Fin 8) (l : Fin 512) :
    Host.dynamicSlice S1x8x512 A st h (ix3 z b l) = A (ix3 ⟨k, hk⟩ b l) := by
  have hz : z.val = 0 := by omega
  unfold Host.dynamicSlice extractStridedSlice
  refine congrArg A (funext fun a => Fin.ext ?_)
  match a with
  | ⟨0, _⟩ => show (min (max (st 0) 0) ((4096 - 1 : Nat) : Int)).toNat + z.val = k; rw [h0]; omega
  | ⟨1, _⟩ => show (min (max (st 1) 0) ((8 - 8 : Nat) : Int)).toNat + b.val = b.val; rw [h1]; omega
  | ⟨2, _⟩ => show (min (max (st 2) 0) ((512 - 512 : Nat) : Int)).toNat + l.val = l.val; rw [h2]; omega

/-- An array with one row replaced, read at an index. -/
theorem set_row_apply (A : Of S4096x8x512) (R : Of S1x8x512) (st : Fin 3 → Int) (k : ℕ) (hk : k < 4096) (h0 : st 0 = k) (h1 : st 1 = 0) (h2 : st 2 = 0)
    (h : S4096x8x512.Slices (fun _ => 0) S1x8x512) (n : Fin 4096) (b : Fin 8) (l : Fin 512) :
    Host.dynamicUpdateSlice A R st h (ix3 n b l) = if n.val = k then R (ix3 0 b l) else A (ix3 n b l) := by
  unfold Host.dynamicUpdateSlice updateSlice
  have e0 : (min (max (st 0) 0) ((4096 - 1 : Nat) : Int)).toNat = k := by rw [h0]; omega
  have e1 : (min (max (st 1) 0) ((8 - 8 : Nat) : Int)).toNat = 0 := by rw [h1]; omega
  have e2 : (min (max (st 2) 0) ((512 - 512 : Nat) : Int)).toNat = 0 := by rw [h2]; omega
  by_cases hn : n.val = k
  · rw [if_pos hn, dif_pos]
    · refine congrArg R (funext fun a => Fin.ext ?_)
      match a with
      | ⟨0, _⟩ => show n.val - (min (max (st 0) 0) ((4096 - 1 : Nat) : Int)).toNat = 0; rw [e0]; omega
      | ⟨1, _⟩ => show b.val - (min (max (st 1) 0) ((8 - 8 : Nat) : Int)).toNat = b.val; rw [e1]; omega
      | ⟨2, _⟩ => show l.val - (min (max (st 2) 0) ((512 - 512 : Nat) : Int)).toNat = l.val; rw [e2]; omega
    · intro a
      match a with
      | ⟨0, _⟩ => show (min (max (st 0) 0) ((4096 - 1 : Nat) : Int)).toNat ≤ n.val ∧ n.val < (min (max (st 0) 0) ((4096 - 1 : Nat) : Int)).toNat + 1; rw [e0]; omega
      | ⟨1, _⟩ => show (min (max (st 1) 0) ((8 - 8 : Nat) : Int)).toNat ≤ b.val ∧ b.val < (min (max (st 1) 0) ((8 - 8 : Nat) : Int)).toNat + 8; rw [e1]; omega
      | ⟨2, _⟩ => show (min (max (st 2) 0) ((512 - 512 : Nat) : Int)).toNat ≤ l.val ∧ l.val < (min (max (st 2) 0) ((512 - 512 : Nat) : Int)).toNat + 512; rw [e2]; omega
  · rw [if_neg hn, dif_neg]
    intro hin
    have := hin ⟨0, by decide⟩
    have h' : (min (max (st 0) 0) ((4096 - 1 : Nat) : Int)).toNat ≤ n.val ∧ n.val < (min (max (st 0) 0) ((4096 - 1 : Nat) : Int)).toNat + 1 := this
    rw [e0] at h'
    omega

/-- The starts of a trip's slices. -/
abbrev starts (i : S_.Idx → BitVec 32) : Fin 3 → Int :=
  fun k => (((![i, constantI S_ 32 0#32, constantI S_ 32 0#32] : Fin 3 → (S_.Idx → BitVec 32))) k (Shape.Idx.first h_S_)).toInt

theorem toInt_small (k : ℕ) (hk : k < 4096) : (BitVec.ofNat 32 k).toInt = k := by
  rw [BitVec.toInt_eq_toNat_of_lt] <;> rw [BitVec.toNat_ofNat, Nat.mod_eq_of_lt] <;> omega

/-- One trip's state, of the carried arrays. -/
def nextH (A B : Of S4096x8x512) (i : S_.Idx → BitVec 32) (h : Of S8x512) : Of S8x512 :=
  addf (F := Ideal) (mulf (F := Ideal) (shapeCast S8x512 (Host.dynamicSlice S1x8x512 A (starts i) sliceFits_S4096x8x512_S1x8x512) shapeCasts_S1x8x512_S8x512) h)
    (shapeCast S8x512 (Host.dynamicSlice S1x8x512 B (starts i) sliceFits_S4096x8x512_S1x8x512) shapeCasts_S1x8x512_S8x512)

theorem drop_unit (R : Of S1x8x512) (b : Fin 8) (l : Fin 512) : shapeCast S8x512 R shapeCasts_S1x8x512_S8x512 (ix2 b l) = R (ix3 0 b l) := by
  pointwise []

theorem add_unit (R : Of S8x512) (b : Fin 8) (l : Fin 512) : broadcastInDim S1x8x512 ![1, 2] bcast_S8x512_S1x8x512_1_2 R (ix3 0 b l) = R (ix2 b l) := by
  pointwise []

theorem nextH_apply (A B : Of S4096x8x512) (k : ℕ) (hk : k < 4096) (h : Of S8x512) (b : Fin 8) (l : Fin 512) :
    nextH A B (fun _ => BitVec.ofNat 32 k) h (ix2 b l) = (A (ix3 ⟨k, hk⟩ b l) * h (ix2 b l) + B (ix3 ⟨k, hk⟩ b l) : EReal) := by
  have eA := (drop_unit _ b l).trans (row_apply A (starts fun _ => BitVec.ofNat 32 k) k hk (toInt_small k hk) rfl rfl sliceFits_S4096x8x512_S1x8x512 0 b l)
  have eB := (drop_unit _ b l).trans (row_apply B (starts fun _ => BitVec.ofNat 32 k) k hk (toInt_small k hk) rfl rfl sliceFits_S4096x8x512_S1x8x512 0 b l)
  exact congrArg₂ (fun x y : EReal => x * h (ix2 b l) + y) eA eB

/-- One trip's rows. -/
def nextRows (X : Of S4096x8x512) (i : S_.Idx → BitVec 32) (h : Of S8x512) : Of S4096x8x512 :=
  Host.dynamicUpdateSlice X (broadcastInDim S1x8x512 ![1, 2] bcast_S8x512_S1x8x512_1_2 h) (starts i) updateFits_S4096x8x512_S1x8x512

theorem nextRows_apply (X : Of S4096x8x512) (k : ℕ) (hk : k < 4096) (h : Of S8x512) (n : Fin 4096) (b : Fin 8) (l : Fin 512) :
    nextRows X (fun _ => BitVec.ofNat 32 k) h (ix3 n b l) = if n.val = k then h (ix2 b l) else X (ix3 n b l) := by
  rw [← add_unit h b l]
  exact set_row_apply X _ (starts fun _ => BitVec.ofNat 32 k) k hk (toInt_small k hk) rfl rfl updateFits_S4096x8x512_S1x8x512 n b l

variable (m : (ℓ : Loc nD τ sig) → Buf (Elt Ideal) ℓ) (c : Dev nD)

theorem step_2 (W : Valuation τ sig (Elt Ideal)) (k : ℕ) (h : at' W main_v77_2 = (fun _ => BitVec.ofNat 32 k)) :
    at' (STEP W) main_v77_2 = (fun _ => BitVec.ofNat 32 (k + 1)) := by
  show STEP W (Proc.devRef .tc main_v77_2) = _
  rw [STEP_main_v77_2]
  unfold step_main_v77_2
  show addi (at' W main_v77_2) (constantI S_ 32 1#32) = _
  rw [h]
  funext _
  exact (BitVec.ofNat_add k 1).symm

theorem step_3 (W : Valuation τ sig (Elt Ideal)) :
    at' (STEP W) main_v77_3 = nextH (at' W main_v77_0) (at' W main_v77_1) (at' W main_v77_2) (at' W main_v77_3) := by
  show STEP W (Proc.devRef .tc main_v77_3) = _
  rw [STEP_main_v77_3]
  rfl

theorem step_4 (W : Valuation τ sig (Elt Ideal)) :
    at' (STEP W) main_v77_4 = nextRows (at' W main_v77_4) (at' W main_v77_2) (nextH (at' W main_v77_0) (at' W main_v77_1) (at' W main_v77_2) (at' W main_v77_3)) := by
  show STEP W (Proc.devRef .tc main_v77_4) = _
  rw [STEP_main_v77_4]
  rfl

/-- The state of sequence `b` after `n` tokens, of the reference's arguments. -/
def stR (b : Fin 8) (l : Fin 512) (n : ℕ) : EReal :=
  state (arg m c main_arg0) (arg m c main_arg1) (arg m c main_arg2) (arg m c main_arg3) (arg m c main_arg4) (arg m c main_arg5) (arg m c main_arg6) (arg m c main_arg7) b l n

theorem swap_apply (x : Of S8x4096x512) (n : Fin 4096) (b : Fin 8) (l : Fin 512) :
    transpose S4096x8x512 [1, 0, 2] x transposes_S8x4096x512_S4096x8x512_1_0_2 (ix3 n b l) = x (ix3 b n l) := by
  pointwise []

theorem stR_succ (b : Fin 8) (l : Fin 512) (k : ℕ) (hk : k < 4096) :
    stR m c b l (k + 1) = (decR m c (ix3 b ⟨k, hk⟩ l) * stR m c b l k + inpR m c (ix3 b ⟨k, hk⟩ l) : EReal) := by
  rw [decR_apply, inpR_apply]
  rfl

/-- The loop's carried arrays after `k` trips. -/
theorem trips : ∀ k, k ≤ 4096 → at' (STEP^[k] (E m c)) main_v77_0 = transpose S4096x8x512 [1, 0, 2] (decR m c) transposes_S8x4096x512_S4096x8x512_1_0_2
    ∧ at' (STEP^[k] (E m c)) main_v77_1 = transpose S4096x8x512 [1, 0, 2] (inpR m c) transposes_S8x4096x512_S4096x8x512_1_0_2
    ∧ at' (STEP^[k] (E m c)) main_v77_2 = (fun _ => BitVec.ofNat 32 k)
    ∧ (∀ (b : Fin 8) (l : Fin 512), (at' (STEP^[k] (E m c)) main_v77_3 : Of S8x512) (ix2 b l) = stR m c b l k)
    ∧ (∀ (n : Fin 4096) (b : Fin 8) (l : Fin 512), n.val < k → (at' (STEP^[k] (E m c)) main_v77_4 : Of S4096x8x512) (ix3 n b l) = stR m c b l (n.val + 1)) := by
  intro k
  induction k with
  | zero =>
    intro _
    refine ⟨entry_0 m c, entry_1 m c, entry_2 m c, fun b l => ?_, fun n b l h => absurd h (Nat.not_lt_zero _)⟩
    exact congrFun (entry_3 m c) (ix2 b l)
  | succ k ih =>
    intro hk
    obtain ⟨h0, h1, h2, h3, h4⟩ := ih (by omega)
    rw [Function.iterate_succ_apply']
    generalize STEP^[k] (E m c) = W at h0 h1 h2 h3 h4 ⊢
    have e3 : ∀ (b : Fin 8) (l : Fin 512), nextH (at' W main_v77_0) (at' W main_v77_1) (at' W main_v77_2) (at' W main_v77_3) (ix2 b l) = stR m c b l (k + 1) := by
      intro b l
      rw [h0, h1, h2]
      refine (nextH_apply _ _ k (by omega) (at' W main_v77_3) b l).trans ?_
      rw [swap_apply, swap_apply, h3 b l, stR_succ m c b l k (by omega)]
    refine ⟨(STEP_main_v77_0 W).trans h0, (STEP_main_v77_1 W).trans h1, step_2 W k h2, fun b l => ?_, fun n b l hn => ?_⟩
    · rw [step_3]; exact e3 b l
    · rw [step_4, h2]
      rw [h2] at e3
      refine (nextRows_apply (at' W main_v77_4) k (by omega) _ n b l).trans ?_
      by_cases h : n.val = k
      · rw [if_pos h, e3 b l, h]
      · rw [if_neg h]; exact h4 n b l (by omega)

/-- The rows, and the last state. -/
def rows79 : Of S32768x512 := fun i => stR m c ⟨(i 0).val / 4096, by have h : (i 0).val < 32768 := (i 0).isLt; omega⟩ (i 1) ((i 0).val % 4096 + 1)
def last80 : Of S8x1x512 := fun i => stR m c (i 0) (i 2) 4096

theorem out79_apply (X : Of S4096x8x512) (T : Fin 32768) (l : Fin 512) :
    shapeCast S32768x512 (transpose S8x4096x512 [1, 0, 2] X transposes_S4096x8x512_S8x4096x512_1_0_2) shapeCasts_S8x4096x512_S32768x512 (ix2 T l)
      = X (ix3 ⟨T.val % 4096, by omega⟩ ⟨T.val / 4096, by omega⟩ l) := by
  pointwise []

theorem out80_apply (X : Of S8x512) (b : Fin 8) (z : Fin 1) (l : Fin 512) : shapeCast S8x1x512 X shapeCasts_S8x512_S8x1x512 (ix3 b z l) = X (ix2 b l) := by
  pointwise []

theorem out79 : out_main_v79 (STEP^[4096] (E m c)) = rows79 m c := by
  obtain ⟨_, _, _, _, h4⟩ := trips m c 4096 (Nat.le_refl _)
  generalize STEP^[4096] (E m c) = W at h4 ⊢
  unfold out_main_v79
  funext i
  have hi : i = (ix2 (i 0) (i 1) : S32768x512.Idx) := funext fun a => Fin.ext (match a with | ⟨0, _⟩ => rfl | ⟨1, _⟩ => rfl)
  rw [hi]
  refine (out79_apply (at' W main_v77_4) (i 0) (i 1)).trans ((h4 _ _ _ ?_).trans rfl)
  show (i 0).val % 4096 < 4096
  omega

theorem out80 : out_main_v80 (STEP^[4096] (E m c)) = last80 m c := by
  obtain ⟨_, _, _, h3, _⟩ := trips m c 4096 (Nat.le_refl _)
  generalize STEP^[4096] (E m c) = W at h3 ⊢
  unfold out_main_v80
  funext i
  have hi : i = (ix3 (i 0) (i 1) (i 2) : S8x1x512.Idx) := funext fun a => Fin.ext (match a with | ⟨0, _⟩ => rfl | ⟨1, _⟩ => rfl | ⟨2, _⟩ => rfl)
  rw [hi]
  exact (out80_apply (at' W main_v77_3) (i 0) (i 1) (i 2)).trans ((h3 _ _).trans rfl)

end Cert.Lru.Ref

end
-- ==== Proof.Merge.Body.lean ====
/- What one point of the branches' merge leaves in the result's block: the product of its columns, alone, added, or finished. -/
module

public import proofs.«01_k».proof.Proof.Gen.Kernel2Ideal.Frame
public import Idealize.ShloMosaic.Lib.Pipeline.ValueKit
public import Idealize.ShloMosaic.PureOps.Ideal

@[expose] public section

set_option maxRecDepth 16384

noncomputable section

namespace Cert.Merge

open Cert.Kernel2Ideal Cert.Kernel2Ideal.Gen
open Idealize.ShloMosaic Idealize.ShloMosaic.TcCoe Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- The first branch's gate weights, of the point's columns. -/
def wm0 (x6 : FVec Ideal S4x2048x512 .bf16) : FVec Ideal S1x2048x512 .bf16 :=
  View.ld (Val := Elt Ideal) (e' := .bf16) x6 (Rect.unit (s := S4x2048x512) ![0, 0, 0] S1x2048x512.size inb_S4x2048x512_S1x2048x512_0_0_0)

/-- The first branch's own weights, of the point's columns. -/
def wb0 (x7 : FVec Ideal S4x512x512 .bf16) : FVec Ideal S1x512x512 .bf16 :=
  View.ld (Val := Elt Ideal) (e' := .bf16) x7 (Rect.unit (s := S4x512x512) ![0, 0, 0] S1x512x512.size inb_S4x512x512_S1x512x512_0_0_0)

/-- The second branch's gate weights, of the point's columns. -/
def wm1 (x6 : FVec Ideal S4x2048x512 .bf16) : FVec Ideal S1x2048x512 .bf16 :=
  View.ld (Val := Elt Ideal) (e' := .bf16) x6 (Rect.unit (s := S4x2048x512) ![1, 0, 0] S1x2048x512.size inb_S4x2048x512_S1x2048x512_1_0_0)

/-- The second branch's own weights, of the point's columns. -/
def wb1 (x7 : FVec Ideal S4x512x512 .bf16) : FVec Ideal S1x512x512 .bf16 :=
  View.ld (Val := Elt Ideal) (e' := .bf16) x7 (Rect.unit (s := S4x512x512) ![1, 0, 0] S1x512x512.size inb_S4x512x512_S1x512x512_1_0_0)

/-- The third branch's gate weights, of the point's columns. -/
def wm2 (x6 : FVec Ideal S4x2048x512 .bf16) : FVec Ideal S1x2048x512 .bf16 :=
  View.ld (Val := Elt Ideal) (e' := .bf16) x6 (Rect.unit (s := S4x2048x512) ![2, 0, 0] S1x2048x512.size inb_S4x2048x512_S1x2048x512_2_0_0)

/-- The third branch's own weights, of the point's columns. -/
def wb2 (x7 : FVec Ideal S4x512x512 .bf16) : FVec Ideal S1x512x512 .bf16 :=
  View.ld (Val := Elt Ideal) (e' := .bf16) x7 (Rect.unit (s := S4x512x512) ![2, 0, 0] S1x512x512.size inb_S4x512x512_S1x512x512_2_0_0)

/-- The fourth branch's gate weights, of the point's columns. -/
def wm3 (x6 : FVec Ideal S4x2048x512 .bf16) : FVec Ideal S1x2048x512 .bf16 :=
  View.ld (Val := Elt Ideal) (e' := .bf16) x6 (Rect.unit (s := S4x2048x512) ![3, 0, 0] S1x2048x512.size inb_S4x2048x512_S1x2048x512_3_0_0)

/-- The fourth branch's own weights, of the point's columns. -/
def wb3 (x7 : FVec Ideal S4x512x512 .bf16) : FVec Ideal S1x512x512 .bf16 :=
  View.ld (Val := Elt Ideal) (e' := .bf16) x7 (Rect.unit (s := S4x512x512) ![3, 0, 0] S1x512x512.size inb_S4x512x512_S1x512x512_3_0_0)

/-- The gated sum of the four branches, of the point's columns. -/
def mergedB (x1 : FVec Ideal S512x2048 .bf16) (x2 x3 x4 x5 : FVec Ideal S512x512 .bf16) (x6 : FVec Ideal S4x2048x512 .bf16)
    (x7 : FVec Ideal S4x512x512 .bf16) : FVec Ideal S512x512 .f32 :=
  k0_pay7 x1 (k0_pay4 x1 (wm0 x6) x2 (wb0 x7)) (k0_pay5 x3 (wb1 x7)) (k0_pay6 x1 (wm1 x6)) (wm2 x6) x4 (wb2 x7) (wm3 x6) x5 (wb3 x7)

theorem out_A (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4x2048x512 .bf16) (harg8 : arg8.IsWhole) (arg9 : Memref sig .tc .vmem S4x512x512 .bf16) (harg9 : arg9.IsWhole) (arg10 : Memref sig .tc .vmem S512x2048 .bf16) (harg10 : arg10.IsWhole) (arg11 : Memref sig .tc .vmem S1x1x2048 .f32) (harg11 : arg11.IsWhole) (arg12 : Memref sig .tc .vmem S512x2048 .f32) (harg12 : arg12.IsWhole) (hc0 : cond0_0 i) (hc1 : ¬cond0_1 i) (hc2 : ¬cond0_2 i)
    (x0 : Vec Ideal S512x2048 .f32) (x1 : Vec Ideal S512x2048 .bf16) (x2 : Vec Ideal S512x512 .bf16) (x3 : Vec Ideal S512x512 .bf16) (x4 : Vec Ideal S512x512 .bf16) (x5 : Vec Ideal S512x512 .bf16) (x6 : Vec Ideal S4x2048x512 .bf16) (x7 : Vec Ideal S4x512x512 .bf16) (x8 : Vec Ideal S512x2048 .bf16) (x9 : Vec Ideal S1x1x2048 .f32) :
    out0_A_10 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 x9 = k0_pay1 (mergedB x1 x2 x3 x4 x5 x6 x7) x8 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 x9)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz2, View.ld_unit_zero (S := S512x512) hz2, View.ld_unit_zero (S := S1x1x2048) hz3]
  rfl

theorem out_B (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4x2048x512 .bf16) (harg8 : arg8.IsWhole) (arg9 : Memref sig .tc .vmem S4x512x512 .bf16) (harg9 : arg9.IsWhole) (arg10 : Memref sig .tc .vmem S512x2048 .bf16) (harg10 : arg10.IsWhole) (arg11 : Memref sig .tc .vmem S1x1x2048 .f32) (harg11 : arg11.IsWhole) (arg12 : Memref sig .tc .vmem S512x2048 .f32) (harg12 : arg12.IsWhole) (hc0 : ¬cond0_0 i) (hc1 : cond0_1 i) (hc2 : ¬cond0_2 i)
    (x0 : Vec Ideal S512x2048 .f32) (x1 : Vec Ideal S512x2048 .bf16) (x2 : Vec Ideal S512x512 .bf16) (x3 : Vec Ideal S512x512 .bf16) (x4 : Vec Ideal S512x512 .bf16) (x5 : Vec Ideal S512x512 .bf16) (x6 : Vec Ideal S4x2048x512 .bf16) (x7 : Vec Ideal S4x512x512 .bf16) (x8 : Vec Ideal S512x2048 .bf16) (x9 : Vec Ideal S1x1x2048 .f32) (xo10 : Vec Ideal S512x2048 .f32) :
    out0_B_10 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 x9 xo10 = k0_pay2 (mergedB x1 x2 x3 x4 x5 x6 x7) x8 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 x9 xo10)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz2, View.ld_unit_zero (S := S512x512) hz2, View.ld_unit_zero (S := S1x1x2048) hz3]
  rfl

theorem out_C (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4x2048x512 .bf16) (harg8 : arg8.IsWhole) (arg9 : Memref sig .tc .vmem S4x512x512 .bf16) (harg9 : arg9.IsWhole) (arg10 : Memref sig .tc .vmem S512x2048 .bf16) (harg10 : arg10.IsWhole) (arg11 : Memref sig .tc .vmem S1x1x2048 .f32) (harg11 : arg11.IsWhole) (arg12 : Memref sig .tc .vmem S512x2048 .f32) (harg12 : arg12.IsWhole) (hc0 : ¬cond0_0 i) (hc1 : cond0_1 i) (hc2 : cond0_2 i)
    (x0 : Vec Ideal S512x2048 .f32) (x1 : Vec Ideal S512x2048 .bf16) (x2 : Vec Ideal S512x512 .bf16) (x3 : Vec Ideal S512x512 .bf16) (x4 : Vec Ideal S512x512 .bf16) (x5 : Vec Ideal S512x512 .bf16) (x6 : Vec Ideal S4x2048x512 .bf16) (x7 : Vec Ideal S4x512x512 .bf16) (x8 : Vec Ideal S512x2048 .bf16) (x9 : Vec Ideal S1x1x2048 .f32) (xo10 : Vec Ideal S512x2048 .f32) :
    out0_C_10 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 x9 xo10 = k0_pay3 x0 x9 (k0_pay2 (mergedB x1 x2 x3 x4 x5 x6 x7) x8 xo10) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 x9 xo10)]
  unfold kernelRun0_C
  dsimp only
  sl_unfold_words
  rw [View.canon_cons_unit_lit (S := S512x2048) _ _ _ (fun a => congrFun hz2 a), View.readCov_cons_toLoadRect]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz2, View.ld_unit_zero (S := S512x512) hz2, View.ld_unit_zero (S := S1x1x2048) hz3]
  rfl

end Cert.Merge

end
-- ==== Proof.Merge.Spec.lean ====
/- The merge of the branches and the output projection, stated over extended reals as a function of the argument arrays. -/
module

public import proofs.«01_k».proof.Proof.Lru.Spec

@[expose] public section

noncomputable section

namespace Cert.Merge

open Idealize.ShloMosaic Cert.Lru

/-- Branch `k` of token `T`, gated, at column `n`. -/
def term (h : Arr2 34816 2048) (y : Arr2 32768 512) (wm : Arr3 4 2048 2048) (wb : Arr3 4 512 2048) (k : Fin 4) (T : Fin 32768) (n : Fin 2048) : EReal :=
  Ideal.logistic (∑ i : Fin 2048, h (ix2 ⟨T.val, by omega⟩ i) * wm (ix3 k i n)) * ∑ i : Fin 512, y (ix2 T i) * wb (ix3 k i n)

/-- The gated sum of the four branches. -/
def merged (h : Arr2 34816 2048) (y0 y1 y2 y3 : Arr2 32768 512) (wm : Arr3 4 2048 2048) (wb : Arr3 4 512 2048) (T : Fin 32768) (n : Fin 2048) : EReal :=
  term h y0 wm wb 0 T n + term h y1 wm wb 1 T n + term h y2 wm wb 2 T n + term h y3 wm wb 3 T n

/-- The output projection. -/
def proj (g : Fin 32768 → Fin 2048 → EReal) (wo : Arr2 2048 2048) (T : Fin 32768) (d : Fin 2048) : EReal :=
  ∑ n : Fin 2048, g T n * wo (ix2 n d)

/-- The part of the output projection that 512 columns give. -/
def part (g : Fin 32768 → Fin 2048 → EReal) (wo : Arr2 2048 2048) (T : Fin 32768) (d : Fin 2048) (j : Fin 4) : EReal :=
  ∑ k : Fin 512, g T ⟨512 * j.val + k.val, by omega⟩ * wo (ix2 ⟨512 * j.val + k.val, by omega⟩ d)

theorem proj_parts (g : Fin 32768 → Fin 2048 → EReal) (wo : Arr2 2048 2048) (T : Fin 32768) (d : Fin 2048) :
    proj g wo T d = part g wo T d 0 + part g wo T d 1 + part g wo T d 2 + part g wo T d 3 := by
  have e : proj g wo T d = ∑ j : Fin 4, part g wo T d j := by
    unfold proj part
    rw [← Fintype.sum_prod_type' (f := fun (j : Fin 4) (k : Fin 512) => g T ⟨512 * j.val + k.val, by omega⟩ * wo (ix2 ⟨512 * j.val + k.val, by omega⟩ d))]
    refine (Fintype.sum_equiv (finProdFinEquiv : Fin 4 × Fin 512 ≃ Fin 2048) _ _ fun x => ?_).symm
    have e : (finProdFinEquiv : Fin 4 × Fin 512 ≃ Fin 2048) x = ⟨512 * x.1.val + x.2.val, by omega⟩ :=
      Fin.ext (show x.2.val + 512 * x.1.val = 512 * x.1.val + x.2.val by omega)
    rw [e]
  rw [e, Fin.sum_univ_four]

/-- Row `T` of the result, column `d`: the token itself and its gated mixture. -/
def out (h : Arr2 34816 2048) (y0 y1 y2 y3 : Arr2 32768 512) (wm : Arr3 4 2048 2048) (wb : Arr3 4 512 2048) (wo : Arr2 2048 2048)
    (x : Arr2 34816 2048) (md : Arr2 16 12288) (T : Fin 32768) (d : Fin 2048) : EReal :=
  x (ix2 ⟨T.val, by omega⟩ d) + md (ix2 ⟨T.val / 4096, by omega⟩ ⟨4096 + d.val, by omega⟩) * proj (merged h y0 y1 y2 y3 wm wb) wo T d

end Cert.Merge

end
-- ==== Proof.Merge.Values.lean ====
/- What a point of the merge computes, entry by entry. -/
module

public import proofs.«01_k».proof.Proof.Merge.Body
public import proofs.«01_k».proof.Proof.Merge.Spec

@[expose] public section

set_option maxRecDepth 16384

noncomputable section

namespace Cert.Merge

open Cert.Kernel2Ideal Cert.Kernel2Ideal.Gen Cert.Lru
open Idealize.ShloMosaic Idealize.ShloMosaic.TcCoe

theorem pay1_at (g : FVec Ideal S512x512 .f32) (w : FVec Ideal S512x2048 .bf16) (r : Fin 512) (d : Fin 2048) :
    (k0_pay1 (F := Ideal) g w (ix2 r d) : EReal) = ∑ k : Fin 512, g (ix2 r k) * w (ix2 k d) := by
  pointwise [k0_pay1]

theorem pay2_at (g : FVec Ideal S512x512 .f32) (w : FVec Ideal S512x2048 .bf16) (o : FVec Ideal S512x2048 .f32) (r : Fin 512) (d : Fin 2048) :
    (k0_pay2 (F := Ideal) g w o (ix2 r d) : EReal) = o (ix2 r d) + ∑ k : Fin 512, g (ix2 r k) * w (ix2 k d) := by
  rw [← pay1_at]
  pointwise [k0_pay2]

theorem pay3_at (x : FVec Ideal S512x2048 .f32) (a : FVec Ideal S1x1x2048 .f32) (o : FVec Ideal S512x2048 .f32) (r : Fin 512) (d : Fin 2048) :
    (k0_pay3 (F := Ideal) x a o (ix2 r d) : EReal) = x (ix2 r d) + a (ix3 0 0 d) * o (ix2 r d) := by
  pointwise [k0_pay3]

theorem pay4_at (h : FVec Ideal S512x2048 .bf16) (w : FVec Ideal S1x2048x512 .bf16) (y : FVec Ideal S512x512 .bf16) (b : FVec Ideal S1x512x512 .bf16)
    (r l : Fin 512) :
    (k0_pay4 (F := Ideal) h w y b (ix2 r l) : EReal)
      = Ideal.logistic (∑ k : Fin 2048, h (ix2 r k) * w (ix3 0 k l)) * ∑ k : Fin 512, y (ix2 r k) * b (ix3 0 k l) := by
  pointwise [k0_pay4]
  rw [half_f32, logistic_tanh]

theorem pay5_at (y : FVec Ideal S512x512 .bf16) (b : FVec Ideal S1x512x512 .bf16) (r l : Fin 512) :
    (k0_pay5 (F := Ideal) y b (ix2 r l) : EReal) = ∑ k : Fin 512, y (ix2 r k) * b (ix3 0 k l) := by
  pointwise [k0_pay5]

theorem pay6_at (h : FVec Ideal S512x2048 .bf16) (w : FVec Ideal S1x2048x512 .bf16) (r l : Fin 512) :
    (k0_pay6 (F := Ideal) h w (ix2 r l) : EReal) = Ideal.logistic (∑ k : Fin 2048, h (ix2 r k) * w (ix3 0 k l)) := by
  pointwise [k0_pay6]
  rw [half_f32, logistic_tanh]

theorem pay7_at (h : FVec Ideal S512x2048 .bf16) (a p g : FVec Ideal S512x512 .f32) (w2 : FVec Ideal S1x2048x512 .bf16) (y2 : FVec Ideal S512x512 .bf16)
    (b2 : FVec Ideal S1x512x512 .bf16) (w3 : FVec Ideal S1x2048x512 .bf16) (y3 : FVec Ideal S512x512 .bf16) (b3 : FVec Ideal S1x512x512 .bf16) (r l : Fin 512) :
    (k0_pay7 (F := Ideal) h a p g w2 y2 b2 w3 y3 b3 (ix2 r l) : EReal)
      = a (ix2 r l) + g (ix2 r l) * p (ix2 r l)
        + Ideal.logistic (∑ k : Fin 2048, h (ix2 r k) * w2 (ix3 0 k l)) * (∑ k : Fin 512, y2 (ix2 r k) * b2 (ix3 0 k l))
        + Ideal.logistic (∑ k : Fin 2048, h (ix2 r k) * w3 (ix3 0 k l)) * (∑ k : Fin 512, y3 (ix2 r k) * b3 (ix3 0 k l)) := by
  pointwise [k0_pay7]
  rw [half_f32, logistic_tanh, logistic_tanh]

theorem wm0_at (x : FVec Ideal S4x2048x512 .bf16) (k : Fin 2048) (l : Fin 512) : wm0 x (ix3 0 k l) = x (ix3 0 k l) := by
  unfold wm0
  refine congrArg x (funext fun a => Fin.ext ?_)
  match a with
  | ⟨0, _⟩ => rfl
  | ⟨1, _⟩ => exact (by omega : 0 + 1 * k.val = k.val)
  | ⟨2, _⟩ => exact (by omega : 0 + 1 * l.val = l.val)

theorem wm1_at (x : FVec Ideal S4x2048x512 .bf16) (k : Fin 2048) (l : Fin 512) : wm1 x (ix3 0 k l) = x (ix3 1 k l) := by
  unfold wm1
  refine congrArg x (funext fun a => Fin.ext ?_)
  match a with
  | ⟨0, _⟩ => rfl
  | ⟨1, _⟩ => exact (by omega : 0 + 1 * k.val = k.val)
  | ⟨2, _⟩ => exact (by omega : 0 + 1 * l.val = l.val)

theorem wm2_at (x : FVec Ideal S4x2048x512 .bf16) (k : Fin 2048) (l : Fin 512) : wm2 x (ix3 0 k l) = x (ix3 2 k l) := by
  unfold wm2
  refine congrArg x (funext fun a => Fin.ext ?_)
  match a with
  | ⟨0, _⟩ => rfl
  | ⟨1, _⟩ => exact (by omega : 0 + 1 * k.val = k.val)
  | ⟨2, _⟩ => exact (by omega : 0 + 1 * l.val = l.val)

theorem wm3_at (x : FVec Ideal S4x2048x512 .bf16) (k : Fin 2048) (l : Fin 512) : wm3 x (ix3 0 k l) = x (ix3 3 k l) := by
  unfold wm3
  refine congrArg x (funext fun a => Fin.ext ?_)
  match a with
  | ⟨0, _⟩ => rfl
  | ⟨1, _⟩ => exact (by omega : 0 + 1 * k.val = k.val)
  | ⟨2, _⟩ => exact (by omega : 0 + 1 * l.val = l.val)

theorem wb0_at (x : FVec Ideal S4x512x512 .bf16) (k : Fin 512) (l : Fin 512) : wb0 x (ix3 0 k l) = x (ix3 0 k l) := by
  unfold wb0
  refine congrArg x (funext fun a => Fin.ext ?_)
  match a with
  | ⟨0, _⟩ => rfl
  | ⟨1, _⟩ => exact (by omega : 0 + 1 * k.val = k.val)
  | ⟨2, _⟩ => exact (by omega : 0 + 1 * l.val = l.val)

theorem wb1_at (x : FVec Ideal S4x512x512 .bf16) (k : Fin 512) (l : Fin 512) : wb1 x (ix3 0 k l) = x (ix3 1 k l) := by
  unfold wb1
  refine congrArg x (funext fun a => Fin.ext ?_)
  match a with
  | ⟨0, _⟩ => rfl
  | ⟨1, _⟩ => exact (by omega : 0 + 1 * k.val = k.val)
  | ⟨2, _⟩ => exact (by omega : 0 + 1 * l.val = l.val)

theorem wb2_at (x : FVec Ideal S4x512x512 .bf16) (k : Fin 512) (l : Fin 512) : wb2 x (ix3 0 k l) = x (ix3 2 k l) := by
  unfold wb2
  refine congrArg x (funext fun a => Fin.ext ?_)
  match a with
  | ⟨0, _⟩ => rfl
  | ⟨1, _⟩ => exact (by omega : 0 + 1 * k.val = k.val)
  | ⟨2, _⟩ => exact (by omega : 0 + 1 * l.val = l.val)

theorem wb3_at (x : FVec Ideal S4x512x512 .bf16) (k : Fin 512) (l : Fin 512) : wb3 x (ix3 0 k l) = x (ix3 3 k l) := by
  unfold wb3
  refine congrArg x (funext fun a => Fin.ext ?_)
  match a with
  | ⟨0, _⟩ => rfl
  | ⟨1, _⟩ => exact (by omega : 0 + 1 * k.val = k.val)
  | ⟨2, _⟩ => exact (by omega : 0 + 1 * l.val = l.val)

/-- The block's gated sum of the four branches. -/
theorem mergedB_at (x1 : FVec Ideal S512x2048 .bf16) (x2 x3 x4 x5 : FVec Ideal S512x512 .bf16) (x6 : FVec Ideal S4x2048x512 .bf16)
    (x7 : FVec Ideal S4x512x512 .bf16) (r l : Fin 512) :
    (mergedB x1 x2 x3 x4 x5 x6 x7 (ix2 r l) : EReal)
      = Ideal.logistic (∑ k : Fin 2048, x1 (ix2 r k) * x6 (ix3 0 k l)) * (∑ k : Fin 512, x2 (ix2 r k) * x7 (ix3 0 k l))
        + Ideal.logistic (∑ k : Fin 2048, x1 (ix2 r k) * x6 (ix3 1 k l)) * (∑ k : Fin 512, x3 (ix2 r k) * x7 (ix3 1 k l))
        + Ideal.logistic (∑ k : Fin 2048, x1 (ix2 r k) * x6 (ix3 2 k l)) * (∑ k : Fin 512, x4 (ix2 r k) * x7 (ix3 2 k l))
        + Ideal.logistic (∑ k : Fin 2048, x1 (ix2 r k) * x6 (ix3 3 k l)) * (∑ k : Fin 512, x5 (ix2 r k) * x7 (ix3 3 k l)) := by
  unfold mergedB
  rw [pay7_at, pay4_at, pay5_at, pay6_at]
  simp only [wm0_at, wm1_at, wm2_at, wm3_at, wb0_at, wb1_at, wb2_at, wb3_at]

end Cert.Merge

end
-- ==== Proof.Merge.Windows.lean ====
/- What each window of the merge reads at a grid point, in terms of the argument arrays. -/
module

public import proofs.«01_k».proof.Proof.Merge.Values

@[expose] public section

set_option maxRecDepth 16384

noncomputable section

namespace Cert.Merge

open Cert.Kernel2Ideal Cert.Kernel2Ideal.Gen Cert.Lru
open Idealize.ShloMosaic Idealize.ShloMosaic.TcCoe Idealize.ShloMosaic.StableHlo Idealize.SL.Sem

variable (m : (ℓ : Loc nD τ sig) → Buf (Elt Ideal) ℓ)

/-- The argument arrays at launch. -/
abbrev hA (c : Dev nD) : Arr2 34816 2048 := m ((c.tc : Thread nD τ).loc main_arg0)
abbrev y0A (c : Dev nD) : Arr2 32768 512 := m ((c.tc : Thread nD τ).loc main_arg1)
abbrev y1A (c : Dev nD) : Arr2 32768 512 := m ((c.tc : Thread nD τ).loc main_arg2)
abbrev y2A (c : Dev nD) : Arr2 32768 512 := m ((c.tc : Thread nD τ).loc main_arg3)
abbrev y3A (c : Dev nD) : Arr2 32768 512 := m ((c.tc : Thread nD τ).loc main_arg4)
abbrev wmA (c : Dev nD) : Arr3 4 2048 2048 := m ((c.tc : Thread nD τ).loc main_arg5)
abbrev wbA (c : Dev nD) : Arr3 4 512 2048 := m ((c.tc : Thread nD τ).loc main_arg6)
abbrev woA (c : Dev nD) : Arr2 2048 2048 := m ((c.tc : Thread nD τ).loc main_arg7)
abbrev xA (c : Dev nD) : Arr2 34816 2048 := m ((c.tc : Thread nD τ).loc main_arg8)
abbrev mdA (c : Dev nD) : Arr2 16 12288 := m ((c.tc : Thread nD τ).loc main_arg9)

theorem V_v0 (c : Dev nD) : V m c main_v0 = truncf (F := Ideal) .bf16 (wmA m c : FVec Ideal S4x2048x2048 .f32) bitsLt_bf16_f32 := by
  show StableHlo.after hostOps0 _ _ = _
  unfold hostOps0
  after_results

theorem V_v1 (c : Dev nD) : V m c main_v1 = truncf (F := Ideal) .bf16 (wbA m c : FVec Ideal S4x512x2048 .f32) bitsLt_bf16_f32 := by
  show StableHlo.after hostOps0 _ _ = _
  unfold hostOps0
  after_results

theorem V_v2 (c : Dev nD) : V m c main_v2 = truncf (F := Ideal) .bf16 (woA m c : FVec Ideal S2048x2048 .f32) bitsLt_bf16_f32 := by
  show StableHlo.after hostOps0 _ _ = _
  unfold hostOps0
  after_results

theorem V_v3 (c : Dev nD) : V m c main_v3 = shapeCast S16x1x12288 (mdA m c : FVec Ideal S16x12288 .f32) shapeCasts_S16x12288_S16x1x12288 := by
  show StableHlo.after hostOps0 _ _ = _
  unfold hostOps0
  after_results
  rfl

theorem md_at (b : FVec Ideal S16x12288 .f32) (k : Fin 16) (l : Fin 12288) : shapeCast S16x1x12288 b shapeCasts_S16x12288_S16x1x12288 (ix3 k 0 l) = b (ix2 k l) := by
  pointwise

/-! ## The windows -/

theorem lt256 (t : Fin cfg0.N) : t.val < 256 := by
  have h := t.isLt
  have hN : cfg0.N = 256 := N_0
  omega

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = t.val / 4 ∧ win0_1.index t 1 = 0 :=
  (by decide +kernel : ∀ t : Fin grid0.N, win0_1.index t 0 = t.val / 4 ∧ win0_1.index t 1 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)
theorem idx3 : ∀ t : Fin cfg0.N, win0_3.index t 0 = t.val / 4 ∧ win0_3.index t 1 = 0 :=
  (by decide +kernel : ∀ t : Fin grid0.N, win0_3.index t 0 = t.val / 4 ∧ win0_3.index t 1 = 0)
theorem idx4 : ∀ t : Fin cfg0.N, win0_4.index t 0 = t.val / 4 ∧ win0_4.index t 1 = 0 :=
  (by decide +kernel : ∀ t : Fin grid0.N, win0_4.index t 0 = t.val / 4 ∧ win0_4.index t 1 = 0)
theorem idx5 : ∀ t : Fin cfg0.N, win0_5.index t 0 = t.val / 4 ∧ win0_5.index t 1 = 0 :=
  (by decide +kernel : ∀ t : Fin grid0.N, win0_5.index t 0 = t.val / 4 ∧ win0_5.index t 1 = 0)
theorem idx6 : ∀ t : Fin cfg0.N, win0_6.index t 0 = 0 ∧ win0_6.index t 1 = 0 ∧ win0_6.index t 2 = t.val % 4 :=
  (by decide +kernel : ∀ t : Fin grid0.N, win0_6.index t 0 = 0 ∧ win0_6.index t 1 = 0 ∧ win0_6.index t 2 = t.val % 4)
theorem idx7 : ∀ t : Fin cfg0.N, win0_7.index t 0 = 0 ∧ win0_7.index t 1 = 0 ∧ win0_7.index t 2 = t.val % 4 :=
  (by decide +kernel : ∀ t : Fin grid0.N, win0_7.index t 0 = 0 ∧ win0_7.index t 1 = 0 ∧ win0_7.index t 2 = t.val % 4)
theorem idx8 : ∀ t : Fin cfg0.N, win0_8.index t 0 = t.val % 4 ∧ win0_8.index t 1 = 0 :=
  (by decide +kernel : ∀ t : Fin grid0.N, win0_8.index t 0 = t.val % 4 ∧ win0_8.index t 1 = 0)
theorem idx9 : ∀ t : Fin cfg0.N, win0_9.index t 0 = t.val / 32 ∧ win0_9.index t 1 = 0 ∧ win0_9.index t 2 = 2 :=
  (by decide +kernel : ∀ t : Fin grid0.N, win0_9.index t 0 = t.val / 32 ∧ win0_9.index t 1 = 0 ∧ win0_9.index t 2 = 2)
theorem idx10 : ∀ t : Fin cfg0.N, win0_10.index t 0 = t.val / 4 ∧ win0_10.index t 1 = 0 :=
  (by decide +kernel : ∀ t : Fin grid0.N, win0_10.index t 0 = t.val / 4 ∧ win0_10.index t 1 = 0)

theorem blk0 (c : Dev nD) (t : Fin cfg0.N) (r : Fin 512) (l : Fin 2048) :
    (iblk m c 0 t : FVec Ideal S512x2048 .f32) (ix2 r l) = xA m c (ix2 ⟨512 * (t.val / 4) + r.val, by have := lt256 t; omega⟩ l) := by
  have hi := idx0 t
  have ht := lt256 t
  unfold iblk
  rw [View.read_apply]
  show V m c main_arg8 _ = _
  rw [V_main_arg8]
  refine congrArg (xA m c) (funext fun a => Fin.ext ?_)
  match a with
  | ⟨0, _⟩ => show win0_0.index t 0 * 512 + 1 * r.val = 512 * (t.val / 4) + r.val; rw [hi.1]; omega
  | ⟨1, _⟩ => show win0_0.index t 1 * 2048 + 1 * l.val = l.val; rw [hi.2]; omega

theorem blk1 (c : Dev nD) (t : Fin cfg0.N) (r : Fin 512) (l : Fin 2048) :
    (iblk m c 1 t : FVec Ideal S512x2048 .bf16) (ix2 r l) = hA m c (ix2 ⟨512 * (t.val / 4) + r.val, by have := lt256 t; omega⟩ l) := by
  have hi := idx1 t
  have ht := lt256 t
  unfold iblk
  rw [View.read_apply]
  show V m c main_arg0 _ = _
  rw [V_main_arg0]
  refine congrArg (hA m c) (funext fun a => Fin.ext ?_)
  match a with
  | ⟨0, _⟩ => show win0_1.index t 0 * 512 + 1 * r.val = 512 * (t.val / 4) + r.val; rw [hi.1]; omega
  | ⟨1, _⟩ => show win0_1.index t 1 * 2048 + 1 * l.val = l.val; rw [hi.2]; omega

theorem blk2 (c : Dev nD) (t : Fin cfg0.N) (r : Fin 512) (l : Fin 512) :
    (iblk m c 2 t : FVec Ideal S512x512 .bf16) (ix2 r l) = y0A m c (ix2 ⟨512 * (t.val / 4) + r.val, by have := lt256 t; omega⟩ l) := by
  have hi := idx2 t
  have ht := lt256 t
  unfold iblk
  rw [View.read_apply]
  show V m c main_arg1 _ = _
  rw [V_main_arg1]
  refine congrArg (y0A m c) (funext fun a => Fin.ext ?_)
  match a with
  | ⟨0, _⟩ => show win0_2.index t 0 * 512 + 1 * r.val = 512 * (t.val / 4) + r.val; rw [hi.1]; omega
  | ⟨1, _⟩ => show win0_2.index t 1 * 512 + 1 * l.val = l.val; rw [hi.2]; omega

theorem blk3 (c : Dev nD) (t : Fin cfg0.N) (r : Fin 512) (l : Fin 512) :
    (iblk m c 3 t : FVec Ideal S512x512 .bf16) (ix2 r l) = y1A m c (ix2 ⟨512 * (t.val / 4) + r.val, by have := lt256 t; omega⟩ l) := by
  have hi := idx3 t
  have ht := lt256 t
  unfold iblk
  rw [View.read_apply]
  show V m c main_arg2 _ = _
  rw [V_main_arg2]
  refine congrArg (y1A m c) (funext fun a => Fin.ext ?_)
  match a with
  | ⟨0, _⟩ => show win0_3.index t 0 * 512 + 1 * r.val = 512 * (t.val / 4) + r.val; rw [hi.1]; omega
  | ⟨1, _⟩ => show win0_3.index t 1 * 512 + 1 * l.val = l.val; rw [hi.2]; omega

theorem blk4 (c : Dev nD) (t : Fin cfg0.N) (r : Fin 512) (l : Fin 512) :
    (iblk m c 4 t : FVec Ideal S512x512 .bf16) (ix2 r l) = y2A m c (ix2 ⟨512 * (t.val / 4) + r.val, by have := lt256 t; omega⟩ l) := by
  have hi := idx4 t
  have ht := lt256 t
  unfold iblk
  rw [View.read_apply]
  show V m c main_arg3 _ = _
  rw [V_main_arg3]
  refine congrArg (y2A m c) (funext fun a => Fin.ext ?_)
  match a with
  | ⟨0, _⟩ => show win0_4.index t 0 * 512 + 1 * r.val = 512 * (t.val / 4) + r.val; rw [hi.1]; omega
  | ⟨1, _⟩ => show win0_4.index t 1 * 512 + 1 * l.val = l.val; rw [hi.2]; omega

theorem blk5 (c : Dev nD) (t : Fin cfg0.N) (r : Fin 512) (l : Fin 512) :
    (iblk m c 5 t : FVec Ideal S512x512 .bf16) (ix2 r l) = y3A m c (ix2 ⟨512 * (t.val / 4) + r.val, by have := lt256 t; omega⟩ l) := by
  have hi := idx5 t
  have ht := lt256 t
  unfold iblk
  rw [View.read_apply]
  show V m c main_arg4 _ = _
  rw [V_main_arg4]
  refine congrArg (y3A m c) (funext fun a => Fin.ext ?_)
  match a with
  | ⟨0, _⟩ => show win0_5.index t 0 * 512 + 1 * r.val = 512 * (t.val / 4) + r.val; rw [hi.1]; omega
  | ⟨1, _⟩ => show win0_5.index t 1 * 512 + 1 * l.val = l.val; rw [hi.2]; omega

theorem blk6 (c : Dev nD) (t : Fin cfg0.N) (q : Fin 4) (k : Fin 2048) (l : Fin 512) :
    (iblk m c 6 t : FVec Ideal S4x2048x512 .bf16) (ix3 q k l) = wmA m c (ix3 q k ⟨512 * (t.val % 4) + l.val, by omega⟩) := by
  have hi := idx6 t
  have ht := lt256 t
  unfold iblk
  rw [View.read_apply]
  show V m c main_v0 _ = _
  rw [V_v0]
  refine congrArg (wmA m c) (funext fun a => Fin.ext ?_)
  match a with
  | ⟨0, _⟩ => show win0_6.index t 0 * 4 + 1 * q.val = q.val; rw [hi.1]; omega
  | ⟨1, _⟩ => show win0_6.index t 1 * 2048 + 1 * k.val = k.val; rw [hi.2.1]; omega
  | ⟨2, _⟩ => show win0_6.index t 2 * 512 + 1 * l.val = 512 * (t.val % 4) + l.val; rw [hi.2.2]; omega

theorem blk7 (c : Dev nD) (t : Fin cfg0.N) (q : Fin 4) (k : Fin 512) (l : Fin 512) :
    (iblk m c 7 t : FVec Ideal S4x512x512 .bf16) (ix3 q k l) = wbA m c (ix3 q k ⟨512 * (t.val % 4) + l.val, by omega⟩) := by
  have hi := idx7 t
  have ht := lt256 t
  unfold iblk
  rw [View.read_apply]
  show V m c main_v1 _ = _
  rw [V_v1]
  refine congrArg (wbA m c) (funext fun a => Fin.ext ?_)
  match a with
  | ⟨0, _⟩ => show win0_7.index t 0 * 4 + 1 * q.val = q.val; rw [hi.1]; omega
  | ⟨1, _⟩ => show win0_7.index t 1 * 512 + 1 * k.val = k.val; rw [hi.2.1]; omega
  | ⟨2, _⟩ => show win0_7.index t 2 * 512 + 1 * l.val = 512 * (t.val % 4) + l.val; rw [hi.2.2]; omega

theorem blk8 (c : Dev nD) (t : Fin cfg0.N) (k : Fin 512) (l : Fin 2048) :
    (iblk m c 8 t : FVec Ideal S512x2048 .bf16) (ix2 k l) = woA m c (ix2 ⟨512 * (t.val % 4) + k.val, by omega⟩ l) := by
  have hi := idx8 t
  have ht := lt256 t
  unfold iblk
  rw [View.read_apply]
  show V m c main_v2 _ = _
  rw [V_v2]
  refine congrArg (woA m c) (funext fun a => Fin.ext ?_)
  match a with
  | ⟨0, _⟩ => show win0_8.index t 0 * 512 + 1 * k.val = 512 * (t.val % 4) + k.val; rw [hi.1]; omega
  | ⟨1, _⟩ => show win0_8.index t 1 * 2048 + 1 * l.val = l.val; rw [hi.2]; omega

theorem blk9 (c : Dev nD) (t : Fin cfg0.N) (l : Fin 2048) :
    (iblk m c 9 t : FVec Ideal S1x1x2048 .f32) (ix3 0 0 l) = mdA m c (ix2 ⟨t.val / 32, by have := lt256 t; omega⟩ ⟨4096 + l.val, by omega⟩) := by
  have hi := idx9 t
  have ht := lt256 t
  rw [← md_at (mdA m c)]
  unfold iblk
  rw [View.read_apply]
  show V m c main_v3 _ = _
  rw [V_v3]
  refine congrArg (shapeCast S16x1x12288 (mdA m c : FVec Ideal S16x12288 .f32) shapeCasts_S16x12288_S16x1x12288) (funext fun a => Fin.ext ?_)
  match a with
  | ⟨0, _⟩ => show win0_9.index t 0 * 1 + 1 * 0 = t.val / 32; rw [hi.1]; omega
  | ⟨1, _⟩ => show win0_9.index t 1 * 1 + 1 * 0 = 0; rw [hi.2.1]
  | ⟨2, _⟩ => show win0_9.index t 2 * 2048 + 1 * l.val = 4096 + l.val; rw [hi.2.2]; omega

end Cert.Merge

end
-- ==== Proof.Merge.KernelValue.lean ====
/- The merge's result: every row is the token itself and its gated mixture. -/
module

public import proofs.«01_k».proof.Proof.Merge.Windows

@[expose] public section

set_option maxRecDepth 16384

noncomputable section

namespace Cert.Merge

open Cert.Kernel2Ideal Cert.Kernel2Ideal.Gen Cert.Lru
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The gated sum, from the launch contents of the arguments. -/
abbrev mgA (c : Dev nD) : Fin 32768 → Fin 2048 → EReal := merged (hA m c) (y0A m c) (y1A m c) (y2A m c) (y3A m c) (wmA m c) (wbA m c)

/-- The token that row `r` of point `t`'s block holds. -/
def rowOf (t : Fin cfg0.N) (r : Fin 512) : Fin 32768 := ⟨512 * (t.val / 4) + r.val, by have := lt256 t; omega⟩

/-- The column quarter of point `t`. -/
def quarter (t : Fin cfg0.N) : Fin 4 := ⟨t.val % 4, by omega⟩

/-- The gated sum of point `t`'s block. -/
abbrev mB (c : Dev nD) (t : Fin cfg0.N) : FVec Ideal S512x512 .f32 :=
  mergedB (iblk m c 1 t) (iblk m c 2 t) (iblk m c 3 t) (iblk m c 4 t) (iblk m c 5 t) (iblk m c 6 t) (iblk m c 7 t)

theorem mB_at (c : Dev nD) (t : Fin cfg0.N) (r l : Fin 512) :
    mB m c t (ix2 r l) = mgA m c (rowOf t r) ⟨512 * (quarter t).val + l.val, by omega⟩ := by
  refine (mergedB_at _ _ _ _ _ _ _ r l).trans ?_
  simp only [blk1, blk2, blk3, blk4, blk5, blk6, blk7]
  rfl

theorem part_at (c : Dev nD) (t : Fin cfg0.N) (r : Fin 512) (d : Fin 2048) :
    ∑ k : Fin 512, mB m c t (ix2 r k) * (iblk m c 8 t : FVec Ideal S512x2048 .bf16) (ix2 k d) = part (mgA m c) (woA m c) (rowOf t r) d (quarter t) := by
  simp only [mB_at, blk8]
  rfl

/-- The quarters of the projection up to `j`, added in order. -/
def upto (p : Fin 4 → EReal) : ℕ → EReal
  | 0 => p 0
  | 1 => p 0 + p 1
  | 2 => p 0 + p 1 + p 2
  | _ => p 0 + p 1 + p 2 + p 3

theorem upto_succ (p : Fin 4 → EReal) : ∀ j : Fin 4, ¬j.val = 0 → upto p j.val = upto p (j.val - 1) + p j
  | 0, h => absurd rfl h
  | 1, _ => rfl
  | 2, _ => rfl
  | 3, _ => rfl

/-- What point `t` leaves in the result's block. -/
def Left (c : Dev nD) (t : Fin cfg0.N) (x : FVec Ideal S512x2048 .f32) : Prop :=
  ∀ (r : Fin 512) (d : Fin 2048), x (ix2 r d)
    = if t.val % 4 = 3 then out (hA m c) (y0A m c) (y1A m c) (y2A m c) (y3A m c) (wmA m c) (wbA m c) (woA m c) (xA m c) (mdA m c) (rowOf t r) d
      else upto (part (mgA m c) (woA m c) (rowOf t r) d) (t.val % 4)

theorem left_A (c : Dev nD) (t : Fin cfg0.N) (h0 : t.val % 4 = 0) : Left m c t (outsAt0 m c t.val t.isLt) := by
  intro r d
  have hq : quarter t = 0 := Fin.ext h0
  rw [if_neg (by omega), outsAt0_A m c t h0 (by omega) (by omega), out_A, h0]
  refine (pay1_at _ _ r d).trans ((part_at m c t r d).trans ?_)
  rw [hq]
  rfl

/-- A later point adds its quarter to what the point before left. -/
theorem added (c : Dev nD) (t : Fin cfg0.N) (x : FVec Ideal S512x2048 .f32) (h0 : ¬t.val % 4 = 0) (hn : t.val - 1 < cfg0.N)
    (ih : Left m c ⟨t.val - 1, hn⟩ x) (r : Fin 512) (d : Fin 2048) :
    (k0_pay2 (F := Ideal) (mB m c t) (iblk m c 8 t) x (ix2 r d) : EReal) = upto (part (mgA m c) (woA m c) (rowOf t r) d) (t.val % 4) := by
  have hr : rowOf ⟨t.val - 1, hn⟩ r = rowOf t r := Fin.ext (by
    show 512 * ((t.val - 1) / 4) + r.val = 512 * (t.val / 4) + r.val
    omega)
  have hm : (t.val - 1) % 4 = t.val % 4 - 1 := by omega
  have e := ih r d
  dsimp only at e
  rw [if_neg (by omega), hr, hm] at e
  refine (pay2_at _ _ _ r d).trans ?_
  rw [part_at, e]
  exact (upto_succ _ (quarter t) h0).symm

theorem left_BC (c : Dev nD) (t : Fin cfg0.N) (h0 : ¬t.val % 4 = 0) (hn : t.val - 1 < cfg0.N)
    (ih : Left m c ⟨t.val - 1, hn⟩ (outsAt0 m c (t.val - 1) hn)) : Left m c t (outsAt0 m c t.val t.isLt) := by
  intro r d
  have e := added m c t _ h0 hn ih r d
  by_cases h3 : t.val % 4 = 3
  · rw [if_pos h3, outsAt0_C m c t h0 (by omega) h3, out_C]
    refine (pay3_at _ _ _ r d).trans ?_
    rw [blk0, blk9]
    refine (congrArg (fun z : EReal => _ + _ * z) e).trans ?_
    rw [h3]
    unfold out
    rw [proj_parts]
    have h : t.val / 32 = (rowOf t r).val / 4096 := by
      show _ = (512 * (t.val / 4) + r.val) / 4096
      omega
    simp only [h]
    rfl
  · rw [if_neg h3, outsAt0_B m c t h0 (by omega) h3, out_B]
    exact e

theorem left (c : Dev nD) : ∀ (n : ℕ) (h : n < cfg0.N), Left m c ⟨n, h⟩ (outsAt0 m c n h)
  | 0, h => left_A m c ⟨0, h⟩ rfl
  | n + 1, h => by
    by_cases h0 : (n + 1) % 4 = 0
    · exact left_A m c ⟨n + 1, h⟩ h0
    · exact left_BC m c ⟨n + 1, h⟩ h0 (Nat.lt_of_succ_lt h) (left c n _)

/-! ## The result array -/

/-- The result, from the launch contents of the arguments. -/
def result (c : Dev nD) : Buf (Elt Ideal) ((c.tc : Thread nD τ).loc main_v4) :=
  (fun i : S32768x2048.Idx => out (hA m c) (y0A m c) (y1A m c) (y2A m c) (y3A m c) (wmA m c) (wbA m c) (woA m c) (xA m c) (mdA m c) (i 0) (i 1) : FVec Ideal S32768x2048 .f32)

theorem flushed10 (c : Dev nD) (t : Fin cfg0.N) (hf : (cfg0.win 10).flush t = true) :
    (dats m 0 c).flushed 10 t = ((cfg0.win 10).blk t).view.read (Elt Ideal) (result m c) := by
  have h3 := (flush0_10 t).mp hf
  show (cfg0.win 10).cut (grid0.coords t) ((dats m 0 c).after 10 t) = _
  rw [after0_10]
  funext j
  have hi := idx10 t
  have ht := lt256 t
  have hj : j = (ix2 (j 0) (j 1) : S512x2048.Idx) := funext fun a => Fin.ext (match a with | ⟨0, _⟩ => rfl | ⟨1, _⟩ => rfl)
  have e := left m c t.val t.isLt (j 0) (j 1)
  rw [if_pos h3] at e
  rw [View.read_apply]
  refine (congrArg (outsAt0 m c t.val t.isLt) hj).trans (e.trans ?_)
  have q0 : rowOf t (j 0) = (((cfg0.win 10).blk t).view.emb j) 0 := Fin.ext (by
    show 512 * (t.val / 4) + (j 0).val = win0_10.index t 0 * 512 + 1 * (j 0).val
    rw [hi.1]; omega)
  have q1 : j 1 = (((cfg0.win 10).blk t).view.emb j) 1 := Fin.ext (by
    show (j 1).val = win0_10.index t 1 * 2048 + 1 * (j 1).val
    rw [hi.2]; omega)
  exact congrArg₂ (out (hA m c) (y0A m c) (y1A m c) (y2A m c) (y3A m c) (wmA m c) (wbA m c) (woA m c) (xA m c) (mdA m c)) q0 q1

theorem final10 (c : Dev nD) : (dats m 0 c).arrAt 10 cfg0.N = result m c :=
  (dats m 0 c).arrAt_eq_of_cover 10 (result m c) (flushed10 m c) fun i => by
    have h0 : (i 0 : Nat) < 32768 := (i 0).isLt
    have h1 : (i 1 : Nat) < 2048 := (i 1).isLt
    have hN : cfg0.N = 256 := N_0
    have hlt : 4 * ((i 0 : Nat) / 512) + 3 < cfg0.N := by omega
    refine ⟨⟨4 * ((i 0 : Nat) / 512) + 3, hlt⟩, (flush0_10 _).mpr (by show (4 * ((i 0 : Nat) / 512) + 3) % 4 = 3; omega), ?_⟩
    have hi := idx10 ⟨4 * ((i 0 : Nat) / 512) + 3, hlt⟩
    dsimp only at hi
    generalize (⟨4 * ((i 0 : Nat) / 512) + 3, hlt⟩ : Fin cfg0.N) = t at hi ⊢
    show i ∈ ((View.whole main_v4).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512
                rw [hi.1]; omega
    | ⟨1, _⟩ => show win0_10.index t 1 * 2048 ≤ (i 1 : Nat) ∧ (i 1 : Nat) < win0_10.index t 1 * 2048 + 2048
                rw [hi.2]; omega

/-- The run, read. -/
theorem run : θ_run defs (onTc (τ := τ) (main (F := Ideal))) ⟨m, fun _ => 0, ρ⟩ fun r => ∀ c : Dev nD,
      r.2.mem ((c.tc : Thread nD τ).loc main_v4) = result m c :=
  (θ_run defs _ _).mono (fun _ h c => ((h c).1 10).trans (final10 m c)) (run_main m ρ)

end Cert.Merge

end
-- ==== Proof.Merge.RefRead.lean ====
/- What the merge's reference computes: its host operations, read entry by entry. -/
module

public import proofs.«01_k».proof.Proof.Gen.Reference2Ideal
public import proofs.«01_k».proof.Proof.Merge.Spec

@[expose] public section

set_option maxRecDepth 16384

noncomputable section

namespace Cert.Merge

open Cert.Reference2Ideal Cert.Reference2Ideal.Gen Cert.Lru
open Idealize.ShloMosaic Idealize.ShloMosaic.TcCoe

/-- The logistic function as the reference writes it. -/
def refSigm (z : FVec Ideal S32768x2048 .f32) : FVec Ideal S32768x2048 .f32 :=
  Host.divf (broadcastInDim S32768x2048 ![] bcast_S_S32768x2048 (constant S_ .f32 0x3F800000#32))
    (addf (broadcastInDim S32768x2048 ![] bcast_S_S32768x2048 (constant S_ .f32 0x3F800000#32)) (Host.exp (Host.negf z)))

theorem refSigm_at (z : FVec Ideal S32768x2048 .f32) (T : Fin 32768) (n : Fin 2048) : (refSigm z (ix2 T n) : EReal) = Ideal.logistic (z (ix2 T n)) := by
  pointwise [refSigm]
  rfl

/-- One gated branch of the reference, from its matrices. -/
def refTerm (h : FVec Ideal S34816x2048 .bf16) (y : FVec Ideal S32768x512 .bf16) (w : FVec Ideal S2048x2048 .f32) (b : FVec Ideal S512x2048 .f32) :
    FVec Ideal S32768x2048 .f32 :=
  mulf (refSigm (Host.dotGeneral dot_S32768x2048_S2048x2048_S32768x2048_1_0_0_1_n_n none
      (extf .f32 (extractStridedSlice S32768x2048 ![0, 0] h slices_S34816x2048_S32768x2048_0_0) bitsLt_bf16_f32) w))
    (Host.dotGeneral dot_S32768x512_S512x2048_S32768x2048_1_0_0_1_n_n none (extf .f32 y bitsLt_bf16_f32) b)

theorem refTerm_at (h : FVec Ideal S34816x2048 .bf16) (y : FVec Ideal S32768x512 .bf16) (w : FVec Ideal S2048x2048 .f32) (b : FVec Ideal S512x2048 .f32)
    (T : Fin 32768) (n : Fin 2048) :
    (refTerm h y w b (ix2 T n) : EReal)
      = Ideal.logistic (∑ i : Fin 2048, h (ix2 ⟨T.val, by omega⟩ i) * w (ix2 i n)) * ∑ i : Fin 512, y (ix2 T i) * b (ix2 i n) := by
  pointwise [refTerm, refSigm_at]

/-- Matrix 0 of the gates and of the branches. -/
def refW0 (w : FVec Ideal S4x2048x2048 .f32) : FVec Ideal S2048x2048 .f32 :=
  shapeCast S2048x2048 (extractStridedSlice S1x2048x2048 ![0, 0, 0] w slices_S4x2048x2048_S1x2048x2048_0_0_0) shapeCasts_S1x2048x2048_S2048x2048
def refB0 (w : FVec Ideal S4x512x2048 .f32) : FVec Ideal S512x2048 .f32 :=
  shapeCast S512x2048 (extractStridedSlice S1x512x2048 ![0, 0, 0] w slices_S4x512x2048_S1x512x2048_0_0_0) shapeCasts_S1x512x2048_S512x2048
theorem refW0_at (w : FVec Ideal S4x2048x2048 .f32) (i n : Fin 2048) : refW0 w (ix2 i n) = w (ix3 0 i n) := by
  pointwise [refW0]
theorem refB0_at (w : FVec Ideal S4x512x2048 .f32) (i : Fin 512) (n : Fin 2048) : refB0 w (ix2 i n) = w (ix3 0 i n) := by
  pointwise [refB0]

/-- Matrix 1 of the gates and of the branches. -/
def refW1 (w : FVec Ideal S4x2048x2048 .f32) : FVec Ideal S2048x2048 .f32 :=
  shapeCast S2048x2048 (extractStridedSlice S1x2048x2048 ![1, 0, 0] w slices_S4x2048x2048_S1x2048x2048_1_0_0) shapeCasts_S1x2048x2048_S2048x2048
def refB1 (w : FVec Ideal S4x512x2048 .f32) : FVec Ideal S512x2048 .f32 :=
  shapeCast S512x2048 (extractStridedSlice S1x512x2048 ![1, 0, 0] w slices_S4x512x2048_S1x512x2048_1_0_0) shapeCasts_S1x512x2048_S512x2048
theorem refW1_at (w : FVec Ideal S4x2048x2048 .f32) (i n : Fin 2048) : refW1 w (ix2 i n) = w (ix3 1 i n) := by
  pointwise [refW1]
theorem refB1_at (w : FVec Ideal S4x512x2048 .f32) (i : Fin 512) (n : Fin 2048) : refB1 w (ix2 i n) = w (ix3 1 i n) := by
  pointwise [refB1]

/-- Matrix 2 of the gates and of the branches. -/
def refW2 (w : FVec Ideal S4x2048x2048 .f32) : FVec Ideal S2048x2048 .f32 :=
  shapeCast S2048x2048 (extractStridedSlice S1x2048x2048 ![2, 0, 0] w slices_S4x2048x2048_S1x2048x2048_2_0_0) shapeCasts_S1x2048x2048_S2048x2048
def refB2 (w : FVec Ideal S4x512x2048 .f32) : FVec Ideal S512x2048 .f32 :=
  shapeCast S512x2048 (extractStridedSlice S1x512x2048 ![2, 0, 0] w slices_S4x512x2048_S1x512x2048_2_0_0) shapeCasts_S1x512x2048_S512x2048
theorem refW2_at (w : FVec Ideal S4x2048x2048 .f32) (i n : Fin 2048) : refW2 w (ix2 i n) = w (ix3 2 i n) := by
  pointwise [refW2]
theorem refB2_at (w : FVec Ideal S4x512x2048 .f32) (i : Fin 512) (n : Fin 2048) : refB2 w (ix2 i n) = w (ix3 2 i n) := by
  pointwise [refB2]

/-- Matrix 3 of the gates and of the branches. -/
def refW3 (w : FVec Ideal S4x2048x2048 .f32) : FVec Ideal S2048x2048 .f32 :=
  shapeCast S2048x2048 (extractStridedSlice S1x2048x2048 ![3, 0, 0] w slices_S4x2048x2048_S1x2048x2048_3_0_0) shapeCasts_S1x2048x2048_S2048x2048
def refB3 (w : FVec Ideal S4x512x2048 .f32) : FVec Ideal S512x2048 .f32 :=
  shapeCast S512x2048 (extractStridedSlice S1x512x2048 ![3, 0, 0] w slices_S4x512x2048_S1x512x2048_3_0_0) shapeCasts_S1x512x2048_S512x2048
theorem refW3_at (w : FVec Ideal S4x2048x2048 .f32) (i n : Fin 2048) : refW3 w (ix2 i n) = w (ix3 3 i n) := by
  pointwise [refW3]
theorem refB3_at (w : FVec Ideal S4x512x2048 .f32) (i : Fin 512) (n : Fin 2048) : refB3 w (ix2 i n) = w (ix3 3 i n) := by
  pointwise [refB3]

/-- The reference's gated sum, which starts from zero. -/
def refMerged (h : FVec Ideal S34816x2048 .bf16) (y0 y1 y2 y3 : FVec Ideal S32768x512 .bf16) (wm : FVec Ideal S4x2048x2048 .f32) (wb : FVec Ideal S4x512x2048 .f32) :
    FVec Ideal S32768x2048 .f32 :=
  addf (addf (addf (addf (broadcastInDim S32768x2048 ![] bcast_S_S32768x2048 (constant S_ .f32 0x00000000#32)) (refTerm h y0 (refW0 wm) (refB0 wb)))
    (refTerm h y1 (refW1 wm) (refB1 wb))) (refTerm h y2 (refW2 wm) (refB2 wb))) (refTerm h y3 (refW3 wm) (refB3 wb))

theorem refMerged_at (h : FVec Ideal S34816x2048 .bf16) (y0 y1 y2 y3 : FVec Ideal S32768x512 .bf16) (wm : FVec Ideal S4x2048x2048 .f32)
    (wb : FVec Ideal S4x512x2048 .f32) (T : Fin 32768) (n : Fin 2048) :
    (refMerged h y0 y1 y2 y3 wm wb (ix2 T n) : EReal) = merged h y0 y1 y2 y3 wm wb T n := by
  have e0 := refTerm_at h y0 (refW0 wm) (refB0 wb) T n
  have e1 := refTerm_at h y1 (refW1 wm) (refB1 wb) T n
  have e2 := refTerm_at h y2 (refW2 wm) (refB2 wb) T n
  have e3 := refTerm_at h y3 (refW3 wm) (refB3 wb) T n
  simp only [refW0_at, refW1_at, refW2_at, refW3_at, refB0_at, refB1_at, refB2_at, refB3_at] at e0 e1 e2 e3
  pointwise [refMerged, e0, e1, e2, e3]
  rfl

/-- The reference's result, from the gated sum. -/
def refTail (g : FVec Ideal S32768x2048 .f32) (wo : FVec Ideal S2048x2048 .f32) (x : FVec Ideal S34816x2048 .f32) (md : FVec Ideal S16x12288 .f32) :
    FVec Ideal S32768x2048 .f32 :=
  shapeCast S32768x2048 (addf
    (shapeCast S8x4096x2048 (extractStridedSlice S32768x2048 ![0, 0] x slices_S34816x2048_S32768x2048_0_0) shapeCasts_S32768x2048_S8x4096x2048)
    (mulf (broadcastInDim S8x4096x2048 ![0, 1, 2] bcast_S8x1x2048_S8x4096x2048_0_1_2
        (broadcastInDim S8x1x2048 ![0, 2] bcast_S8x2048_S8x1x2048_0_2 (extractStridedSlice S8x2048 ![0, 4096] md slices_S16x12288_S8x2048_0_4096)))
      (shapeCast S8x4096x2048 (Host.dotGeneral dot_S32768x2048_S2048x2048_S32768x2048_1_0_0_1_n_n none g wo) shapeCasts_S32768x2048_S8x4096x2048)))
    shapeCasts_S8x4096x2048_S32768x2048

theorem refTail_at (g : FVec Ideal S32768x2048 .f32) (wo : FVec Ideal S2048x2048 .f32) (x : FVec Ideal S34816x2048 .f32) (md : FVec Ideal S16x12288 .f32)
    (T : Fin 32768) (d : Fin 2048) :
    (refTail g wo x md (ix2 T d) : EReal)
      = x (ix2 ⟨T.val, by omega⟩ d) + md (ix2 ⟨T.val / 4096, by omega⟩ ⟨4096 + d.val, by omega⟩) * ∑ n : Fin 2048, g (ix2 T n) * wo (ix2 n d) := by
  pointwise [refTail]

theorem ref_at (h : FVec Ideal S34816x2048 .bf16) (y0 y1 y2 y3 : FVec Ideal S32768x512 .bf16) (wm : FVec Ideal S4x2048x2048 .f32)
    (wb : FVec Ideal S4x512x2048 .f32) (wo : FVec Ideal S2048x2048 .f32) (x : FVec Ideal S34816x2048 .f32) (md : FVec Ideal S16x12288 .f32) (T : Fin 32768) (d : Fin 2048) :
    (refTail (refMerged h y0 y1 y2 y3 wm wb) wo x md (ix2 T d) : EReal) = out h y0 y1 y2 y3 wm wb wo x md T d := by
  rw [refTail_at]
  simp only [refMerged_at]
  rfl

/-- The reference's result is, entry by entry, the specification. -/
theorem ref_eq (h : FVec Ideal S34816x2048 .bf16) (y0 y1 y2 y3 : FVec Ideal S32768x512 .bf16) (wm : FVec Ideal S4x2048x2048 .f32)
    (wb : FVec Ideal S4x512x2048 .f32) (wo : FVec Ideal S2048x2048 .f32) (x : FVec Ideal S34816x2048 .f32) (md : FVec Ideal S16x12288 .f32) :
    refTail (refMerged h y0 y1 y2 y3 wm wb) wo x md = fun i : S32768x2048.Idx => out h y0 y1 y2 y3 wm wb wo x md (i 0) (i 1) := by
  funext i
  have hi : i = (ix2 (i 0) (i 1) : S32768x2048.Idx) := funext fun a => Fin.ext (match a with | ⟨0, _⟩ => rfl | ⟨1, _⟩ => rfl)
  exact (congrArg (refTail (refMerged h y0 y1 y2 y3 wm wb) wo x md) hi).trans (ref_at h y0 y1 y2 y3 wm wb wo x md (i 0) (i 1))

end Cert.Merge

end
-- ==== Proof.Merge.RefRun.lean ====
/- The run of the merge's reference: its result is the composition `RefRead` reads, and its arguments are unchanged. -/
module

public import proofs.«01_k».proof.Proof.Merge.RefRead
public import Idealize.ShloMosaic.Lib.Claim

@[expose] public section

set_option maxRecDepth 16384

noncomputable section

namespace Cert.Merge

open Cert.Reference2Ideal Cert.Reference2Ideal.Gen Cert.Lru
open Idealize.ShloMosaic Idealize.ShloMosaic.TcCoe Idealize.SL.Sem

variable (m : (ℓ : Loc nD τ sig) → Buf (Elt Ideal) ℓ) (ρ : Dev nD → PrngReg)

/-- The reference's result from the launch contents. -/
def refResult (c : Dev nD) : Buf (Elt Ideal) ((c.tc : Thread nD τ).loc main_v72) :=
  (refTail (refMerged (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)))
    (m ((c.tc : Thread nD τ).loc main_arg7)) (m ((c.tc : Thread nD τ).loc main_arg8)) (m ((c.tc : Thread nD τ).loc main_arg9)) : FVec Ideal S32768x2048 .f32)

theorem ref_run : θ_run defs (onTc (τ := τ) (main (F := Ideal))) ⟨m, fun _ => 0, ρ⟩ (fun r => ∀ c : Dev nD,
      r.2.mem ((c.tc : Thread nD τ).loc main_v72) = refResult m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))) := by
  hlo_run
  rfl

end Cert.Merge

end
-- ==== Proof.Moe.Body.lean ====
/- What the expert kernel's body does at one tile of rows: the expert's product where the tile is in use, zeros where it is not. -/
module

public import proofs.«01_k».proof.Proof.Gen.Kernel3Ideal.Skeleton
public import proofs.«01_k».proof.Proof.Gen.Kernel3Ideal.Launch
public import Idealize.ShloMosaic.Lib.Pipeline.Quiescent
public import Idealize.ShloMosaic.Lib.Pipeline.Kit
public import Idealize.ShloMosaic.Lib.Pipeline.ValueKit
public import Idealize.ShloMosaic.Lib.Pipeline.TableIdle
public import Idealize.ShloMosaic.Lib.Pipeline.FrameBody
public import Idealize.ShloMosaic.Lib.Claim
public import Idealize.ShloMosaic.Lib.Writes
public import Idealize.ShloMosaic.Lib.Ring
public import Idealize.ShloMosaic.Lib.Affine
public import Idealize.ShloMosaic.Lib.Exec
public import Idealize.ShloMosaic.Lib.Tactic
public import Idealize.ShloMosaic.Adequacy
public import Idealize.ShloMosaic.Init

@[expose] public section

set_option maxRecDepth 16384

noncomputable section

namespace Cert.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The table of experts and the number of tiles in use, as the kernel is handed them. -/
abbrev tabE : Memref sig .tc .smem S160 .i32 := Memref.whole main_arg0
abbrev tabN : Memref sig .tc .smem S1 .i32 := Memref.whole main_arg1

/-- The number of tiles in use, as the body reads it. -/
abbrev used (T1 : S1.Idx → Elt F .i32) : BitVec 32 :=
  View.readAt (Elt F) tabN.view (Rect.unit (s := S1) ![0] S1.size inb_S1_S1_0).toLoadRect T1 (Shape.Idx.first (numel1_S1.symm ▸ Nat.one_pos))

/-- The two branches of the body exclude each other. -/
theorem cond2_iff (i : grid0.Coords) (v : BitVec 32) : k0_cond2 i v = 1#1 ↔ ¬ k0_cond1 i v = 1#1 := by
  unfold k0_cond1 k0_cond2
  dsimp only
  generalize Scalar.cmpi .slt (BitVec.ofNat 32 (i 0).val) v = b
  revert b
  decide

/-- What the body leaves in the result's block. -/
def tileOut (i : grid0.Coords) (T1 : S1.Idx → Elt F .i32) (x0 : Vec F S512x2048 .f32) (x1 x2 : Vec F S1x2048x1024 .bf16)
    (x3 : Vec F S1x1024x2048 .bf16) : Vec F S512x2048 .f32 :=
  if k0_cond1 i (used T1) = 1#1 then k0_pay1 x0 x1 x2 x3 else k0_pay2

set_option maxHeartbeats 4000000 in
/-- The body, on whole staging buffers holding the tile's rows and the weights of the tile's expert, and the tables. -/
theorem body_run (c : Dev nD) (i : grid0.Coords) (arg3 : Memref sig .tc .vmem S512x2048 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S512x2048 .f32) (harg7 : arg7.IsWhole) (T0 : S160.Idx → Elt F .i32) (T1 : S1.Idx → Elt F .i32)
    (x0 : Vec F S512x2048 .f32) (x1 x2 : Vec F S1x2048x1024 .bf16) (x3 : Vec F S1x1024x2048 .bf16) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (tabE.view.loc (c : Thread nD τ) ↦{fullShare.right} T0) ∗ (tabN.view.loc (c : Thread nD τ) ↦{fullShare.right} T1)
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ (tabE.view.loc (c : Thread nD τ) ↦{fullShare.right} T0) ∗ (tabN.view.loc (c : Thread nD τ) ↦{fullShare.right} T1)
            ∗ owns (c : Thread nD τ) arg7 fullShare (tileOut i T1 x0 x1 x2 x3)) -∗ K ⟨⟩))
      ⊢ wp frame (wpE (defs₀ (F := F)) Variants.none c none) Set.univ (cc0_moe_experts i tabE (Memref.isWhole_whole _) tabN (Memref.isWhole_whole _) arg3 harg3 arg4 harg4 arg5 harg5 arg6 harg6 arg7 harg7) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, HT0, HT1, ⟨%d4, %f4, -, HO4⟩, Hk⟩
  have hT0 : tabE.IsWhole := Memref.isWhole_whole _
  have hT1 : tabN.IsWhole := Memref.isWhole_whole _
  obtain rfl := harg3.eq_unread hf0; obtain rfl := harg4.eq_unread hf1; obtain rfl := harg5.eq_unread hf2; obtain rfl := harg6.eq_unread hf3
  by_cases h1 : k0_cond1 i (used T1) = 1#1
  · have h2 : ¬ k0_cond2 i (used T1) = 1#1 := fun h => (cond2_iff i _).1 h h1
    sl_exec! (disch := first | (guard_target = k0_cond1 _ _ = _; exact h1) | (guard_target = ¬(k0_cond2 _ _ = _); exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HT0]; · iexact HT0
    isplitl [HT1]; · iexact HT1
    iexists _; isplitr; swap
    · iexact HO4
    · ipureintro
      rw [tileOut, if_pos h1]
      rw [View.read_writes_eq_canon _ _ _ (View.cover_of_tiledL _ S512x2048.size (by sl_kernel_rfl))]
      sl_unfold_words
      rw [View.canon_unit_zero hz2]
      simp only [View.readAt_eq_ld, harg3.read_unread, harg4.read_unread, harg5.read_unread, harg6.read_unread, View.ld_unit_zero (S := S512x2048) hz2, View.ld_unit_zero (S := S1x2048x1024) hz3, View.ld_unit_zero (S := S1x1024x2048) hz3]
  · have h2 : k0_cond2 i (used T1) = 1#1 := (cond2_iff i _).2 h1
    sl_exec! (disch := first | (guard_target = ¬(k0_cond1 _ _ = _); exact h1) | (guard_target = k0_cond2 _ _ = _; exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HT0]; · iexact HT0
    isplitl [HT1]; · iexact HT1
    iexists _; isplitr; swap
    · iexact HO4
    · ipureintro
      rw [tileOut, if_neg h1]
      rw [View.read_writes_eq_canon _ _ _ (View.cover_of_tiledL _ S512x2048.size (by sl_kernel_rfl))]
      sl_unfold_words
      rw [View.canon_unit_zero hz2]

end Cert.Moe

end
-- ==== Proof.Moe.Frame.lean ====
/- The expert call as a whole: at any tables whose blocks lie in their arrays it runs to its end, leaves its arguments as they
   were, and leaves in its result what the tiles' blocks say. -/
module

public import proofs.«01_k».proof.Proof.Moe.Body

@[expose] public section

set_option maxRecDepth 16384

noncomputable section

namespace Cert.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The launch library's resources, embedded. -/
abbrev EP : Emb (UR sig nD τ) 𝕄 := emb₁

variable (m : (ℓ : Loc nD τ sig) → Buf (Elt F) ℓ) (ρ : Dev nD → PrngReg)

/-- The tables of the launch memory. -/
def tab : pre0.Contents (Elt F) := fun k => m (((0 : Dev nD) : Thread nD τ).loc (pre0.ref k))

/-- The table of experts, and the number of tiles in use. -/
def tabT0 : S160.Idx → Elt F .i32 := tab m 0
def tabT1 : S1.Idx → Elt F .i32 := tab m 1

variable (hok : ok0 (F := F) (tab m))

/-- The tables, admissible, and the pipeline at them. -/
def adm : (pcfg0 (F := F)).Adm := ⟨tab m, hok⟩
abbrev cfgA : Pipeline.Cfg sig Λ₀ := cfg0 (F := F) (adm m hok)
abbrev pcs : Fin 1 → Pipeline.Cfg sig Λ₀ := Pipeline.pin (pcfgs (F := F)) fun _ => adm m hok

abbrev crd (t : Fin (cfgA m hok).N) : grid0.Coords := (cfgA m hok).grid.coords t
abbrev ms0 (t : Fin (cfgA m hok).N) : Memref sig .tc .vmem S512x2048 .f32 := spec0_0.stage ((cfgA m hok).slots t (0 : Fin 5))
abbrev hs0 (t : Fin (cfgA m hok).N) : (ms0 m hok t).IsWhole := hstage0_0 (((cfgA m hok).slots t (0 : Fin 5)).cast nbuf0_0)
abbrev ms1 (t : Fin (cfgA m hok).N) : Memref sig .tc .vmem S1x2048x1024 .bf16 := spec0_1.stage ((cfgA m hok).slots t (1 : Fin 5))
abbrev hs1 (t : Fin (cfgA m hok).N) : (ms1 m hok t).IsWhole := hstage0_1 (((cfgA m hok).slots t (1 : Fin 5)).cast nbuf0_1)
abbrev ms2 (t : Fin (cfgA m hok).N) : Memref sig .tc .vmem S1x2048x1024 .bf16 := spec0_2.stage ((cfgA m hok).slots t (2 : Fin 5))
abbrev hs2 (t : Fin (cfgA m hok).N) : (ms2 m hok t).IsWhole := hstage0_2 (((cfgA m hok).slots t (2 : Fin 5)).cast nbuf0_2)
abbrev ms3 (t : Fin (cfgA m hok).N) : Memref sig .tc .vmem S1x1024x2048 .bf16 := spec0_3.stage ((cfgA m hok).slots t (3 : Fin 5))
abbrev hs3 (t : Fin (cfgA m hok).N) : (ms3 m hok t).IsWhole := hstage0_3 (((cfgA m hok).slots t (3 : Fin 5)).cast nbuf0_3)
abbrev ms4 (t : Fin (cfgA m hok).N) : Memref sig .tc .vmem S512x2048 .f32 := spec0_4.stage ((cfgA m hok).slots t (4 : Fin 5))
abbrev hs4 (t : Fin (cfgA m hok).N) : (ms4 m hok t).IsWhole := hstage0_4 (((cfgA m hok).slots t (4 : Fin 5)).cast nbuf0_4)

/-- A window's block at a point, of the launch memory. -/
def blkOf (c : Dev nD) (w : Fin (cfgA m hok).W) (t : Fin (cfgA m hok).N) :
    (((cfgA m hok).win w).xblock (crd m hok t)).Idx → Elt F ((cfgA m hok).win w).elt :=
  (((cfgA m hok).win w).blk t).view.read (Elt F) (m (((cfgA m hok).win w).arr.view.loc (c : Thread nD τ)))

/-- What the result's block holds after a point. -/
def tileAt (c : Dev nD) (t : Fin (cfgA m hok).N) : S512x2048.Idx → Elt F .f32 :=
  tileOut (crd m hok t) (tabT1 m) (blkOf m hok c (0 : Fin 5) t) (blkOf m hok c (1 : Fin 5) t) (blkOf m hok c (2 : Fin 5) t) (blkOf m hok c (3 : Fin 5) t)

/-- Between the points only the tables are held. -/
def held (c : Dev nD) : sProp 𝕄 :=
  iprop((tabE.view.loc (c : Thread nD τ) ↦{fullShare.right} tabT0 m) ∗ (tabN.view.loc (c : Thread nD τ) ↦{fullShare.right} tabT1 m))

/-- The pipeline's data on a core. -/
def dats (_ : Fin 1) (c : Dev nD) : Dat τ (Elt F) Unit ℕ (UR sig nD τ) ℕ (cfgA m hok) c where
  A w := m (((cfgA m hok).win w).arr.view.loc (c : Thread nD τ))
  after w t := match w with
    | ⟨0, _⟩ => blkOf m hok c (0 : Fin 5) t
    | ⟨1, _⟩ => blkOf m hok c (1 : Fin 5) t
    | ⟨2, _⟩ => blkOf m hok c (2 : Fin 5) t
    | ⟨3, _⟩ => blkOf m hok c (3 : Fin 5) t
    | ⟨4, _⟩ => tileAt m hok c t
  Φ _ := held m c
  q _ := fullShare
  owed _ := 0

theorem after0 (c : Dev nD) (t : Fin (cfgA m hok).N) : (dats m hok 0 c).after (0 : Fin 5) t = blkOf m hok c (0 : Fin 5) t := rfl
theorem after1 (c : Dev nD) (t : Fin (cfgA m hok).N) : (dats m hok 0 c).after (1 : Fin 5) t = blkOf m hok c (1 : Fin 5) t := rfl
theorem after2 (c : Dev nD) (t : Fin (cfgA m hok).N) : (dats m hok 0 c).after (2 : Fin 5) t = blkOf m hok c (2 : Fin 5) t := rfl
theorem after3 (c : Dev nD) (t : Fin (cfgA m hok).N) : (dats m hok 0 c).after (3 : Fin 5) t = blkOf m hok c (3 : Fin 5) t := rfl
theorem after4 (c : Dev nD) (t : Fin (cfgA m hok).N) : (dats m hok 0 c).after (4 : Fin 5) t = tileAt m hok c t := rfl

/-- An input's staging buffer holds its block when the body runs. -/
theorem before0 (c : Dev nD) (t : Fin (cfgA m hok).N) (d) : (dats m hok 0 c).before (0 : Fin 5) t d = blkOf m hok c (0 : Fin 5) t :=
  ((dats m hok 0 c).before_in_eq_fetched (0 : Fin 5) rfl (fun _ => rfl) (fun _ _ _ => rfl) (fun t => by rw [after0]; unfold Dat.blockOf blkOf; rfl) t d).trans
    (by unfold Dat.fetched Dat.blockOf blkOf; rfl)
theorem before1 (c : Dev nD) (t : Fin (cfgA m hok).N) (d) : (dats m hok 0 c).before (1 : Fin 5) t d = blkOf m hok c (1 : Fin 5) t :=
  ((dats m hok 0 c).before_in_eq_fetched (1 : Fin 5) rfl (fun _ => rfl) (fun _ _ _ => rfl) (fun t => by rw [after1]; unfold Dat.blockOf blkOf; rfl) t d).trans
    (by unfold Dat.fetched Dat.blockOf blkOf; rfl)
theorem before2 (c : Dev nD) (t : Fin (cfgA m hok).N) (d) : (dats m hok 0 c).before (2 : Fin 5) t d = blkOf m hok c (2 : Fin 5) t :=
  ((dats m hok 0 c).before_in_eq_fetched (2 : Fin 5) rfl (fun _ => rfl) (fun _ _ _ => rfl) (fun t => by rw [after2]; unfold Dat.blockOf blkOf; rfl) t d).trans
    (by unfold Dat.fetched Dat.blockOf blkOf; rfl)
theorem before3 (c : Dev nD) (t : Fin (cfgA m hok).N) (d) : (dats m hok 0 c).before (3 : Fin 5) t d = blkOf m hok c (3 : Fin 5) t :=
  ((dats m hok 0 c).before_in_eq_fetched (3 : Fin 5) rfl (fun _ => rfl) (fun _ _ _ => rfl) (fun t => by rw [after3]; unfold Dat.blockOf blkOf; rfl) t d).trans
    (by unfold Dat.fetched Dat.blockOf blkOf; rfl)

/-- The result's block moves at every point, -/
theorem flushed (t : Fin (cfgA m hok).N) : ((cfgA m hok).win (4 : Fin 5)).flush t = true := by
  refine (Pipeline.Window.flush_reads ((cfgA m hok).win (4 : Fin 5)) rfl (0 : Fin 1) (show 1 < grid0.bound 0 by decide) rfl ?_ (P := 1) (m := 0) (show grid0.stride 0 = 1 by decide) rfl t).2 (Nat.mod_one _)
  intro i i' h
  have h0 : (BitVec.ofNat 32 (i 0).val).toNat = (BitVec.ofNat 32 (i' 0).val).toNat := congrFun h 0
  have hi : (i 0).val < 160 := (i 0).isLt
  have hi' : (i' 0).val < 160 := (i' 0).isLt
  rw [BitVec.toNat_ofNat, BitVec.toNat_ofNat, Nat.mod_eq_of_lt (by omega), Nat.mod_eq_of_lt (by omega)] at h0
  exact Fin.ext h0

/-- and the body stores it at every point. -/
theorem stored (t : Fin (cfgA m hok).N) : (cfgA m hok).idle (4 : Fin 5) ((cfgA m hok).grid.coords t) = false := by
  show (!(k0_cond1 (crd m hok t) ((tab m).atD 1 ![0]) == 1#1) && !(k0_cond2 (crd m hok t) ((tab m).atD 1 ![0]) == 1#1)) = false
  by_cases h : k0_cond1 (crd m hok t) ((tab m).atD 1 ![0]) = 1#1
  · rw [h]; rfl
  · rw [(cond2_iff _ _).2 h, Bool.and_comm]; rfl

/-- The body as the pipeline calls it. -/
abbrev bodyAt (t : Fin (cfgA m hok).N) : Prog (TpuEff nD τ sig (Elt F) Λ₀ .tc) PUnit :=
  cc0_moe_experts (crd m hok t) (Memref.whole main_arg0) (Memref.isWhole_whole _) (Memref.whole main_arg1) (Memref.isWhole_whole _) (ms0 m hok t) (hs0 m hok t) (ms1 m hok t) (hs1 m hok t) (ms2 m hok t) (hs2 m hok t) (ms3 m hok t) (hs3 m hok t) (ms4 m hok t) (hs4 m hok t)

set_option maxHeartbeats 4000000 in
/-- The body at a point: from the inputs' blocks and the tables to the result's block. -/
theorem sound_body (c : Dev nD) (t : Fin (cfgA m hok).N) :
    iprop((dats m hok 0 c).Φ t.castSucc ∗ (dats m hok 0 c).owesAt () t.castSucc
        ∗ (∃ d, owns (c : Thread nD τ) (ms0 m hok t) fullShare ((dats m hok 0 c).before (0 : Fin 5) t d))
        ∗ (∃ d, owns (c : Thread nD τ) (ms1 m hok t) fullShare ((dats m hok 0 c).before (1 : Fin 5) t d))
        ∗ (∃ d, owns (c : Thread nD τ) (ms2 m hok t) fullShare ((dats m hok 0 c).before (2 : Fin 5) t d))
        ∗ (∃ d, owns (c : Thread nD τ) (ms3 m hok t) fullShare ((dats m hok 0 c).before (3 : Fin 5) t d))
        ∗ (∃ d, owns (c : Thread nD τ) (ms4 m hok t) fullShare ((dats m hok 0 c).before (4 : Fin 5) t d)))
      ⊢ wp frame (wpE (defs₀ (F := F)) Variants.none c none) Set.univ (bodyAt m hok t) fun _ =>
          iprop((dats m hok 0 c).Φ t.succ ∗ (dats m hok 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok 0 c).before w t d))
                  | true => owns (c : Thread nD τ) (((cfgA m hok).win w).stage ((cfgA m hok).slots t w)) fullShare ((dats m hok 0 c).after w t)
                | false => owns (c : Thread nD τ) (((cfgA m hok).win w).stage ((cfgA m hok).slots t w)) fullShare ((dats m hok 0 c).after w t)) := by
  rw [bigSep_W0]
  rewrite [stored m hok t]
  simp only [before0, before1, before2, before3, after0, after1, after2, after3, after4]
  rewrite [show (dats m hok 0 c).Φ t.succ = held m c from rfl, show (dats m hok 0 c).Φ t.castSucc = held m c from rfl,
    show (dats m hok 0 c).owesAt () t.succ = (dats m hok 0 c).owesAt () t.castSucc from rfl]
  unfold held tileAt
  iintro ⟨⟨HT0, HT1⟩, Ho, ⟨%d0, H0⟩, ⟨%d1, H1⟩, ⟨%d2, H2⟩, ⟨%d3, H3⟩, ⟨%d4, H4⟩⟩
  iapply (body_run c (crd m hok t) (ms0 m hok t) (hs0 m hok t) (ms1 m hok t) (hs1 m hok t) (ms2 m hok t) (hs2 m hok t) (ms3 m hok t) (hs3 m hok t) (ms4 m hok t) (hs4 m hok t) (tabT0 m) (tabT1 m) (blkOf m hok c (0 : Fin 5) t) (blkOf m hok c (1 : Fin 5) t) (blkOf m hok c (2 : Fin 5) t) (blkOf m hok c (3 : Fin 5) t) _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  iintro ⟨H0, H1, H2, H3, HT0, HT1, H4⟩
  isplitl [HT0 HT1]
  · isplitl [HT0]
    · iexact HT0
    iexact HT1
  isplitl [Ho]; · iexact Ho
  isplitl [H0]; · iexact H0
  isplitl [H1]; · iexact H1
  isplitl [H2]; · iexact H2
  isplitl [H3]; · iexact H3
  iexact H4

theorem body_obligation (c : Dev nD) : BodyObligation (dats m hok 0 c) (defs₀ (F := F)) Variants.none () Set.univ := fun t => by
  rw [bigSep_W0]
  exact sound_body m hok c t

/-- The launch's resources. -/
def u₀ : UR sig nD τ :=
  initOf (Pipeline.cells (pcs m hok) ((launch0 (F := F)).cellOf_inj fun _ => adm m hok))
    (Pipeline.launchToks (pcs m hok) ((launch0 (F := F)).cellOf_inj fun _ => adm m hok))

theorem share_eq (c : Dev nD) (w : Fin (cfgA m hok).W) : (dats m hok 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem held_intro (c : Dev nD) :
    iprop(BI.emp ∗ Pipeline.prefHeld pre0 c (fun _ => fullShare.right) (adm m hok).1 ∗ Pipeline.scopedRest spec0 c) ⊢ (dats m hok 0 c).Φ 0 := by
  rw [prefHeld_eq, scopedRest0_eq, show (dats m hok 0 c).Φ 0 = held m c from rfl]
  unfold held
  iintro ⟨-, ⟨HT0, HT1⟩, -⟩
  isplitl [HT0]
  · iexact HT0
  iexact HT1

theorem held_exit (c : Dev nD) : (dats m hok 0 c).Φ (Fin.last (cfgA m hok).N) ⊢ iprop(BI.emp ∗ Pipeline.scopedRest spec0 c) := by
  rw [scopedRest0_eq, show (dats m hok 0 c).Φ (Fin.last (cfgA m hok).N) = held m c from rfl]
  unfold held
  iintro ⟨-, -⟩
  isplitr; · iempintro
  iempintro

/-- The end: every array at what the blocks say, the tables as they were. -/
def AtEnd : PUnit × MemSt nD τ sig (Elt F) → Prop := fun r =>
  ∀ c : Dev nD, (∀ w : Fin (cfgA m hok).W, r.2.mem (((cfgA m hok).win w).arr.view.loc (c : Thread nD τ)) = (dats m hok 0 c).arrAt w (cfgA m hok).N)
    ∧ ∀ j, r.2.mem ((c : Thread nD τ).loc (pre0.ref j)) = tab m j

theorem tab_eq (c : Dev nD) (j : Fin 2) : m ((c : Thread nD τ).loc (pre0.ref j)) = tab m j := by
  have hc : c = 0 := Subsingleton.elim _ _
  subst hc
  rfl

set_option backward.isDefEq.respectTransparency.types false in
set_option maxHeartbeats 4000000 in
/-- The call runs to its end, from any memory with admissible tables. -/
theorem run_main : θ_run (defs (F := F)) (onTc (τ := τ) (main (F := F))) ⟨m, fun _ => 0, ρ⟩ (fun r => AtEnd m hok r ∧ r.2.sem = fun _ => 0) :=
  Pipeline.θ_run_region_noSem_pf_quiescent pcfgs (fun _ => adm m hok) (dats m hok) () ((launch0 (F := F)).cellOf_inj fun _ => adm m hok) (0 : Fin 1)
    (launch0 (F := F)).win.to₀ (launch0 (F := F)).pre EP defs₀ Variants.none m ρ main
    (hbody := fun c => (body_obligation m hok c).loose) (hne := (launch0 (F := F)).block_pos)
    (harr := (launch0 (F := F)).arr_whole) (hstage := (launch0 (F := F)).stage_whole) (howed := fun _ _ => rfl)
    (u₀ := u₀ m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hok) (dats m hok) 0 (launch0 (F := F)).win.arr_inj c (launch0 (F := F)).arr_whole
      (share_eq m hok c) _ _ fun _ => rfl)
    (hpf := fun c j => tab_eq m c j)
    (X := fun _ => iprop(emp)) (Y := fun _ => iprop(emp)) (Z := fun _ => iprop(emp))
    (hX := fun c => by rw [unscopedRestP0_eq]; iintro -; isplitr <;> iempintro)
    (hin := held_intro m hok)
    (hout := held_exit m hok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hok in
/-- In particular its arguments are left as they were, and every counter at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (tab_eq m c 0).symm, ((h.1 c).2 1).trans (tab_eq m c 1).symm,
    ((h.1 c).1 (0 : Fin 5)).trans ((dats m hok 0 c).arrAt_in (0 : Fin 5) rfl _), ((h.1 c).1 (1 : Fin 5)).trans ((dats m hok 0 c).arrAt_in (1 : Fin 5) rfl _),
    ((h.1 c).1 (2 : Fin 5)).trans ((dats m hok 0 c).arrAt_in (2 : Fin 5) rfl _), ((h.1 c).1 (3 : Fin 5)).trans ((dats m hok 0 c).arrAt_in (3 : Fin 5) rfl _)⟩, h.2⟩)
    (run_main m ρ hok)

end Cert.Moe

end
-- ==== Proof.Moe.Tables.lean ====
/- The tables of the expert call: which blocks the windows take, and that they lie in their arrays when every tile's expert is one of the 32. -/
module

public import proofs.«01_k».proof.Proof.Moe.Frame
public import Idealize.ShloMosaic.Lib.ValueIdx

@[expose] public section

set_option maxRecDepth 16384

noncomputable section

namespace Cert.Moe

open Cert.Kernel3Ideal Cert.Kernel3Ideal.Gen
open Idealize.ShloMosaic Idealize.ShloMosaic.TcCoe

variable {F : FTy → Type} [FloatOps F]

/-- Entry `n` of the table of experts, and the number of tiles in use. -/
def teAt (T0 : S160.Idx → BitVec 32) (n : Fin 160) : BitVec 32 := T0 (ix1 n)
def nvAt (T1 : S1.Idx → BitVec 32) : BitVec 32 := T1 (ix1 0)

theorem used_eq (T1 : S1.Idx → Elt F .i32) : used T1 = nvAt T1 := by
  unfold used nvAt
  rw [View.readAt]
  refine congrArg T1 (funext fun a => Fin.ext ?_)
  match a with
  | ⟨0, _⟩ => rfl

/-- The tile that the first window takes at tile `i`: `i` itself while the tile is in use, else one below. -/
def tileWord (i : Fin 160) (nv : BitVec 32) : BitVec 32 :=
  Scalar.maxsi (Scalar.minsi (BitVec.ofNat 32 i.val) (Scalar.subi nv 1#32)) 0#32

theorem clamp_spec (a b : BitVec 32) (ha : a.toNat < 160) :
    (Scalar.maxsi (Scalar.minsi a b) 0#32).toNat < 160 := by
  unfold Scalar.maxsi Scalar.minsi IntOp.maxsi IntOp.minsi
  simp only [BitVec.slt, decide_eq_true_eq]
  have hb := b.isLt
  have h0 : (0#32).toInt = 0 := rfl
  have z0 : (0#32).toNat = 0 := rfl
  have ea : a.toInt = a.toNat := BitVec.toInt_eq_toNat_of_lt (by omega)
  have eb : b.toInt = if 2 * b.toNat < 2 ^ 32 then (b.toNat : Int) else (b.toNat : Int) - (2 ^ 32 : Nat) := BitVec.toInt_eq_toNat_cond b
  split_ifs with h1 h2 h2
  · exact ha
  · omega
  · rw [h0] at h2; split_ifs at eb <;> omega
  · exact Nat.zero_lt_succ _

theorem tileWord_lt (i : Fin 160) (nv : BitVec 32) : (tileWord i nv).toNat < 160 :=
  clamp_spec _ _ (by rw [BitVec.toNat_ofNat]; exact lt_of_le_of_lt (Nat.mod_le _ _) i.isLt)

theorem tileWord_live (i : Fin 160) (nv : BitVec 32) (h : (BitVec.ofNat 32 i.val).slt nv = true) : (tileWord i nv).toNat = i.val := by
  have hi := i.isLt
  have hn : (BitVec.ofNat 32 i.val).toNat = i.val := by rw [BitVec.toNat_ofNat]; exact Nat.mod_eq_of_lt (by omega)
  unfold tileWord Scalar.maxsi Scalar.minsi Scalar.subi IntOp.maxsi IntOp.minsi IntOp.subi
  generalize BitVec.ofNat 32 i.val = a at h hn ⊢
  have ea : a.toInt = a.toNat := BitVec.toInt_eq_toNat_of_lt (by omega)
  have h0 : (0#32).toInt = 0 := rfl
  have z0 : (0#32).toNat = 0 := rfl
  have hb := nv.isLt
  have eb : nv.toInt = if 2 * nv.toNat < 2 ^ 32 then (nv.toNat : Int) else (nv.toNat : Int) - (2 ^ 32 : Nat) := BitVec.toInt_eq_toNat_cond nv
  simp only [BitVec.slt, decide_eq_true_eq] at h ⊢
  have hs : (nv - 1#32).toNat = nv.toNat - 1 := by
    rw [BitVec.toNat_sub]
    have : (1#32).toNat = 1 := rfl
    rw [this]
    split_ifs at eb <;> omega
  have es : (nv - 1#32).toInt = (nv - 1#32).toNat := BitVec.toInt_eq_toNat_of_lt (by rw [hs]; split_ifs at eb <;> omega)
  split_ifs with h1 h2 h2
  · exact hn
  · omega
  · rw [hs] at es ⊢; split_ifs at eb <;> omega
  · omega

theorem ix0_0 (pf : pre0.Contents (Elt F)) (i : grid0.Coords) :
    cc0_transform_0 inb_S1_S1_0 numel1_S1 pf i = ![(tileWord (i 0) (nvAt (pf 1))).toNat, 0] := by
  have e : pf.at 1 (Rect.unit (s := S1) ![0] S1.size inb_S1_S1_0) numel1_S1 = nvAt (pf 1) :=
    congrArg (pf 1) (funext fun a => Fin.ext (match a with | ⟨0, _⟩ => rfl))
  unfold cc0_transform_0 tileWord
  dsimp only
  rw [e]
  rfl

theorem ix0_1 (pf : pre0.Contents (Elt F)) (i : grid0.Coords) :
    cc0_transform_1 k0_off1_inb numel1_S1 pf i = ![(teAt (pf 0) (i 0)).toNat, 0, 0] := by
  have e : pf.at 0 (Rect.unit (s := S160) (k0_off1 i) S1.size (k0_off1_inb i)) numel1_S1 = teAt (pf 0) (i 0) :=
    congrArg (pf 0) (funext fun a => Fin.ext (match a with
      | ⟨0, _⟩ => by
        show k0_off1 i 0 + 1 * 0 = (i 0).val
        rw [k0_off1_eq]; rfl))
  unfold cc0_transform_1
  dsimp only
  refine Eq.trans (congrArg (fun v : BitVec 32 => ![v.toNat, (0#32).toNat, (0#32).toNat]) e) rfl

theorem ix0_2 (pf : pre0.Contents (Elt F)) (i : grid0.Coords) :
    cc0_transform_2 k0_off1_inb numel1_S1 pf i = ![(teAt (pf 0) (i 0)).toNat, 0, 0] := ix0_1 pf i

theorem ix0_3 (pf : pre0.Contents (Elt F)) (i : grid0.Coords) :
    cc0_transform_3 k0_off1_inb numel1_S1 pf i = ![(teAt (pf 0) (i 0)).toNat, 0, 0] := ix0_1 pf i

/-- Every block lies in its array when every tile's expert is one of the 32. -/
theorem ok_of_range (pf : pre0.Contents (Elt F)) (h : ∀ n, (teAt (pf 0) n).toNat < 32) : ok0 pf := by
  have hw : ∀ i : grid0.Coords, ∀ a : Fin 3, (![(teAt (pf 0) (i 0)).toNat, 0, 0] a + 1) * S1x2048x1024.size a ≤ S32x2048x1024.size a := fun i a => by
    have := h (i 0)
    match a with
    | ⟨0, _⟩ => show ((teAt (pf 0) (i 0)).toNat + 1) * 1 ≤ 32; omega
    | ⟨1, _⟩ => exact (by decide : (0 + 1) * 2048 ≤ 2048)
    | ⟨2, _⟩ => exact (by decide : (0 + 1) * 1024 ≤ 1024)
  have hd : ∀ i : grid0.Coords, ∀ a : Fin 3, (![(teAt (pf 0) (i 0)).toNat, 0, 0] a + 1) * S1x1024x2048.size a ≤ S32x1024x2048.size a := fun i a => by
    have := h (i 0)
    match a with
    | ⟨0, _⟩ => show ((teAt (pf 0) (i 0)).toNat + 1) * 1 ≤ 32; omega
    | ⟨1, _⟩ => exact (by decide : (0 + 1) * 1024 ≤ 1024)
    | ⟨2, _⟩ => exact (by decide : (0 + 1) * 2048 ≤ 2048)
  refine ⟨fun i => ⟨fun a => ?_, .inl rfl⟩, fun i => ⟨fun a => ?_, .inr (Affine.block_words_dvd (s := S32x2048x1024) (p := EltTy.packing .bf16) (by decide) (by decide))⟩,
    fun i => ⟨fun a => ?_, .inr (Affine.block_words_dvd (s := S32x2048x1024) (p := EltTy.packing .bf16) (by decide) (by decide))⟩,
    fun i => ⟨fun a => ?_, .inr (Affine.block_words_dvd (s := S32x1024x2048) (p := EltTy.packing .bf16) (by decide) (by decide))⟩⟩
  · rw [ix0_0]
    have := tileWord_lt (i 0) (nvAt (pf 1))
    match a with
    | ⟨0, _⟩ => show ((tileWord (i 0) (nvAt (pf 1))).toNat + 1) * 512 ≤ 81920; omega
    | ⟨1, _⟩ => exact (by decide : (0 + 1) * 2048 ≤ 2048)
  · rw [ix0_1]; exact hw i a
  · rw [ix0_2]; exact hw i a
  · rw [ix0_3]; exact hd i a

end Cert.Moe

end
-- ==== Proof.Moe.Spec.lean ====
/- What the expert call computes: every row of a tile in use is the output of the tile's expert, and every other row is zero. -/
module

public import proofs.«01_k».proof.Proof.Lru.Spec

@[expose] public section

noncomputable section

namespace Cert.Moe

open Cert.Lru Idealize.ShloMosaic

/-- A row of the hidden layer's product with one expert's matrix. -/
def proj (x : Arr2 81920 2048) (w : Arr3 32 2048 1024) (e : Fin 32) (T : Fin 81920) (f : Fin 1024) : EReal :=
  ∑ k : Fin 2048, x (ix2 T k) * w (ix3 e k f)

/-- Expert `e`'s output on row `T`: the gated hidden layer times the second matrix. -/
def ffn (x : Arr2 81920 2048) (wg wu : Arr3 32 2048 1024) (wd : Arr3 32 1024 2048) (e : Fin 32) (T : Fin 81920) (d : Fin 2048) : EReal :=
  ∑ f : Fin 1024, proj x wg e T f * Ideal.logistic (proj x wg e T f) * proj x wu e T f * wd (ix3 e f d)

/-- The call's result at row `T`, from the table of the tiles' experts and the number of tiles in use. -/
def out (te : Fin 160 → BitVec 32) (nv : BitVec 32) (x : Arr2 81920 2048) (wg wu : Arr3 32 2048 1024) (wd : Arr3 32 1024 2048)
    (h : ∀ n, (te n).toNat < 32) (T : Fin 81920) (d : Fin 2048) : EReal :=
  if (BitVec.ofNat 32 (T.val / 512)).slt nv then ffn x wg wu wd ⟨(te ⟨T.val / 512, by omega⟩).toNat, h _⟩ T d else 0

end Cert.Moe

end
-- ==== Proof.Moe.Values.lean ====
/- What a point of the expert call computes, entry by entry, and what its windows hold there. -/
module

public import proofs.«01_k».proof.Proof.Moe.Tables
public import proofs.«01_k».proof.Proof.Moe.Spec

@[expose] public section

set_option maxRecDepth 16384

noncomputable section

namespace Cert.Moe

open Cert.Kernel3Ideal Cert.Kernel3Ideal.Gen Cert.Lru
open Idealize.ShloMosaic Idealize.ShloMosaic.TcCoe Idealize.SL.Sem

/-- A tile's product with one expert's matrix. -/
def projB (x : FVec Ideal S512x2048 .f32) (w : FVec Ideal S1x2048x1024 .bf16) (r : Fin 512) (f : Fin 1024) : EReal :=
  ∑ k : Fin 2048, x (ix2 r k) * w (ix3 0 k f)

theorem pay1_at (x : FVec Ideal S512x2048 .f32) (wg wu : FVec Ideal S1x2048x1024 .bf16) (wd : FVec Ideal S1x1024x2048 .bf16) (r : Fin 512) (d : Fin 2048) :
    (k0_pay1 (F := Ideal) x wg wu wd (ix2 r d) : EReal)
      = ∑ f : Fin 1024, projB x wg r f * Ideal.logistic (projB x wg r f) * projB x wu r f * wd (ix3 0 f d) := by
  pointwise [k0_pay1]
  refine Finset.sum_congr rfl fun f _ => ?_
  rw [half_f32, logistic_tanh]
  rfl

theorem pay2_at (r : Fin 512) (d : Fin 2048) : (k0_pay2 (F := Ideal) (ix2 r d) : EReal) = 0 := by
  pointwise [k0_pay2]

theorem cond1_iff (i : grid0.Coords) (v : BitVec 32) : k0_cond1 i v = 1#1 ↔ (BitVec.ofNat 32 (i 0).val).slt v = true := by
  unfold k0_cond1
  dsimp only
  unfold Scalar.cmpi IntOp.cmpi
  dsimp only
  generalize (BitVec.ofNat 32 (i 0).val).slt v = b
  revert b
  decide

variable (m : (ℓ : Loc nD τ sig) → Buf (Elt Ideal) ℓ) (hok : ok0 (F := Ideal) (tab m))

/-- The argument arrays at launch. -/
abbrev xA (c : Dev nD) : Arr2 81920 2048 := m ((c.tc : Thread nD τ).loc main_arg2)
abbrev wgA (c : Dev nD) : Arr3 32 2048 1024 := m ((c.tc : Thread nD τ).loc main_arg3)
abbrev wuA (c : Dev nD) : Arr3 32 2048 1024 := m ((c.tc : Thread nD τ).loc main_arg4)
abbrev wdA (c : Dev nD) : Arr3 32 1024 2048 := m ((c.tc : Thread nD τ).loc main_arg5)

theorem idx0 (t : Fin (cfgA m hok).N) : ((cfgA m hok).win (0 : Fin 5)).index t = ![(tileWord (crd m hok t 0) (nvAt (tabT1 m))).toNat, 0] :=
  ix0_0 (tab m) (crd m hok t)
theorem idx1 (t : Fin (cfgA m hok).N) : ((cfgA m hok).win (1 : Fin 5)).index t = ![(teAt (tabT0 m) (crd m hok t 0)).toNat, 0, 0] :=
  ix0_1 (tab m) (crd m hok t)
theorem idx2 (t : Fin (cfgA m hok).N) : ((cfgA m hok).win (2 : Fin 5)).index t = ![(teAt (tabT0 m) (crd m hok t 0)).toNat, 0, 0] :=
  ix0_2 (tab m) (crd m hok t)
theorem idx3 (t : Fin (cfgA m hok).N) : ((cfgA m hok).win (3 : Fin 5)).index t = ![(teAt (tabT0 m) (crd m hok t 0)).toNat, 0, 0] :=
  ix0_3 (tab m) (crd m hok t)

theorem crd_val (t : Fin (cfgA m hok).N) : (crd m hok t 0).val = t.val :=
  (by decide +kernel : ∀ t : Fin grid0.N, (grid0.coords t 0).val = t.val) t

theorem lt160 (t : Fin (cfgA m hok).N) : t.val < 160 := by
  have h := t.isLt
  have hN : (cfgA m hok).N = 160 := N_0
  omega

theorem blk0 (c : Dev nD) (t : Fin (cfgA m hok).N) (r : Fin 512) (l : Fin 2048) (h : (BitVec.ofNat 32 t.val).slt (nvAt (tabT1 m)) = true) :
    (blkOf m hok c (0 : Fin 5) t : FVec Ideal S512x2048 .f32) (ix2 r l) = xA m c (ix2 ⟨512 * t.val + r.val, by have := lt160 m hok t; omega⟩ l) := by
  have hi := idx0 m hok t
  have hc := crd_val m hok t
  have hw : (tileWord (crd m hok t 0) (nvAt (tabT1 m))).toNat = t.val := (tileWord_live _ _ (by rw [hc]; exact h)).trans hc
  rw [hw] at hi
  have ht := lt160 m hok t
  unfold blkOf
  rw [View.read_apply]
  refine congrArg (xA m c) (funext fun a => Fin.ext ?_)
  match a with
  | ⟨0, _⟩ => show ((cfgA m hok).win (0 : Fin 5)).index t (0 : Fin 2) * 512 + 1 * r.val = 512 * t.val + r.val
              rw [hi]; show t.val * 512 + 1 * r.val = _; omega
  | ⟨1, _⟩ => show ((cfgA m hok).win (0 : Fin 5)).index t (1 : Fin 2) * 2048 + 1 * l.val = l.val
              rw [hi]; show 0 * 2048 + 1 * l.val = _; omega

/-- The expert of a tile. -/
abbrev expert (hr : ∀ n, (teAt (tabT0 m) n).toNat < 32) (t : Fin (cfgA m hok).N) : Fin 32 :=
  ⟨(teAt (tabT0 m) (crd m hok t 0)).toNat, hr _⟩

theorem blk1 (hr : ∀ n, (teAt (tabT0 m) n).toNat < 32) (c : Dev nD) (t : Fin (cfgA m hok).N) (k : Fin 2048) (f : Fin 1024) :
    (blkOf m hok c (1 : Fin 5) t : FVec Ideal S1x2048x1024 .bf16) (ix3 0 k f) = wgA m c (ix3 (expert m hok hr t) k f) := by
  have hi := idx1 m hok t
  unfold blkOf
  rw [View.read_apply]
  refine congrArg (wgA m c) (funext fun a => Fin.ext ?_)
  match a with
  | ⟨0, _⟩ => show ((cfgA m hok).win (1 : Fin 5)).index t (0 : Fin 3) * 1 + 1 * 0 = (expert m hok hr t).val
              rw [hi]; show (teAt (tabT0 m) (crd m hok t 0)).toNat * 1 + 1 * 0 = (teAt (tabT0 m) (crd m hok t 0)).toNat; omega
  | ⟨1, _⟩ => show ((cfgA m hok).win (1 : Fin 5)).index t (1 : Fin 3) * 2048 + 1 * k.val = k.val
              rw [hi]; show 0 * 2048 + 1 * k.val = _; omega
  | ⟨2, _⟩ => show ((cfgA m hok).win (1 : Fin 5)).index t (2 : Fin 3) * 1024 + 1 * f.val = f.val
              rw [hi]; show 0 * 1024 + 1 * f.val = _; omega

theorem blk2 (hr : ∀ n, (teAt (tabT0 m) n).toNat < 32) (c : Dev nD) (t : Fin (cfgA m hok).N) (k : Fin 2048) (f : Fin 1024) :
    (blkOf m hok c (2 : Fin 5) t : FVec Ideal S1x2048x1024 .bf16) (ix3 0 k f) = wuA m c (ix3 (expert m hok hr t) k f) := by
  have hi := idx2 m hok t
  unfold blkOf
  rw [View.read_apply]
  refine congrArg (wuA m c) (funext fun a => Fin.ext ?_)
  match a with
  | ⟨0, _⟩ => show ((cfgA m hok).win (2 : Fin 5)).index t (0 : Fin 3) * 1 + 1 * 0 = (expert m hok hr t).val
              rw [hi]; show (teAt (tabT0 m) (crd m hok t 0)).toNat * 1 + 1 * 0 = (teAt (tabT0 m) (crd m hok t 0)).toNat; omega
  | ⟨1, _⟩ => show ((cfgA m hok).win (2 : Fin 5)).index t (1 : Fin 3) * 2048 + 1 * k.val = k.val
              rw [hi]; show 0 * 2048 + 1 * k.val = _; omega
  | ⟨2, _⟩ => show ((cfgA m hok).win (2 : Fin 5)).index t (2 : Fin 3) * 1024 + 1 * f.val = f.val
              rw [hi]; show 0 * 1024 + 1 * f.val = _; omega

theorem blk3 (hr : ∀ n, (teAt (tabT0 m) n).toNat < 32) (c : Dev nD) (t : Fin (cfgA m hok).N) (f : Fin 1024) (d : Fin 2048) :
    (blkOf m hok c (3 : Fin 5) t : FVec Ideal S1x1024x2048 .bf16) (ix3 0 f d) = wdA m c (ix3 (expert m hok hr t) f d) := by
  have hi := idx3 m hok t
  unfold blkOf
  rw [View.read_apply]
  refine congrArg (wdA m c) (funext fun a => Fin.ext ?_)
  match a with
  | ⟨0, _⟩ => show ((cfgA m hok).win (3 : Fin 5)).index t (0 : Fin 3) * 1 + 1 * 0 = (expert m hok hr t).val
              rw [hi]; show (teAt (tabT0 m) (crd m hok t 0)).toNat * 1 + 1 * 0 = (teAt (tabT0 m) (crd m hok t 0)).toNat; omega
  | ⟨1, _⟩ => show ((cfgA m hok).win (3 : Fin 5)).index t (1 : Fin 3) * 1024 + 1 * f.val = f.val
              rw [hi]; show 0 * 1024 + 1 * f.val = _; omega
  | ⟨2, _⟩ => show ((cfgA m hok).win (3 : Fin 5)).index t (2 : Fin 3) * 2048 + 1 * d.val = d.val
              rw [hi]; show 0 * 2048 + 1 * d.val = _; omega

/-- The row of the arrays that row `r` of point `t`'s block is. -/
def rowOf (t : Fin (cfgA m hok).N) (r : Fin 512) : Fin 81920 := ⟨512 * t.val + r.val, by have := lt160 m hok t; omega⟩

/-- What point `t` leaves in the result's block. -/
theorem tile_at (hr : ∀ n, (teAt (tabT0 m) n).toNat < 32) (c : Dev nD) (t : Fin (cfgA m hok).N) (r : Fin 512) (d : Fin 2048) :
    (tileAt m hok c t (ix2 r d) : EReal) = out (teAt (tabT0 m)) (nvAt (tabT1 m)) (xA m c) (wgA m c) (wuA m c) (wdA m c) hr (rowOf m hok t r) d := by
  have ht := lt160 m hok t
  have hc := crd_val m hok t
  have hq : (rowOf m hok t r).val / 512 = t.val := by
    show (512 * t.val + r.val) / 512 = t.val
    omega
  have he : (⟨(rowOf m hok t r).val / 512, by omega⟩ : Fin 160) = crd m hok t 0 := Fin.ext (hq.trans hc.symm)
  unfold tileAt tileOut out
  rw [used_eq]
  simp only [cond1_iff, hc, hq]
  split_ifs with h
  · rw [pay1_at]
    unfold projB ffn proj
    simp only [blk0 m hok c t _ _ h, blk1 m hok hr, blk2 m hok hr, blk3 m hok hr]
    have hx : (⟨(teAt (tabT0 m) ⟨t.val, by omega⟩).toNat, hr _⟩ : Fin 32) = expert m hok hr t :=
      Fin.ext (congrArg (fun n => (teAt (tabT0 m) n).toNat) (Fin.ext hc.symm : (⟨t.val, by omega⟩ : Fin 160) = crd m hok t 0))
    rw [hx]
    rfl
  · exact pay2_at r d

end Cert.Moe

end
-- ==== Proof.Moe.KernelValue.lean ====
/- The expert call's result: every row of a tile in use is the output of the tile's expert, and every other row is zero. -/
module

public import proofs.«01_k».proof.Proof.Moe.Values

@[expose] public section

set_option maxRecDepth 16384

noncomputable section

namespace Cert.Moe

open Cert.Kernel3Ideal Cert.Kernel3Ideal.Gen Cert.Lru
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (hr : ∀ n, (teAt (tabT0 m) n).toNat < 32)

/-- The result, from the launch contents of the arguments. -/
def result (c : Dev nD) : Buf (Elt Ideal) ((c.tc : Thread nD τ).loc main_v0) :=
  (fun i : S81920x2048.Idx => out (teAt (tabT0 m)) (nvAt (tabT1 m)) (xA m c) (wgA m c) (wuA m c) (wdA m c) hr (i 0) (i 1) : FVec Ideal S81920x2048 .f32)

include hr in
/-- The blocks lie in their arrays. -/
theorem okR : ok0 (F := Ideal) (tab m) := ok_of_range (tab m) hr

theorem idx4 (t : Fin (cfgA m (okR m hr)).N) :
    ((cfgA m (okR m hr)).win (4 : Fin 5)).index t (0 : Fin 2) = t.val ∧ ((cfgA m (okR m hr)).win (4 : Fin 5)).index t (1 : Fin 2) = 0 := by
  have hc := crd_val m (okR m hr) t
  have ht := lt160 m (okR m hr) t
  refine ⟨?_, rfl⟩
  show (BitVec.ofNat 32 (crd m (okR m hr) t 0).val).toNat = t.val
  rw [hc, BitVec.toNat_ofNat]
  exact Nat.mod_eq_of_lt (by omega)

theorem flushed4 (c : Dev nD) (t : Fin (cfgA m (okR m hr)).N) :
    (dats m (okR m hr) 0 c).flushed (4 : Fin 5) t = (((cfgA m (okR m hr)).win (4 : Fin 5)).blk t).view.read (Elt Ideal) (result m hr c) := by
  show ((cfgA m (okR m hr)).win (4 : Fin 5)).cut (grid0.coords t) ((dats m (okR m hr) 0 c).after (4 : Fin 5) t) = _
  rw [after4]
  funext j
  have hi := idx4 m hr t
  have hj : j = (ix2 (j 0) (j 1) : S512x2048.Idx) := funext fun a => Fin.ext (match a with | ⟨0, _⟩ => rfl | ⟨1, _⟩ => rfl)
  have e := tile_at m (okR m hr) hr c t (j 0) (j 1)
  rw [View.read_apply]
  refine (congrArg (tileAt m (okR m hr) c t) hj).trans (e.trans ?_)
  have q0 : rowOf m (okR m hr) t (j 0) = ((((cfgA m (okR m hr)).win (4 : Fin 5)).blk t).view.emb j) 0 := Fin.ext (by
    show 512 * t.val + (j 0).val = ((cfgA m (okR m hr)).win (4 : Fin 5)).index t (0 : Fin 2) * 512 + 1 * (j 0).val
    rw [hi.1]; omega)
  have q1 : j 1 = ((((cfgA m (okR m hr)).win (4 : Fin 5)).blk t).view.emb j) 1 := Fin.ext (by
    show (j 1).val = ((cfgA m (okR m hr)).win (4 : Fin 5)).index t (1 : Fin 2) * 2048 + 1 * (j 1).val
    rw [hi.2]; omega)
  exact congrArg₂ (out (teAt (tabT0 m)) (nvAt (tabT1 m)) (xA m c) (wgA m c) (wuA m c) (wdA m c) hr) q0 q1

theorem final4 (c : Dev nD) : (dats m (okR m hr) 0 c).arrAt (4 : Fin 5) (cfgA m (okR m hr)).N = result m hr c :=
  (dats m (okR m hr) 0 c).arrAt_eq_of_cover (4 : Fin 5) (result m hr c) (fun t _ => flushed4 m hr c t) fun i => by
    have h0 : (i 0 : Nat) < 81920 := (i 0).isLt
    have h1 : (i 1 : Nat) < 2048 := (i 1).isLt
    have hN : (cfgA m (okR m hr)).N = 160 := N_0
    have hlt : (i 0 : Nat) / 512 < (cfgA m (okR m hr)).N := by omega
    refine ⟨⟨(i 0 : Nat) / 512, hlt⟩, flushed m (okR m hr) _, ?_⟩
    have hi := idx4 m hr ⟨(i 0 : Nat) / 512, hlt⟩
    dsimp only at hi
    generalize (⟨(i 0 : Nat) / 512, hlt⟩ : Fin (cfgA m (okR m hr)).N) = t at hi ⊢
    show i ∈ ((View.whole main_v0).slice (((cfgA m (okR m hr)).win (4 : Fin 5)).rect t)).set
    rw [View.set_slice_whole, Rect.mem_set_unit]
    intro a
    match a with
    | ⟨0, _⟩ => show ((cfgA m (okR m hr)).win (4 : Fin 5)).index t (0 : Fin 2) * 512 ≤ (i 0 : Nat) ∧ (i 0 : Nat) < ((cfgA m (okR m hr)).win (4 : Fin 5)).index t (0 : Fin 2) * 512 + 512
                rw [hi.1]; omega
    | ⟨1, _⟩ => show ((cfgA m (okR m hr)).win (4 : Fin 5)).index t (1 : Fin 2) * 2048 ≤ (i 1 : Nat) ∧ (i 1 : Nat) < ((cfgA m (okR m hr)).win (4 : Fin 5)).index t (1 : Fin 2) * 2048 + 2048
                rw [hi.2]; omega

/-- The run, read. -/
theorem run : θ_run defs (onTc (τ := τ) (main (F := Ideal))) ⟨m, fun _ => 0, ρ⟩ fun r => ∀ c : Dev nD,
      r.2.mem ((c.tc : Thread nD τ).loc main_v0) = result m hr c :=
  (θ_run defs _ _).mono (fun _ h c => ((h.1 c).1 (4 : Fin 5)).trans (final4 m hr c)) (run_main m ρ (okR m hr))

end Cert.Moe

end
-- ==== Proof.Moe.RefRead.lean ====
/- What the reference of the expert call computes: its host operations, read entry by entry. -/
module

public import proofs.«01_k».proof.Proof.Gen.Reference3Ideal
public import proofs.«01_k».proof.Proof.Moe.Spec

@[expose] public section

set_option maxRecDepth 16384

noncomputable section

namespace Cert.Moe

open Cert.Reference3Ideal Cert.Reference3Ideal.Gen Cert.Lru
open Idealize.ShloMosaic Idealize.ShloMosaic.TcCoe

/-- The product of every expert's matrix with the rows. -/
def refUp (x : FVec Ideal S81920x2048 .f32) (w : FVec Ideal S32x2048x1024 .bf16) : FVec Ideal S32x81920x1024 .f32 :=
  transpose S32x81920x1024 [0, 2, 1]
    (Host.dotGeneral dot_S32x2048x1024_S81920x2048_S32x1024x81920_1_1_02_0_n_n none (extf .f32 w bitsLt_bf16_f32) x)
    transposes_S32x1024x81920_S32x81920x1024_0_2_1

theorem refUp_at (x : FVec Ideal S81920x2048 .f32) (w : FVec Ideal S32x2048x1024 .bf16) (e : Fin 32) (T : Fin 81920) (f : Fin 1024) :
    (refUp x w (ix3 e T f) : EReal) = ∑ k : Fin 2048, x (ix2 T k) * w (ix3 e k f) := by
  pointwise [refUp]
  exact Finset.sum_congr rfl fun k _ => mul_comm _ _

/-- The gated hidden layer. -/
def refSilu (z : FVec Ideal S32x81920x1024 .f32) : FVec Ideal S32x81920x1024 .f32 :=
  mulf z (Host.divf (broadcastInDim S32x81920x1024 ![] bcast_S_S32x81920x1024 (constant S_ .f32 0x3F800000#32))
    (addf (broadcastInDim S32x81920x1024 ![] bcast_S_S32x81920x1024 (constant S_ .f32 0x3F800000#32)) (Host.exp (Host.negf z))))

theorem refSilu_at (z : FVec Ideal S32x81920x1024 .f32) (e : Fin 32) (T : Fin 81920) (f : Fin 1024) :
    (refSilu z (ix3 e T f) : EReal) = z (ix3 e T f) * Ideal.logistic (z (ix3 e T f)) := by
  pointwise [refSilu]
  rfl

/-- The experts' outputs, every expert on every row. -/
def refAll (x : FVec Ideal S81920x2048 .f32) (wg wu : FVec Ideal S32x2048x1024 .bf16) (wd : FVec Ideal S32x1024x2048 .bf16) : FVec Ideal S32x81920x2048 .f32 :=
  Host.dotGeneral dot_S32x81920x1024_S32x1024x2048_S32x81920x2048_2_1_1_2_0_0 none (mulf (refSilu (refUp x wg)) (refUp x wu)) (extf .f32 wd bitsLt_bf16_f32)

theorem refAll_at (x : FVec Ideal S81920x2048 .f32) (wg wu : FVec Ideal S32x2048x1024 .bf16) (wd : FVec Ideal S32x1024x2048 .bf16)
    (e : Fin 32) (T : Fin 81920) (d : Fin 2048) :
    (refAll x wg wu wd (ix3 e T d) : EReal) = ffn x wg wu wd e T d := by
  pointwise [refAll, refSilu_at, refUp_at]
  rfl

/-- The weights with which a row's experts are added: one at its tile's expert if the tile is in use, else zero. -/
def refRep (te : IVec S160 32) : IVec S81920 32 :=
  shapeCast S81920 (broadcastInDim S160x512 ![0] bcast_S160_S160x512_0 te) shapeCasts_S160x512_S81920
def refLive (nv : IVec S1 32) : IVec S81920 1 :=
  shapeCast S81920 (broadcastInDim S160x512 ![0] bcast_S160_S160x512_0
    (cmpi .slt (iotaInDim S160 32 0) (broadcastInDim S160 ![0] bcast_S1_S160_0 nv))) shapeCasts_S160x512_S81920
def refHot (t : IVec S81920 32) : FVec Ideal S81920x32 .f32 :=
  uitofp .f32 (cmpi .eq (broadcastInDim S81920x32 ![0, 1] bcast_S81920x1_S81920x32_0_1 (broadcastInDim S81920x1 ![0] bcast_S81920_S81920x1_0 t))
    (broadcastInDim S81920x32 ![0, 1] bcast_S1x32_S81920x32_0_1 (iotaInDim S1x32 32 1)))
def refOn (l : IVec S81920 1) : FVec Ideal S81920x32 .f32 :=
  broadcastInDim S81920x32 ![0, 1] bcast_S81920x1_S81920x32_0_1 (uitofp .f32 (broadcastInDim S81920x1 ![0] bcast_S81920_S81920x1_0 l))

theorem refRep_at (te : IVec S160 32) (T : Fin 81920) : refRep te (ix1 T) = te (ix1 ⟨T.val / 512, by omega⟩) := by
  pointwise [refRep]

theorem refLive_at (nv : IVec S1 32) (T : Fin 81920) : refLive nv (ix1 T) = IntOp.cmpi .slt (BitVec.ofNat 32 (T.val / 512)) (nv (ix1 0)) := by
  pointwise [refLive]

theorem refHot_at (t : IVec S81920 32) (T : Fin 81920) (e : Fin 32) :
    (refHot t (ix2 T e) : EReal) = if t (ix1 T) = BitVec.ofNat 32 e.val then 1 else 0 := by
  pointwise [refHot]
  show ((BitVec.toNat (IntOp.cmpi CmpIPredicate.eq (t (ix1 T)) (BitVec.ofNat 32 e.val)) : ℝ) : EReal) = _
  unfold IntOp.cmpi
  by_cases h : t (ix1 T) = BitVec.ofNat 32 e.val
  · rw [if_pos h, h]; simp
  · rw [if_neg h]; simp [h]

theorem refOn_at (l : IVec S81920 1) (T : Fin 81920) (e : Fin 32) :
    (refOn l (ix2 T e) : EReal) = if l (ix1 T) = 1#1 then 1 else 0 := by
  pointwise [refOn]
  show ((BitVec.toNat (l (ix1 T)) : ℝ) : EReal) = _
  generalize l (ix1 T) = b
  obtain rfl | rfl : b = 0#1 ∨ b = 1#1 := by revert b; decide
  · simp
  · simp

theorem slt_bit (a b : BitVec 32) : IntOp.cmpi .slt a b = 1#1 ↔ a.slt b = true := by
  unfold IntOp.cmpi
  cases a.slt b <;> simp

/-- The reference's result. -/
def refOut (te : IVec S160 32) (nv : IVec S1 32) (x : FVec Ideal S81920x2048 .f32) (wg wu : FVec Ideal S32x2048x1024 .bf16)
    (wd : FVec Ideal S32x1024x2048 .bf16) : FVec Ideal S81920x2048 .f32 :=
  Host.dotGeneral dot_S81920x32_S32x81920x2048_S81920x2048_1_0_n_2_0_1 none (mulf (refHot (refRep te)) (refOn (refLive nv))) (refAll x wg wu wd)

theorem refOut_at (te : IVec S160 32) (nv : IVec S1 32) (x : FVec Ideal S81920x2048 .f32) (wg wu : FVec Ideal S32x2048x1024 .bf16)
    (wd : FVec Ideal S32x1024x2048 .bf16) (T : Fin 81920) (d : Fin 2048) :
    (refOut te nv x wg wu wd (ix2 T d) : EReal)
      = ∑ e : Fin 32, refHot (refRep te) (ix2 T e) * refOn (refLive nv) (ix2 T e) * ffn x wg wu wd e T d := by
  pointwise [refOut, refAll_at]

/-- Of the experts only the tile's own has a weight that is not zero. -/
theorem ref_at (te : IVec S160 32) (nv : IVec S1 32) (x : FVec Ideal S81920x2048 .f32) (wg wu : FVec Ideal S32x2048x1024 .bf16)
    (wd : FVec Ideal S32x1024x2048 .bf16) (h : ∀ n : Fin 160, (te (ix1 n)).toNat < 32) (T : Fin 81920) (d : Fin 2048) :
    (refOut te nv x wg wu wd (ix2 T d) : EReal) = out (fun n => te (ix1 n)) (nv (ix1 0)) x wg wu wd h T d := by
  rw [refOut_at]
  simp only [refHot_at, refOn_at, refRep_at, refLive_at, slt_bit]
  unfold out
  by_cases hl : (BitVec.ofNat 32 (T.val / 512)).slt (nv (ix1 0)) = true
  · simp only [hl, if_true, mul_one]
    have hn : (te (ix1 ⟨T.val / 512, by omega⟩)).toNat < 32 := h _
    refine (Finset.sum_eq_single (⟨(te (ix1 ⟨T.val / 512, by omega⟩)).toNat, hn⟩ : Fin 32) (fun e _ he => ?_) (fun hne => absurd (Finset.mem_univ _) hne)).trans ?_
    · rw [if_neg, zero_mul]
      intro hq
      apply he
      apply Fin.ext
      have := e.isLt
      exact ((congrArg BitVec.toNat hq).trans ((BitVec.toNat_ofNat e.val 32).trans (Nat.mod_eq_of_lt (by omega)))).symm
    · rw [if_pos (by simp), one_mul]
  · simp [hl]

/-- The reference's result is, entry by entry, the specification. -/
theorem ref_eq (te : IVec S160 32) (nv : IVec S1 32) (x : FVec Ideal S81920x2048 .f32) (wg wu : FVec Ideal S32x2048x1024 .bf16)
    (wd : FVec Ideal S32x1024x2048 .bf16) (h : ∀ n : Fin 160, (te (ix1 n)).toNat < 32) :
    refOut te nv x wg wu wd = fun i : S81920x2048.Idx => out (fun n => te (ix1 n)) (nv (ix1 0)) x wg wu wd h (i 0) (i 1) := by
  funext i
  have hi : i = (ix2 (i 0) (i 1) : S81920x2048.Idx) := funext fun a => Fin.ext (match a with | ⟨0, _⟩ => rfl | ⟨1, _⟩ => rfl)
  exact (congrArg (refOut te nv x wg wu wd) hi).trans (ref_at te nv x wg wu wd h (i 0) (i 1))

end Cert.Moe

end
-- ==== Proof.Moe.RefRun.lean ====
/- The run of the expert call's reference: its result is the composition `RefRead` reads, and its arguments are unchanged. -/
module

public import proofs.«01_k».proof.Proof.Moe.RefRead
public import Idealize.ShloMosaic.Lib.Claim

@[expose] public section

set_option maxRecDepth 16384

noncomputable section

namespace Cert.Moe

open Cert.Reference3Ideal Cert.Reference3Ideal.Gen Cert.Lru
open Idealize.ShloMosaic Idealize.ShloMosaic.TcCoe Idealize.SL.Sem

variable (m : (ℓ : Loc nD τ sig) → Buf (Elt Ideal) ℓ) (ρ : Dev nD → PrngReg)

/-- The reference's result from the launch contents. -/
def refResult (c : Dev nD) : Buf (Elt Ideal) ((c.tc : Thread nD τ).loc main_v22) :=
  (refOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) : FVec Ideal S81920x2048 .f32)

theorem ref_run : θ_run defs (onTc (τ := τ) (main (F := Ideal))) ⟨m, fun _ => 0, ρ⟩ (fun r => ∀ c : Dev nD,
      r.2.mem ((c.tc : Thread nD τ).loc main_v22) = refResult m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) := by
  hlo_run
  rfl

end Cert.Moe

end
-- ==== Proof.Moe.Claims.lean ====
/- The expert call over the words, from the run over any float values; and what its precondition says of the table. -/
module

public import proofs.«01_k».proof.Defs
public import proofs.«01_k».proof.Proof.Gen.Kernel3.Launch
public import proofs.«01_k».proof.Proof.Gen.Pre_tables
public import proofs.«01_k».proof.Proof.Moe.KernelValue
public import proofs.«01_k».proof.Proof.Moe.RefRun

@[expose] public section

set_option maxRecDepth 16384

noncomputable section

namespace Cert.Moe

open Idealize.ShloMosaic Idealize.ShloMosaic.TcCoe Idealize.SL.Sem

attribute [local instance] Cert.Kernel3.Gen.facts Cert.Kernel3Ideal.Gen.facts Cert.Reference3Ideal.Gen.facts Cert.Pre_tables.Gen.facts

/-- Where the precondition holds, every tile's expert is one of the 32. -/
theorem range_of_pre {F : FTy → Type} [FloatOps F] (te : IVec Cert.Pre_tables.S160 32) (nv : IVec Cert.Pre_tables.S1 32)
    (x : FVec F Cert.Pre_tables.S81920x2048 .f32) (wg wu : FVec F Cert.Pre_tables.S32x2048x1024 .bf16) (wd : FVec F Cert.Pre_tables.S32x1024x2048 .bf16)
    (h : Cert.Pre_tables.fn te nv x wg wu wd = fun _ => 1#1) (n : Fin 160) : (te (ix1 n)).toNat < 32 := by
  have andi_one (a b : BitVec 1) : IntOp.andi a b = 1#1 ↔ a = 1#1 ∧ b = 1#1 := by revert a b; decide
  have bit (b : Bool) : BitVec.ofBool b = 1#1 ↔ b = true := by revert b; decide
  have p := congrFun h (ix1 n)
  simp only [Cert.Pre_tables.fn, constantI, broadcastInDim, cmpi, andi, andi_one] at p
  simp only [bit, IntOp.cmpi, BitVec.sle, BitVec.slt, decide_eq_true_eq] at p
  obtain ⟨p0, p1⟩ := p
  have z : (0#32).toInt = 0 := rfl
  have z' : (32#32).toInt = 32 := rfl
  have hb := (te (ix1 n)).isLt
  have eb := BitVec.toInt_eq_toNat_cond (te (ix1 n))
  rw [z] at p0
  rw [z'] at p1
  split_ifs at eb <;> omega

theorem bodies_eq : @Cert.Kernel3Ideal.defs₀ Bits _ _ = @Cert.Kernel3.defs₀ Bits _ _ := by
  unfold Cert.Kernel3Ideal.defs₀ Cert.Kernel3.defs₀
  refine congrArg Defs.onTc ?_
  funext l a
  match l, a with
  | ⟨0, _⟩, (t, s) => rfl

set_option backward.isDefEq.respectTransparency.types false in
/-- The two programs have one body table, -/
theorem defs_eq : @Cert.Kernel3Ideal.defs Bits _ _ = @Cert.Kernel3.defs Bits _ _ := congrArg (fun d => Pipeline.defs _ d) bodies_eq

set_option backward.isDefEq.respectTransparency.types false in
set_option maxHeartbeats 4000000 in
/-- and so the kernel over the words runs as the kernel over any values does. -/
theorem frame_kernel3 : Cert.quiescent_Kernel3 := by
  intro m ρ hpre
  have h := frame (F := Bits) m ρ (ok_of_range (tab m) (range_of_pre _ _ _ _ _ _ (hpre 0)))
  rw [defs_eq] at h
  exact h

theorem frame_kernel3Ideal : Cert.quiescent_Kernel3Ideal := fun m ρ hpre =>
  frame (F := Ideal) m ρ (ok_of_range (tab m) (range_of_pre _ _ _ _ _ _ (hpre 0)))

theorem frame_reference3Ideal : Cert.quiescent_Reference3Ideal := fun m ρ _ =>
  (θ_run Cert.Reference3Ideal.defs _ _).mono (fun r h => ⟨fun c => (h c).2, sem_eq_zero_of_no_sems (by decide) r.2⟩) (ref_run m ρ)

theorem algebraic3 : Cert.algebraic_Kernel3Ideal_Reference3Ideal := by
  intro m ρ m' ρ' hpre hagree
  have hr : ∀ n, (teAt (tabT0 m) n).toNat < 32 := range_of_pre _ _ _ _ _ _ (hpre 0)
  refine ⟨fun c => result m hr c, ?_, ?_⟩
  · exact (θ_run Cert.Kernel3Ideal.defs _ _).mono (fun _ h c => ⟨h.1 c, h.2.1 c⟩)
      (θ_run_and (run m ρ hr) (frame (F := Ideal) m ρ (okR m hr)))
  · refine (θ_run Cert.Reference3Ideal.defs _ _).mono (fun _ h c => ⟨(h c).1.trans ?_, (h c).2⟩) (ref_run m' ρ')
    obtain ⟨e0, e1, e2, e3, e4, e5⟩ := hagree c
    have hc : c = 0 := Subsingleton.elim _ _
    subst hc
    unfold refResult
    rw [e0, e1, e2, e3, e4, e5]
    exact ref_eq _ _ _ _ _ _ hr

end Cert.Moe

end
-- ==== Proof.Inproj.Body.lean ====
/- What the input projection's body does at a point: at the first point of a row block the block is normed and modulated,
   at every point a third of the projection is made from it. -/
module

public import proofs.«01_k».proof.Proof.Gen.Kernel4Ideal.Skeleton
public import proofs.«01_k».proof.Proof.Gen.Kernel4Ideal.Loops
public import proofs.«01_k».proof.Proof.Gen.Kernel4Ideal.Frame
public import proofs.«01_k».proof.Proof.Lru.Spec
public import Idealize.ShloMosaic.Lib.Pipeline.TableIdle
public import Idealize.ShloMosaic.Lib.Pipeline.FrameBody
public import Idealize.ShloMosaic.Lib.Pipeline.Quiescent
public import Idealize.ShloMosaic.Lib.Pipeline.ValueKit
public import Idealize.ShloMosaic.Lib.Claim
public import Idealize.ShloMosaic.Lib.Writes
public import Idealize.ShloMosaic.Lib.WritesUnit
public import Idealize.ShloMosaic.Lib.Ring
public import Idealize.ShloMosaic.Lib.Affine
public import Idealize.ShloMosaic.Lib.Exec
public import Idealize.ShloMosaic.Lib.Tactic
public import Idealize.ShloMosaic.Lib.WordCmp
public import Idealize.ShloMosaic.Adequacy
public import Idealize.ShloMosaic.Init

@[expose] public section

set_option maxRecDepth 16384

noncomputable section

namespace Cert.Inproj

open Cert.Kernel4Ideal Cert.Kernel4Ideal.Gen Cert.Lru
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `128 k` to `128 k + 127` of a block. -/
def slab (x : Vec F S512x2048 .f32) (k : Fin 4) : Vec F S128x2048 .f32 :=
  fun z => x (ix2 ⟨128 * k.val + (z 0).val, by have : (z 0).val < 128 := (z 0).isLt; omega⟩ (z 1))

/-- The normed and modulated block. -/
def hBlock (x : Vec F S512x2048 .f32) (sh sc : Vec F S1x1x2048 .f32) (g : Vec F S1x2048 .f32) : Vec F S512x2048 .bf16 :=
  fun y => k0_pay1 (slab x ⟨(y 0).val / 128, by have : (y 0).val < 512 := (y 0).isLt; omega⟩) g sh sc
    (ix2 ⟨(y 0).val % 128, Nat.mod_lt _ (by decide)⟩ (y 1))

/-- The three thirds of the weights. -/
def ws0 (w : Vec F S2048x4608 .bf16) : Vec F S2048x1536 .bf16 :=
  View.ld (Val := Elt F) (e' := .bf16) w (Rect.unit (s := S2048x4608) ![0, 0] S2048x1536.size inb_S2048x4608_S2048x1536_0_0)
def ws1 (w : Vec F S2048x4608 .bf16) : Vec F S2048x1536 .bf16 :=
  View.ld (Val := Elt F) (e' := .bf16) w (Rect.unit (s := S2048x4608) ![0, 1536] S2048x1536.size inb_S2048x4608_S2048x1536_0_1536)
def ws2 (w : Vec F S2048x4608 .bf16) : Vec F S2048x1536 .bf16 :=
  View.ld (Val := Elt F) (e' := .bf16) w (Rect.unit (s := S2048x4608) ![0, 3072] S2048x1536.size inb_S2048x4608_S2048x1536_0_3072)

theorem trips_eq : k0_t1_loop.trips = 4 := by decide

/-- A load of group `k` of a block reads its rows. -/
theorem load_slab (arg2 : Memref sig .tc .vmem S512x2048 .f32) (X : BufTy.Contents (Elt F) arg2.view.ty) (k : Fin k0_t1_loop.trips) (h : k.val < 4)
    (inb : ∀ a, k0_off1 k a + S128x2048.size a ≤ S512x2048.size a) :
    View.readAt (Elt F) arg2.view (Rect.unit (s := S512x2048) (k0_off1 k) S128x2048.size inb).toLoadRect X = slab (arg2.view.read (Elt F) X) ⟨k.val, h⟩ := by
  funext z
  refine congrArg (arg2.view.read (Elt F) X) (funext fun a => Fin.ext ?_)
  have e := k0_off1_eq k
  match a with
  | ⟨0, _⟩ =>
    have e0 : k0_off1 k 0 = 128 * k.val := congrFun e 0
    show k0_off1 k 0 + 1 * (z 0).val = 128 * k.val + (z 0).val
    omega
  | ⟨1, _⟩ =>
    have e1 : k0_off1 k 1 = 0 := congrFun e 1
    show k0_off1 k 1 + 1 * (z 1).val = (z 1).val
    omega

/-- The store of one trip. -/
theorem trip_at (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x4608 .bf16) (harg6 : arg6.IsWhole) (arg7 : Memref sig .tc .vmem S512x1536 .f32) (harg7 : arg7.IsWhole) (arg8 : Memref sig .tc .vmem S512x2048 .bf16) (harg8 : arg8.IsWhole) (h1 : k0_cond1 i = 1#1) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    tripL_k0_t1 (F := F) Variants.none c none i arg2 harg2 arg3 harg3 arg4 harg4 arg5 harg5 arg6 harg6 arg7 harg7 arg8 harg8 h1 X2 X3 X4 X5 k
      = [⟨Rect.unit (s := S512x2048) (k0_off1 k) S128x2048.size (k0_off1_inb i k h1),
          k0_pay1 (View.readAt (Elt F) arg2.view (Rect.unit (s := S512x2048) (k0_off1 k) S128x2048.size (k0_off1_inb i k h1)).toLoadRect X2)
            (View.readAt (Elt F) arg5.view (Rect.unit (s := S1x2048) ![0, 0] S1x2048.size inb_S1x2048_S1x2048_0_0).toLoadRect X5)
            (View.readAt (Elt F) arg3.view (Rect.unit (s := S1x1x2048) ![0, 0, 0] S1x1x2048.size inb_S1x1x2048_S1x1x2048_0_0_0).toLoadRect X3)
            (View.readAt (Elt F) arg4.view (Rect.unit (s := S1x1x2048) ![0, 0, 0] S1x1x2048.size inb_S1x1x2048_S1x1x2048_0_0_0).toLoadRect X4)⟩] := by
  unfold tripL_k0_t1 trip_k0_t1
  rfl

/-- Before trip `k` the rows of the earlier trips are finished. -/
theorem loop_at (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x4608 .bf16) (harg6 : arg6.IsWhole) (arg7 : Memref sig .tc .vmem S512x1536 .f32) (harg7 : arg7.IsWhole) (arg8 : Memref sig .tc .vmem S512x2048 .bf16) (harg8 : arg8.IsWhole) (h1 : k0_cond1 i = 1#1) (X2 : BufTy.Contents (Elt F) arg2.view.ty) (X3 : BufTy.Contents (Elt F) arg3.view.ty) (X4 : BufTy.Contents (Elt F) arg4.view.ty) (X5 : BufTy.Contents (Elt F) arg5.view.ty) (G : BufTy.Contents (Elt F) arg8.view.ty) (k : ℕ) (hk : k ≤ k0_t1_loop.trips) (y : S512x2048.Idx) (hy : (y 0).val < 128 * k) :
    arg8.view.read (Elt F) (arg8.view.writes (Elt F) G (pb_k0_t1 (F := F) Variants.none c none i arg2 harg2 arg3 harg3 arg4 harg4 arg5 harg5 arg6 harg6 arg7 harg7 arg8 harg8 h1 X2 X3 X4 X5 k)) y
      = hBlock (arg2.view.read (Elt F) X2) (arg3.view.read (Elt F) X3) (arg4.view.read (Elt F) X4) (arg5.view.read (Elt F) X5) y := by
  induction k with
  | zero => exact absurd hy (by omega)
  | succ k ih =>
    have hlt : k < k0_t1_loop.trips := hk
    have h4 : k < 4 := lt_of_lt_of_eq hlt trips_eq
    have hs : pb_k0_t1 (F := F) Variants.none c none i arg2 harg2 arg3 harg3 arg4 harg4 arg5 harg5 arg6 harg6 arg7 harg7 arg8 harg8 h1 X2 X3 X4 X5 (k + 1) = _ := pb_k0_t1_succ (F := F) Variants.none c none i arg2 harg2 arg3 harg3 arg4 harg4 arg5 harg5 arg6 harg6 arg7 harg7 arg8 harg8 h1 X2 X3 X4 X5 ⟨k, hlt⟩
    rw [hs, trip_at, List.cons_append, List.nil_append]
    by_cases hq : 128 * k ≤ (y 0).val
    · rw [View.read_writes_cons_rows_of_mem (d := ![512, 2048]) arg8.view G (off := k0_off1 ⟨k, hlt⟩) (size := S128x2048.size) (o := 128 * k) (k0_off1_inb i ⟨k, hlt⟩ h1) _ _ y
        (ix2 ⟨(y 0).val - 128 * k, by omega⟩ (y 1)) (k0_off1_eq ⟨k, hlt⟩) (by show (y 0).val = 128 * k + ((y 0).val - 128 * k); omega) rfl]
      rw [load_slab arg2 X2 ⟨k, hlt⟩ h4]
      simp only [View.readAt_eq_ld, View.ld_unit_zero (S := S1x2048) hz2, View.ld_unit_zero (S := S1x1x2048) hz3]
      unfold hBlock
      have e : (y 0).val / 128 = k := by omega
      have e' : (y 0).val % 128 = (y 0).val - 128 * k := by omega
      simp only [e, e']
    · rw [View.read_writes_cons_rows_of_not_mem (d := ![512, 2048]) arg8.view G (off := k0_off1 ⟨k, hlt⟩) (size := S128x2048.size) (o := 128 * k) (W := 128) (k0_off1_inb i ⟨k, hlt⟩ h1) _ _ y
        (k0_off1_eq ⟨k, hlt⟩) rfl (by omega)]
      exact ih (Nat.le_of_lt hlt) (by omega)

/-- After the last trip the whole block is. -/
theorem loop_read (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x4608 .bf16) (harg6 : arg6.IsWhole) (arg7 : Memref sig .tc .vmem S512x1536 .f32) (harg7 : arg7.IsWhole) (arg8 : Memref sig .tc .vmem S512x2048 .bf16) (harg8 : arg8.IsWhole) (h1 : k0_cond1 i = 1#1) (X2 : BufTy.Contents (Elt F) arg2.view.ty) (X3 : BufTy.Contents (Elt F) arg3.view.ty) (X4 : BufTy.Contents (Elt F) arg4.view.ty) (X5 : BufTy.Contents (Elt F) arg5.view.ty) (G : BufTy.Contents (Elt F) arg8.view.ty) :
    arg8.view.read (Elt F) (arg8.view.writes (Elt F) G (pb_k0_t1 (F := F) Variants.none c none i arg2 harg2 arg3 harg3 arg4 harg4 arg5 harg5 arg6 harg6 arg7 harg7 arg8 harg8 h1 X2 X3 X4 X5 (Scf.trips (0#32) (Scalar.addi 0#32 4#32) 1#32)))
      = hBlock (arg2.view.read (Elt F) X2) (arg3.view.read (Elt F) X3) (arg4.view.read (Elt F) X4) (arg5.view.read (Elt F) X5) :=
  funext fun y => loop_at c i arg2 harg2 arg3 harg3 arg4 harg4 arg5 harg5 arg6 harg6 arg7 harg7 arg8 harg8 h1 X2 X3 X4 X5 G k0_t1_loop.trips (Nat.le_refl _) y (by
    have := trips_eq
    have h : (y 0).val < 512 := (y 0).isLt
    omega)

set_option maxHeartbeats 4000000 in
/-- The body at a block's first point. -/
theorem run_A (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x4608 .bf16) (harg6 : arg6.IsWhole) (arg7 : Memref sig .tc .vmem S512x1536 .f32) (harg7 : arg7.IsWhole) (arg8 : Memref sig .tc .vmem S512x2048 .bf16) (harg8 : arg8.IsWhole)
    (h1 : k0_cond1 i = 1#1) (h2 : k0_cond2 i = 1#1) (h3 : ¬ k0_cond3 i = 1#1) (h4 : ¬ k0_cond4 i = 1#1)
    (x0 : Vec F S512x2048 .f32) (x1 x2 : Vec F S1x1x2048 .f32) (x3 : Vec F S1x2048 .f32) (x4 : Vec F S2048x4608 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay2 (hBlock x0 x1 x2 x3) (ws0 x4)) ∗ owns (c : Thread nD τ) arg8 fullShare (hBlock x0 x1 x2 x3)) -∗ K ⟨⟩))
      ⊢ wp frame (wpE (defs₀ (F := F)) Variants.none c none) Set.univ (cc0_inproj i arg2 harg2 arg3 harg3 arg4 harg4 arg5 harg5 arg6 harg6 arg7 harg7 arg8 harg8) K := by
  rw [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4
  sl_exec! (disch := first | (guard_target = k0_cond1 _ = _; exact h1) | (guard_target = k0_cond2 _ = _; exact h2) | (guard_target = ¬(k0_cond3 _ = _); exact h3) | (guard_target = ¬(k0_cond4 _ = _); exact h4))
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap
    · iexact H5
    ipureintro
    rw [View.read_writes_eq_canon _ _ _ (View.cover_of_tiledL _ S512x1536.size (by sl_kernel_rfl))]
    sl_unfold_words
    rw [View.canon_unit_zero hz2]
    have hl := loop_read c i arg2 harg2 arg3 harg3 arg4 harg4 arg5 harg5 arg6 harg6 arg7 harg7 arg8 harg8 h1 (harg2.unread x0) (harg3.unread x1) (harg4.unread x2) (harg5.unread x3) f6
    simp only [harg2.read_unread, harg3.read_unread, harg4.read_unread, harg5.read_unread] at hl
    simp only [View.readAt_eq_ld, View.ld_unit_zero (S := S512x2048) hz2, harg6.read_unread]
    exact congrArg (fun h => k0_pay2 h (ws0 x4)) hl
  iexists _; isplitr; swap
  · iexact H6
  · ipureintro
    have hl := loop_read c i arg2 harg2 arg3 harg3 arg4 harg4 arg5 harg5 arg6 harg6 arg7 harg7 arg8 harg8 h1 (harg2.unread x0) (harg3.unread x1) (harg4.unread x2) (harg5.unread x3) f6
    simp only [harg2.read_unread, harg3.read_unread, harg4.read_unread, harg5.read_unread] at hl
    exact hl

set_option maxHeartbeats 4000000 in
/-- The body at a block's second point. -/
theorem run_B (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x4608 .bf16) (harg6 : arg6.IsWhole) (arg7 : Memref sig .tc .vmem S512x1536 .f32) (harg7 : arg7.IsWhole) (arg8 : Memref sig .tc .vmem S512x2048 .bf16) (harg8 : arg8.IsWhole)
    (h1 : ¬ k0_cond1 i = 1#1) (h2 : ¬ k0_cond2 i = 1#1) (h3 : k0_cond3 i = 1#1) (h4 : ¬ k0_cond4 i = 1#1)
    (x0 : Vec F S512x2048 .f32) (x1 x2 : Vec F S1x1x2048 .f32) (x3 : Vec F S1x2048 .f32) (x4 : Vec F S2048x4608 .bf16) (x6 : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay3 x6 (ws1 x4)) ∗ owns (c : Thread nD τ) arg8 fullShare x6) -∗ K ⟨⟩))
      ⊢ wp frame (wpE (defs₀ (F := F)) Variants.none c none) Set.univ (cc0_inproj i arg2 harg2 arg3 harg3 arg4 harg4 arg5 harg5 arg6 harg6 arg7 harg7 arg8 harg8) K := by
  rw [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec! (disch := first | (guard_target = ¬(k0_cond1 _ = _); exact h1) | (guard_target = ¬(k0_cond2 _ = _); exact h2) | (guard_target = k0_cond3 _ = _; exact h3) | (guard_target = ¬(k0_cond4 _ = _); exact h4))
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap
    · iexact H5
    ipureintro
    rw [View.read_writes_eq_canon _ _ _ (View.cover_of_tiledL _ S512x1536.size (by sl_kernel_rfl))]
    sl_unfold_words
    rw [View.canon_unit_zero hz2]
    simp only [View.readAt_eq_ld, harg2.read_unread, harg3.read_unread, harg4.read_unread, harg5.read_unread, harg6.read_unread, harg8.read_unread, View.ld_unit_zero (S := S512x2048) hz2]
    rfl
  iexists _; isplitr; swap
  · iexact H6
  · ipureintro; exact harg8.read_unread _

set_option maxHeartbeats 4000000 in
/-- The body at a block's third point. -/
theorem run_C (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x4608 .bf16) (harg6 : arg6.IsWhole) (arg7 : Memref sig .tc .vmem S512x1536 .f32) (harg7 : arg7.IsWhole) (arg8 : Memref sig .tc .vmem S512x2048 .bf16) (harg8 : arg8.IsWhole)
    (h1 : ¬ k0_cond1 i = 1#1) (h2 : ¬ k0_cond2 i = 1#1) (h3 : ¬ k0_cond3 i = 1#1) (h4 : k0_cond4 i = 1#1)
    (x0 : Vec F S512x2048 .f32) (x1 x2 : Vec F S1x1x2048 .f32) (x3 : Vec F S1x2048 .f32) (x4 : Vec F S2048x4608 .bf16) (x6 : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay4 x6 (ws2 x4)) ∗ owns (c : Thread nD τ) arg8 fullShare x6) -∗ K ⟨⟩))
      ⊢ wp frame (wpE (defs₀ (F := F)) Variants.none c none) Set.univ (cc0_inproj i arg2 harg2 arg3 harg3 arg4 harg4 arg5 harg5 arg6 harg6 arg7 harg7 arg8 harg8) K := by
  rw [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec! (disch := first | (guard_target = ¬(k0_cond1 _ = _); exact h1) | (guard_target = ¬(k0_cond2 _ = _); exact h2) | (guard_target = ¬(k0_cond3 _ = _); exact h3) | (guard_target = k0_cond4 _ = _; exact h4))
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap
    · iexact H5
    ipureintro
    rw [View.read_writes_eq_canon _ _ _ (View.cover_of_tiledL _ S512x1536.size (by sl_kernel_rfl))]
    sl_unfold_words
    rw [View.canon_unit_zero hz2]
    simp only [View.readAt_eq_ld, harg2.read_unread, harg3.read_unread, harg4.read_unread, harg5.read_unread, harg6.read_unread, harg8.read_unread, View.ld_unit_zero (S := S512x2048) hz2]
    rfl
  iexists _; isplitr; swap
  · iexact H6
  · ipureintro; exact harg8.read_unread _

end Cert.Inproj

end
-- ==== Proof.Inproj.Frame.lean ====
/- The input projection as a whole: it runs to its end, leaves its arguments as they were, and leaves in its results what the
   points' blocks say. -/
module

public import proofs.«01_k».proof.Proof.Inproj.Body

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch runs at which point -/

theorem lt204 (t : Fin cfg0.N) : t.val < 204 := lt_of_lt_of_eq t.isLt N_0

theorem hc1 : ∀ t : Fin cfg0.N, k0_cond1 (grid0.coords t) = 1#1 ↔ t.val % 3 = 0 :=
  (fun t => by
    have ht : t.val < 204 := Nat.lt_of_lt_of_eq t.isLt N_0
    have e1 : (grid0.coords t 1).val = t.val / 1 % 3 := Pipeline.Grid.coords_val t 1 (by decide) rfl
    simp only [k0_cond1, e1]
    word_cmp
   : ∀ t : Fin grid0.N, k0_cond1 (grid0.coords t) = 1#1 ↔ t.val % 3 = 0)
theorem hc2 : ∀ t : Fin cfg0.N, k0_cond2 (grid0.coords t) = 1#1 ↔ t.val % 3 = 0 :=
  (fun t => by
    have ht : t.val < 204 := Nat.lt_of_lt_of_eq t.isLt N_0
    have e1 : (grid0.coords t 1).val = t.val / 1 % 3 := Pipeline.Grid.coords_val t 1 (by decide) rfl
    simp only [k0_cond2, e1]
    word_cmp
   : ∀ t : Fin grid0.N, k0_cond2 (grid0.coords t) = 1#1 ↔ t.val % 3 = 0)
theorem hc3 : ∀ t : Fin cfg0.N, k0_cond3 (grid0.coords t) = 1#1 ↔ t.val % 3 = 1 :=
  (fun t => by
    have ht : t.val < 204 := Nat.lt_of_lt_of_eq t.isLt N_0
    have e1 : (grid0.coords t 1).val = t.val / 1 % 3 := Pipeline.Grid.coords_val t 1 (by decide) rfl
    simp only [k0_cond3, e1]
    word_cmp
   : ∀ t : Fin grid0.N, k0_cond3 (grid0.coords t) = 1#1 ↔ t.val % 3 = 1)
theorem hc4 : ∀ t : Fin cfg0.N, k0_cond4 (grid0.coords t) = 1#1 ↔ t.val % 3 = 2 :=
  (fun t => by
    have ht : t.val < 204 := Nat.lt_of_lt_of_eq t.isLt N_0
    have e1 : (grid0.coords t 1).val = t.val / 1 % 3 := Pipeline.Grid.coords_val t 1 (by decide) rfl
    simp only [k0_cond4, e1]
    word_cmp
   : ∀ t : Fin grid0.N, k0_cond4 (grid0.coords t) = 1#1 ↔ t.val % 3 = 2)

/-- Every point stores its third of the projection, -/
theorem idle5 (t : Fin cfg0.N) : cfg0.idle (5 : Fin 7) (cfg0.grid.coords t) = false := by
  show (!(k0_cond2 (grid0.coords t) == 1#1) && !(k0_cond3 (grid0.coords t) == 1#1) && !(k0_cond4 (grid0.coords t) == 1#1)) = false
  have h := Nat.mod_lt t.val (show 0 < 3 by decide)
  by_cases h0 : t.val % 3 = 0
  · rw [(hc2 t).2 h0]; rfl
  · by_cases h1 : t.val % 3 = 1
    · rw [(hc3 t).2 h1]; simp
    · rw [(hc4 t).2 (by omega)]; simp

/-- and a block's first point alone stores the normed rows. -/
theorem idle6 (t : Fin cfg0.N) : cfg0.idle (6 : Fin 7) (cfg0.grid.coords t) = !decide (t.val % 3 = 0) := by
  show (!(k0_cond1 (grid0.coords t) == 1#1)) = _
  by_cases h0 : t.val % 3 = 0
  · rw [(hc1 t).2 h0]; simp [h0]
  · have : ¬ k0_cond1 (grid0.coords t) = 1#1 := fun h => h0 ((hc1 t).1 h)
    simp [h0, this]

theorem flush6 (t : Fin cfg0.N) : (cfg0.win (6 : Fin 7)).flush t = decide (t.val % 3 = 2) := by
  by_cases h : t.val % 3 = 2
  · rw [(flush0_6 t).2 h]; simp [h]
  · have : ¬ (cfg0.win (6 : Fin 7)).flush t = true := fun e => h ((flush0_6 t).1 e)
    simp only [h, decide_false]
    exact Bool.not_eq_true _ ▸ this

theorem fresh6 (n : ℕ) (h : n ≤ cfg0.N) : cfg0.fresh (6 : Fin 7) n = decide (n % 3 = 0) :=
  cfg0.fresh_tab (6 : Fin 7) (fun n => decide (n % 3 = 0)) rfl (fun t => by
    rw [idle6, flush6]
    have hm : t.val % 3 = 0 ∨ t.val % 3 = 1 ∨ t.val % 3 = 2 := by omega
    rcases hm with h | h | h
    · have : (t.val + 1) % 3 = 1 := by omega
      simp [h, this]
    · have : (t.val + 1) % 3 = 2 := by omega
      simp [h, this]
    · have : (t.val + 1) % 3 = 0 := by omega
      simp [h, this]) n h

/-! ## What every block holds, point by point -/

variable (m : (ℓ : Loc nD τ sig) → Buf (Elt F) ℓ) (ρ : Dev nD → PrngReg)

/-- The first point of point `t`'s row block. -/
def head (t : Fin cfg0.N) : Fin cfg0.N := ⟨3 * (t.val / 3), lt_of_le_of_lt (Nat.mul_div_le t.val 3) t.isLt⟩

theorem head_of (t : Fin cfg0.N) (h : t.val % 3 = 0) : head t = t := Fin.ext (by show 3 * (t.val / 3) = t.val; omega)

/-- The normed rows of point `t`'s row block. -/
def hAt (c : Dev nD) (t : Fin cfg0.N) : S512x2048.Idx → Elt F .bf16 :=
  hBlock (iblk m c 0 (head t)) (iblk m c 1 (head t)) (iblk m c 2 (head t)) (iblk m c 3 (head t))

theorem hAt_pred (c : Dev nD) (t : Fin cfg0.N) (h : ¬t.val % 3 = 0) (hn : t.val - 1 < cfg0.N) : hAt m c ⟨t.val - 1, hn⟩ = hAt m c t := by
  unfold hAt
  have e : head ⟨t.val - 1, hn⟩ = head t := Fin.ext (by show 3 * ((t.val - 1) / 3) = 3 * (t.val / 3); omega)
  rw [e]

/-- The third of the projection that point `t` makes. -/
def uAt (c : Dev nD) (t : Fin cfg0.N) : S512x1536.Idx → Elt F .f32 :=
  if t.val % 3 = 0 then k0_pay2 (hAt m c t) (ws0 (iblk m c 4 t))
  else if t.val % 3 = 1 then k0_pay3 (hAt m c t) (ws1 (iblk m c 4 t))
  else k0_pay4 (hAt m c t) (ws2 (iblk m c 4 t))

/-- The arrays at the call, and what each point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => uAt m c t
    | ⟨6, _⟩ => hAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = uAt m c t := by dsimp only [dats]
theorem after6 (c : Dev nD) (t : Fin cfg0.N) : (dats m 0 c).after 6 t = hAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After a block's first point the normed rows are still there. -/
theorem before6 (c : Dev nD) (t : Fin cfg0.N) (h : ¬t.val % 3 = 0) (d) : (dats m 0 c).before 6 t d = hAt m c t := by
  rw [(dats m 0 c).before_out_traj 6 rfl (fun _ _ => rfl) (fun t hn hi hf => by
      rw [fresh6 _ (Nat.le_of_lt t.isLt)] at hf
      rw [after6, after6, hAt_pred]
      simpa using hf) t.val t rfl d]
  rw [fresh6 _ (Nat.le_of_lt t.isLt), after6, hAt_pred m c t h]
  simp [h]

/-! ## The body at any point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

set_option maxHeartbeats 4000000 in
/-- The body at any point, by its place in the row block. -/
theorem sound_body (c : Dev nD) (t : Fin cfg0.N) :
    bodyPre m c t
      ⊢ wp frame (wpE (defs₀ (F := F)) Variants.none c none) Set.univ (bodyAt0 t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  unfold bodyPre bodyAt0
  rw [bigSep_W0]
  rewrite [idle5 t, idle6 t, flush6 t]
  rewrite [show (dats m 0 c).Φ t.succ = (dats m 0 c).Φ t.castSucc from rfl,
    show (dats m 0 c).owesAt () t.succ = (dats m 0 c).owesAt () t.castSucc from rfl]
  simp only [before0, before1, before2, before3, before4, after0, after1, after2, after3, after4, after5, after6]
  by_cases h0 : t.val % 3 = 0
  · rewrite [show (!decide (t.val % 3 = 0)) = false by simp [h0]]
    have eu : uAt m c t = k0_pay2 (hBlock (iblk m c 0 t) (iblk m c 1 t) (iblk m c 2 t) (iblk m c 3 t)) (ws0 (iblk m c 4 t)) := by
      unfold uAt hAt; rw [if_pos h0, head_of t h0]
    have eh : hAt m c t = hBlock (iblk m c 0 t) (iblk m c 1 t) (iblk m c 2 t) (iblk m c 3 t) := by
      unfold hAt; rw [head_of t h0]
    rewrite [eu, eh]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ ((hc1 t).2 h0) ((hc2 t).2 h0) (fun h => by have := (hc3 t).1 h; omega) (fun h => by have := (hc4 t).1 h; omega)
      (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rewrite [show (!decide (t.val % 3 = 0)) = true by simp [h0]]
    simp only [before6 m c t h0]
    by_cases h1 : t.val % 3 = 1
    · rewrite [show decide (t.val % 3 = 2) = false by simp [h1]]
      have eu : uAt m c t = k0_pay3 (hAt m c t) (ws1 (iblk m c 4 t)) := by
        unfold uAt; rw [if_neg h0, if_pos h1]
      rewrite [eu]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ _ _ _ _ _ _ _ _ _ _ _ _ _ (fun h => h0 ((hc1 t).1 h)) (fun h => h0 ((hc2 t).1 h)) ((hc3 t).2 h1) (fun h => by have := (hc4 t).1 h; omega)
        (iblk m c 0 t) (iblk m c 1 t) (iblk m c 2 t) (iblk m c 3 t) (iblk m c 4 t) (hAt m c t) _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
    · have h2 : t.val % 3 = 2 := by omega
      rewrite [show decide (t.val % 3 = 2) = true by simp [h2]]
      have eu : uAt m c t = k0_pay4 (hAt m c t) (ws2 (iblk m c 4 t)) := by
        unfold uAt; rw [if_neg h0, if_neg h1]
      rewrite [eu]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_C c (grid0.coords t) _ _ _ _ _ _ _ _ _ _ _ _ _ _ (fun h => h0 ((hc1 t).1 h)) (fun h => h0 ((hc2 t).1 h)) (fun h => h1 ((hc3 t).1 h)) ((hc4 t).2 h2)
        (iblk m c 0 t) (iblk m c 1 t) (iblk m c 2 t) (iblk m c 3 t) (iblk m c 4 t) (hAt m c t) _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, defs₀_row]
  exact sound_body m c t

/-! ## The run and the frame -/

set_option backward.isDefEq.respectTransparency.types false in
/-- The run, with every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)
    (hQ' := fun _ h => h)

/-- The run: it ends, with every array at what the points left in it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Inproj

end
-- ==== Proof.Inproj.Spec.lean ====
/- The norm, the modulation and the input projection, stated over extended reals as functions of the argument arrays. -/
module

public import proofs.«01_k».proof.Proof.Lru.Spec

@[expose] public section

noncomputable section

namespace Cert.Inproj

open Idealize.ShloMosaic Cert.Lru

/-- The row of the modulation array for token `T`: one for every clip's 4096 tokens, the last for the conditioning tokens. -/
def modRow (T : Fin 34816) : Fin 16 := ⟨if T.val < 32768 then T.val / 4096 else 8, by split <;> omega⟩

/-- One entry: an entry over the root of the mean square, times the gain, scaled and shifted. -/
def entry (x ss g sh sc : EReal) : EReal :=
  x * Ideal.rsqrt (Ideal.div ss (Ideal.ofBits .f32 0x45000000#32) + Ideal.ofBits .f32 0x358637BD#32) * g * (Ideal.ofBits .f32 0x3F800000#32 + sc) + sh

/-- Channel `d` of token `T`, normed and modulated. -/
def hid (x : Arr2 34816 2048) (md : Arr2 16 12288) (g : Arr1 2048) (T : Fin 34816) (d : Fin 2048) : EReal :=
  entry (x (ix2 T d)) (∑ k : Fin 2048, x (ix2 T k) * x (ix2 T k)) (g (ix1 d)) (md (ix2 (modRow T) ⟨d.val, by omega⟩)) (md (ix2 (modRow T) ⟨2048 + d.val, by omega⟩))

/-- Column `n` of its projection. -/
def proj (x : Arr2 34816 2048) (md : Arr2 16 12288) (g : Arr1 2048) (w : Arr2 2048 4608) (T : Fin 34816) (n : Fin 4608) : EReal :=
  ∑ k : Fin 2048, hid x md g T k * w (ix2 k n)

end Cert.Inproj

end
-- ==== Proof.Inproj.Values.lean ====
/- What a point of the input projection computes, entry by entry. -/
module

public import proofs.«01_k».proof.Proof.Inproj.Frame
public import proofs.«01_k».proof.Proof.Inproj.Spec

@[expose] public section

set_option maxRecDepth 16384

noncomputable section

namespace Cert.Inproj

open Cert.Kernel4Ideal Cert.Kernel4Ideal.Gen Cert.Lru
open Idealize.ShloMosaic Idealize.ShloMosaic.TcCoe

theorem pay1_at (x : FVec Ideal S128x2048 .f32) (g : FVec Ideal S1x2048 .f32) (sh sc : FVec Ideal S1x1x2048 .f32) (r : Fin 128) (d : Fin 2048) :
    (k0_pay1 (F := Ideal) x g sh sc (ix2 r d) : EReal)
      = entry (x (ix2 r d)) (∑ k : Fin 2048, x (ix2 r k) * x (ix2 r k)) (g (ix2 0 d)) (sh (ix3 0 0 d)) (sc (ix3 0 0 d)) := by
  pointwise [k0_pay1, entry]

theorem pay2_at (h : FVec Ideal S512x2048 .bf16) (w : FVec Ideal S2048x1536 .bf16) (r : Fin 512) (d : Fin 1536) :
    (k0_pay2 (F := Ideal) h w (ix2 r d) : EReal) = ∑ k : Fin 2048, h (ix2 r k) * w (ix2 k d) := by
  pointwise [k0_pay2]

theorem pay3_at (h : FVec Ideal S512x2048 .bf16) (w : FVec Ideal S2048x1536 .bf16) (r : Fin 512) (d : Fin 1536) :
    (k0_pay3 (F := Ideal) h w (ix2 r d) : EReal) = ∑ k : Fin 2048, h (ix2 r k) * w (ix2 k d) := pay2_at h w r d

theorem pay4_at (h : FVec Ideal S512x2048 .bf16) (w : FVec Ideal S2048x1536 .bf16) (r : Fin 512) (d : Fin 1536) :
    (k0_pay4 (F := Ideal) h w (ix2 r d) : EReal) = ∑ k : Fin 2048, h (ix2 r k) * w (ix2 k d) := pay2_at h w r d

theorem hBlock_at (x : FVec Ideal S512x2048 .f32) (sh sc : FVec Ideal S1x1x2048 .f32) (g : FVec Ideal S1x2048 .f32) (r : Fin 512) (d : Fin 2048) :
    (hBlock (F := Ideal) x sh sc g (ix2 r d) : EReal)
      = entry (x (ix2 r d)) (∑ k : Fin 2048, x (ix2 r k) * x (ix2 r k)) (g (ix2 0 d)) (sh (ix3 0 0 d)) (sc (ix3 0 0 d)) := by
  have hr : ∀ l : Fin 2048, slab (F := Ideal) x ⟨r.val / 128, by omega⟩ (ix2 ⟨r.val % 128, Nat.mod_lt _ (by decide)⟩ l) = x (ix2 r l) := fun l =>
    congrArg (fun a : Fin 512 => x (ix2 a l)) (Fin.ext (by show 128 * (r.val / 128) + r.val % 128 = r.val; omega))
  refine (pay1_at (slab (F := Ideal) x ⟨r.val / 128, by omega⟩) g sh sc ⟨r.val % 128, Nat.mod_lt _ (by decide)⟩ d).trans ?_
  simp only [hr]

theorem ws0_at (w : FVec Ideal S2048x4608 .bf16) (k : Fin 2048) (l : Fin 1536) : ws0 (F := Ideal) w (ix2 k l) = w (ix2 k ⟨l.val, by omega⟩) := by
  unfold ws0
  refine congrArg w (funext fun a => Fin.ext ?_)
  match a with
  | ⟨0, _⟩ => exact (by omega : 0 + 1 * k.val = k.val)
  | ⟨1, _⟩ => exact (by omega : 0 + 1 * l.val = l.val)

theorem ws1_at (w : FVec Ideal S2048x4608 .bf16) (k : Fin 2048) (l : Fin 1536) : ws1 (F := Ideal) w (ix2 k l) = w (ix2 k ⟨1536 + l.val, by omega⟩) := by
  unfold ws1
  refine congrArg w (funext fun a => Fin.ext ?_)
  match a with
  | ⟨0, _⟩ => exact (by omega : 0 + 1 * k.val = k.val)
  | ⟨1, _⟩ => exact (by omega : 1536 + 1 * l.val = 1536 + l.val)

theorem ws2_at (w : FVec Ideal S2048x4608 .bf16) (k : Fin 2048) (l : Fin 1536) : ws2 (F := Ideal) w (ix2 k l) = w (ix2 k ⟨3072 + l.val, by omega⟩) := by
  unfold ws2
  refine congrArg w (funext fun a => Fin.ext ?_)
  match a with
  | ⟨0, _⟩ => exact (by omega : 0 + 1 * k.val = k.val)
  | ⟨1, _⟩ => exact (by omega : 3072 + 1 * l.val = 3072 + l.val)

/-! ## The windows -/

variable (m : (ℓ : Loc nD τ sig) → Buf (Elt Ideal) ℓ)

/-- The argument arrays at launch. -/
abbrev xA (c : Dev nD) : Arr2 34816 2048 := m ((c.tc : Thread nD τ).loc main_arg0)
abbrev mdA (c : Dev nD) : Arr2 16 12288 := m ((c.tc : Thread nD τ).loc main_arg1)
abbrev gA (c : Dev nD) : Arr1 2048 := m ((c.tc : Thread nD τ).loc main_arg2)
abbrev wA (c : Dev nD) : Arr2 2048 4608 := m ((c.tc : Thread nD τ).loc main_arg3)

theorem V_v0 (c : Dev nD) : V m c main_v0 = shapeCast S16x1x12288 (mdA m c : FVec Ideal S16x12288 .f32) shapeCasts_S16x12288_S16x1x12288 := by
  show StableHlo.after hostOps0 _ _ = _
  unfold hostOps0
  after_results
  rfl

theorem V_v1 (c : Dev nD) : V m c main_v1 = truncf (F := Ideal) .bf16 (wA m c : FVec Ideal S2048x4608 .f32) bitsLt_bf16_f32 := by
  show StableHlo.after hostOps0 _ _ = _
  unfold hostOps0
  after_results

theorem V_v2 (c : Dev nD) : V m c main_v2 = shapeCast S1x2048 (gA m c : FVec Ideal S2048 .f32) shapeCasts_S2048_S1x2048 := by
  show StableHlo.after hostOps0 _ _ = _
  unfold hostOps0
  after_results
  rfl

theorem md_at (b : FVec Ideal S16x12288 .f32) (k : Fin 16) (l : Fin 12288) : shapeCast S16x1x12288 b shapeCasts_S16x12288_S16x1x12288 (ix3 k 0 l) = b (ix2 k l) := by
  pointwise

theorem g_at (b : FVec Ideal S2048 .f32) (l : Fin 2048) : shapeCast S1x2048 b shapeCasts_S2048_S1x2048 (ix2 0 l) = b (ix1 l) := by
  pointwise

theorem idx0 : ∀ t : Fin cfg0.N, win0_0.index t 0 = t.val / 3 ∧ win0_0.index t 1 = 0 :=
  (by decide +kernel : ∀ t : Fin grid0.N, win0_0.index t 0 = t.val / 3 ∧ win0_0.index t 1 = 0)
theorem idx1 : ∀ t : Fin cfg0.N, win0_1.index t 0 = (if t.val / 3 < 64 then t.val / 3 / 8 else 8) ∧ win0_1.index t 1 = 0 ∧ win0_1.index t 2 = 0 :=
  (by decide +kernel : ∀ t : Fin grid0.N, win0_1.index t 0 = (if t.val / 3 < 64 then t.val / 3 / 8 else 8) ∧ win0_1.index t 1 = 0 ∧ win0_1.index t 2 = 0)
theorem idx2 : ∀ t : Fin cfg0.N, win0_2.index t 0 = (if t.val / 3 < 64 then t.val / 3 / 8 else 8) ∧ win0_2.index t 1 = 0 ∧ win0_2.index t 2 = 1 :=
  (by decide +kernel : ∀ t : Fin grid0.N, win0_2.index t 0 = (if t.val / 3 < 64 then t.val / 3 / 8 else 8) ∧ win0_2.index t 1 = 0 ∧ win0_2.index t 2 = 1)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val / 3 ∧ win0_5.index t 1 = t.val % 3 :=
  (by decide +kernel : ∀ t : Fin grid0.N, win0_5.index t 0 = t.val / 3 ∧ win0_5.index t 1 = t.val % 3)
theorem idx6 : ∀ t : Fin cfg0.N, win0_6.index t 0 = t.val / 3 ∧ win0_6.index t 1 = 0 :=
  (by decide +kernel : ∀ t : Fin grid0.N, win0_6.index t 0 = t.val / 3 ∧ win0_6.index t 1 = 0)

/-- The token that row `r` of point `t`'s block holds. -/
def rowOf (t : Fin cfg0.N) (r : Fin 512) : Fin 34816 := ⟨512 * (t.val / 3) + r.val, by have := lt204 t; omega⟩

theorem modRow_of (t : Fin cfg0.N) (r : Fin 512) : (modRow (rowOf t r)).val = if t.val / 3 < 64 then t.val / 3 / 8 else 8 := by
  have h := lt204 t
  show (if 512 * (t.val / 3) + r.val < 32768 then (512 * (t.val / 3) + r.val) / 4096 else 8) = _
  split_ifs <;> omega

theorem blk0 (c : Dev nD) (t : Fin cfg0.N) (r : Fin 512) (l : Fin 2048) :
    (iblk m c 0 t : FVec Ideal S512x2048 .f32) (ix2 r l) = xA m c (ix2 (rowOf t r) l) := by
  have hi := idx0 t
  unfold iblk
  rw [View.read_apply]
  show V m c main_arg0 _ = _
  rw [V_main_arg0]
  refine congrArg (xA m c) (funext fun a => Fin.ext ?_)
  match a with
  | ⟨0, _⟩ => show win0_0.index t 0 * 512 + 1 * r.val = 512 * (t.val / 3) + r.val; rw [hi.1]; omega
  | ⟨1, _⟩ => show win0_0.index t 1 * 2048 + 1 * l.val = l.val; rw [hi.2]; omega

theorem blk1 (c : Dev nD) (t : Fin cfg0.N) (r : Fin 512) (l : Fin 2048) :
    (iblk m c 1 t : FVec Ideal S1x1x2048 .f32) (ix3 0 0 l) = mdA m c (ix2 (modRow (rowOf t r)) ⟨l.val, by omega⟩) := by
  have hi := idx1 t
  have hm := modRow_of t r
  rw [← md_at (mdA m c)]
  unfold iblk
  rw [View.read_apply]
  show V m c main_v0 _ = _
  rw [V_v0]
  refine congrArg (shapeCast S16x1x12288 (mdA m c : FVec Ideal S16x12288 .f32) shapeCasts_S16x12288_S16x1x12288) (funext fun a => Fin.ext ?_)
  match a with
  | ⟨0, _⟩ => show win0_1.index t 0 * 1 + 1 * 0 = (modRow (rowOf t r)).val; rw [hi.1, hm]; omega
  | ⟨1, _⟩ => show win0_1.index t 1 * 1 + 1 * 0 = 0; rw [hi.2.1]
  | ⟨2, _⟩ => show win0_1.index t 2 * 2048 + 1 * l.val = l.val; rw [hi.2.2]; omega

theorem blk2 (c : Dev nD) (t : Fin cfg0.N) (r : Fin 512) (l : Fin 2048) :
    (iblk m c 2 t : FVec Ideal S1x1x2048 .f32) (ix3 0 0 l) = mdA m c (ix2 (modRow (rowOf t r)) ⟨2048 + l.val, by omega⟩) := by
  have hi := idx2 t
  have hm := modRow_of t r
  rw [← md_at (mdA m c)]
  unfold iblk
  rw [View.read_apply]
  show V m c main_v0 _ = _
  rw [V_v0]
  refine congrArg (shapeCast S16x1x12288 (mdA m c : FVec Ideal S16x12288 .f32) shapeCasts_S16x12288_S16x1x12288) (funext fun a => Fin.ext ?_)
  match a with
  | ⟨0, _⟩ => show win0_2.index t 0 * 1 + 1 * 0 = (modRow (rowOf t r)).val; rw [hi.1, hm]; omega
  | ⟨1, _⟩ => show win0_2.index t 1 * 1 + 1 * 0 = 0; rw [hi.2.1]
  | ⟨2, _⟩ => show win0_2.index t 2 * 2048 + 1 * l.val = 2048 + l.val; rw [hi.2.2]; omega

theorem blk3 (c : Dev nD) (t : Fin cfg0.N) (l : Fin 2048) :
    (iblk m c 3 t : FVec Ideal S1x2048 .f32) (ix2 0 l) = gA m c (ix1 l) := by
  have hi := idx3 t
  rw [← g_at (gA m c)]
  unfold iblk
  rw [View.read_apply]
  show V m c main_v2 _ = _
  rw [V_v2]
  refine congrArg (shapeCast S1x2048 (gA m c : FVec Ideal S2048 .f32) shapeCasts_S2048_S1x2048) (funext fun a => Fin.ext ?_)
  match a with
  | ⟨0, _⟩ => show win0_3.index t 0 * 1 + 1 * 0 = 0; rw [hi.1]
  | ⟨1, _⟩ => show win0_3.index t 1 * 2048 + 1 * l.val = l.val; rw [hi.2]; omega

theorem blk4 (c : Dev nD) (t : Fin cfg0.N) (k : Fin 2048) (l : Fin 4608) :
    (iblk m c 4 t : FVec Ideal S2048x4608 .bf16) (ix2 k l) = wA m c (ix2 k l) := by
  have hi := idx4 t
  unfold iblk
  rw [View.read_apply]
  show V m c main_v1 _ = _
  rw [V_v1]
  refine congrArg (wA m c) (funext fun a => Fin.ext ?_)
  match a with
  | ⟨0, _⟩ => show win0_4.index t 0 * 2048 + 1 * k.val = k.val; rw [hi.1]; omega
  | ⟨1, _⟩ => show win0_4.index t 1 * 4608 + 1 * l.val = l.val; rw [hi.2]; omega

end Cert.Inproj

end
-- ==== Proof.Inproj.KernelValue.lean ====
/- The input projection's results: the normed, modulated tokens and their projection. -/
module

public import proofs.«01_k».proof.Proof.Inproj.Values

@[expose] public section

set_option maxRecDepth 16384

noncomputable section

namespace Cert.Inproj

open Cert.Kernel4Ideal Cert.Kernel4Ideal.Gen Cert.Lru
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem rowOf_head (t : Fin cfg0.N) (r : Fin 512) : rowOf (head t) r = rowOf t r :=
  Fin.ext (by show 512 * (3 * (t.val / 3) / 3) + r.val = 512 * (t.val / 3) + r.val; omega)

theorem hAt_at (c : Dev nD) (t : Fin cfg0.N) (r : Fin 512) (d : Fin 2048) :
    (hAt m c t (ix2 r d) : EReal) = hid (xA m c) (mdA m c) (gA m c) (rowOf t r) d := by
  unfold hAt
  refine (hBlock_at _ _ _ _ r d).trans ?_
  rw [blk1 m c (head t) r, blk2 m c (head t) r, blk3]
  simp only [blk0, rowOf_head]
  rfl

/-- The column that column `l` of point `t`'s third stands for. -/
def colOf (t : Fin cfg0.N) (l : Fin 1536) : Fin 4608 := ⟨1536 * (t.val % 3) + l.val, by omega⟩

theorem uAt_at (c : Dev nD) (t : Fin cfg0.N) (r : Fin 512) (l : Fin 1536) :
    (uAt m c t (ix2 r l) : EReal) = proj (xA m c) (mdA m c) (gA m c) (wA m c) (rowOf t r) (colOf t l) := by
  unfold uAt proj
  by_cases h0 : t.val % 3 = 0
  · rw [if_pos h0]
    refine (pay2_at _ _ r l).trans (Finset.sum_congr rfl fun k _ => ?_)
    rw [hAt_at, ws0_at, blk4]
    exact congrArg (fun n : Fin 4608 => _ * wA m c (ix2 k n)) (Fin.ext (by show l.val = 1536 * (t.val % 3) + l.val; omega))
  · rw [if_neg h0]
    by_cases h1 : t.val % 3 = 1
    · rw [if_pos h1]
      refine (pay3_at _ _ r l).trans (Finset.sum_congr rfl fun k _ => ?_)
      rw [hAt_at, ws1_at, blk4]
      exact congrArg (fun n : Fin 4608 => _ * wA m c (ix2 k n)) (Fin.ext (by show 1536 + l.val = 1536 * (t.val % 3) + l.val; omega))
    · rw [if_neg h1]
      refine (pay4_at _ _ r l).trans (Finset.sum_congr rfl fun k _ => ?_)
      rw [hAt_at, ws2_at, blk4]
      exact congrArg (fun n : Fin 4608 => _ * wA m c (ix2 k n)) (Fin.ext (by show 3072 + l.val = 1536 * (t.val % 3) + l.val; omega))

/-! ## The result arrays -/

/-- The results, from the launch contents of the arguments. -/
def resultU (c : Dev nD) : Buf (Elt Ideal) ((c.tc : Thread nD τ).loc main_v3_0) :=
  (fun i : S34816x4608.Idx => proj (xA m c) (mdA m c) (gA m c) (wA m c) (i 0) (i 1) : FVec Ideal S34816x4608 .f32)
def resultH (c : Dev nD) : Buf (Elt Ideal) ((c.tc : Thread nD τ).loc main_v3_1) :=
  (fun i : S34816x2048.Idx => hid (xA m c) (mdA m c) (gA m c) (i 0) (i 1) : FVec Ideal S34816x2048 .bf16)

theorem flushed5 (c : Dev nD) (t : Fin cfg0.N) (hf : (cfg0.win 5).flush t = true) :
    (dats m 0 c).flushed 5 t = ((cfg0.win 5).blk t).view.read (Elt Ideal) (resultU m c) := by
  show (cfg0.win 5).cut (grid0.coords t) ((dats m 0 c).after 5 t) = _
  rw [after5]
  funext j
  have hi := idx5 t
  have ht := lt204 t
  have hj : j = (ix2 (j 0) (j 1) : S512x1536.Idx) := funext fun a => Fin.ext (match a with | ⟨0, _⟩ => rfl | ⟨1, _⟩ => rfl)
  have e := uAt_at m c t (j 0) (j 1)
  rw [View.read_apply]
  refine (congrArg (uAt m c t) hj).trans (e.trans ?_)
  have q0 : rowOf t (j 0) = (((cfg0.win 5).blk t).view.emb j) 0 := Fin.ext (by
    show 512 * (t.val / 3) + (j 0).val = win0_5.index t 0 * 512 + 1 * (j 0).val
    rw [hi.1]; omega)
  have q1 : colOf t (j 1) = (((cfg0.win 5).blk t).view.emb j) 1 := Fin.ext (by
    show 1536 * (t.val % 3) + (j 1).val = win0_5.index t 1 * 1536 + 1 * (j 1).val
    rw [hi.2]; omega)
  exact congrArg₂ (proj (xA m c) (mdA m c) (gA m c) (wA m c)) q0 q1

theorem flushed6 (c : Dev nD) (t : Fin cfg0.N) (hf : (cfg0.win 6).flush t = true) :
    (dats m 0 c).flushed 6 t = ((cfg0.win 6).blk t).view.read (Elt Ideal) (resultH m c) := by
  show (cfg0.win 6).cut (grid0.coords t) ((dats m 0 c).after 6 t) = _
  rw [after6]
  funext j
  have hi := idx6 t
  have ht := lt204 t
  have hj : j = (ix2 (j 0) (j 1) : S512x2048.Idx) := funext fun a => Fin.ext (match a with | ⟨0, _⟩ => rfl | ⟨1, _⟩ => rfl)
  have e := hAt_at m c t (j 0) (j 1)
  rw [View.read_apply]
  refine (congrArg (hAt m c t) hj).trans (e.trans ?_)
  have q0 : rowOf t (j 0) = (((cfg0.win 6).blk t).view.emb j) 0 := Fin.ext (by
    show 512 * (t.val / 3) + (j 0).val = win0_6.index t 0 * 512 + 1 * (j 0).val
    rw [hi.1]; omega)
  have q1 : j 1 = (((cfg0.win 6).blk t).view.emb j) 1 := Fin.ext (by
    show (j 1).val = win0_6.index t 1 * 2048 + 1 * (j 1).val
    rw [hi.2]; omega)
  exact congrArg₂ (hid (xA m c) (mdA m c) (gA m c)) q0 q1

theorem final5 (c : Dev nD) : (dats m 0 c).arrAt 5 cfg0.N = resultU m c :=
  (dats m 0 c).arrAt_eq_of_cover 5 (resultU m c) (flushed5 m c) fun i => by
    have h0 : (i 0 : Nat) < 34816 := (i 0).isLt
    have h1 : (i 1 : Nat) < 4608 := (i 1).isLt
    have hN : cfg0.N = 204 := N_0
    have hlt : 3 * ((i 0 : Nat) / 512) + (i 1 : Nat) / 1536 < cfg0.N := by omega
    refine ⟨⟨3 * ((i 0 : Nat) / 512) + (i 1 : Nat) / 1536, hlt⟩, flush0_5 _, ?_⟩
    have hi := idx5 ⟨3 * ((i 0 : Nat) / 512) + (i 1 : Nat) / 1536, hlt⟩
    dsimp only at hi
    generalize (⟨3 * ((i 0 : Nat) / 512) + (i 1 : Nat) / 1536, hlt⟩ : Fin cfg0.N) = t at hi ⊢
    show i ∈ ((View.whole main_v3_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [hi.1]; omega
    | ⟨1, _⟩ => show win0_5.index t 1 * 1536 ≤ (i 1 : Nat) ∧ (i 1 : Nat) < win0_5.index t 1 * 1536 + 1536
                rw [hi.2]; omega

theorem final6 (c : Dev nD) : (dats m 0 c).arrAt 6 cfg0.N = resultH m c :=
  (dats m 0 c).arrAt_eq_of_cover 6 (resultH m c) (flushed6 m c) fun i => by
    have h0 : (i 0 : Nat) < 34816 := (i 0).isLt
    have h1 : (i 1 : Nat) < 2048 := (i 1).isLt
    have hN : cfg0.N = 204 := N_0
    have hlt : 3 * ((i 0 : Nat) / 512) + 2 < cfg0.N := by omega
    refine ⟨⟨3 * ((i 0 : Nat) / 512) + 2, hlt⟩, (flush0_6 _).mpr (by show (3 * ((i 0 : Nat) / 512) + 2) % 3 = 2; omega), ?_⟩
    have hi := idx6 ⟨3 * ((i 0 : Nat) / 512) + 2, hlt⟩
    dsimp only at hi
    generalize (⟨3 * ((i 0 : Nat) / 512) + 2, hlt⟩ : Fin cfg0.N) = t at hi ⊢
    show i ∈ ((View.whole main_v3_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [hi.1]; omega
    | ⟨1, _⟩ => show win0_6.index t 1 * 2048 ≤ (i 1 : Nat) ∧ (i 1 : Nat) < win0_6.index t 1 * 2048 + 2048
                rw [hi.2]; omega

/-- The run, read. -/
theorem run : θ_run defs (onTc (τ := τ) (main (F := Ideal))) ⟨m, fun _ => 0, ρ⟩ fun r => ∀ c : Dev nD,
      r.2.mem ((c.tc : Thread nD τ).loc main_v3_0) = resultU m c ∧ r.2.mem ((c.tc : Thread nD τ).loc main_v3_1) = resultH m c :=
  (θ_run defs _ _).mono (fun _ h c => ⟨((h c).1 5).trans (final5 m c), ((h c).1 6).trans (final6 m c)⟩) (run_main m ρ)

end Cert.Inproj

end
-- ==== Proof.Inproj.RefRead.lean ====
/- What the input projection's reference computes: its host operations, read entry by entry. -/
module

public import proofs.«01_k».proof.Proof.Gen.Reference4Ideal
public import proofs.«01_k».proof.Proof.Gen.Reference4Ideal.Run
public import proofs.«01_k».proof.Proof.Inproj.Spec

@[expose] public section

set_option maxRecDepth 16384

noncomputable section

namespace Cert.Inproj

open Cert.Reference4Ideal Cert.Reference4Ideal.Gen Cert.Lru
open Idealize.ShloMosaic Idealize.ShloMosaic.TcCoe

/-- The modulation rows: the shift and the scale. -/
def refSh (md : FVec Ideal S16x12288 .f32) : FVec Ideal S9x1x2048 .f32 :=
  broadcastInDim S9x1x2048 ![0, 2] bcast_S9x2048_S9x1x2048_0_2 (extractStridedSlice S9x2048 ![0, 0] md slices_S16x12288_S9x2048_0_0)
def refSc (md : FVec Ideal S16x12288 .f32) : FVec Ideal S9x1x2048 .f32 :=
  broadcastInDim S9x1x2048 ![0, 2] bcast_S9x2048_S9x1x2048_0_2 (extractStridedSlice S9x2048 ![0, 2048] md slices_S16x12288_S9x2048_0_2048)

theorem refSh_at (md : FVec Ideal S16x12288 .f32) (b : Fin 9) (d : Fin 2048) : refSh md (ix3 b 0 d) = md (ix2 ⟨b.val, by omega⟩ ⟨d.val, by omega⟩) := by
  pointwise [refSh]
theorem refSc_at (md : FVec Ideal S16x12288 .f32) (b : Fin 9) (d : Fin 2048) : refSc md (ix3 b 0 d) = md (ix2 ⟨b.val, by omega⟩ ⟨2048 + d.val, by omega⟩) := by
  pointwise [refSc]

/-- The clips' tokens, and the root of their mean squares. -/
def refX (x : FVec Ideal S34816x2048 .f32) : FVec Ideal S8x4096x2048 .f32 :=
  shapeCast S8x4096x2048 (extractStridedSlice S32768x2048 ![0, 0] x slices_S34816x2048_S32768x2048_0_0) shapeCasts_S32768x2048_S8x4096x2048
def refR (x : FVec Ideal S8x4096x2048 .f32) : FVec Ideal S8x4096x1 .f32 :=
  Host.rsqrt (addf (Host.divf (broadcastInDim S8x4096x1 ![0, 1] bcast_S8x4096_S8x4096x1_0_1
      (Host.reduceAdd (mulf x x) (constant S_ .f32 0x00000000#32) reducesTo_S8x4096x2048_S8x4096_d2 h_S_))
    (broadcastInDim S8x4096x1 ![] bcast_S_S8x4096x1 (constant S_ .f32 0x45000000#32))) (broadcastInDim S8x4096x1 ![] bcast_S_S8x4096x1 (constant S_ .f32 0x358637BD#32)))
def refN (x : FVec Ideal S8x4096x2048 .f32) (sh sc : FVec Ideal S9x1x2048 .f32) (g : FVec Ideal S2048 .f32) : FVec Ideal S8x4096x2048 .f32 :=
  addf (mulf (mulf (mulf x (broadcastInDim S8x4096x2048 ![0, 1, 2] bcast_S8x4096x1_S8x4096x2048_0_1_2 (refR x)))
      (broadcastInDim S8x4096x2048 ![0, 1, 2] bcast_S1x1x2048_S8x4096x2048_0_1_2 (broadcastInDim S1x1x2048 ![2] bcast_S2048_S1x1x2048_2 g)))
    (broadcastInDim S8x4096x2048 ![0, 1, 2] bcast_S8x1x2048_S8x4096x2048_0_1_2
      (addf (broadcastInDim S8x1x2048 ![] bcast_S_S8x1x2048 (constant S_ .f32 0x3F800000#32)) (extractStridedSlice S8x1x2048 ![0, 0, 0] sc slices_S9x1x2048_S8x1x2048_0_0_0))))
    (broadcastInDim S8x4096x2048 ![0, 1, 2] bcast_S8x1x2048_S8x4096x2048_0_1_2 (extractStridedSlice S8x1x2048 ![0, 0, 0] sh slices_S9x1x2048_S8x1x2048_0_0_0))

theorem refX_at (x : FVec Ideal S34816x2048 .f32) (b : Fin 8) (t : Fin 4096) (d : Fin 2048) : refX x (ix3 b t d) = x (ix2 ⟨b.val * 4096 + t.val, by omega⟩ d) := by
  pointwise [refX]

theorem refR_at (x : FVec Ideal S8x4096x2048 .f32) (b : Fin 8) (t : Fin 4096) :
    (refR x (ix3 b t 0) : EReal) = Ideal.rsqrt (Ideal.div (∑ k : Fin 2048, x (ix3 b t k) * x (ix3 b t k)) (Ideal.ofBits .f32 0x45000000#32) + Ideal.ofBits .f32 0x358637BD#32) := by
  pointwise [refR]

theorem refN_at (x : FVec Ideal S8x4096x2048 .f32) (sh sc : FVec Ideal S9x1x2048 .f32) (g : FVec Ideal S2048 .f32) (b : Fin 8) (t : Fin 4096) (d : Fin 2048) :
    (refN x sh sc g (ix3 b t d) : EReal)
      = entry (x (ix3 b t d)) (∑ k : Fin 2048, x (ix3 b t k) * x (ix3 b t k)) (g (ix1 d)) (sh (ix3 ⟨b.val, by omega⟩ 0 d)) (sc (ix3 ⟨b.val, by omega⟩ 0 d)) := by
  pointwise [refN, refR_at, entry]

/-- The conditioning tokens, likewise. -/
def refXc (x : FVec Ideal S34816x2048 .f32) : FVec Ideal S8x256x2048 .f32 :=
  shapeCast S8x256x2048 (extractStridedSlice S2048x2048 ![32768, 0] x slices_S34816x2048_S2048x2048_32768_0) shapeCasts_S2048x2048_S8x256x2048
def refRc (x : FVec Ideal S8x256x2048 .f32) : FVec Ideal S8x256x1 .f32 :=
  Host.rsqrt (addf (Host.divf (broadcastInDim S8x256x1 ![0, 1] bcast_S8x256_S8x256x1_0_1
      (Host.reduceAdd (mulf x x) (constant S_ .f32 0x00000000#32) reducesTo_S8x256x2048_S8x256_d2 h_S_))
    (broadcastInDim S8x256x1 ![] bcast_S_S8x256x1 (constant S_ .f32 0x45000000#32))) (broadcastInDim S8x256x1 ![] bcast_S_S8x256x1 (constant S_ .f32 0x358637BD#32)))
def refNc (x : FVec Ideal S8x256x2048 .f32) (sh sc : FVec Ideal S9x1x2048 .f32) (g : FVec Ideal S2048 .f32) : FVec Ideal S8x256x2048 .f32 :=
  addf (mulf (mulf (mulf x (broadcastInDim S8x256x2048 ![0, 1, 2] bcast_S8x256x1_S8x256x2048_0_1_2 (refRc x)))
      (broadcastInDim S8x256x2048 ![0, 1, 2] bcast_S1x1x2048_S8x256x2048_0_1_2 (broadcastInDim S1x1x2048 ![2] bcast_S2048_S1x1x2048_2 g)))
    (broadcastInDim S8x256x2048 ![0, 1, 2] bcast_S1x1x2048_S8x256x2048_0_1_2
      (addf (broadcastInDim S1x1x2048 ![] bcast_S_S1x1x2048 (constant S_ .f32 0x3F800000#32)) (extractStridedSlice S1x1x2048 ![8, 0, 0] sc slices_S9x1x2048_S1x1x2048_8_0_0))))
    (broadcastInDim S8x256x2048 ![0, 1, 2] bcast_S1x1x2048_S8x256x2048_0_1_2 (extractStridedSlice S1x1x2048 ![8, 0, 0] sh slices_S9x1x2048_S1x1x2048_8_0_0))

theorem refXc_at (x : FVec Ideal S34816x2048 .f32) (b : Fin 8) (t : Fin 256) (d : Fin 2048) : refXc x (ix3 b t d) = x (ix2 ⟨32768 + (b.val * 256 + t.val), by omega⟩ d) := by
  pointwise [refXc]

theorem refRc_at (x : FVec Ideal S8x256x2048 .f32) (b : Fin 8) (t : Fin 256) :
    (refRc x (ix3 b t 0) : EReal) = Ideal.rsqrt (Ideal.div (∑ k : Fin 2048, x (ix3 b t k) * x (ix3 b t k)) (Ideal.ofBits .f32 0x45000000#32) + Ideal.ofBits .f32 0x358637BD#32) := by
  pointwise [refRc]

theorem refNc_at (x : FVec Ideal S8x256x2048 .f32) (sh sc : FVec Ideal S9x1x2048 .f32) (g : FVec Ideal S2048 .f32) (b : Fin 8) (t : Fin 256) (d : Fin 2048) :
    (refNc x sh sc g (ix3 b t d) : EReal)
      = entry (x (ix3 b t d)) (∑ k : Fin 2048, x (ix3 b t k) * x (ix3 b t k)) (g (ix1 d)) (sh (ix3 8 0 d)) (sc (ix3 8 0 d)) := by
  pointwise [refNc, refRc_at, entry]

/-- All tokens normed and modulated, from the two groups. -/
def refCat (a : FVec Ideal S8x4096x2048 .f32) (b : FVec Ideal S8x256x2048 .f32) : FVec Ideal S34816x2048 .f32 :=
  concatenate S34816x2048 0 [⟨S32768x2048, shapeCast S32768x2048 a shapeCasts_S8x4096x2048_S32768x2048⟩, ⟨S2048x2048, shapeCast S2048x2048 b shapeCasts_S8x256x2048_S2048x2048⟩]
    concatenates_S32768x2048_S2048x2048_S34816x2048_d0

theorem refCat_at (a : FVec Ideal S8x4096x2048 .f32) (b : FVec Ideal S8x256x2048 .f32) (T : Fin 34816) (d : Fin 2048) :
    (refCat a b (ix2 T d) : EReal)
      = if h : T.val < 32768 then a (ix3 ⟨T.val / 4096, by omega⟩ ⟨T.val % 4096, by omega⟩ d)
        else b (ix3 ⟨(T.val - 32768) / 256, by omega⟩ ⟨(T.val - 32768) % 256, by omega⟩ d) := by
  pointwise [refCat]

def refHid (x : FVec Ideal S34816x2048 .f32) (md : FVec Ideal S16x12288 .f32) (g : FVec Ideal S2048 .f32) : FVec Ideal S34816x2048 .f32 :=
  refCat (refN (refX x) (refSh md) (refSc md) g) (refNc (refXc x) (refSh md) (refSc md) g)

theorem refHid_at (x : FVec Ideal S34816x2048 .f32) (md : FVec Ideal S16x12288 .f32) (g : FVec Ideal S2048 .f32) (T : Fin 34816) (d : Fin 2048) :
    (refHid x md g (ix2 T d) : EReal) = hid x md g T d := by
  unfold refHid
  rw [refCat_at]
  unfold hid
  by_cases h : T.val < 32768
  · rw [dif_pos h, refN_at]
    simp only [refX_at, refSh_at, refSc_at]
    have e : (⟨T.val / 4096 * 4096 + T.val % 4096, by omega⟩ : Fin 34816) = T := Fin.ext (by show T.val / 4096 * 4096 + T.val % 4096 = T.val; omega)
    have em : (⟨T.val / 4096, by omega⟩ : Fin 16) = modRow T := Fin.ext (by show _ = if T.val < 32768 then T.val / 4096 else 8; rw [if_pos h])
    rw [e, em]
  · rw [dif_neg h, refNc_at]
    simp only [refXc_at, refSh_at, refSc_at]
    have e : (⟨32768 + ((T.val - 32768) / 256 * 256 + (T.val - 32768) % 256), by omega⟩ : Fin 34816) = T := Fin.ext (by
      show 32768 + ((T.val - 32768) / 256 * 256 + (T.val - 32768) % 256) = T.val; omega)
    have em : (⟨(8 : Fin 9).val, by decide⟩ : Fin 16) = modRow T := Fin.ext (by show 8 = if T.val < 32768 then T.val / 4096 else 8; rw [if_neg h])
    rw [e, em]

/-- The reference's first result: the projection. -/
def refU (x : FVec Ideal S34816x2048 .f32) (md : FVec Ideal S16x12288 .f32) (g : FVec Ideal S2048 .f32) (w : FVec Ideal S2048x4608 .f32) : FVec Ideal S34816x4608 .f32 :=
  Host.dotGeneral (F := Ideal) dot_S34816x2048_S2048x4608_S34816x4608_1_0_0_1_n_n none (refHid x md g) w

theorem refU_at (x : FVec Ideal S34816x2048 .f32) (md : FVec Ideal S16x12288 .f32) (g : FVec Ideal S2048 .f32) (w : FVec Ideal S2048x4608 .f32)
    (T : Fin 34816) (n : Fin 4608) : (refU x md g w (ix2 T n) : EReal) = proj x md g w T n := by
  pointwise [refU, refHid_at]
  rfl

/-- The reference's results are, entry by entry, the specification. -/
theorem refU_eq (x : FVec Ideal S34816x2048 .f32) (md : FVec Ideal S16x12288 .f32) (g : FVec Ideal S2048 .f32) (w : FVec Ideal S2048x4608 .f32) :
    refU x md g w = fun i : S34816x4608.Idx => proj x md g w (i 0) (i 1) := by
  funext i
  have hi : i = (ix2 (i 0) (i 1) : S34816x4608.Idx) := funext fun a => Fin.ext (match a with | ⟨0, _⟩ => rfl | ⟨1, _⟩ => rfl)
  exact (congrArg (refU x md g w) hi).trans (refU_at x md g w (i 0) (i 1))

theorem refH_eq (x : FVec Ideal S34816x2048 .f32) (md : FVec Ideal S16x12288 .f32) (g : FVec Ideal S2048 .f32) :
    truncf (F := Ideal) .bf16 (refHid x md g) bitsLt_bf16_f32 = fun i : S34816x2048.Idx => hid x md g (i 0) (i 1) := by
  funext i
  have hi : i = (ix2 (i 0) (i 1) : S34816x2048.Idx) := funext fun a => Fin.ext (match a with | ⟨0, _⟩ => rfl | ⟨1, _⟩ => rfl)
  exact (congrArg (refHid x md g) hi).trans (refHid_at x md g (i 0) (i 1))

end Cert.Inproj

end
-- ==== Proof.Inproj.Claims.lean ====
/- The input projection over the words, from the run over any float values; and its results against the reference's. -/
module

public import proofs.«01_k».proof.Defs
public import proofs.«01_k».proof.Proof.Gen.Kernel4.Launch
public import proofs.«01_k».proof.Proof.Inproj.KernelValue
public import proofs.«01_k».proof.Proof.Inproj.RefRead
public import Idealize.ShloMosaic.Lib.Quiescent

@[expose] public section

set_option maxRecDepth 16384

noncomputable section

namespace Cert.Inproj

open Idealize.ShloMosaic Idealize.ShloMosaic.TcCoe Idealize.SL.Sem

attribute [local instance] Cert.Kernel4.Gen.facts Cert.Kernel4Ideal.Gen.facts Cert.Reference4Ideal.Gen.facts

theorem bodies_eq : @Cert.Kernel4Ideal.defs₀ Bits _ _ = @Cert.Kernel4.defs₀ Bits _ _ := by
  unfold Cert.Kernel4Ideal.defs₀ Cert.Kernel4.defs₀
  refine congrArg Defs.onTc ?_
  funext l a
  match l, a with
  | ⟨0, _⟩, (t, s) => rfl

set_option backward.isDefEq.respectTransparency.types false in
/-- The two programs have one body table, -/
theorem defs_eq : @Cert.Kernel4Ideal.defs Bits _ _ = @Cert.Kernel4.defs Bits _ _ := congrArg (fun d => Pipeline.defs _ d) bodies_eq

set_option backward.isDefEq.respectTransparency.types false in
set_option maxHeartbeats 4000000 in
/-- and so the kernel over the words runs as the kernel over any values does. -/
theorem frame_kernel4 : Cert.quiescent_Kernel4 := by
  intro m ρ _
  have h := frame (F := Bits) m ρ
  rw [defs_eq] at h
  exact h

theorem frame_kernel4Ideal : Cert.quiescent_Kernel4Ideal := fun m ρ _ => frame (F := Ideal) m ρ

theorem frame_reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic4 : Cert.algebraic_Kernel4Ideal_Reference4Ideal := by
  intro m ρ m' ρ' _ hagree
  refine ⟨fun c => resultU m c, fun c => resultH m c, ?_, ?_⟩
  · exact (θ_run Cert.Kernel4Ideal.defs _ _).mono (fun _ h c => ⟨(h.1 c).1, (h.1 c).2, h.2.1 c⟩)
      (θ_run_and (run m ρ) (frame (F := Ideal) m ρ))
  · refine (θ_run Cert.Reference4Ideal.defs _ _).mono (fun _ h c => ⟨(h c).1.trans ?_, (h c).2.1.trans ?_, (h c).2.2⟩)
      (Cert.Reference4Ideal.Value.run (F := Ideal) m' ρ')
    · obtain ⟨e0, e1, e2, e3⟩ := hagree c
      unfold Cert.Reference4Ideal.Value.res_main_v53
      rw [e0, e1, e2, e3]
      exact refU_eq (xA m c) (mdA m c) (gA m c) (wA m c)
    · obtain ⟨e0, e1, e2, e3⟩ := hagree c
      rw [e0, e1, e2]
      exact refH_eq (xA m c) (mdA m c) (gA m c)

end Cert.Inproj

end
-- ==== Proof.Adaln.Spec.lean ====
/- The modulation rows of both layers, stated over extended reals as a function of the argument arrays. -/
module

public import proofs.«01_k».proof.Proof.Lru.Spec

@[expose] public section

noncomputable section

namespace Cert.Adaln

open Idealize.ShloMosaic Cert.Lru

/-- The conditioning vectors: the eight sequences, the context, and rows of zeros. -/
def cvec (c : Arr2 8 2048) (cc : Arr1 2048) (r : Fin 16) (k : Fin 2048) : EReal :=
  if h : r.val < 8 then c (ix2 ⟨r.val, h⟩ k) else if r.val = 8 then cc (ix1 k) else 0

/-- The SiLU. -/
def silu (x : EReal) : EReal := x * Ideal.logistic x

/-- Row `r` of layer `l`'s modulation, column `n`. -/
def rows (c : Arr2 8 2048) (cc : Arr1 2048) (w : Arr3 2 2048 12288) (b : Arr2 2 12288) (l : Fin 2) (r : Fin 16) (n : Fin 12288) : EReal :=
  (∑ k : Fin 2048, silu (cvec c cc r k) * w (ix3 l k n)) + b (ix2 l n)

end Cert.Adaln

end
-- ==== Proof.Adaln.Scatter.lean ====
/- Rows set in a matrix, as the host writes them: a block of rows from one index word on, and one row. -/
module

public import proofs.«01_k».proof.Proof.Gen.Kernel5Ideal
public import Idealize.ShloMosaic.Lib.Routing.OpsOne
public import proofs.«01_k».proof.Proof.Adaln.Spec

@[expose] public section

set_option maxRecDepth 16384

noncomputable section

namespace Cert.Adaln

section

open Idealize.ShloMosaic hiding ix1 ix2 ix3 eq_ix1 eq_ix2
open Idealize.ShloMosaic.Routing Idealize.ShloMosaic.ValueIdx

/-- Row `a'` of an update of `A` rows lands at row `a' + k`, `k` the index word. -/
theorem lands_rows {R A C w : Nat} (d : ScatterDims (shape2 R C) (shape1 1) (shape2 A C)) (hud : d.updateWindowDims = [0, 1]) (hiw : d.insertedWindowDims = [])
    (hsd : d.scatterDimsToOperandDims = [0]) (idx : IVec (shape1 1) w) (k : Nat) (hidx : (idx (ix1 0)).toInt = (k : Int))
    (a' : Fin A) (e' : Fin C) (a : Fin R) (e : Fin C) : d.resultIdx? (ix2 a' e') idx = some (ix2 a e) ↔ k + a'.val = a.val ∧ e' = e := by
  have hm : (0 : Fin 2) ∈ d.scatterDimsToOperandDims := by rw [hsd]; exact List.mem_singleton.2 rfl
  obtain ⟨ud, iw, sd, iv, wf⟩ := d
  dsimp only at hud hiw hsd hm
  subst hud hiw hsd
  have hwin0 : (⟨[0, 1], [], [0], iv, wf⟩ : ScatterDims (shape2 R C) (shape1 1) (shape2 A C)).window (ix2 a' e') 0 = a'.val := rfl
  have hwin1 : (⟨[0, 1], [], [0], iv, wf⟩ : ScatterDims (shape2 R C) (shape1 1) (shape2 A C)).window (ix2 a' e') 1 = e'.val := rfl
  have hstart1 : (⟨[0, 1], [], [0], iv, wf⟩ : ScatterDims (shape2 R C) (shape1 1) (shape2 A C)).start (ix2 a' e') idx 1 = 0 := rfl
  have hstart0 : (⟨[0, 1], [], [0], iv, wf⟩ : ScatterDims (shape2 R C) (shape1 1) (shape2 A C)).start (ix2 a' e') idx 0 = (k : Int) := by
    unfold ScatterDims.start
    rw [dif_pos hm]
    refine Eq.trans (congrArg (fun q => (idx q).toInt) (funext fun b' => ?_)) hidx
    match b' with
    | ⟨0, _⟩ => exact Subsingleton.elim (α := Fin 1) _ _
  rw [Fin.ext_iff, resultIdx?_ix2, hstart0, hwin0, hstart1, hwin1]
  omega

theorem scatter_rows {α : Type} {R A C w : Nat} (d : ScatterDims (shape2 R C) (shape1 1) (shape2 A C)) (hud : d.updateWindowDims = [0, 1])
    (hiw : d.insertedWindowDims = []) (hsd : d.scatterDimsToOperandDims = [0]) (x0 : (shape2 R C).Idx → α) (idx : IVec (shape1 1) w) (upd : (shape2 A C).Idx → α)
    (hidx : (idx (ix1 0)).toInt = (0 : Int)) (a : Fin R) (e : Fin C) :
    Host.scatter d (fun _ b => b) x0 idx upd (ix2 a e) = if h : a.val < A then upd (ix2 ⟨a.val, h⟩ e) else x0 (ix2 a e) := by
  have lands : ∀ j : (shape2 A C).Idx, d.resultIdx? j idx = some (ix2 a e) → 0 + (j 0).val = a.val ∧ j 1 = e := fun j hj =>
    (lands_rows d hud hiw hsd idx 0 hidx (j 0) (j 1) a e).1 ((congrArg (fun t => d.resultIdx? t idx) (eq_ix2 j).symm).trans hj)
  by_cases h : a.val < A
  · rw [dif_pos h]
    refine scatter_set_hit d x0 idx upd _ _ (fun j hj => ?_) (ix2 ⟨a.val, h⟩ e) ((lands_rows d hud hiw hsd idx 0 hidx _ e a e).2 ⟨Nat.zero_add _, rfl⟩)
    obtain ⟨q0, q1⟩ := lands j hj
    rw [Nat.zero_add] at q0
    rw [eq_ix2 j]
    exact congrArg₂ (fun s t => upd (ix2 s t)) (Fin.ext q0) q1
  · rw [dif_neg h]
    refine scatter_set_miss d x0 idx upd _ fun j hj => h ?_
    have q := (lands j hj).1
    have hl : (j 0).val < A := (j 0).isLt
    omega

/-- An update of one row lands at row `k`, the index word. -/
theorem lands_row {R C w : Nat} (d : ScatterDims (shape2 R C) (shape1 1) (shape1 C)) (hud : d.updateWindowDims = [0]) (hiw : d.insertedWindowDims = [0])
    (hsd : d.scatterDimsToOperandDims = [0]) (idx : IVec (shape1 1) w) (k : Nat) (hidx : (idx (ix1 0)).toInt = (k : Int))
    (e' : Fin C) (a : Fin R) (e : Fin C) : d.resultIdx? (ix1 e') idx = some (ix2 a e) ↔ k = a.val ∧ e' = e := by
  have hm : (0 : Fin 2) ∈ d.scatterDimsToOperandDims := by rw [hsd]; exact List.mem_singleton.2 rfl
  obtain ⟨ud, iw, sd, iv, wf⟩ := d
  dsimp only at hud hiw hsd hm
  subst hud hiw hsd
  have hwin0 : (⟨[0], [0], [0], iv, wf⟩ : ScatterDims (shape2 R C) (shape1 1) (shape1 C)).window (ix1 e') 0 = 0 := rfl
  have hwin1 : (⟨[0], [0], [0], iv, wf⟩ : ScatterDims (shape2 R C) (shape1 1) (shape1 C)).window (ix1 e') 1 = e'.val := rfl
  have hstart1 : (⟨[0], [0], [0], iv, wf⟩ : ScatterDims (shape2 R C) (shape1 1) (shape1 C)).start (ix1 e') idx 1 = 0 := rfl
  have hstart0 : (⟨[0], [0], [0], iv, wf⟩ : ScatterDims (shape2 R C) (shape1 1) (shape1 C)).start (ix1 e') idx 0 = (k : Int) := by
    unfold ScatterDims.start
    rw [dif_pos hm]
    refine Eq.trans (congrArg (fun q => (idx q).toInt) (funext fun b' => ?_)) hidx
    match b' with
    | ⟨0, _⟩ => exact Subsingleton.elim (α := Fin 1) _ _
  rw [Fin.ext_iff, resultIdx?_ix2, hstart0, hwin0, hstart1, hwin1]
  omega

theorem scatter_row {α : Type} {R C w : Nat} (d : ScatterDims (shape2 R C) (shape1 1) (shape1 C)) (hud : d.updateWindowDims = [0])
    (hiw : d.insertedWindowDims = [0]) (hsd : d.scatterDimsToOperandDims = [0]) (x0 : (shape2 R C).Idx → α) (idx : IVec (shape1 1) w) (upd : (shape1 C).Idx → α)
    (k : Nat) (hidx : (idx (ix1 0)).toInt = (k : Int)) (a : Fin R) (e : Fin C) :
    Host.scatter d (fun _ b => b) x0 idx upd (ix2 a e) = if a.val = k then upd (ix1 e) else x0 (ix2 a e) := by
  have lands : ∀ j : (shape1 C).Idx, d.resultIdx? j idx = some (ix2 a e) → k = a.val ∧ j 0 = e := fun j hj =>
    (lands_row d hud hiw hsd idx k hidx (j 0) a e).1 ((congrArg (fun t => d.resultIdx? t idx) (eq_ix1 j).symm).trans hj)
  by_cases h : a.val = k
  · rw [if_pos h]
    exact scatter_set_hit d x0 idx upd _ _ (fun j hj => (congrArg upd (eq_ix1 j)).trans (congrArg (fun t => upd (ix1 t)) (lands j hj).2)) (ix1 e)
      ((lands_row d hud hiw hsd idx k hidx e a e).2 ⟨h.symm, rfl⟩)
  · rw [if_neg h]
    exact scatter_set_miss d x0 idx upd _ fun j hj => h (lands j hj).1.symm

end

open Idealize.ShloMosaic Cert.Kernel5Ideal Cert.Kernel5Ideal.Gen Cert.Lru

/-- The matrix of conditioning vectors, as the host prepares it. -/
def prep (c : FVec Ideal S8x2048 .f32) (cc : FVec Ideal S2048 .f32) : FVec Ideal S16x2048 .f32 :=
  Host.scatter scatter_S16x2048_S1_S2048_0_0_0_0 (fun _ b => b)
    (Host.scatter scatter_S16x2048_S1_S8x2048_01_n_0_0 (fun _ b => b) (broadcastInDim S16x2048 ![] bcast_S_S16x2048 (constant (F := Ideal) S_ .f32 0x00000000#32))
      (broadcastInDim S1 ![] bcast_S_S1 (constantI S_ 32 0#32)) c)
    (broadcastInDim S1 ![] bcast_S_S1 (constantI S_ 32 8#32)) cc

theorem prep_at (c : FVec Ideal S8x2048 .f32) (cc : FVec Ideal S2048 .f32) (r : Fin 16) (k : Fin 2048) : (prep c cc (ix2 r k) : EReal) = cvec c cc r k := by
  unfold prep
  refine (scatter_row (R := 16) (C := 2048) scatter_S16x2048_S1_S2048_0_0_0_0 rfl rfl rfl _ _ cc 8 (by rfl) r k).trans ?_
  unfold cvec
  by_cases h8 : r.val = 8
  · rw [if_pos h8, dif_neg (by omega), if_pos h8]
    rfl
  · rw [if_neg h8]
    refine (scatter_rows (R := 16) (A := 8) (C := 2048) scatter_S16x2048_S1_S8x2048_01_n_0_0 rfl rfl rfl _ _ c (by rfl) r k).trans ?_
    by_cases h : r.val < 8
    · rw [dif_pos h, dif_pos h]
      rfl
    · rw [dif_neg h, dif_neg h, if_neg h8]
      exact (by simp [Idealize.ShloMosaic.Ideal.ofBits, Idealize.ShloMosaic.Ideal.ieee] : Idealize.ShloMosaic.Ideal.ofBits .f32 0x00000000#32 = 0)

end Cert.Adaln

end
-- ==== Proof.Adaln.KernelValue.lean ====
/- The modulation's result: every row of both layers, block by block. -/
module

public import proofs.«01_k».proof.Proof.Gen.Kernel5Ideal.Frame
public import Idealize.ShloMosaic.Lib.Pipeline.ValueKit
public import Idealize.ShloMosaic.PureOps.Ideal
public import proofs.«01_k».proof.Proof.Adaln.Scatter

@[expose] public section

set_option maxRecDepth 16384

noncomputable section

namespace Cert.Adaln

open Cert.Kernel5Ideal Cert.Kernel5Ideal.Gen Cert.Lru
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-- The argument arrays at launch. -/
abbrev cA (c : Dev nD) : Arr2 8 2048 := m ((c.tc : Thread nD τ).loc main_arg0)
abbrev ccA (c : Dev nD) : Arr1 2048 := m ((c.tc : Thread nD τ).loc main_arg1)
abbrev wA (c : Dev nD) : Arr3 2 2048 12288 := m ((c.tc : Thread nD τ).loc main_arg2)
abbrev bA (c : Dev nD) : Arr2 2 12288 := m ((c.tc : Thread nD τ).loc main_arg3)

theorem V_v4 (c : Dev nD) : V m c main_v4 = prep (cA m c) (ccA m c) := by
  show StableHlo.after hostOps0 _ _ = _
  unfold hostOps0
  after_results
  rfl

theorem V_v5 (c : Dev nD) : V m c main_v5 = shapeCast S2x1x12288 (bA m c : FVec Ideal S2x12288 .f32) shapeCasts_S2x12288_S2x1x12288 := by
  show StableHlo.after hostOps0 _ _ = _
  unfold hostOps0
  after_results
  rfl

theorem b_at (b : FVec Ideal S2x12288 .f32) (k : Fin 2) (l : Fin 12288) : shapeCast S2x1x12288 b shapeCasts_S2x12288_S2x1x12288 (ix3 k 0 l) = b (ix2 k l) := by
  pointwise

/-! ## A point -/

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : FVec Ideal S16x2048 .f32) (x1 : FVec Ideal S1x2048x1024 .f32) (x2 : FVec Ideal S1x1x1024 .f32) :
    out0_3 (F := Ideal) x0 x1 x2 = k0_pay1 (F := Ideal) x0 x1 x2 := by
  unfold out0_3
  rw [View.canon_unit_zero hz3, View.ld_unit_zero (S := S16x2048) hz2, View.ld_unit_zero (S := S1x2048x1024) hz3, View.ld_unit_zero (S := S1x1x1024) hz3]

theorem pay1_at (x0 : FVec Ideal S16x2048 .f32) (x1 : FVec Ideal S1x2048x1024 .f32) (x2 : FVec Ideal S1x1x1024 .f32) (r : Fin 16) (n : Fin 1024) :
    (k0_pay1 (F := Ideal) x0 x1 x2 (ix3 0 r n) : EReal) = (∑ k : Fin 2048, silu (x0 (ix2 r k)) * x1 (ix3 0 k n)) + x2 (ix3 0 0 n) := by
  unfold silu
  pointwise [k0_pay1]
  simp only [half_f32, logistic_tanh]

/-! ## The windows -/

theorem lt24 (t : Fin cfg0.N) : t.val < 24 := by
  have h := t.isLt
  have hN : cfg0.N = 24 := N_0
  omega

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val / 12 ∧ win0_1.index t 1 = 0 ∧ win0_1.index t 2 = t.val % 12 :=
  (by decide +kernel : ∀ t : Fin grid0.N, win0_1.index t 0 = t.val / 12 ∧ win0_1.index t 1 = 0 ∧ win0_1.index t 2 = t.val % 12)
theorem idx2 : ∀ t : Fin cfg0.N, win0_2.index t 0 = t.val / 12 ∧ win0_2.index t 1 = 0 ∧ win0_2.index t 2 = t.val % 12 :=
  (by decide +kernel : ∀ t : Fin grid0.N, win0_2.index t 0 = t.val / 12 ∧ win0_2.index t 1 = 0 ∧ win0_2.index t 2 = t.val % 12)
theorem idx3 : ∀ t : Fin cfg0.N, win0_3.index t 0 = t.val / 12 ∧ win0_3.index t 1 = 0 ∧ win0_3.index t 2 = t.val % 12 :=
  (by decide +kernel : ∀ t : Fin grid0.N, win0_3.index t 0 = t.val / 12 ∧ win0_3.index t 1 = 0 ∧ win0_3.index t 2 = t.val % 12)
theorem flush3 : ∀ t : Fin cfg0.N, (cfg0.win 3).flush t = true :=
  (by decide +kernel : ∀ t : Fin grid0.N, win0_3.flush t = true)

/-- The layer and the column that point `t` works on. -/
def layer (t : Fin cfg0.N) : Fin 2 := ⟨t.val / 12, by have := lt24 t; omega⟩
def col (t : Fin cfg0.N) (n : Fin 1024) : Fin 12288 := ⟨1024 * (t.val % 12) + n.val, by omega⟩

theorem blk0 (c : Dev nD) (t : Fin cfg0.N) (r : Fin 16) (l : Fin 2048) :
    (iblk m c 0 t : FVec Ideal S16x2048 .f32) (ix2 r l) = cvec (cA m c) (ccA m c) r l := by
  have hi := idx0 t
  rw [← prep_at (cA m c) (ccA m c)]
  unfold iblk
  rw [View.read_apply]
  show V m c main_v4 _ = _
  rw [V_v4]
  refine congrArg (prep (cA m c) (ccA m c)) (funext fun a => Fin.ext ?_)
  match a with
  | ⟨0, _⟩ => show win0_0.index t 0 * 16 + 1 * r.val = r.val; rw [hi.1]; omega
  | ⟨1, _⟩ => show win0_0.index t 1 * 2048 + 1 * l.val = l.val; rw [hi.2]; omega

theorem blk1 (c : Dev nD) (t : Fin cfg0.N) (k : Fin 2048) (n : Fin 1024) :
    (iblk m c 1 t : FVec Ideal S1x2048x1024 .f32) (ix3 0 k n) = wA m c (ix3 (layer t) k (col t n)) := by
  have hi := idx1 t
  unfold iblk
  rw [View.read_apply]
  show V m c main_arg2 _ = _
  rw [V_main_arg2]
  refine congrArg (wA m c) (funext fun a => Fin.ext ?_)
  match a with
  | ⟨0, _⟩ => show win0_1.index t 0 * 1 + 1 * 0 = t.val / 12; rw [hi.1]; omega
  | ⟨1, _⟩ => show win0_1.index t 1 * 2048 + 1 * k.val = k.val; rw [hi.2.1]; omega
  | ⟨2, _⟩ => show win0_1.index t 2 * 1024 + 1 * n.val = 1024 * (t.val % 12) + n.val; rw [hi.2.2]; omega

theorem blk2 (c : Dev nD) (t : Fin cfg0.N) (n : Fin 1024) :
    (iblk m c 2 t : FVec Ideal S1x1x1024 .f32) (ix3 0 0 n) = bA m c (ix2 (layer t) (col t n)) := by
  have hi := idx2 t
  rw [← b_at (bA m c)]
  unfold iblk
  rw [View.read_apply]
  show V m c main_v5 _ = _
  rw [V_v5]
  refine congrArg (shapeCast S2x1x12288 (bA m c : FVec Ideal S2x12288 .f32) shapeCasts_S2x12288_S2x1x12288) (funext fun a => Fin.ext ?_)
  match a with
  | ⟨0, _⟩ => show win0_2.index t 0 * 1 + 1 * 0 = t.val / 12; rw [hi.1]; omega
  | ⟨1, _⟩ => show win0_2.index t 1 * 1 + 1 * 0 = 0; rw [hi.2.1]
  | ⟨2, _⟩ => show win0_2.index t 2 * 1024 + 1 * n.val = 1024 * (t.val % 12) + n.val; rw [hi.2.2]; omega

/-! ## The result array -/

/-- What point `t` leaves in the result's block. -/
theorem left (c : Dev nD) (t : Fin cfg0.N) (r : Fin 16) (n : Fin 1024) :
    (out0_3 (F := Ideal) (iblk m c 0 t) (iblk m c 1 t) (iblk m c 2 t) (ix3 0 r n) : EReal) = rows (cA m c) (ccA m c) (wA m c) (bA m c) (layer t) r (col t n) := by
  refine (congrFun (out_eq _ _ _) _).trans ((pay1_at _ _ _ r n).trans ?_)
  simp only [blk0, blk1, blk2]
  rfl

/-- The result, from the launch contents of the arguments. -/
def result (c : Dev nD) : Buf (Elt Ideal) ((c.tc : Thread nD τ).loc main_v6) :=
  (fun i : S2x16x12288.Idx => rows (cA m c) (ccA m c) (wA m c) (bA m c) (i 0) (i 1) (i 2) : FVec Ideal S2x16x12288 .f32)

theorem flushed3 (c : Dev nD) (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  funext j
  have hi := idx3 t
  have h0 : (j 0).val = 0 := by have : (j 0).val < 1 := (j 0).isLt; omega
  have hj : j = (ix3 0 (j 1) (j 2) : S1x16x1024.Idx) := funext fun a => Fin.ext (match a with | ⟨0, _⟩ => h0 | ⟨1, _⟩ => rfl | ⟨2, _⟩ => rfl)
  rw [View.read_apply]
  refine (congrArg (out0_3 (F := Ideal) (iblk m c 0 t) (iblk m c 1 t) (iblk m c 2 t)) hj).trans ((left m c t (j 1) (j 2)).trans ?_)
  have q0 : layer t = (((cfg0.win 3).blk t).view.emb j) 0 := Fin.ext (by
    show t.val / 12 = win0_3.index t 0 * 1 + 1 * (j 0).val
    rw [hi.1]; omega)
  have q1 : j 1 = (((cfg0.win 3).blk t).view.emb j) 1 := Fin.ext (by
    show (j 1).val = win0_3.index t 1 * 16 + 1 * (j 1).val
    rw [hi.2.1]; omega)
  have q2 : col t (j 2) = (((cfg0.win 3).blk t).view.emb j) 2 := Fin.ext (by
    show 1024 * (t.val % 12) + (j 2).val = win0_3.index t 2 * 1024 + 1 * (j 2).val
    rw [hi.2.2]; omega)
  show rows (cA m c) (ccA m c) (wA m c) (bA m c) (layer t) (j 1) (col t (j 2))
    = rows (cA m c) (ccA m c) (wA m c) (bA m c) ((((cfg0.win 3).blk t).view.emb j) 0) ((((cfg0.win 3).blk t).view.emb j) 1) ((((cfg0.win 3).blk t).view.emb j) 2)
  exact congr (congrArg₂ (rows (cA m c) (ccA m c) (wA m c) (bA m c)) q0 q1) q2

theorem final3 (c : Dev nD) : (dats m 0 c).arrAt 3 cfg0.N = result m c :=
  (dats m 0 c).arrAt_eq_of_cover 3 (result m c) (flushed3 m c) fun i => by
    have h0 : (i 0 : Nat) < 2 := (i 0).isLt
    have h1 : (i 1 : Nat) < 16 := (i 1).isLt
    have h2 : (i 2 : Nat) < 12288 := (i 2).isLt
    have hN : cfg0.N = 24 := N_0
    have hlt : 12 * (i 0 : Nat) + (i 2 : Nat) / 1024 < cfg0.N := by omega
    refine ⟨⟨12 * (i 0 : Nat) + (i 2 : Nat) / 1024, hlt⟩, flush3 _, ?_⟩
    have hi := idx3 ⟨12 * (i 0 : Nat) + (i 2 : Nat) / 1024, hlt⟩
    dsimp only at hi
    generalize (⟨12 * (i 0 : Nat) + (i 2 : Nat) / 1024, hlt⟩ : Fin cfg0.N) = t at hi ⊢
    show i ∈ ((View.whole main_v6).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [hi.1]; omega
    | ⟨1, _⟩ => show win0_3.index t 1 * 16 ≤ (i 1 : Nat) ∧ (i 1 : Nat) < win0_3.index t 1 * 16 + 16
                rw [hi.2.1]; omega
    | ⟨2, _⟩ => show win0_3.index t 2 * 1024 ≤ (i 2 : Nat) ∧ (i 2 : Nat) < win0_3.index t 2 * 1024 + 1024
                rw [hi.2.2]; omega

/-- The run, read. -/
theorem run : θ_run defs (onTc (τ := τ) (main (F := Ideal))) ⟨m, fun _ => 0, ρ⟩ fun r => ∀ c : Dev nD,
      r.2.mem ((c.tc : Thread nD τ).loc main_v6) = result m c :=
  (θ_run defs _ _).mono (fun _ h c => ((h c).1 3).trans (final3 m c)) (run_main m ρ)

end Cert.Adaln

end
-- ==== Proof.Adaln.RefRead.lean ====
/- What the modulation's reference computes: its host operations, read entry by entry. -/
module

public import proofs.«01_k».proof.Proof.Gen.Reference5Ideal
public import proofs.«01_k».proof.Proof.Gen.Reference5Ideal.Run
public import proofs.«01_k».proof.Proof.Adaln.Spec

@[expose] public section

set_option maxRecDepth 16384

noncomputable section

namespace Cert.Adaln

open Cert.Reference5Ideal Cert.Reference5Ideal.Gen Cert.Lru
open Idealize.ShloMosaic Idealize.ShloMosaic.TcCoe

/-- The conditioning vectors. -/
def refC (c : FVec Ideal S8x2048 .f32) (cc : FVec Ideal S2048 .f32) : FVec Ideal S16x2048 .f32 :=
  concatenate S16x2048 0 [⟨S8x2048, c⟩, ⟨S1x2048, broadcastInDim S1x2048 ![1] bcast_S2048_S1x2048_1 cc⟩,
    ⟨S7x2048, broadcastInDim S7x2048 ![] bcast_S_S7x2048 (constant (F := Ideal) S_ .f32 0x00000000#32)⟩] concatenates_S8x2048_S1x2048_S7x2048_S16x2048_d0

theorem refC_at (c : FVec Ideal S8x2048 .f32) (cc : FVec Ideal S2048 .f32) (r : Fin 16) (k : Fin 2048) : (refC c cc (ix2 r k) : EReal) = cvec c cc r k := by
  unfold cvec
  pointwise [refC]
  by_cases h : r.val < 8
  · rw [dif_pos h, dif_pos h]
  · rw [dif_neg h, dif_neg h]
    by_cases h8 : r.val = 8
    · rw [dif_pos (by omega), if_pos h8]
    · rw [dif_neg (by omega), if_neg h8]

/-- Their SiLU. -/
def refS (x : FVec Ideal S16x2048 .f32) : FVec Ideal S16x2048 .f32 :=
  mulf x (Host.divf (broadcastInDim S16x2048 ![] bcast_S_S16x2048 (constant S_ .f32 0x3F800000#32))
    (addf (broadcastInDim S16x2048 ![] bcast_S_S16x2048 (constant S_ .f32 0x3F800000#32)) (Host.exp (Host.negf x))))

theorem refS_at (x : FVec Ideal S16x2048 .f32) (r : Fin 16) (k : Fin 2048) : (refS x (ix2 r k) : EReal) = silu (x (ix2 r k)) := by
  unfold silu
  pointwise [refS]
  rfl

/-- One layer's rows. -/
def ref0 (s : FVec Ideal S16x2048 .f32) (w : FVec Ideal S2x2048x12288 .f32) (b : FVec Ideal S2x12288 .f32) : FVec Ideal S16x12288 .f32 :=
  addf (Host.dotGeneral dot_S16x2048_S2048x12288_S16x12288_1_0_0_1_n_n none s
      (shapeCast S2048x12288 (extractStridedSlice S1x2048x12288 ![0, 0, 0] w slices_S2x2048x12288_S1x2048x12288_0_0_0) shapeCasts_S1x2048x12288_S2048x12288))
    (broadcastInDim S16x12288 ![0, 1] bcast_S1x12288_S16x12288_0_1 (broadcastInDim S1x12288 ![1] bcast_S12288_S1x12288_1
      (shapeCast S12288 (extractStridedSlice S1x12288 ![0, 0] b slices_S2x12288_S1x12288_0_0) shapeCasts_S1x12288_S12288)))
def ref1 (s : FVec Ideal S16x2048 .f32) (w : FVec Ideal S2x2048x12288 .f32) (b : FVec Ideal S2x12288 .f32) : FVec Ideal S16x12288 .f32 :=
  addf (Host.dotGeneral dot_S16x2048_S2048x12288_S16x12288_1_0_0_1_n_n none s
      (shapeCast S2048x12288 (extractStridedSlice S1x2048x12288 ![1, 0, 0] w slices_S2x2048x12288_S1x2048x12288_1_0_0) shapeCasts_S1x2048x12288_S2048x12288))
    (broadcastInDim S16x12288 ![0, 1] bcast_S1x12288_S16x12288_0_1 (broadcastInDim S1x12288 ![1] bcast_S12288_S1x12288_1
      (shapeCast S12288 (extractStridedSlice S1x12288 ![1, 0] b slices_S2x12288_S1x12288_1_0) shapeCasts_S1x12288_S12288)))

theorem ref0_at (s : FVec Ideal S16x2048 .f32) (w : FVec Ideal S2x2048x12288 .f32) (b : FVec Ideal S2x12288 .f32) (r : Fin 16) (n : Fin 12288) :
    (ref0 s w b (ix2 r n) : EReal) = (∑ k : Fin 2048, s (ix2 r k) * w (ix3 0 k n)) + b (ix2 0 n) := by
  pointwise [ref0]
theorem ref1_at (s : FVec Ideal S16x2048 .f32) (w : FVec Ideal S2x2048x12288 .f32) (b : FVec Ideal S2x12288 .f32) (r : Fin 16) (n : Fin 12288) :
    (ref1 s w b (ix2 r n) : EReal) = (∑ k : Fin 2048, s (ix2 r k) * w (ix3 1 k n)) + b (ix2 1 n) := by
  pointwise [ref1]

/-- The two layers' rows, stacked. -/
def refStack (x y : FVec Ideal S16x12288 .f32) : FVec Ideal S2x16x12288 .f32 :=
  concatenate S2x16x12288 0 [⟨S1x16x12288, broadcastInDim S1x16x12288 ![1, 2] bcast_S16x12288_S1x16x12288_1_2 x⟩,
    ⟨S1x16x12288, broadcastInDim S1x16x12288 ![1, 2] bcast_S16x12288_S1x16x12288_1_2 y⟩] concatenates_S1x16x12288_S1x16x12288_S2x16x12288_d0

theorem refStack_at (x y : FVec Ideal S16x12288 .f32) (l : Fin 2) (r : Fin 16) (n : Fin 12288) :
    (refStack x y (ix3 l r n) : EReal) = if l.val < 1 then x (ix2 r n) else y (ix2 r n) := by
  pointwise [refStack]
  rfl

/-- The reference's result. -/
def refA (c : FVec Ideal S8x2048 .f32) (cc : FVec Ideal S2048 .f32) (w : FVec Ideal S2x2048x12288 .f32) (b : FVec Ideal S2x12288 .f32) : FVec Ideal S2x16x12288 .f32 :=
  refStack (ref0 (refS (refC c cc)) w b) (ref1 (refS (refC c cc)) w b)

theorem refA_at (c : FVec Ideal S8x2048 .f32) (cc : FVec Ideal S2048 .f32) (w : FVec Ideal S2x2048x12288 .f32) (b : FVec Ideal S2x12288 .f32)
    (l : Fin 2) (r : Fin 16) (n : Fin 12288) : (refA c cc w b (ix3 l r n) : EReal) = rows c cc w b l r n := by
  unfold refA rows
  rw [refStack_at]
  match l with
  | ⟨0, _⟩ =>
    rw [if_pos Nat.zero_lt_one, ref0_at]
    simp only [refS_at, refC_at]
    rfl
  | ⟨1, _⟩ =>
    rw [if_neg (Nat.lt_irrefl 1), ref1_at]
    simp only [refS_at, refC_at]
    rfl

/-- It is, entry by entry, the specification. -/
theorem refA_eq (c : FVec Ideal S8x2048 .f32) (cc : FVec Ideal S2048 .f32) (w : FVec Ideal S2x2048x12288 .f32) (b : FVec Ideal S2x12288 .f32) :
    refA c cc w b = fun i : S2x16x12288.Idx => rows c cc w b (i 0) (i 1) (i 2) := by
  funext i
  have hi : i = (ix3 (i 0) (i 1) (i 2) : S2x16x12288.Idx) := funext fun a => Fin.ext (match a with | ⟨0, _⟩ => rfl | ⟨1, _⟩ => rfl | ⟨2, _⟩ => rfl)
  exact (congrArg (refA c cc w b) hi).trans (refA_at c cc w b (i 0) (i 1) (i 2))

end Cert.Adaln

end
-- ==== Proof.Adaln.Claims.lean ====
/- The modulation's claims: its frames, and its result against the reference's. -/
module

public import proofs.«01_k».proof.Defs
public import proofs.«01_k».proof.Proof.Gen.Kernel5.Frame
public import proofs.«01_k».proof.Proof.Adaln.KernelValue
public import proofs.«01_k».proof.Proof.Adaln.RefRead
public import Idealize.ShloMosaic.Lib.Quiescent

@[expose] public section

set_option maxRecDepth 16384

noncomputable section

namespace Cert.Adaln

open Idealize.ShloMosaic Idealize.ShloMosaic.TcCoe Idealize.SL.Sem

attribute [local instance] Cert.Kernel5.Gen.facts Cert.Kernel5Ideal.Gen.facts Cert.Reference5Ideal.Gen.facts

theorem frame_kernel5 : Cert.quiescent_Kernel5 := fun m ρ _ => Cert.Kernel5.Gen.frame (F := Bits) m ρ

theorem frame_kernel5Ideal : Cert.quiescent_Kernel5Ideal := fun m ρ _ => Cert.Kernel5Ideal.Gen.frame (F := Ideal) m ρ

theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := by
  intro m ρ m' ρ' _ hagree
  refine ⟨fun c => result m c, ?_, ?_⟩
  · exact (θ_run Cert.Kernel5Ideal.defs _ _).mono (fun _ h c => ⟨h.1 c, h.2 c⟩)
      (θ_run_and (run m ρ) (Cert.Kernel5Ideal.Gen.unchanged (F := Ideal) m ρ))
  · refine (θ_run Cert.Reference5Ideal.defs _ _).mono (fun _ h c => ⟨(h c).1.trans ?_, (h c).2⟩)
      (Cert.Reference5Ideal.Value.run (F := Ideal) m' ρ')
    obtain ⟨e0, e1, e2, e3⟩ := hagree c
    rw [e0, e1, e2, e3]
    exact refA_eq (cA m c) (ccA m c) (wA m c) (bA m c)

end Cert.Adaln

end
-- ==== Proof.Conv.Spec.lean ====
/- The short convolutions of a layer stated over extended reals, as functions of the projected tokens. -/
module

public import proofs.«01_k».proof.Proof.Lru.Spec

@[expose] public section

noncomputable section

namespace Cert.Conv

open Cert.Lru (Arr2)
open Idealize.ShloMosaic

/-- Tap `k` at token `T`: the token `k - 1` places on, zero outside the row of 64. -/
def tap3 (x : ℕ → EReal) (T k : ℕ) : EReal := if 1 ≤ T % 64 + k ∧ T % 64 + k < 65 then x (T + k - 1) else 0

/-- The convolution along a row of 64 tokens. -/
def conv3 (x : ℕ → EReal) (w : Fin 3 → EReal) (T : ℕ) : EReal := tap3 x T 0 * w 0 + tap3 x T 1 * w 1 + tap3 x T 2 * w 2

/-- Column `n` of projected token `T`. -/
def col (u : Arr2 34816 4608) (T : ℕ) (n : Fin 4608) : EReal := if h : T < 34816 then u (ix2 ⟨T, h⟩ n) else 0

/-- Channel `n` of the three inputs of the long convolution: columns 512 to 2047, convolved. -/
def hyena (u : Arr2 34816 4608) (w : Arr2 3 1536) (T : ℕ) (n : Fin 1536) : EReal :=
  conv3 (fun T => col u T ⟨512 + n.val, by omega⟩) (fun k => w (ix2 k n)) T

/-- Channel `off + l` of the 1536. -/
def chan (off : ℕ) (h : off + 512 ≤ 1536) (l : Fin 512) : Fin 1536 := ⟨off + l.val, by omega⟩

/-- Channel `l` of the gated short convolution: columns 2048, 2560 and 3072 on. -/
def short (u : Arr2 34816 4608) (w : Arr2 3 512) (T : ℕ) (l : Fin 512) : EReal :=
  col u T ⟨2048 + l.val, by omega⟩
    * conv3 (fun T => col u T ⟨2560 + l.val, by omega⟩ * col u T ⟨3072 + l.val, by omega⟩) (fun k => w (ix2 k l)) T

end Cert.Conv

end
-- ==== Proof.Conv.Block.lean ====
/- What a point of the convolutions leaves in each result's block, and a block's convolution entry by entry. -/
module

public import proofs.«01_k».proof.Proof.Gen.Kernel6Ideal.Frame
public import Idealize.ShloMosaic.Lib.Pipeline.ValueKit
public import Idealize.ShloMosaic.PureOps.Ideal
public import Idealize.ShloMosaic.Lib.Pointwise
public import proofs.«01_k».proof.Proof.Conv.Spec

@[expose] public section

set_option maxRecDepth 16384

noncomputable section

namespace Cert.Conv

open Cert.Kernel6Ideal Cert.Kernel6Ideal.Gen
open Idealize.ShloMosaic Idealize.ShloMosaic.TcCoe Idealize.ShloMosaic.Tactic

theorem hz2 : (![0, 0] : Fin 2 → Nat) = fun _ => 0 := funext fun a => by fin_cases a <;> rfl

/-- A block of 512 tokens and 512 channels. -/
abbrev Blk := FVec Ideal S512x512 .f32

/-! ## The convolution of a block -/

/-- Whether the token `off` places on lies in the same row of 64. -/
def mask (off : BitVec 32) : IVec S512x512 1 :=
  andi (cmpi .sge (addi k0_pay2 (broadcast S512x512 off)) (broadcast S512x512 0#32))
    (cmpi .slt (addi k0_pay2 (broadcast S512x512 off)) (broadcast S512x512 64#32))

/-- A masked tap. -/
def tapB (x : Blk) (off n : BitVec 32) : Blk :=
  select (mask off) (dynamicRotate 0 n none x rotates_S512x512_d0)
    (broadcast S512x512 (Scalar.ofBits .f32 0x00000000#32 : Ideal .f32))

/-- The convolution of a block. -/
def convB (x : Blk) (b0 b1 b2 : FVec Ideal S1x512 .f32) : Blk :=
  addf (addf (mulf (tapB x 4294967295#32 1#32) (broadcastTo S512x512 b0 broadcasts_S1x512_S512x512))
      (mulf x (broadcastTo S512x512 b1 broadcasts_S1x512_S512x512)))
    (mulf (tapB x 1#32 511#32) (broadcastTo S512x512 b2 broadcasts_S1x512_S512x512))

theorem pay2_at (r : Fin 512) (l : Fin 512) : k0_pay2 (ix2 r l) = BitVec.ofNat 32 (r.val % 64) := by
  have h : ∀ r : Fin 512, k0_pay2 (ix2 r 0) = BitVec.ofNat 32 (r.val % 64) := by decide +kernel
  exact h r

theorem mask_at (off : BitVec 32) (k : ℕ)
    (h : ∀ p : Fin 64, IntOp.andi (IntOp.cmpi .sge (IntOp.addi (BitVec.ofNat 32 p.val) off) 0#32)
        (IntOp.cmpi .slt (IntOp.addi (BitVec.ofNat 32 p.val) off) 64#32) = if 1 ≤ p.val + k ∧ p.val + k < 65 then 1#1 else 0#1)
    (r : Fin 512) (l : Fin 512) :
    mask off (ix2 r l) = if 1 ≤ r.val % 64 + k ∧ r.val % 64 + k < 65 then 1#1 else 0#1 := by
  have e := h ⟨r.val % 64, by omega⟩
  have p := pay2_at r l
  have q : mask off (ix2 r l) = IntOp.andi (IntOp.cmpi .sge (IntOp.addi (k0_pay2 (ix2 r l)) off) 0#32) (IntOp.cmpi .slt (IntOp.addi (k0_pay2 (ix2 r l)) off) 64#32) := rfl
  rw [q, p]
  exact e

theorem mask0_at (r : Fin 512) (l : Fin 512) : mask (4294967295#32) (ix2 r l) = if 1 ≤ r.val % 64 + 0 ∧ r.val % 64 + 0 < 65 then 1#1 else 0#1 :=
  mask_at _ 0 (by decide +kernel) r l
theorem mask2_at (r : Fin 512) (l : Fin 512) : mask (1#32) (ix2 r l) = if 1 ≤ r.val % 64 + 2 ∧ r.val % 64 + 2 < 65 then 1#1 else 0#1 :=
  mask_at _ 2 (by decide +kernel) r l

/-- A rotation along the rows reads a row before, around the end. -/
theorem rot_at {n : BitVec 32} (v : Blk) (r r' : Fin 512) (l : Fin 512) (h : r'.val = (r.val + 512 - n.toNat % 512) % 512) :
    dynamicRotate 0 n none v rotates_S512x512_d0 (ix2 r l) = v (ix2 r' l) := by
  rw [Pointwise.dynamicRotate_apply]
  refine congrArg v (funext fun a => Fin.ext ?_)
  match a with
  | ⟨0, _⟩ => exact h.symm
  | ⟨1, _⟩ => rfl

theorem tapB_at (x : Blk) (f : ℕ → EReal) (T0 : ℕ) (hT : T0 % 64 = 0) (l : Fin 512) (h0 : ∀ r : Fin 512, x (ix2 r l) = f (T0 + r.val))
    (k : ℕ) (hk : k < 3) (off n : BitVec 32) (hn : (n.toNat % 512 + k) % 512 = 1) (r : Fin 512)
    (hm : mask off (ix2 r l) = if 1 ≤ r.val % 64 + k ∧ r.val % 64 + k < 65 then 1#1 else 0#1) :
    tapB x off n (ix2 r l) = tap3 f (T0 + r.val) k := by
  have e : tapB x off n (ix2 r l) = Scalar.select (mask off (ix2 r l))
      (dynamicRotate 0 n none x rotates_S512x512_d0 (ix2 r l)) (Ideal.ofBits .f32 0x00000000#32) := rfl
  rw [e, hm]
  unfold tap3
  have hm : (T0 + r.val) % 64 = r.val % 64 := by omega
  rw [hm]
  by_cases h : 1 ≤ r.val % 64 + k ∧ r.val % 64 + k < 65
  · rw [if_pos h, if_pos h]
    refine (rot_at x r ⟨r.val + k - 1, by omega⟩ l ?_).trans ?_
    · show r.val + k - 1 = _
      omega
    · rw [h0]
      refine congrArg f ?_
      show T0 + (r.val + k - 1) = T0 + r.val + k - 1
      omega
  · rw [if_neg h, if_neg h]
    exact Ideal.ofBits_zero_f32

theorem three_at (t0 t1 t2 : Blk) (b0 b1 b2 : FVec Ideal S1x512 .f32) (r : Fin 512) (l : Fin 512) :
    addf (addf (mulf t0 (broadcastTo S512x512 b0 broadcasts_S1x512_S512x512)) (mulf t1 (broadcastTo S512x512 b1 broadcasts_S1x512_S512x512)))
        (mulf t2 (broadcastTo S512x512 b2 broadcasts_S1x512_S512x512)) (ix2 r l)
      = t0 (ix2 r l) * b0 (ix2 0 l) + t1 (ix2 r l) * b1 (ix2 0 l) + t2 (ix2 r l) * b2 (ix2 0 l) := by
  pointwise

theorem convB_at (x : Blk) (b0 b1 b2 : FVec Ideal S1x512 .f32) (f : ℕ → EReal) (w : Fin 3 → EReal) (T0 : ℕ) (hT : T0 % 64 = 0) (l : Fin 512)
    (h0 : ∀ r : Fin 512, x (ix2 r l) = f (T0 + r.val)) (w0 : b0 (ix2 0 l) = w 0) (w1 : b1 (ix2 0 l) = w 1) (w2 : b2 (ix2 0 l) = w 2) (r : Fin 512) :
    convB x b0 b1 b2 (ix2 r l) = conv3 f w (T0 + r.val) := by
  have e1 : x (ix2 r l) = tap3 f (T0 + r.val) 1 := by
    unfold tap3
    rw [if_pos (by omega), h0]
    exact congrArg f (by omega)
  unfold convB
  rw [three_at, tapB_at x f T0 hT l h0 0 (by omega) _ _ (by decide) r (mask0_at r l), tapB_at x f T0 hT l h0 2 (by omega) _ _ (by decide) r (mask2_at r l), e1, w0, w1, w2]
  unfold conv3
  with_reducible rfl

theorem pay5_eq (x : Blk) (b0 b1 b2 : FVec Ideal S1x512 .f32) :
    k0_pay5 (F := Ideal) x k0_pay2 (k0_pay3 (F := Ideal) x b0) (k0_pay4 (F := Ideal) b1) b2 = convB x b0 b1 b2 := by
  unfold convB tapB mask k0_pay5 k0_pay3 k0_pay4
  rfl

/-- The number of tokens in a row, as the body computes it. -/
abbrev rowLen : BitVec 32 := Scalar.select (Scalar.cmpi .eq 64#32 0#32) 1#32 64#32

theorem pay10_eq : k0_pay10 rowLen k0_pay7 k0_pay8 k0_pay9 = k0_pay2 := by
  unfold k0_pay10 k0_pay8 k0_pay9 k0_pay7 k0_pay2
  rfl

theorem pay13_eq (x : Blk) (b0 b1 b2 : FVec Ideal S1x512 .f32) :
    k0_pay13 (F := Ideal) (k0_pay11 (F := Ideal) x rowLen k0_pay7 k0_pay8 k0_pay9 b0 b1) (k0_pay12 (F := Ideal) x rowLen k0_pay7 k0_pay8 k0_pay9) b2 = convB x b0 b1 b2 := by
  unfold convB tapB mask k0_pay13 k0_pay11 k0_pay12
  rw [pay10_eq]

theorem pay14_eq : k0_pay14 = k0_pay2 := by
  unfold k0_pay14 k0_pay2
  rfl

theorem pay16_eq (x : Blk) (b0 b1 b2 : FVec Ideal S1x512 .f32) :
    k0_pay16 (F := Ideal) x k0_pay14 (k0_pay15 (F := Ideal) x) b0 b1 b2 = convB x b0 b1 b2 := by
  unfold convB tapB mask k0_pay16 k0_pay15
  rw [pay14_eq]

theorem pay19_eq : k0_pay19 rowLen k0_pay18 = k0_pay2 := by
  unfold k0_pay19 k0_pay18 k0_pay2
  rfl

theorem pay1_eq (x3 x : Blk) (b0 b1 b2 : FVec Ideal S1x512 .f32) :
    k0_pay1 (F := Ideal) x3 (k0_pay20 (F := Ideal) x rowLen k0_pay18 b0 b1) (k0_pay21 (F := Ideal) x) (k0_pay22 rowLen k0_pay18) (Scalar.ofBits .f32 0x00000000#32) b2
      = truncf .bf16 (mulf x3 (convB x b0 b1 b2)) bitsLt_bf16_f32 := by
  unfold convB tapB mask k0_pay1 k0_pay20 k0_pay21 k0_pay22
  rw [pay19_eq]

theorem gated_at (x y : Blk) (r l : Fin 512) : (truncf .bf16 (mulf x y) bitsLt_bf16_f32 (ix2 r l) : EReal) = x (ix2 r l) * y (ix2 r l) := rfl
theorem round_at (x : Blk) (r l : Fin 512) : (truncf .bf16 x bitsLt_bf16_f32 (ix2 r l) : EReal) = x (ix2 r l) := rfl
theorem prod_at (x y : Blk) (r l : Fin 512) : (k0_pay17 (F := Ideal) x y (ix2 r l) : EReal) = x (ix2 r l) * y (ix2 r l) := rfl

end Cert.Conv

end
-- ==== Proof.Conv.Body.lean ====
/- The five stores of a point, as convolutions of its blocks. -/
module

public import proofs.«01_k».proof.Proof.Conv.Block

@[expose] public section

set_option maxRecDepth 16384

noncomputable section

namespace Cert.Conv

open Cert.Kernel6Ideal Cert.Kernel6Ideal.Gen
open Idealize.ShloMosaic Idealize.ShloMosaic.TcCoe Idealize.ShloMosaic.Tactic

/-- A load through a cut of a view is a window of a window of what the view reads. -/
theorem readAt_cut {S : Shape} {e : EltTy} (v : View sig .tc .vmem S e) (r : Rect S) (r' : Rect r.shape) (h : ∀ a, r.stride a = 1) (f : v.ty.Contents (Elt Ideal)) :
    v.readAt (Elt Ideal) (r.withinL r'.toLoadRect h) f
      = View.ld (Val := Elt Ideal) (e' := e) (View.ld (Val := Elt Ideal) (e' := e) (v.read (Elt Ideal) f) r) r' := by
  funext y
  show v.read (Elt Ideal) f ((r.withinL r'.toLoadRect h).idx y) = _
  exact congrArg (v.read (Elt Ideal) f) (Rect.idx_withinL _ _ h y)

/-- Row 0 of the weights' columns from 0 on. -/
def w0_0 (x6 : FVec Ideal S3x1536 .f32) : FVec Ideal S1x512 .f32 :=
  View.ld (Val := Elt Ideal) (e' := .f32) (View.ld (Val := Elt Ideal) (e' := .f32) x6 (Rect.unit (s := S3x1536) ![0, 0] S3x512.size inb_S3x1536_S3x512_0_0))
    (Rect.unit (s := S3x512) ![0, 0] S1x512.size inb_S3x512_S1x512_0_0)

theorem w0_0_at (x6 : FVec Ideal S3x1536 .f32) (l : Fin 512) : w0_0 x6 (ix2 0 l) = x6 (ix2 0 ⟨0 + l.val, by omega⟩) := by
  unfold w0_0
  refine congrArg x6 (funext fun a => Fin.ext ?_)
  match a with
  | ⟨0, _⟩ => rfl
  | ⟨1, _⟩ => exact (by omega : 0 + 1 * (0 + 1 * l.val) = 0 + l.val)

/-- Row 1 of the weights' columns from 0 on. -/
def w0_1 (x6 : FVec Ideal S3x1536 .f32) : FVec Ideal S1x512 .f32 :=
  View.ld (Val := Elt Ideal) (e' := .f32) (View.ld (Val := Elt Ideal) (e' := .f32) x6 (Rect.unit (s := S3x1536) ![0, 0] S3x512.size inb_S3x1536_S3x512_0_0))
    (Rect.unit (s := S3x512) ![1, 0] S1x512.size inb_S3x512_S1x512_1_0)

theorem w0_1_at (x6 : FVec Ideal S3x1536 .f32) (l : Fin 512) : w0_1 x6 (ix2 0 l) = x6 (ix2 1 ⟨0 + l.val, by omega⟩) := by
  unfold w0_1
  refine congrArg x6 (funext fun a => Fin.ext ?_)
  match a with
  | ⟨0, _⟩ => rfl
  | ⟨1, _⟩ => exact (by omega : 0 + 1 * (0 + 1 * l.val) = 0 + l.val)

/-- Row 2 of the weights' columns from 0 on. -/
def w0_2 (x6 : FVec Ideal S3x1536 .f32) : FVec Ideal S1x512 .f32 :=
  View.ld (Val := Elt Ideal) (e' := .f32) (View.ld (Val := Elt Ideal) (e' := .f32) x6 (Rect.unit (s := S3x1536) ![0, 0] S3x512.size inb_S3x1536_S3x512_0_0))
    (Rect.unit (s := S3x512) ![2, 0] S1x512.size inb_S3x512_S1x512_2_0)

theorem w0_2_at (x6 : FVec Ideal S3x1536 .f32) (l : Fin 512) : w0_2 x6 (ix2 0 l) = x6 (ix2 2 ⟨0 + l.val, by omega⟩) := by
  unfold w0_2
  refine congrArg x6 (funext fun a => Fin.ext ?_)
  match a with
  | ⟨0, _⟩ => rfl
  | ⟨1, _⟩ => exact (by omega : 0 + 1 * (0 + 1 * l.val) = 0 + l.val)

/-- Row 0 of the weights' columns from 512 on. -/
def w512_0 (x6 : FVec Ideal S3x1536 .f32) : FVec Ideal S1x512 .f32 :=
  View.ld (Val := Elt Ideal) (e' := .f32) (View.ld (Val := Elt Ideal) (e' := .f32) x6 (Rect.unit (s := S3x1536) ![0, 512] S3x512.size inb_S3x1536_S3x512_0_512))
    (Rect.unit (s := S3x512) ![0, 0] S1x512.size inb_S3x512_S1x512_0_0)

theorem w512_0_at (x6 : FVec Ideal S3x1536 .f32) (l : Fin 512) : w512_0 x6 (ix2 0 l) = x6 (ix2 0 ⟨512 + l.val, by omega⟩) := by
  unfold w512_0
  refine congrArg x6 (funext fun a => Fin.ext ?_)
  match a with
  | ⟨0, _⟩ => rfl
  | ⟨1, _⟩ => exact (by omega : 512 + 1 * (0 + 1 * l.val) = 512 + l.val)

/-- Row 1 of the weights' columns from 512 on. -/
def w512_1 (x6 : FVec Ideal S3x1536 .f32) : FVec Ideal S1x512 .f32 :=
  View.ld (Val := Elt Ideal) (e' := .f32) (View.ld (Val := Elt Ideal) (e' := .f32) x6 (Rect.unit (s := S3x1536) ![0, 512] S3x512.size inb_S3x1536_S3x512_0_512))
    (Rect.unit (s := S3x512) ![1, 0] S1x512.size inb_S3x512_S1x512_1_0)

theorem w512_1_at (x6 : FVec Ideal S3x1536 .f32) (l : Fin 512) : w512_1 x6 (ix2 0 l) = x6 (ix2 1 ⟨512 + l.val, by omega⟩) := by
  unfold w512_1
  refine congrArg x6 (funext fun a => Fin.ext ?_)
  match a with
  | ⟨0, _⟩ => rfl
  | ⟨1, _⟩ => exact (by omega : 512 + 1 * (0 + 1 * l.val) = 512 + l.val)

/-- Row 2 of the weights' columns from 512 on. -/
def w512_2 (x6 : FVec Ideal S3x1536 .f32) : FVec Ideal S1x512 .f32 :=
  View.ld (Val := Elt Ideal) (e' := .f32) (View.ld (Val := Elt Ideal) (e' := .f32) x6 (Rect.unit (s := S3x1536) ![0, 512] S3x512.size inb_S3x1536_S3x512_0_512))
    (Rect.unit (s := S3x512) ![2, 0] S1x512.size inb_S3x512_S1x512_2_0)

theorem w512_2_at (x6 : FVec Ideal S3x1536 .f32) (l : Fin 512) : w512_2 x6 (ix2 0 l) = x6 (ix2 2 ⟨512 + l.val, by omega⟩) := by
  unfold w512_2
  refine congrArg x6 (funext fun a => Fin.ext ?_)
  match a with
  | ⟨0, _⟩ => rfl
  | ⟨1, _⟩ => exact (by omega : 512 + 1 * (0 + 1 * l.val) = 512 + l.val)

/-- Row 0 of the weights' columns from 1024 on. -/
def w1024_0 (x6 : FVec Ideal S3x1536 .f32) : FVec Ideal S1x512 .f32 :=
  View.ld (Val := Elt Ideal) (e' := .f32) (View.ld (Val := Elt Ideal) (e' := .f32) x6 (Rect.unit (s := S3x1536) ![0, 1024] S3x512.size inb_S3x1536_S3x512_0_1024))
    (Rect.unit (s := S3x512) ![0, 0] S1x512.size inb_S3x512_S1x512_0_0)

theorem w1024_0_at (x6 : FVec Ideal S3x1536 .f32) (l : Fin 512) : w1024_0 x6 (ix2 0 l) = x6 (ix2 0 ⟨1024 + l.val, by omega⟩) := by
  unfold w1024_0
  refine congrArg x6 (funext fun a => Fin.ext ?_)
  match a with
  | ⟨0, _⟩ => rfl
  | ⟨1, _⟩ => exact (by omega : 1024 + 1 * (0 + 1 * l.val) = 1024 + l.val)

/-- Row 1 of the weights' columns from 1024 on. -/
def w1024_1 (x6 : FVec Ideal S3x1536 .f32) : FVec Ideal S1x512 .f32 :=
  View.ld (Val := Elt Ideal) (e' := .f32) (View.ld (Val := Elt Ideal) (e' := .f32) x6 (Rect.unit (s := S3x1536) ![0, 1024] S3x512.size inb_S3x1536_S3x512_0_1024))
    (Rect.unit (s := S3x512) ![1, 0] S1x512.size inb_S3x512_S1x512_1_0)

theorem w1024_1_at (x6 : FVec Ideal S3x1536 .f32) (l : Fin 512) : w1024_1 x6 (ix2 0 l) = x6 (ix2 1 ⟨1024 + l.val, by omega⟩) := by
  unfold w1024_1
  refine congrArg x6 (funext fun a => Fin.ext ?_)
  match a with
  | ⟨0, _⟩ => rfl
  | ⟨1, _⟩ => exact (by omega : 1024 + 1 * (0 + 1 * l.val) = 1024 + l.val)

/-- Row 2 of the weights' columns from 1024 on. -/
def w1024_2 (x6 : FVec Ideal S3x1536 .f32) : FVec Ideal S1x512 .f32 :=
  View.ld (Val := Elt Ideal) (e' := .f32) (View.ld (Val := Elt Ideal) (e' := .f32) x6 (Rect.unit (s := S3x1536) ![0, 1024] S3x512.size inb_S3x1536_S3x512_0_1024))
    (Rect.unit (s := S3x512) ![2, 0] S1x512.size inb_S3x512_S1x512_2_0)

theorem w1024_2_at (x6 : FVec Ideal S3x1536 .f32) (l : Fin 512) : w1024_2 x6 (ix2 0 l) = x6 (ix2 2 ⟨1024 + l.val, by omega⟩) := by
  unfold w1024_2
  refine congrArg x6 (funext fun a => Fin.ext ?_)
  match a with
  | ⟨0, _⟩ => rfl
  | ⟨1, _⟩ => exact (by omega : 1024 + 1 * (0 + 1 * l.val) = 1024 + l.val)

/-- Row 0 of the gated convolution's weights. -/
def ws_0 (x7 : FVec Ideal S3x512 .f32) : FVec Ideal S1x512 .f32 :=
  View.ld (Val := Elt Ideal) (e' := .f32) x7 (Rect.unit (s := S3x512) ![0, 0] S1x512.size inb_S3x512_S1x512_0_0)

theorem ws_0_at (x7 : FVec Ideal S3x512 .f32) (l : Fin 512) : ws_0 x7 (ix2 0 l) = x7 (ix2 0 l) := by
  unfold ws_0
  refine congrArg x7 (funext fun a => Fin.ext ?_)
  match a with
  | ⟨0, _⟩ => rfl
  | ⟨1, _⟩ => exact (by omega : 0 + 1 * l.val = l.val)

/-- Row 1 of the gated convolution's weights. -/
def ws_1 (x7 : FVec Ideal S3x512 .f32) : FVec Ideal S1x512 .f32 :=
  View.ld (Val := Elt Ideal) (e' := .f32) x7 (Rect.unit (s := S3x512) ![1, 0] S1x512.size inb_S3x512_S1x512_1_0)

theorem ws_1_at (x7 : FVec Ideal S3x512 .f32) (l : Fin 512) : ws_1 x7 (ix2 0 l) = x7 (ix2 1 l) := by
  unfold ws_1
  refine congrArg x7 (funext fun a => Fin.ext ?_)
  match a with
  | ⟨0, _⟩ => rfl
  | ⟨1, _⟩ => exact (by omega : 0 + 1 * l.val = l.val)

/-- Row 2 of the gated convolution's weights. -/
def ws_2 (x7 : FVec Ideal S3x512 .f32) : FVec Ideal S1x512 .f32 :=
  View.ld (Val := Elt Ideal) (e' := .f32) x7 (Rect.unit (s := S3x512) ![2, 0] S1x512.size inb_S3x512_S1x512_2_0)

theorem ws_2_at (x7 : FVec Ideal S3x512 .f32) (l : Fin 512) : ws_2 x7 (ix2 0 l) = x7 (ix2 2 l) := by
  unfold ws_2
  refine congrArg x7 (funext fun a => Fin.ext ?_)
  match a with
  | ⟨0, _⟩ => rfl
  | ⟨1, _⟩ => exact (by omega : 0 + 1 * l.val = l.val)

theorem out_8 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S3x1536 .f32) (harg7 : arg7.IsWhole) (arg8 : Memref sig .tc .vmem S3x512 .f32) (harg8 : arg8.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole)
    (x0 x1 x2 x3 x4 x5 : Vec Ideal S512x512 .f32) (x6 : Vec Ideal S3x1536 .f32) (x7 : Vec Ideal S3x512 .f32) :
    out0_A_8 (F := Ideal) c i arg1 harg1 arg2 harg2 arg3 harg3 arg4 harg4 arg5 harg5 arg6 harg6 arg7 harg7 arg8 harg8 arg10 harg10 arg11 harg11 arg12 harg12 arg13 harg13 arg14 harg14 x0 x1 x2 x3 x4 x5 x6 x7 = convB x0 (w0_0 x6) (w0_1 x6) (w0_2 x6) := by
  unfold out0_A_8
  rw [View.read_writes_eq_canon _ _ _ (cover0_A_8 c i arg1 harg1 arg2 harg2 arg3 harg3 arg4 harg4 arg5 harg5 arg6 harg6 arg7 harg7 arg8 harg8 arg10 harg10 arg11 harg11 arg12 harg12 arg13 harg13 arg14 harg14 x0 x1 x2 x3 x4 x5 x6 x7)]
  unfold kernelRun0_A
  dsimp only
  sl_unfold_words
  rw [View.canon_unit_zero hz2]
  simp only [readAt_cut, View.readAt_eq_ld, harg1.read_unread, harg2.read_unread, harg3.read_unread, harg4.read_unread, harg5.read_unread, harg6.read_unread, harg7.read_unread, harg8.read_unread, View.ld_unit_zero (S := S512x512) hz2]
  exact pay5_eq x0 (w0_0 x6) (w0_1 x6) (w0_2 x6)

theorem out_9 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S3x1536 .f32) (harg7 : arg7.IsWhole) (arg8 : Memref sig .tc .vmem S3x512 .f32) (harg8 : arg8.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole)
    (x0 x1 x2 x3 x4 x5 : Vec Ideal S512x512 .f32) (x6 : Vec Ideal S3x1536 .f32) (x7 : Vec Ideal S3x512 .f32) :
    out0_A_9 (F := Ideal) c i arg1 harg1 arg2 harg2 arg3 harg3 arg4 harg4 arg5 harg5 arg6 harg6 arg7 harg7 arg8 harg8 arg10 harg10 arg11 harg11 arg12 harg12 arg13 harg13 arg14 harg14 x0 x1 x2 x3 x4 x5 x6 x7 = convB x1 (w512_0 x6) (w512_1 x6) (w512_2 x6) := by
  unfold out0_A_9
  rw [View.read_writes_eq_canon _ _ _ (cover0_A_9 c i arg1 harg1 arg2 harg2 arg3 harg3 arg4 harg4 arg5 harg5 arg6 harg6 arg7 harg7 arg8 harg8 arg10 harg10 arg11 harg11 arg12 harg12 arg13 harg13 arg14 harg14 x0 x1 x2 x3 x4 x5 x6 x7)]
  unfold kernelRun0_A
  dsimp only
  sl_unfold_words
  rw [View.canon_unit_zero hz2]
  simp only [readAt_cut, View.readAt_eq_ld, harg1.read_unread, harg2.read_unread, harg3.read_unread, harg4.read_unread, harg5.read_unread, harg6.read_unread, harg7.read_unread, harg8.read_unread, View.ld_unit_zero (S := S512x512) hz2]
  exact pay13_eq x1 (w512_0 x6) (w512_1 x6) (w512_2 x6)

theorem out_10 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S3x1536 .f32) (harg7 : arg7.IsWhole) (arg8 : Memref sig .tc .vmem S3x512 .f32) (harg8 : arg8.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole)
    (x0 x1 x2 x3 x4 x5 : Vec Ideal S512x512 .f32) (x6 : Vec Ideal S3x1536 .f32) (x7 : Vec Ideal S3x512 .f32) :
    out0_A_10 (F := Ideal) c i arg1 harg1 arg2 harg2 arg3 harg3 arg4 harg4 arg5 harg5 arg6 harg6 arg7 harg7 arg8 harg8 arg10 harg10 arg11 harg11 arg12 harg12 arg13 harg13 arg14 harg14 x0 x1 x2 x3 x4 x5 x6 x7 = convB x2 (w1024_0 x6) (w1024_1 x6) (w1024_2 x6) := by
  unfold out0_A_10
  rw [View.read_writes_eq_canon _ _ _ (cover0_A_10 c i arg1 harg1 arg2 harg2 arg3 harg3 arg4 harg4 arg5 harg5 arg6 harg6 arg7 harg7 arg8 harg8 arg10 harg10 arg11 harg11 arg12 harg12 arg13 harg13 arg14 harg14 x0 x1 x2 x3 x4 x5 x6 x7)]
  unfold kernelRun0_A
  dsimp only
  sl_unfold_words
  rw [View.canon_unit_zero hz2]
  simp only [readAt_cut, View.readAt_eq_ld, harg1.read_unread, harg2.read_unread, harg3.read_unread, harg4.read_unread, harg5.read_unread, harg6.read_unread, harg7.read_unread, harg8.read_unread, View.ld_unit_zero (S := S512x512) hz2]
  exact pay16_eq x2 (w1024_0 x6) (w1024_1 x6) (w1024_2 x6)

theorem out_11 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S3x1536 .f32) (harg7 : arg7.IsWhole) (arg8 : Memref sig .tc .vmem S3x512 .f32) (harg8 : arg8.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole)
    (x0 x1 x2 x3 x4 x5 : Vec Ideal S512x512 .f32) (x6 : Vec Ideal S3x1536 .f32) (x7 : Vec Ideal S3x512 .f32) :
    out0_A_11 (F := Ideal) c i arg1 harg1 arg2 harg2 arg3 harg3 arg4 harg4 arg5 harg5 arg6 harg6 arg7 harg7 arg8 harg8 arg10 harg10 arg11 harg11 arg12 harg12 arg13 harg13 arg14 harg14 x0 x1 x2 x3 x4 x5 x6 x7 = truncf .bf16 (convB x0 (w0_0 x6) (w0_1 x6) (w0_2 x6)) bitsLt_bf16_f32 := by
  unfold out0_A_11
  rw [View.read_writes_eq_canon _ _ _ (cover0_A_11 c i arg1 harg1 arg2 harg2 arg3 harg3 arg4 harg4 arg5 harg5 arg6 harg6 arg7 harg7 arg8 harg8 arg10 harg10 arg11 harg11 arg12 harg12 arg13 harg13 arg14 harg14 x0 x1 x2 x3 x4 x5 x6 x7)]
  unfold kernelRun0_A
  dsimp only
  sl_unfold_words
  rw [View.canon_unit_zero hz2]
  simp only [readAt_cut, View.readAt_eq_ld, harg1.read_unread, harg2.read_unread, harg3.read_unread, harg4.read_unread, harg5.read_unread, harg6.read_unread, harg7.read_unread, harg8.read_unread, View.ld_unit_zero (S := S512x512) hz2]
  exact congrArg (fun v : Blk => truncf .bf16 v bitsLt_bf16_f32) (pay5_eq x0 (w0_0 x6) (w0_1 x6) (w0_2 x6))

theorem out_12 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S3x1536 .f32) (harg7 : arg7.IsWhole) (arg8 : Memref sig .tc .vmem S3x512 .f32) (harg8 : arg8.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole)
    (x0 x1 x2 x3 x4 x5 : Vec Ideal S512x512 .f32) (x6 : Vec Ideal S3x1536 .f32) (x7 : Vec Ideal S3x512 .f32) :
    out0_A_12 (F := Ideal) c i arg1 harg1 arg2 harg2 arg3 harg3 arg4 harg4 arg5 harg5 arg6 harg6 arg7 harg7 arg8 harg8 arg10 harg10 arg11 harg11 arg12 harg12 arg13 harg13 arg14 harg14 x0 x1 x2 x3 x4 x5 x6 x7 = truncf .bf16 (mulf x3 (convB (k0_pay17 (F := Ideal) x4 x5) (ws_0 x7) (ws_1 x7) (ws_2 x7))) bitsLt_bf16_f32 := by
  unfold out0_A_12
  rw [View.read_writes_eq_canon _ _ _ (cover0_A_12 c i arg1 harg1 arg2 harg2 arg3 harg3 arg4 harg4 arg5 harg5 arg6 harg6 arg7 harg7 arg8 harg8 arg10 harg10 arg11 harg11 arg12 harg12 arg13 harg13 arg14 harg14 x0 x1 x2 x3 x4 x5 x6 x7)]
  unfold kernelRun0_A
  dsimp only
  sl_unfold_words
  rw [View.canon_unit_zero hz2]
  simp only [readAt_cut, View.readAt_eq_ld, harg1.read_unread, harg2.read_unread, harg3.read_unread, harg4.read_unread, harg5.read_unread, harg6.read_unread, harg7.read_unread, harg8.read_unread, View.ld_unit_zero (S := S512x512) hz2]
  exact pay1_eq x3 (k0_pay17 (F := Ideal) x4 x5) (ws_0 x7) (ws_1 x7) (ws_2 x7)

end Cert.Conv

end
-- ==== Proof.Conv.KernelValue.lean ====
/- The convolutions' five results, block by block. -/
module

public import proofs.«01_k».proof.Proof.Conv.Body

@[expose] public section

set_option maxRecDepth 16384

noncomputable section

namespace Cert.Conv

open Cert.Kernel6Ideal Cert.Kernel6Ideal.Gen
open Cert.Lru (Arr2)
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-- The argument arrays at launch. -/
abbrev uA (c : Dev nD) : Arr2 34816 4608 := m ((c.tc : Thread nD τ).loc main_arg0)
abbrev hA (c : Dev nD) : Arr2 3 1536 := m ((c.tc : Thread nD τ).loc main_arg1)
abbrev sA (c : Dev nD) : Arr2 3 512 := m ((c.tc : Thread nD τ).loc main_arg2)

/-! ## The windows -/

theorem lt64 (t : Fin cfg0.N) : t.val < 64 := by
  have h := t.isLt
  have hN : cfg0.N = 64 := N_0
  omega

theorem idx0 : ∀ t : Fin cfg0.N, win0_0.index t 0 = t.val ∧ win0_0.index t 1 = 1 :=
  (by decide +kernel : ∀ t : Fin grid0.N, win0_0.index t 0 = t.val ∧ win0_0.index t 1 = 1)
theorem idx1 : ∀ t : Fin cfg0.N, win0_1.index t 0 = t.val ∧ win0_1.index t 1 = 2 :=
  (by decide +kernel : ∀ t : Fin grid0.N, win0_1.index t 0 = t.val ∧ win0_1.index t 1 = 2)
theorem idx2 : ∀ t : Fin cfg0.N, win0_2.index t 0 = t.val ∧ win0_2.index t 1 = 3 :=
  (by decide +kernel : ∀ t : Fin grid0.N, win0_2.index t 0 = t.val ∧ win0_2.index t 1 = 3)
theorem idx3 : ∀ t : Fin cfg0.N, win0_3.index t 0 = t.val ∧ win0_3.index t 1 = 4 :=
  (by decide +kernel : ∀ t : Fin grid0.N, win0_3.index t 0 = t.val ∧ win0_3.index t 1 = 4)
theorem idx4 : ∀ t : Fin cfg0.N, win0_4.index t 0 = t.val ∧ win0_4.index t 1 = 5 :=
  (by decide +kernel : ∀ t : Fin grid0.N, win0_4.index t 0 = t.val ∧ win0_4.index t 1 = 5)
theorem idx5 : ∀ t : Fin cfg0.N, win0_5.index t 0 = t.val ∧ win0_5.index t 1 = 6 :=
  (by decide +kernel : ∀ t : Fin grid0.N, win0_5.index t 0 = t.val ∧ win0_5.index t 1 = 6)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem flush8 : ∀ t : Fin cfg0.N, (cfg0.win 8).flush t = true :=
  (by decide +kernel : ∀ t : Fin grid0.N, win0_8.flush t = true)
theorem idx9 : ∀ t : Fin cfg0.N, win0_9.index t 0 = t.val ∧ win0_9.index t 1 = 0 :=
  (by decide +kernel : ∀ t : Fin grid0.N, win0_9.index t 0 = t.val ∧ win0_9.index t 1 = 0)
theorem flush9 : ∀ t : Fin cfg0.N, (cfg0.win 9).flush t = true :=
  (by decide +kernel : ∀ t : Fin grid0.N, win0_9.flush t = true)
theorem idx10 : ∀ t : Fin cfg0.N, win0_10.index t 0 = t.val ∧ win0_10.index t 1 = 0 :=
  (by decide +kernel : ∀ t : Fin grid0.N, win0_10.index t 0 = t.val ∧ win0_10.index t 1 = 0)
theorem flush10 : ∀ t : Fin cfg0.N, (cfg0.win 10).flush t = true :=
  (by decide +kernel : ∀ t : Fin grid0.N, win0_10.flush t = true)
theorem idx11 : ∀ t : Fin cfg0.N, win0_11.index t 0 = t.val ∧ win0_11.index t 1 = 0 :=
  (by decide +kernel : ∀ t : Fin grid0.N, win0_11.index t 0 = t.val ∧ win0_11.index t 1 = 0)
theorem flush11 : ∀ t : Fin cfg0.N, (cfg0.win 11).flush t = true :=
  (by decide +kernel : ∀ t : Fin grid0.N, win0_11.flush t = true)
theorem idx12 : ∀ t : Fin cfg0.N, win0_12.index t 0 = t.val ∧ win0_12.index t 1 = 0 :=
  (by decide +kernel : ∀ t : Fin grid0.N, win0_12.index t 0 = t.val ∧ win0_12.index t 1 = 0)
theorem flush12 : ∀ t : Fin cfg0.N, (cfg0.win 12).flush t = true :=
  (by decide +kernel : ∀ t : Fin grid0.N, win0_12.flush t = true)

theorem blk0 (c : Dev nD) (t : Fin cfg0.N) (r l : Fin 512) :
    (iblk m c 0 t : FVec Ideal S512x512 .f32) (ix2 r l) = col (uA m c) (512 * t.val + r.val) ⟨512 + l.val, by omega⟩ := by
  have hi := idx0 t
  have ht := lt64 t
  unfold col
  rw [dif_pos (by omega)]
  unfold iblk
  rw [View.read_apply]
  show V m c main_arg0 _ = _
  rw [V_main_arg0]
  refine congrArg (uA m c) (funext fun a => Fin.ext ?_)
  match a with
  | ⟨0, _⟩ => show win0_0.index t 0 * 512 + 1 * r.val = 512 * t.val + r.val; rw [hi.1]; omega
  | ⟨1, _⟩ => show win0_0.index t 1 * 512 + 1 * l.val = 512 + l.val; rw [hi.2]; omega

theorem blk1 (c : Dev nD) (t : Fin cfg0.N) (r l : Fin 512) :
    (iblk m c 1 t : FVec Ideal S512x512 .f32) (ix2 r l) = col (uA m c) (512 * t.val + r.val) ⟨512 + (512 + l.val), by omega⟩ := by
  have hi := idx1 t
  have ht := lt64 t
  unfold col
  rw [dif_pos (by omega)]
  unfold iblk
  rw [View.read_apply]
  show V m c main_arg0 _ = _
  rw [V_main_arg0]
  refine congrArg (uA m c) (funext fun a => Fin.ext ?_)
  match a with
  | ⟨0, _⟩ => show win0_1.index t 0 * 512 + 1 * r.val = 512 * t.val + r.val; rw [hi.1]; omega
  | ⟨1, _⟩ => show win0_1.index t 1 * 512 + 1 * l.val = 512 + (512 + l.val); rw [hi.2]; omega

theorem blk2 (c : Dev nD) (t : Fin cfg0.N) (r l : Fin 512) :
    (iblk m c 2 t : FVec Ideal S512x512 .f32) (ix2 r l) = col (uA m c) (512 * t.val + r.val) ⟨512 + (1024 + l.val), by omega⟩ := by
  have hi := idx2 t
  have ht := lt64 t
  unfold col
  rw [dif_pos (by omega)]
  unfold iblk
  rw [View.read_apply]
  show V m c main_arg0 _ = _
  rw [V_main_arg0]
  refine congrArg (uA m c) (funext fun a => Fin.ext ?_)
  match a with
  | ⟨0, _⟩ => show win0_2.index t 0 * 512 + 1 * r.val = 512 * t.val + r.val; rw [hi.1]; omega
  | ⟨1, _⟩ => show win0_2.index t 1 * 512 + 1 * l.val = 512 + (1024 + l.val); rw [hi.2]; omega

theorem blk3 (c : Dev nD) (t : Fin cfg0.N) (r l : Fin 512) :
    (iblk m c 3 t : FVec Ideal S512x512 .f32) (ix2 r l) = col (uA m c) (512 * t.val + r.val) ⟨2048 + l.val, by omega⟩ := by
  have hi := idx3 t
  have ht := lt64 t
  unfold col
  rw [dif_pos (by omega)]
  unfold iblk
  rw [View.read_apply]
  show V m c main_arg0 _ = _
  rw [V_main_arg0]
  refine congrArg (uA m c) (funext fun a => Fin.ext ?_)
  match a with
  | ⟨0, _⟩ => show win0_3.index t 0 * 512 + 1 * r.val = 512 * t.val + r.val; rw [hi.1]; omega
  | ⟨1, _⟩ => show win0_3.index t 1 * 512 + 1 * l.val = 2048 + l.val; rw [hi.2]; omega

theorem blk4 (c : Dev nD) (t : Fin cfg0.N) (r l : Fin 512) :
    (iblk m c 4 t : FVec Ideal S512x512 .f32) (ix2 r l) = col (uA m c) (512 * t.val + r.val) ⟨2560 + l.val, by omega⟩ := by
  have hi := idx4 t
  have ht := lt64 t
  unfold col
  rw [dif_pos (by omega)]
  unfold iblk
  rw [View.read_apply]
  show V m c main_arg0 _ = _
  rw [V_main_arg0]
  refine congrArg (uA m c) (funext fun a => Fin.ext ?_)
  match a with
  | ⟨0, _⟩ => show win0_4.index t 0 * 512 + 1 * r.val = 512 * t.val + r.val; rw [hi.1]; omega
  | ⟨1, _⟩ => show win0_4.index t 1 * 512 + 1 * l.val = 2560 + l.val; rw [hi.2]; omega

theorem blk5 (c : Dev nD) (t : Fin cfg0.N) (r l : Fin 512) :
    (iblk m c 5 t : FVec Ideal S512x512 .f32) (ix2 r l) = col (uA m c) (512 * t.val + r.val) ⟨3072 + l.val, by omega⟩ := by
  have hi := idx5 t
  have ht := lt64 t
  unfold col
  rw [dif_pos (by omega)]
  unfold iblk
  rw [View.read_apply]
  show V m c main_arg0 _ = _
  rw [V_main_arg0]
  refine congrArg (uA m c) (funext fun a => Fin.ext ?_)
  match a with
  | ⟨0, _⟩ => show win0_5.index t 0 * 512 + 1 * r.val = 512 * t.val + r.val; rw [hi.1]; omega
  | ⟨1, _⟩ => show win0_5.index t 1 * 512 + 1 * l.val = 3072 + l.val; rw [hi.2]; omega

theorem blk6 (c : Dev nD) (t : Fin cfg0.N) (k : Fin 3) (l : Fin 1536) :
    (iblk m c 6 t : FVec Ideal S3x1536 .f32) (ix2 k l) = hA m c (ix2 k l) := by
  have hi := idx6 t
  unfold iblk
  rw [View.read_apply]
  show V m c main_arg1 _ = _
  rw [V_main_arg1]
  refine congrArg (hA m c) (funext fun a => Fin.ext ?_)
  match a with
  | ⟨0, _⟩ => show win0_6.index t 0 * 3 + 1 * k.val = k.val; rw [hi.1]; omega
  | ⟨1, _⟩ => show win0_6.index t 1 * 1536 + 1 * l.val = l.val; rw [hi.2]; omega

theorem blk7 (c : Dev nD) (t : Fin cfg0.N) (k : Fin 3) (l : Fin 512) :
    (iblk m c 7 t : FVec Ideal S3x512 .f32) (ix2 k l) = sA m c (ix2 k l) := by
  have hi := idx7 t
  unfold iblk
  rw [View.read_apply]
  show V m c main_arg2 _ = _
  rw [V_main_arg2]
  refine congrArg (sA m c) (funext fun a => Fin.ext ?_)
  match a with
  | ⟨0, _⟩ => show win0_7.index t 0 * 3 + 1 * k.val = k.val; rw [hi.1]; omega
  | ⟨1, _⟩ => show win0_7.index t 1 * 512 + 1 * l.val = l.val; rw [hi.2]; omega

/-! ## What a point leaves -/

theorem conv0_at (c : Dev nD) (t : Fin cfg0.N) (r l : Fin 512) :
    (convB (iblk m c 0 t) (w0_0 (iblk m c 6 t)) (w0_1 (iblk m c 6 t)) (w0_2 (iblk m c 6 t)) (ix2 r l) : EReal)
      = hyena (uA m c) (hA m c) (512 * t.val + r.val) ⟨0 + l.val, by omega⟩ := by
  unfold hyena
  refine convB_at (iblk m c 0 t) _ _ _ _ _ (512 * t.val) (by omega) l (fun r => ?_) ?_ ?_ ?_ r
  · refine (blk0 m c t r l).trans (congrArg (col (uA m c) _) (Fin.ext ?_)); show 512 + l.val = 512 + (0 + l.val); omega
  · exact (w0_0_at (iblk m c 6 t) l).trans (blk6 m c t 0 _)
  · exact (w0_1_at (iblk m c 6 t) l).trans (blk6 m c t 1 _)
  · exact (w0_2_at (iblk m c 6 t) l).trans (blk6 m c t 2 _)

theorem conv512_at (c : Dev nD) (t : Fin cfg0.N) (r l : Fin 512) :
    (convB (iblk m c 1 t) (w512_0 (iblk m c 6 t)) (w512_1 (iblk m c 6 t)) (w512_2 (iblk m c 6 t)) (ix2 r l) : EReal)
      = hyena (uA m c) (hA m c) (512 * t.val + r.val) ⟨512 + l.val, by omega⟩ := by
  unfold hyena
  refine convB_at (iblk m c 1 t) _ _ _ _ _ (512 * t.val) (by omega) l (fun r => ?_) ?_ ?_ ?_ r
  · exact blk1 m c t r l
  · exact (w512_0_at (iblk m c 6 t) l).trans (blk6 m c t 0 _)
  · exact (w512_1_at (iblk m c 6 t) l).trans (blk6 m c t 1 _)
  · exact (w512_2_at (iblk m c 6 t) l).trans (blk6 m c t 2 _)

theorem conv1024_at (c : Dev nD) (t : Fin cfg0.N) (r l : Fin 512) :
    (convB (iblk m c 2 t) (w1024_0 (iblk m c 6 t)) (w1024_1 (iblk m c 6 t)) (w1024_2 (iblk m c 6 t)) (ix2 r l) : EReal)
      = hyena (uA m c) (hA m c) (512 * t.val + r.val) ⟨1024 + l.val, by omega⟩ := by
  unfold hyena
  refine convB_at (iblk m c 2 t) _ _ _ _ _ (512 * t.val) (by omega) l (fun r => ?_) ?_ ?_ ?_ r
  · exact blk2 m c t r l
  · exact (w1024_0_at (iblk m c 6 t) l).trans (blk6 m c t 0 _)
  · exact (w1024_1_at (iblk m c 6 t) l).trans (blk6 m c t 1 _)
  · exact (w1024_2_at (iblk m c 6 t) l).trans (blk6 m c t 2 _)

theorem short_at (c : Dev nD) (t : Fin cfg0.N) (r l : Fin 512) :
    ((truncf .bf16 (mulf (iblk m c 3 t : Blk) (convB (k0_pay17 (F := Ideal) (iblk m c 4 t) (iblk m c 5 t)) (ws_0 (iblk m c 7 t)) (ws_1 (iblk m c 7 t)) (ws_2 (iblk m c 7 t)))) bitsLt_bf16_f32 : FVec Ideal S512x512 .bf16) (ix2 r l) : EReal)
      = short (uA m c) (sA m c) (512 * t.val + r.val) l := by
  refine (gated_at _ _ r l).trans ?_
  unfold short
  refine congrArg₂ (fun x y : EReal => x * y) (blk3 m c t r l) ?_
  refine convB_at (k0_pay17 (F := Ideal) (iblk m c 4 t) (iblk m c 5 t)) _ _ _ _ _ (512 * t.val) (by omega) l (fun r => ?_) ?_ ?_ ?_ r
  · exact (prod_at _ _ r l).trans (congrArg₂ (fun x y : EReal => x * y) (blk4 m c t r l) (blk5 m c t r l))
  · exact (ws_0_at (iblk m c 7 t) l).trans (blk7 m c t 0 _)
  · exact (ws_1_at (iblk m c 7 t) l).trans (blk7 m c t 1 _)
  · exact (ws_2_at (iblk m c 7 t) l).trans (blk7 m c t 2 _)

theorem outs8 (c : Dev nD) (t : Fin cfg0.N) : (outsAt0 m c t).1 = (convB (iblk m c 0 t) (w0_0 (iblk m c 6 t)) (w0_1 (iblk m c 6 t)) (w0_2 (iblk m c 6 t)) : FVec Ideal S512x512 .f32) := by
  unfold outsAt0
  dsimp only
  exact out_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t)

theorem left8 (c : Dev nD) (t : Fin cfg0.N) (r l : Fin 512) :
    ((outsAt0 m c t).1 (ix2 r l) : EReal) = hyena (uA m c) (hA m c) (512 * t.val + r.val) (chan 0 (by decide) (l)) :=
  (congrFun (outs8 m c t) (ix2 r l)).trans (conv0_at m c t r l)

/-- Result 0, from the launch contents of the arguments. -/
def result8 (c : Dev nD) : Buf (Elt Ideal) ((c.tc : Thread nD τ).loc main_v1_0) :=
  (fun i : S32768x512.Idx => hyena (uA m c) (hA m c) (i 0).val (chan 0 (by decide) (i 1)) : FVec Ideal S32768x512 .f32)

theorem flushed8 (c : Dev nD) (t : Fin cfg0.N) (hf : (cfg0.win 8).flush t = true) :
    (dats m 0 c).flushed 8 t = ((cfg0.win 8).blk t).view.read (Elt Ideal) (result8 m c) := by
  show (cfg0.win 8).cut (grid0.coords t) ((dats m 0 c).after 8 t) = _
  rw [after0_8]
  funext j
  have hi := idx8 t
  have hj : j = (ix2 (j 0) (j 1) : S512x512.Idx) := funext fun a => Fin.ext (match a with | ⟨0, _⟩ => rfl | ⟨1, _⟩ => rfl)
  rw [View.read_apply]
  refine (congrArg (outsAt0 m c t).1 hj).trans ((left8 m c t (j 0) (j 1)).trans ?_)
  have q0 : 512 * t.val + (j 0).val = ((((cfg0.win 8).blk t).view.emb j) 0).val := by
    show 512 * t.val + (j 0).val = win0_8.index t 0 * 512 + 1 * (j 0).val
    rw [hi.1]; omega
  have q1 : j 1 = (((cfg0.win 8).blk t).view.emb j) 1 := Fin.ext (by
    show (j 1).val = win0_8.index t 1 * 512 + 1 * (j 1).val
    rw [hi.2]; omega)
  exact congrArg₂ (fun (T : ℕ) (l : Fin 512) => hyena (uA m c) (hA m c) (T) (chan 0 (by decide) (l))) q0 q1

theorem final8 (c : Dev nD) : (dats m 0 c).arrAt 8 cfg0.N = result8 m c :=
  (dats m 0 c).arrAt_eq_of_cover 8 (result8 m c) (flushed8 m c) fun i => by
    have h0 : (i 0 : Nat) < 32768 := (i 0).isLt
    have h1 : (i 1 : Nat) < 512 := (i 1).isLt
    have hN : cfg0.N = 64 := N_0
    have hlt : (i 0 : Nat) / 512 < cfg0.N := by omega
    refine ⟨⟨(i 0 : Nat) / 512, hlt⟩, flush8 _, ?_⟩
    have hi := idx8 ⟨(i 0 : Nat) / 512, hlt⟩
    dsimp only at hi
    generalize (⟨(i 0 : Nat) / 512, hlt⟩ : Fin cfg0.N) = t at hi ⊢
    show i ∈ ((View.whole main_v1_0).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [hi.1]; omega
    | ⟨1, _⟩ => show win0_8.index t 1 * 512 ≤ (i 1 : Nat) ∧ (i 1 : Nat) < win0_8.index t 1 * 512 + 512
                rw [hi.2]; omega

theorem outs9 (c : Dev nD) (t : Fin cfg0.N) : (outsAt0 m c t).2.1 = (convB (iblk m c 1 t) (w512_0 (iblk m c 6 t)) (w512_1 (iblk m c 6 t)) (w512_2 (iblk m c 6 t)) : FVec Ideal S512x512 .f32) := by
  unfold outsAt0
  dsimp only
  exact out_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t)

theorem left9 (c : Dev nD) (t : Fin cfg0.N) (r l : Fin 512) :
    ((outsAt0 m c t).2.1 (ix2 r l) : EReal) = hyena (uA m c) (hA m c) (512 * t.val + r.val) (chan 512 (by decide) (l)) :=
  (congrFun (outs9 m c t) (ix2 r l)).trans (conv512_at m c t r l)

/-- Result 1, from the launch contents of the arguments. -/
def result9 (c : Dev nD) : Buf (Elt Ideal) ((c.tc : Thread nD τ).loc main_v1_1) :=
  (fun i : S32768x512.Idx => hyena (uA m c) (hA m c) (i 0).val (chan 512 (by decide) (i 1)) : FVec Ideal S32768x512 .f32)

theorem flushed9 (c : Dev nD) (t : Fin cfg0.N) (hf : (cfg0.win 9).flush t = true) :
    (dats m 0 c).flushed 9 t = ((cfg0.win 9).blk t).view.read (Elt Ideal) (result9 m c) := by
  show (cfg0.win 9).cut (grid0.coords t) ((dats m 0 c).after 9 t) = _
  rw [after0_9]
  funext j
  have hi := idx9 t
  have hj : j = (ix2 (j 0) (j 1) : S512x512.Idx) := funext fun a => Fin.ext (match a with | ⟨0, _⟩ => rfl | ⟨1, _⟩ => rfl)
  rw [View.read_apply]
  refine (congrArg (outsAt0 m c t).2.1 hj).trans ((left9 m c t (j 0) (j 1)).trans ?_)
  have q0 : 512 * t.val + (j 0).val = ((((cfg0.win 9).blk t).view.emb j) 0).val := by
    show 512 * t.val + (j 0).val = win0_9.index t 0 * 512 + 1 * (j 0).val
    rw [hi.1]; omega
  have q1 : j 1 = (((cfg0.win 9).blk t).view.emb j) 1 := Fin.ext (by
    show (j 1).val = win0_9.index t 1 * 512 + 1 * (j 1).val
    rw [hi.2]; omega)
  exact congrArg₂ (fun (T : ℕ) (l : Fin 512) => hyena (uA m c) (hA m c) (T) (chan 512 (by decide) (l))) q0 q1

theorem final9 (c : Dev nD) : (dats m 0 c).arrAt 9 cfg0.N = result9 m c :=
  (dats m 0 c).arrAt_eq_of_cover 9 (result9 m c) (flushed9 m c) fun i => by
    have h0 : (i 0 : Nat) < 32768 := (i 0).isLt
    have h1 : (i 1 : Nat) < 512 := (i 1).isLt
    have hN : cfg0.N = 64 := N_0
    have hlt : (i 0 : Nat) / 512 < cfg0.N := by omega
    refine ⟨⟨(i 0 : Nat) / 512, hlt⟩, flush9 _, ?_⟩
    have hi := idx9 ⟨(i 0 : Nat) / 512, hlt⟩
    dsimp only at hi
    generalize (⟨(i 0 : Nat) / 512, hlt⟩ : Fin cfg0.N) = t at hi ⊢
    show i ∈ ((View.whole main_v1_1).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [hi.1]; omega
    | ⟨1, _⟩ => show win0_9.index t 1 * 512 ≤ (i 1 : Nat) ∧ (i 1 : Nat) < win0_9.index t 1 * 512 + 512
                rw [hi.2]; omega

theorem outs10 (c : Dev nD) (t : Fin cfg0.N) : (outsAt0 m c t).2.2.1 = (convB (iblk m c 2 t) (w1024_0 (iblk m c 6 t)) (w1024_1 (iblk m c 6 t)) (w1024_2 (iblk m c 6 t)) : FVec Ideal S512x512 .f32) := by
  unfold outsAt0
  dsimp only
  exact out_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t)

theorem left10 (c : Dev nD) (t : Fin cfg0.N) (r l : Fin 512) :
    ((outsAt0 m c t).2.2.1 (ix2 r l) : EReal) = hyena (uA m c) (hA m c) (512 * t.val + r.val) (chan 1024 (by decide) (l)) :=
  (congrFun (outs10 m c t) (ix2 r l)).trans (conv1024_at m c t r l)

/-- Result 2, from the launch contents of the arguments. -/
def result10 (c : Dev nD) : Buf (Elt Ideal) ((c.tc : Thread nD τ).loc main_v1_2) :=
  (fun i : S32768x512.Idx => hyena (uA m c) (hA m c) (i 0).val (chan 1024 (by decide) (i 1)) : FVec Ideal S32768x512 .f32)

theorem flushed10 (c : Dev nD) (t : Fin cfg0.N) (hf : (cfg0.win 10).flush t = true) :
    (dats m 0 c).flushed 10 t = ((cfg0.win 10).blk t).view.read (Elt Ideal) (result10 m c) := by
  show (cfg0.win 10).cut (grid0.coords t) ((dats m 0 c).after 10 t) = _
  rw [after0_10]
  funext j
  have hi := idx10 t
  have hj : j = (ix2 (j 0) (j 1) : S512x512.Idx) := funext fun a => Fin.ext (match a with | ⟨0, _⟩ => rfl | ⟨1, _⟩ => rfl)
  rw [View.read_apply]
  refine (congrArg (outsAt0 m c t).2.2.1 hj).trans ((left10 m c t (j 0) (j 1)).trans ?_)
  have q0 : 512 * t.val + (j 0).val = ((((cfg0.win 10).blk t).view.emb j) 0).val := by
    show 512 * t.val + (j 0).val = win0_10.index t 0 * 512 + 1 * (j 0).val
    rw [hi.1]; omega
  have q1 : j 1 = (((cfg0.win 10).blk t).view.emb j) 1 := Fin.ext (by
    show (j 1).val = win0_10.index t 1 * 512 + 1 * (j 1).val
    rw [hi.2]; omega)
  exact congrArg₂ (fun (T : ℕ) (l : Fin 512) => hyena (uA m c) (hA m c) (T) (chan 1024 (by decide) (l))) q0 q1

theorem final10 (c : Dev nD) : (dats m 0 c).arrAt 10 cfg0.N = result10 m c :=
  (dats m 0 c).arrAt_eq_of_cover 10 (result10 m c) (flushed10 m c) fun i => by
    have h0 : (i 0 : Nat) < 32768 := (i 0).isLt
    have h1 : (i 1 : Nat) < 512 := (i 1).isLt
    have hN : cfg0.N = 64 := N_0
    have hlt : (i 0 : Nat) / 512 < cfg0.N := by omega
    refine ⟨⟨(i 0 : Nat) / 512, hlt⟩, flush10 _, ?_⟩
    have hi := idx10 ⟨(i 0 : Nat) / 512, hlt⟩
    dsimp only at hi
    generalize (⟨(i 0 : Nat) / 512, hlt⟩ : Fin cfg0.N) = t at hi ⊢
    show i ∈ ((View.whole main_v1_2).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512
                rw [hi.1]; omega
    | ⟨1, _⟩ => show win0_10.index t 1 * 512 ≤ (i 1 : Nat) ∧ (i 1 : Nat) < win0_10.index t 1 * 512 + 512
                rw [hi.2]; omega

theorem outs11 (c : Dev nD) (t : Fin cfg0.N) : (outsAt0 m c t).2.2.2.1 = (truncf .bf16 (convB (iblk m c 0 t) (w0_0 (iblk m c 6 t)) (w0_1 (iblk m c 6 t)) (w0_2 (iblk m c 6 t))) bitsLt_bf16_f32 : FVec Ideal S512x512 .bf16) := by
  unfold outsAt0
  dsimp only
  exact out_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t)

theorem left11 (c : Dev nD) (t : Fin cfg0.N) (r l : Fin 512) :
    ((outsAt0 m c t).2.2.2.1 (ix2 r l) : EReal) = hyena (uA m c) (hA m c) (512 * t.val + r.val) (chan 0 (by decide) (l)) :=
  (congrFun (outs11 m c t) (ix2 r l)).trans ((round_at _ r l).trans (conv0_at m c t r l))

/-- Result 3, from the launch contents of the arguments. -/
def result11 (c : Dev nD) : Buf (Elt Ideal) ((c.tc : Thread nD τ).loc main_v1_3) :=
  (fun i : S32768x512.Idx => hyena (uA m c) (hA m c) (i 0).val (chan 0 (by decide) (i 1)) : FVec Ideal S32768x512 .bf16)

theorem flushed11 (c : Dev nD) (t : Fin cfg0.N) (hf : (cfg0.win 11).flush t = true) :
    (dats m 0 c).flushed 11 t = ((cfg0.win 11).blk t).view.read (Elt Ideal) (result11 m c) := by
  show (cfg0.win 11).cut (grid0.coords t) ((dats m 0 c).after 11 t) = _
  rw [after0_11]
  funext j
  have hi := idx11 t
  have hj : j = (ix2 (j 0) (j 1) : S512x512.Idx) := funext fun a => Fin.ext (match a with | ⟨0, _⟩ => rfl | ⟨1, _⟩ => rfl)
  rw [View.read_apply]
  refine (congrArg (outsAt0 m c t).2.2.2.1 hj).trans ((left11 m c t (j 0) (j 1)).trans ?_)
  have q0 : 512 * t.val + (j 0).val = ((((cfg0.win 11).blk t).view.emb j) 0).val := by
    show 512 * t.val + (j 0).val = win0_11.index t 0 * 512 + 1 * (j 0).val
    rw [hi.1]; omega
  have q1 : j 1 = (((cfg0.win 11).blk t).view.emb j) 1 := Fin.ext (by
    show (j 1).val = win0_11.index t 1 * 512 + 1 * (j 1).val
    rw [hi.2]; omega)
  exact congrArg₂ (fun (T : ℕ) (l : Fin 512) => hyena (uA m c) (hA m c) (T) (chan 0 (by decide) (l))) q0 q1

theorem final11 (c : Dev nD) : (dats m 0 c).arrAt 11 cfg0.N = result11 m c :=
  (dats m 0 c).arrAt_eq_of_cover 11 (result11 m c) (flushed11 m c) fun i => by
    have h0 : (i 0 : Nat) < 32768 := (i 0).isLt
    have h1 : (i 1 : Nat) < 512 := (i 1).isLt
    have hN : cfg0.N = 64 := N_0
    have hlt : (i 0 : Nat) / 512 < cfg0.N := by omega
    refine ⟨⟨(i 0 : Nat) / 512, hlt⟩, flush11 _, ?_⟩
    have hi := idx11 ⟨(i 0 : Nat) / 512, hlt⟩
    dsimp only at hi
    generalize (⟨(i 0 : Nat) / 512, hlt⟩ : Fin cfg0.N) = t at hi ⊢
    show i ∈ ((View.whole main_v1_3).slice (win0_11.rect t)).set
    rw [View.set_slice_whole, Rect.mem_set_unit]
    intro a
    match a with
    | ⟨0, _⟩ => show win0_11.index t 0 * 512 ≤ (i 0 : Nat) ∧ (i 0 : Nat) < win0_11.index t 0 * 512 + 512
                rw [hi.1]; omega
    | ⟨1, _⟩ => show win0_11.index t 1 * 512 ≤ (i 1 : Nat) ∧ (i 1 : Nat) < win0_11.index t 1 * 512 + 512
                rw [hi.2]; omega

theorem outs12 (c : Dev nD) (t : Fin cfg0.N) : (outsAt0 m c t).2.2.2.2 = (truncf .bf16 (mulf (iblk m c 3 t : Blk) (convB (k0_pay17 (F := Ideal) (iblk m c 4 t) (iblk m c 5 t)) (ws_0 (iblk m c 7 t)) (ws_1 (iblk m c 7 t)) (ws_2 (iblk m c 7 t)))) bitsLt_bf16_f32 : FVec Ideal S512x512 .bf16) := by
  unfold outsAt0
  dsimp only
  exact out_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t)

theorem left12 (c : Dev nD) (t : Fin cfg0.N) (r l : Fin 512) :
    ((outsAt0 m c t).2.2.2.2 (ix2 r l) : EReal) = short (uA m c) (sA m c) (512 * t.val + r.val) (l) :=
  (congrFun (outs12 m c t) (ix2 r l)).trans (short_at m c t r l)

/-- Result 4, from the launch contents of the arguments. -/
def result12 (c : Dev nD) : Buf (Elt Ideal) ((c.tc : Thread nD τ).loc main_v1_4) :=
  (fun i : S32768x512.Idx => short (uA m c) (sA m c) (i 0).val (i 1) : FVec Ideal S32768x512 .bf16)

theorem flushed12 (c : Dev nD) (t : Fin cfg0.N) (hf : (cfg0.win 12).flush t = true) :
    (dats m 0 c).flushed 12 t = ((cfg0.win 12).blk t).view.read (Elt Ideal) (result12 m c) := by
  show (cfg0.win 12).cut (grid0.coords t) ((dats m 0 c).after 12 t) = _
  rw [after0_12]
  funext j
  have hi := idx12 t
  have hj : j = (ix2 (j 0) (j 1) : S512x512.Idx) := funext fun a => Fin.ext (match a with | ⟨0, _⟩ => rfl | ⟨1, _⟩ => rfl)
  rw [View.read_apply]
  refine (congrArg (outsAt0 m c t).2.2.2.2 hj).trans ((left12 m c t (j 0) (j 1)).trans ?_)
  have q0 : 512 * t.val + (j 0).val = ((((cfg0.win 12).blk t).view.emb j) 0).val := by
    show 512 * t.val + (j 0).val = win0_12.index t 0 * 512 + 1 * (j 0).val
    rw [hi.1]; omega
  have q1 : j 1 = (((cfg0.win 12).blk t).view.emb j) 1 := Fin.ext (by
    show (j 1).val = win0_12.index t 1 * 512 + 1 * (j 1).val
    rw [hi.2]; omega)
  exact congrArg₂ (fun (T : ℕ) (l : Fin 512) => short (uA m c) (sA m c) (T) (l)) q0 q1

theorem final12 (c : Dev nD) : (dats m 0 c).arrAt 12 cfg0.N = result12 m c :=
  (dats m 0 c).arrAt_eq_of_cover 12 (result12 m c) (flushed12 m c) fun i => by
    have h0 : (i 0 : Nat) < 32768 := (i 0).isLt
    have h1 : (i 1 : Nat) < 512 := (i 1).isLt
    have hN : cfg0.N = 64 := N_0
    have hlt : (i 0 : Nat) / 512 < cfg0.N := by omega
    refine ⟨⟨(i 0 : Nat) / 512, hlt⟩, flush12 _, ?_⟩
    have hi := idx12 ⟨(i 0 : Nat) / 512, hlt⟩
    dsimp only at hi
    generalize (⟨(i 0 : Nat) / 512, hlt⟩ : Fin cfg0.N) = t at hi ⊢
    show i ∈ ((View.whole main_v1_4).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512
                rw [hi.1]; omega
    | ⟨1, _⟩ => show win0_12.index t 1 * 512 ≤ (i 1 : Nat) ∧ (i 1 : Nat) < win0_12.index t 1 * 512 + 512
                rw [hi.2]; omega

/-- The run, read. -/
theorem run : θ_run defs (onTc (τ := τ) (main (F := Ideal))) ⟨m, fun _ => 0, ρ⟩ fun r => ∀ c : Dev nD,
      r.2.mem ((c.tc : Thread nD τ).loc main_v1_0) = result8 m c
      ∧ r.2.mem ((c.tc : Thread nD τ).loc main_v1_1) = result9 m c
      ∧ r.2.mem ((c.tc : Thread nD τ).loc main_v1_2) = result10 m c
      ∧ r.2.mem ((c.tc : Thread nD τ).loc main_v1_3) = result11 m c
      ∧ r.2.mem ((c.tc : Thread nD τ).loc main_v1_4) = result12 m c :=
  (θ_run defs _ _).mono (fun _ h c => ⟨((h c).1 8).trans (final8 m c), ((h c).1 9).trans (final9 m c), ((h c).1 10).trans (final10 m c), ((h c).1 11).trans (final11 m c), ((h c).1 12).trans (final12 m c)⟩) (run_main m ρ)

end Cert.Conv

end
-- ==== Proof.Conv.RefRead.lean ====
/- The reference's convolutions, entry by entry. -/
module

public import proofs.«01_k».proof.Proof.Gen.Reference6Ideal.Run
public import proofs.«01_k».proof.Proof.Conv.Spec
public import Idealize.ShloMosaic.Lib.Pointwise
public import Idealize.ShloMosaic.Lib.IdealHost

@[expose] public section

noncomputable section

namespace Cert.Conv.Ref

open Cert.Reference6Ideal Cert.Reference6Ideal.Gen Cert.Reference6Ideal.Value
open Idealize.ShloMosaic Idealize.ShloMosaic.TcCoe Idealize.ShloMosaic.StableHlo

/-- An array of this shape. -/
abbrev Of (s : Shape) := s.Idx → Ideal .f32

theorem ix2_congr {a b : ℕ} {i i' : Fin a} {j j' : Fin b} (h : i.val = i'.val) (h' : j.val = j'.val) : ix2 i j = ix2 i' j' := by
  rw [Fin.ext h, Fin.ext h']

theorem ix3_congr {a b c : ℕ} {i i' : Fin a} {j j' : Fin b} {k k' : Fin c} (h : i.val = i'.val) (h' : j.val = j'.val) (h'' : k.val = k'.val) : ix3 i j k = ix3 i' j' k' := by
  rw [Fin.ext h, Fin.ext h', Fin.ext h'']

/-- 1536 channels as 8 sequences of 64 rows of 64 tokens, a zero before each row and one after. -/
def paddedH (x : Of S8x4096x1536) : Of S8x64x66x1536 :=
  pad S8x64x66x1536 ![0, 0, 1, 0] ![0, 0, 1, 0] ![0, 0, 0, 0] (shapeCast S8x64x64x1536 x shapeCasts_S8x4096x1536_S8x64x64x1536)
    (sitofp (F := Ideal) .f32 (constantI S_ 32 0#32)) pads_S8x64x64x1536_S8x64x66x1536_000_000_110_000 h_S_

/-- One row of the weights, along every token. -/
def wrowH (off : Fin 2 → ℕ) (w : Of S3x1536) (h : S3x1536.Slices off S1x1536) : Of S8x64x64x1536 :=
  broadcastInDim S8x64x64x1536 ![0, 1, 2, 3] bcast_S1x1x1x1536_S8x64x64x1536_0_1_2_3
    (broadcastInDim S1x1x1x1536 ![3] bcast_S1536_S1x1x1x1536_3 (shapeCast S1536 (extractStridedSlice S1x1536 off w h) shapeCasts_S1x1536_S1536))

/-- The convolution of 1536 channels. -/
def convH (p : Of S8x64x66x1536) (w : Of S3x1536) : Of S8x4096x1536 :=
  shapeCast S8x4096x1536
    (addf (F := Ideal) (addf (F := Ideal) (addf (F := Ideal)
      (broadcastInDim S8x64x64x1536 ![] bcast_S_S8x64x64x1536 (constant (F := Ideal) S_ .f32 0x00000000#32))
      (mulf (F := Ideal) (extractStridedSlice S8x64x64x1536 ![0, 0, 0, 0] p slices_S8x64x66x1536_S8x64x64x1536_0_0_0_0) (wrowH ![0, 0] w slices_S3x1536_S1x1536_0_0)))
      (mulf (F := Ideal) (extractStridedSlice S8x64x64x1536 ![0, 0, 1, 0] p slices_S8x64x66x1536_S8x64x64x1536_0_0_1_0) (wrowH ![1, 0] w slices_S3x1536_S1x1536_1_0)))
      (mulf (F := Ideal) (extractStridedSlice S8x64x64x1536 ![0, 0, 2, 0] p slices_S8x64x66x1536_S8x64x64x1536_0_0_2_0) (wrowH ![2, 0] w slices_S3x1536_S1x1536_2_0)))
    shapeCasts_S8x64x64x1536_S8x4096x1536

theorem ix4_thirdH (p : Of S8x64x66x1536) (b : Fin 8) (a : Fin 64) (l : Fin 1536) {k k' : ℕ} (e : k = k') {h : k < 66} {h' : k' < 66} :
    p (ix4 b a ⟨k, h⟩ l) = p (ix4 b a ⟨k', h'⟩ l) := by subst e; rfl

theorem paddedH_apply (x : Of S8x4096x1536) (f : ℕ → EReal) (l : Fin 1536) (b : Fin 8) (hf : ∀ n : Fin 4096, (x (ix3 b n l) : EReal) = f (4096 * b.val + n.val))
    (a : Fin 64) (k : Fin 66) :
    paddedH x (ix4 b a k l) = (if 1 ≤ k.val ∧ k.val < 65 then f (4096 * b.val + 64 * a.val + k.val - 1) else 0 : EReal) := by
  pointwise [paddedH]
  have e0 : (FloatOps.sitofp (F := Ideal) FTy.f32 0#32 : EReal) = 0 := by
    show (((0#32 : BitVec 32).toInt : ℝ) : EReal) = 0
    simp
  by_cases h : 1 ≤ k.val ∧ k.val < 65
  · rw [dif_pos ⟨h.1, by omega⟩, if_pos h]
    refine (congrArg x (ix3_congr (j' := ⟨64 * a.val + k.val - 1, by omega⟩) rfl ?_ rfl)).trans ((hf _).trans (congrArg f ?_))
    · show a.val * 64 + (k.val - 1) = 64 * a.val + k.val - 1
      omega
    · show 4096 * b.val + (64 * a.val + k.val - 1) = 4096 * b.val + 64 * a.val + k.val - 1
      omega
  · rw [dif_neg (by omega), if_neg h]
    exact e0

theorem convH_apply (p : Of S8x64x66x1536) (w : Of S3x1536) (b : Fin 8) (n : Fin 4096) (l : Fin 1536) :
    convH p w (ix3 b n l) = (((((0 : EReal)
      + p (ix4 b ⟨n.val / 64, by omega⟩ ⟨n.val % 64, by omega⟩ l) * w (ix2 0 l))
      + p (ix4 b ⟨n.val / 64, by omega⟩ ⟨n.val % 64 + 1, by omega⟩ l) * w (ix2 1 l))
      + p (ix4 b ⟨n.val / 64, by omega⟩ ⟨n.val % 64 + 2, by omega⟩ l) * w (ix2 2 l)) : EReal) := by
  pointwise [convH, wrowH]
  rw [ix4_thirdH p b _ l (Nat.add_comm 1 (n.val % 64)), ix4_thirdH p b _ l (Nat.add_comm 2 (n.val % 64))]

theorem paddedH_tap (x : Of S8x4096x1536) (f : ℕ → EReal) (l : Fin 1536) (b : Fin 8) (hf : ∀ n : Fin 4096, (x (ix3 b n l) : EReal) = f (4096 * b.val + n.val))
    (n : Fin 4096) (k : ℕ) (hk : k < 3) {h : n.val % 64 + k < 66} {ha : n.val / 64 < 64} :
    paddedH x (ix4 b ⟨n.val / 64, ha⟩ ⟨n.val % 64 + k, h⟩ l) = (tap3 f (4096 * b.val + n.val) k : EReal) := by
  rw [paddedH_apply x f l b hf]
  unfold tap3
  have e1 : (4096 * b.val + n.val) % 64 = n.val % 64 := by omega
  rw [e1]
  refine if_congr Iff.rfl (congrArg f ?_) rfl
  show 4096 * b.val + 64 * (n.val / 64) + (n.val % 64 + k) - 1 = _
  omega

theorem convH_at (x : Of S8x4096x1536) (w : Of S3x1536) (f : ℕ → EReal) (l : Fin 1536) (b : Fin 8) (hf : ∀ n : Fin 4096, (x (ix3 b n l) : EReal) = f (4096 * b.val + n.val))
    (n : Fin 4096) : convH (paddedH x) w (ix3 b n l) = (conv3 f (fun k => w (ix2 k l)) (4096 * b.val + n.val) : EReal) := by
  rw [convH_apply, zero_add]
  unfold conv3
  rw [← paddedH_tap x f l b hf n 0 (by omega) (h := by omega) (ha := by omega), ← paddedH_tap x f l b hf n 1 (by omega) (h := by omega) (ha := by omega),
    ← paddedH_tap x f l b hf n 2 (by omega) (h := by omega) (ha := by omega)]
  rfl

/-- 512 channels as 8 sequences of 64 rows of 64 tokens, a zero before each row and one after. -/
def paddedS (x : Of S8x4096x512) : Of S8x64x66x512 :=
  pad S8x64x66x512 ![0, 0, 1, 0] ![0, 0, 1, 0] ![0, 0, 0, 0] (shapeCast S8x64x64x512 x shapeCasts_S8x4096x512_S8x64x64x512)
    (sitofp (F := Ideal) .f32 (constantI S_ 32 0#32)) pads_S8x64x64x512_S8x64x66x512_000_000_110_000 h_S_

/-- One row of the weights, along every token. -/
def wrowS (off : Fin 2 → ℕ) (w : Of S3x512) (h : S3x512.Slices off S1x512) : Of S8x64x64x512 :=
  broadcastInDim S8x64x64x512 ![0, 1, 2, 3] bcast_S1x1x1x512_S8x64x64x512_0_1_2_3
    (broadcastInDim S1x1x1x512 ![3] bcast_S512_S1x1x1x512_3 (shapeCast S512 (extractStridedSlice S1x512 off w h) shapeCasts_S1x512_S512))

/-- The convolution of 512 channels. -/
def convS (p : Of S8x64x66x512) (w : Of S3x512) : Of S8x4096x512 :=
  shapeCast S8x4096x512
    (addf (F := Ideal) (addf (F := Ideal) (addf (F := Ideal)
      (broadcastInDim S8x64x64x512 ![] bcast_S_S8x64x64x512 (constant (F := Ideal) S_ .f32 0x00000000#32))
      (mulf (F := Ideal) (extractStridedSlice S8x64x64x512 ![0, 0, 0, 0] p slices_S8x64x66x512_S8x64x64x512_0_0_0_0) (wrowS ![0, 0] w slices_S3x512_S1x512_0_0)))
      (mulf (F := Ideal) (extractStridedSlice S8x64x64x512 ![0, 0, 1, 0] p slices_S8x64x66x512_S8x64x64x512_0_0_1_0) (wrowS ![1, 0] w slices_S3x512_S1x512_1_0)))
      (mulf (F := Ideal) (extractStridedSlice S8x64x64x512 ![0, 0, 2, 0] p slices_S8x64x66x512_S8x64x64x512_0_0_2_0) (wrowS ![2, 0] w slices_S3x512_S1x512_2_0)))
    shapeCasts_S8x64x64x512_S8x4096x512

theorem ix4_thirdS (p : Of S8x64x66x512) (b : Fin 8) (a : Fin 64) (l : Fin 512) {k k' : ℕ} (e : k = k') {h : k < 66} {h' : k' < 66} :
    p (ix4 b a ⟨k, h⟩ l) = p (ix4 b a ⟨k', h'⟩ l) := by subst e; rfl

theorem paddedS_apply (x : Of S8x4096x512) (f : ℕ → EReal) (l : Fin 512) (b : Fin 8) (hf : ∀ n : Fin 4096, (x (ix3 b n l) : EReal) = f (4096 * b.val + n.val))
    (a : Fin 64) (k : Fin 66) :
    paddedS x (ix4 b a k l) = (if 1 ≤ k.val ∧ k.val < 65 then f (4096 * b.val + 64 * a.val + k.val - 1) else 0 : EReal) := by
  pointwise [paddedS]
  have e0 : (FloatOps.sitofp (F := Ideal) FTy.f32 0#32 : EReal) = 0 := by
    show (((0#32 : BitVec 32).toInt : ℝ) : EReal) = 0
    simp
  by_cases h : 1 ≤ k.val ∧ k.val < 65
  · rw [dif_pos ⟨h.1, by omega⟩, if_pos h]
    refine (congrArg x (ix3_congr (j' := ⟨64 * a.val + k.val - 1, by omega⟩) rfl ?_ rfl)).trans ((hf _).trans (congrArg f ?_))
    · show a.val * 64 + (k.val - 1) = 64 * a.val + k.val - 1
      omega
    · show 4096 * b.val + (64 * a.val + k.val - 1) = 4096 * b.val + 64 * a.val + k.val - 1
      omega
  · rw [dif_neg (by omega), if_neg h]
    exact e0

theorem convS_apply (p : Of S8x64x66x512) (w : Of S3x512) (b : Fin 8) (n : Fin 4096) (l : Fin 512) :
    convS p w (ix3 b n l) = (((((0 : EReal)
      + p (ix4 b ⟨n.val / 64, by omega⟩ ⟨n.val % 64, by omega⟩ l) * w (ix2 0 l))
      + p (ix4 b ⟨n.val / 64, by omega⟩ ⟨n.val % 64 + 1, by omega⟩ l) * w (ix2 1 l))
      + p (ix4 b ⟨n.val / 64, by omega⟩ ⟨n.val % 64 + 2, by omega⟩ l) * w (ix2 2 l)) : EReal) := by
  pointwise [convS, wrowS]
  rw [ix4_thirdS p b _ l (Nat.add_comm 1 (n.val % 64)), ix4_thirdS p b _ l (Nat.add_comm 2 (n.val % 64))]

theorem paddedS_tap (x : Of S8x4096x512) (f : ℕ → EReal) (l : Fin 512) (b : Fin 8) (hf : ∀ n : Fin 4096, (x (ix3 b n l) : EReal) = f (4096 * b.val + n.val))
    (n : Fin 4096) (k : ℕ) (hk : k < 3) {h : n.val % 64 + k < 66} {ha : n.val / 64 < 64} :
    paddedS x (ix4 b ⟨n.val / 64, ha⟩ ⟨n.val % 64 + k, h⟩ l) = (tap3 f (4096 * b.val + n.val) k : EReal) := by
  rw [paddedS_apply x f l b hf]
  unfold tap3
  have e1 : (4096 * b.val + n.val) % 64 = n.val % 64 := by omega
  rw [e1]
  refine if_congr Iff.rfl (congrArg f ?_) rfl
  show 4096 * b.val + 64 * (n.val / 64) + (n.val % 64 + k) - 1 = _
  omega

theorem convS_at (x : Of S8x4096x512) (w : Of S3x512) (f : ℕ → EReal) (l : Fin 512) (b : Fin 8) (hf : ∀ n : Fin 4096, (x (ix3 b n l) : EReal) = f (4096 * b.val + n.val))
    (n : Fin 4096) : convS (paddedS x) w (ix3 b n l) = (conv3 f (fun k => w (ix2 k l)) (4096 * b.val + n.val) : EReal) := by
  rw [convS_apply, zero_add]
  unfold conv3
  rw [← paddedS_tap x f l b hf n 0 (by omega) (h := by omega) (ha := by omega), ← paddedS_tap x f l b hf n 1 (by omega) (h := by omega) (ha := by omega),
    ← paddedS_tap x f l b hf n 2 (by omega) (h := by omega) (ha := by omega)]
  rfl

/-- The latent tokens' columns as 8 sequences. -/
def seqs (u : Of S34816x4608) : Of S8x4096x4608 :=
  shapeCast S8x4096x4608 (extractStridedSlice S32768x4608 ![0, 0] u slices_S34816x4608_S32768x4608_0_0) shapeCasts_S32768x4608_S8x4096x4608

/-- The three inputs of the long convolution, side by side. -/
def refH (u : Of S34816x4608) (w : Of S3x1536) : Of S32768x1536 :=
  shapeCast S32768x1536 (convH (paddedH (extractStridedSlice S8x4096x1536 ![0, 0, 512] (seqs u) slices_S8x4096x4608_S8x4096x1536_0_0_512)) w) shapeCasts_S8x4096x1536_S32768x1536

/-- The three parts of the gated convolution's input. -/
def parts (u : Of S34816x4608) : Of S8x4096x1536 := extractStridedSlice S8x4096x1536 ![0, 0, 2048] (seqs u) slices_S8x4096x4608_S8x4096x1536_0_0_2048

/-- The product that is convolved. -/
def prodS (u : Of S34816x4608) : Of S8x4096x512 :=
  mulf (F := Ideal) (extractStridedSlice S8x4096x512 ![0, 0, 512] (parts u) slices_S8x4096x1536_S8x4096x512_0_0_512)
    (extractStridedSlice S8x4096x512 ![0, 0, 1024] (parts u) slices_S8x4096x1536_S8x4096x512_0_0_1024)

/-- The gated convolution. -/
def refS (u : Of S34816x4608) (w : Of S3x512) : Of S32768x512 :=
  shapeCast S32768x512 (mulf (F := Ideal) (extractStridedSlice S8x4096x512 ![0, 0, 0] (parts u) slices_S8x4096x1536_S8x4096x512_0_0_0) (convS (paddedS (prodS u)) w)) shapeCasts_S8x4096x512_S32768x512

theorem seqs_at (u : Of S34816x4608) (b : Fin 8) (n : Fin 4096) (l : Fin 4608) : (seqs u (ix3 b n l) : EReal) = col u (4096 * b.val + n.val) l := by
  unfold col
  rw [dif_pos (by omega)]
  pointwise [seqs]
  exact congrArg u (ix2_congr (by show b.val * 4096 + n.val = 4096 * b.val + n.val; omega) rfl)

theorem cut_at (x : Of S8x4096x4608) (b : Fin 8) (n : Fin 4096) (l : Fin 1536) :
    extractStridedSlice S8x4096x1536 ![0, 0, 512] x slices_S8x4096x4608_S8x4096x1536_0_0_512 (ix3 b n l) = x (ix3 b n ⟨512 + l.val, by omega⟩) := by
  pointwise

theorem cut2_at (x : Of S8x4096x4608) (b : Fin 8) (n : Fin 4096) (l : Fin 1536) :
    extractStridedSlice S8x4096x1536 ![0, 0, 2048] x slices_S8x4096x4608_S8x4096x1536_0_0_2048 (ix3 b n l) = x (ix3 b n ⟨2048 + l.val, by omega⟩) := by
  pointwise

theorem parts_at (u : Of S34816x4608) (b : Fin 8) (n : Fin 4096) (l : Fin 1536) : (parts u (ix3 b n l) : EReal) = col u (4096 * b.val + n.val) ⟨2048 + l.val, by omega⟩ := by
  unfold parts
  rw [cut2_at]
  exact seqs_at u b n _

theorem part0_at (x : Of S8x4096x1536) (b : Fin 8) (n : Fin 4096) (l : Fin 512) :
    extractStridedSlice S8x4096x512 ![0, 0, 0] x slices_S8x4096x1536_S8x4096x512_0_0_0 (ix3 b n l) = x (ix3 b n ⟨l.val, by omega⟩) := by
  pointwise
theorem part1_at (x : Of S8x4096x1536) (b : Fin 8) (n : Fin 4096) (l : Fin 512) :
    extractStridedSlice S8x4096x512 ![0, 0, 512] x slices_S8x4096x1536_S8x4096x512_0_0_512 (ix3 b n l) = x (ix3 b n ⟨512 + l.val, by omega⟩) := by
  pointwise
theorem part2_at (x : Of S8x4096x1536) (b : Fin 8) (n : Fin 4096) (l : Fin 512) :
    extractStridedSlice S8x4096x512 ![0, 0, 1024] x slices_S8x4096x1536_S8x4096x512_0_0_1024 (ix3 b n l) = x (ix3 b n ⟨1024 + l.val, by omega⟩) := by
  pointwise

theorem col_congr (u : Lru.Arr2 34816 4608) (T : ℕ) {k k' : ℕ} (e : k = k') {h : k < 4608} {h' : k' < 4608} : col u T ⟨k, h⟩ = col u T ⟨k', h'⟩ := by
  subst e; rfl

theorem prodS_at (u : Of S34816x4608) (b : Fin 8) (n : Fin 4096) (l : Fin 512) :
    (prodS u (ix3 b n l) : EReal) = col u (4096 * b.val + n.val) ⟨2560 + l.val, by omega⟩ * col u (4096 * b.val + n.val) ⟨3072 + l.val, by omega⟩ := by
  have e1 := (part1_at (parts u) b n l).trans ((parts_at u b n _).trans (col_congr u _ (by show 2048 + (512 + l.val) = 2560 + l.val; omega) (h' := by omega)))
  have e2 := (part2_at (parts u) b n l).trans ((parts_at u b n _).trans (col_congr u _ (by show 2048 + (1024 + l.val) = 3072 + l.val; omega) (h' := by omega)))
  exact congrArg₂ (fun x y : EReal => x * y) e1 e2

theorem cast2_at (x : Of S8x4096x1536) (T : Fin 32768) (l : Fin 1536) :
    shapeCast S32768x1536 x shapeCasts_S8x4096x1536_S32768x1536 (ix2 T l) = x (ix3 ⟨T.val / 4096, by omega⟩ ⟨T.val % 4096, by omega⟩ l) := by
  pointwise

theorem cast1_at (x : Of S8x4096x512) (T : Fin 32768) (l : Fin 512) :
    shapeCast S32768x512 x shapeCasts_S8x4096x512_S32768x512 (ix2 T l) = x (ix3 ⟨T.val / 4096, by omega⟩ ⟨T.val % 4096, by omega⟩ l) := by
  pointwise

theorem refH_at (u : Of S34816x4608) (w : Of S3x1536) (T : Fin 32768) (l : Fin 1536) : (refH u w (ix2 T l) : EReal) = hyena u w T.val l := by
  unfold refH
  rw [cast2_at]
  refine (convH_at _ w (fun T => col u T ⟨512 + l.val, by omega⟩) l _ (fun n => ?_) _).trans ?_
  · rw [cut_at]
    exact seqs_at u _ n _
  · unfold hyena
    exact congrArg (conv3 _ _) (by show 4096 * (T.val / 4096) + T.val % 4096 = T.val; omega)

theorem refS_at (u : Of S34816x4608) (w : Of S3x512) (T : Fin 32768) (l : Fin 512) : (refS u w (ix2 T l) : EReal) = short u w T.val l := by
  unfold refS
  rw [cast1_at]
  have e1 := (part0_at (parts u) ⟨T.val / 4096, by omega⟩ ⟨T.val % 4096, by omega⟩ l).trans (parts_at u _ _ _)
  have e2 := convS_at (prodS u) w (fun T => col u T ⟨2560 + l.val, by omega⟩ * col u T ⟨3072 + l.val, by omega⟩) l ⟨T.val / 4096, by omega⟩
    (fun n => prodS_at u _ n l) ⟨T.val % 4096, by omega⟩
  have eT : 4096 * (T.val / 4096) + T.val % 4096 = T.val := by omega
  refine (congrArg₂ (fun x y : EReal => x * y) e1 e2).trans ?_
  dsimp only
  rw [eT]
  unfold short
  with_reducible rfl

end Cert.Conv.Ref

end
-- ==== Proof.Conv.RefResults.lean ====
/- The reference's four results. -/
module

public import proofs.«01_k».proof.Proof.Conv.RefRead

@[expose] public section

noncomputable section

namespace Cert.Conv.Ref

open Cert.Reference6Ideal Cert.Reference6Ideal.Gen Cert.Reference6Ideal.Value
open Idealize.ShloMosaic Idealize.ShloMosaic.TcCoe Idealize.ShloMosaic.StableHlo

theorem third0_at (x : Of S32768x1536) (T : Fin 32768) (l : Fin 512) :
    extractStridedSlice S32768x512 ![0, 0] x slices_S32768x1536_S32768x512_0_0 (ix2 T l) = x (ix2 T (chan 0 (by decide) l)) :=
  congrArg x (funext fun a => Fin.ext (match a with | ⟨0, _⟩ => Nat.zero_add T.val | ⟨1, _⟩ => rfl))

theorem third1_at (x : Of S32768x1536) (T : Fin 32768) (l : Fin 512) :
    extractStridedSlice S32768x512 ![0, 512] x slices_S32768x1536_S32768x512_0_512 (ix2 T l) = x (ix2 T (chan 512 (by decide) l)) :=
  congrArg x (funext fun a => Fin.ext (match a with | ⟨0, _⟩ => Nat.zero_add T.val | ⟨1, _⟩ => rfl))

theorem third2_at (x : Of S32768x1536) (T : Fin 32768) (l : Fin 512) :
    extractStridedSlice S32768x512 ![0, 1024] x slices_S32768x1536_S32768x512_0_1024 (ix2 T l) = x (ix2 T (chan 1024 (by decide) l)) :=
  congrArg x (funext fun a => Fin.ext (match a with | ⟨0, _⟩ => Nat.zero_add T.val | ⟨1, _⟩ => rfl))

theorem idx_eq (i : S32768x512.Idx) : i = (ix2 (i 0) (i 1) : S32768x512.Idx) := funext fun a => Fin.ext (match a with | ⟨0, _⟩ => rfl | ⟨1, _⟩ => rfl)

theorem ref0_eq (u : Of S34816x4608) (w : Of S3x1536) : extractStridedSlice S32768x512 ![0, 0] (refH u w) slices_S32768x1536_S32768x512_0_0
    = (fun i : S32768x512.Idx => (hyena u w (i 0).val (chan 0 (by decide) (i 1)) : Ideal .f32)) :=
  funext fun i => (congrArg _ (idx_eq i)).trans ((third0_at (refH u w) (i 0) (i 1)).trans (refH_at u w (i 0) _))
theorem ref1_eq (u : Of S34816x4608) (w : Of S3x1536) : extractStridedSlice S32768x512 ![0, 512] (refH u w) slices_S32768x1536_S32768x512_0_512
    = (fun i : S32768x512.Idx => (hyena u w (i 0).val (chan 512 (by decide) (i 1)) : Ideal .f32)) :=
  funext fun i => (congrArg _ (idx_eq i)).trans ((third1_at (refH u w) (i 0) (i 1)).trans (refH_at u w (i 0) _))
theorem ref2_eq (u : Of S34816x4608) (w : Of S3x1536) : extractStridedSlice S32768x512 ![0, 1024] (refH u w) slices_S32768x1536_S32768x512_0_1024
    = (fun i : S32768x512.Idx => (hyena u w (i 0).val (chan 1024 (by decide) (i 1)) : Ideal .f32)) :=
  funext fun i => (congrArg _ (idx_eq i)).trans ((third2_at (refH u w) (i 0) (i 1)).trans (refH_at u w (i 0) _))
theorem ref3_eq (u : Of S34816x4608) (w : Of S3x512) : refS u w
    = (fun i : S32768x512.Idx => (short u w (i 0).val (i 1) : Ideal .f32)) :=
  funext fun i => (congrArg _ (idx_eq i)).trans (refS_at u w (i 0) (i 1))

end Cert.Conv.Ref

end
-- ==== Proof.Conv.Claims.lean ====
/- The convolutions' claims: their frames, and their results against the reference's. -/
module

public import proofs.«01_k».proof.Defs
public import proofs.«01_k».proof.Proof.Gen.Kernel6.Frame
public import proofs.«01_k».proof.Proof.Conv.KernelValue
public import proofs.«01_k».proof.Proof.Conv.RefResults
public import Idealize.ShloMosaic.Lib.Quiescent

@[expose] public section

set_option maxRecDepth 16384

noncomputable section

namespace Cert.Conv

open Idealize.ShloMosaic Idealize.ShloMosaic.TcCoe Idealize.SL.Sem

attribute [local instance] Cert.Kernel6.Gen.facts Cert.Kernel6Ideal.Gen.facts Cert.Reference6Ideal.Gen.facts

theorem frame_kernel6 : Cert.quiescent_Kernel6 := fun m ρ _ => Cert.Kernel6.Gen.frame (F := Bits) m ρ

theorem frame_kernel6Ideal : Cert.quiescent_Kernel6Ideal := fun m ρ _ => Cert.Kernel6Ideal.Gen.frame (F := Ideal) m ρ

theorem frame_reference6Ideal : Cert.quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- Rounding to bf16 is the identity over the extended reals. -/
theorem round_eq (x y : Cert.Reference6Ideal.S32768x512.Idx → Ideal .f32) (hb : FTy.bits .bf16 < FTy.bits .f32) (h : x = y) :
    truncf (F := Ideal) .bf16 x hb = (fun i => (y i : EReal)) := by
  subst h
  rfl

theorem algebraic6 : Cert.algebraic_Kernel6Ideal_Reference6Ideal := by
  intro m ρ m' ρ' _ hagree
  refine ⟨fun c => result8 m c, fun c => result9 m c, fun c => result10 m c, fun c => result11 m c, fun c => result12 m c, ?_, ?_⟩
  · exact (θ_run Cert.Kernel6Ideal.defs _ _).mono
      (fun _ h c => ⟨(h.1 c).1, (h.1 c).2.1, (h.1 c).2.2.1, (h.1 c).2.2.2.1, (h.1 c).2.2.2.2, h.2 c⟩)
      (θ_run_and (run m ρ) (Cert.Kernel6Ideal.Gen.unchanged (F := Ideal) m ρ))
  · refine (θ_run Cert.Reference6Ideal.defs _ _).mono
      (fun _ h c => ⟨(h c).1.trans ?_, (h c).2.1.trans ?_, (h c).2.2.1.trans ?_, (h c).2.2.2.1.trans ?_, (h c).2.2.2.2.1.trans ?_, (h c).2.2.2.2.2⟩)
      (Cert.Reference6Ideal.Value.run (F := Ideal) m' ρ')
    all_goals obtain ⟨e0, e1, e2⟩ := hagree c
    · rw [e0, e1]
      have e := Ref.ref0_eq (uA m c) (hA m c)
      unfold Ref.refH Ref.convH Ref.wrowH Ref.paddedH Ref.seqs at e
      exact e
    · rw [e0, e1]
      have e := Ref.ref1_eq (uA m c) (hA m c)
      unfold Ref.refH Ref.convH Ref.wrowH Ref.paddedH Ref.seqs at e
      exact e
    · rw [e0, e1]
      have e := Ref.ref2_eq (uA m c) (hA m c)
      unfold Ref.refH Ref.convH Ref.wrowH Ref.paddedH Ref.seqs at e
      exact e
    · rw [e0, e1]
      have e := Ref.ref0_eq (uA m c) (hA m c)
      unfold Ref.refH Ref.convH Ref.wrowH Ref.paddedH Ref.seqs at e
      exact round_eq _ _ _ e
    · unfold Cert.Reference6Ideal.Value.res_main_v65
      rw [e0, e2]
      have e := Ref.ref3_eq (uA m c) (sA m c)
      unfold Ref.refS Ref.prodS Ref.parts Ref.convS Ref.wrowS Ref.paddedS Ref.seqs at e
      exact round_eq _ _ _ e

end Cert.Conv

end
-- ==== Proof.lean ====
/- The claims, from the runs read in `Proof/Lru`, `Proof/Merge`, `Proof/Moe`, `Proof/Inproj`, `Proof/Adaln` and `Proof/Conv`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Pre_tables
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Lru.KernelValue
public import proofs.«01_k».proof.Proof.Lru.RefLoop
public import proofs.«01_k».proof.Proof.Merge.KernelValue
public import proofs.«01_k».proof.Proof.Merge.RefRun
public import proofs.«01_k».proof.Proof.Moe.Claims
public import proofs.«01_k».proof.Proof.Inproj.Claims
public import proofs.«01_k».proof.Proof.Adaln.Claims
public import proofs.«01_k».proof.Proof.Conv.Claims

public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The two programs have one body, -/
theorem bodies_eq : @Cert.KernelIdeal.defs₀ Bits _ _ = @Cert.Kernel.defs₀ Bits _ _ := by
  unfold Cert.KernelIdeal.defs₀ Cert.Kernel.defs₀
  refine congrArg Defs.onTc ?_
  funext l a
  match l, a with
  | ⟨0, _⟩, (t, s) => rfl

/-- and so are one program. -/
theorem defs_eq : @Cert.KernelIdeal.defs Bits _ _ = @Cert.Kernel.defs Bits _ _ := congrArg (fun d => Pipeline.defs _ d) bodies_eq

theorem frame_kernel : Cert.quiescent_Kernel := by
  intro m ρ _
  have h := Cert.Lru.frame (F := Bits) m ρ
  rw [defs_eq] at h
  exact h

theorem frame_kernelIdeal : Cert.quiescent_KernelIdeal := fun m ρ _ => Cert.Lru.frame (F := Ideal) m ρ

theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal := by
  intro m ρ m' ρ' _ hagree
  refine ⟨fun c => Cert.Lru.result8 m c, fun c => Cert.Lru.result9 m c, ?_, ?_⟩
  · exact (θ_run Cert.KernelIdeal.defs _ _).mono (fun _ h c => ⟨(h.1 c).1, (h.1 c).2, h.2 c⟩)
      (θ_run_and (Cert.Lru.run m ρ) (Cert.Lru.unchanged (F := Ideal) m ρ))
  · have hst : ∀ c b l n, Cert.Lru.Ref.stR m' c b l n = Cert.Lru.stA m c b l n := by
      intro c b l n
      obtain ⟨e0, e1, e2, e3, e4, e5, e6, e7⟩ := hagree c
      unfold Cert.Lru.Ref.stR Cert.Lru.stA Cert.Lru.Ref.arg
      rw [e0, e1, e2, e3, e4, e5, e6, e7]
    refine (θ_run Cert.ReferenceIdeal.defs _ _).mono (fun _ h c => ⟨(h c).1.trans ?_, (h c).2.1.trans ?_, (h c).2.2⟩)
      (Cert.ReferenceIdeal.Value.run (F := Ideal) m' ρ')
    · refine (Cert.Lru.Ref.out79 m' c).trans (funext fun i => ?_)
      exact hst c _ _ _
    · refine (Cert.Lru.Ref.out80 m' c).trans (funext fun i => ?_)
      exact hst c _ _ _

/-! ## The merge -/

theorem frame_kernel2 : Cert.quiescent_Kernel2 := fun m ρ _ => Cert.Kernel2.Gen.frame (F := Bits) m ρ

theorem frame_kernel2Ideal : Cert.quiescent_Kernel2Ideal := fun m ρ _ => Cert.Kernel2Ideal.Gen.frame (F := Ideal) m ρ

theorem frame_reference2Ideal : Cert.quiescent_Reference2Ideal := fun m ρ _ =>
  (θ_run Cert.Reference2Ideal.defs _ _).mono (fun r h => ⟨fun c => (h c).2, sem_eq_zero_of_no_sems (by decide) r.2⟩) (Cert.Merge.ref_run m ρ)

theorem algebraic2 : Cert.algebraic_Kernel2Ideal_Reference2Ideal := by
  intro m ρ m' ρ' _ hagree
  refine ⟨fun c => Cert.Merge.result m c, ?_, ?_⟩
  · exact (θ_run Cert.Kernel2Ideal.defs _ _).mono (fun _ h c => ⟨h.1 c, h.2 c⟩)
      (θ_run_and (Cert.Merge.run m ρ) (Cert.Kernel2Ideal.Gen.unchanged (F := Ideal) m ρ))
  · refine (θ_run Cert.Reference2Ideal.defs _ _).mono (fun _ h c => ⟨(h c).1.trans ?_, (h c).2⟩) (Cert.Merge.ref_run m' ρ')
    obtain ⟨e0, e1, e2, e3, e4, e5, e6, e7, e8, e9⟩ := hagree c
    unfold Cert.Merge.refResult
    rw [e0, e1, e2, e3, e4, e5, e6, e7, e8, e9]
    exact Cert.Merge.ref_eq _ _ _ _ _ _ _ _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_tables.Gen.facts,
  frame_kernel, frame_kernelIdeal, frame_referenceIdeal, frame_kernel2, frame_kernel2Ideal, frame_reference2Ideal,
  Cert.Moe.frame_kernel3, Cert.Moe.frame_kernel3Ideal, Cert.Moe.frame_reference3Ideal,
  Cert.Inproj.frame_kernel4, Cert.Inproj.frame_kernel4Ideal, Cert.Inproj.frame_reference4Ideal,
  Cert.Adaln.frame_kernel5, Cert.Adaln.frame_kernel5Ideal, Cert.Adaln.frame_reference5Ideal,
  Cert.Conv.frame_kernel6, Cert.Conv.frame_kernel6Ideal, Cert.Conv.frame_reference6Ideal,
  trivial, algebraic, trivial, algebraic2, trivial, Cert.Moe.algebraic3, trivial, Cert.Inproj.algebraic4, trivial, Cert.Adaln.algebraic5,
  trivial, Cert.Conv.algebraic6⟩

end Cert.Proof

end
